-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Moe [hPre_tables : Cert.Pre_tables.Facts] (m : (ℓ : Loc Cert.Moe.nD Cert.Moe.τ Cert.Moe.sig) → Buf (Elt Bits) ℓ) : Prop :=
  ∀ c : Dev Cert.Moe.nD,
    (Cert.Pre_tables.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7))) = (fun _ => 1#1)

def Pre_MoeIdeal [hPre_tables : Cert.Pre_tables.Facts] (m : (ℓ : Loc Cert.MoeIdeal.nD Cert.MoeIdeal.τ Cert.MoeIdeal.sig) → Buf (Elt Ideal) ℓ) : Prop :=
  ∀ c : Dev Cert.MoeIdeal.nD,
    (Cert.Pre_tables.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeIdeal_routed [hPre_routed : Cert.Pre_routed.Facts] (m : (ℓ : Loc Cert.MoeIdeal.nD Cert.MoeIdeal.τ Cert.MoeIdeal.sig) → Buf (Elt Ideal) ℓ) : Prop :=
  ∀ c : Dev Cert.MoeIdeal.nD,
    (Cert.Pre_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_routed [hPre_routed : Cert.Pre_routed.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_numbers [hPre_numbers : Cert.Pre_numbers.Facts] (m : (ℓ : Loc Cert.InpIdeal.nD Cert.InpIdeal.τ Cert.InpIdeal.sig) → Buf (Elt Ideal) ℓ) : Prop :=
  ∀ c : Dev Cert.InpIdeal.nD,
    (Cert.Pre_numbers.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3))) = (fun _ => 1#1)

def Pre_InpRefIdeal (m : (ℓ : Loc Cert.InpRefIdeal.nD Cert.InpRefIdeal.τ Cert.InpRefIdeal.sig) → Buf (Elt Ideal) ℓ) : Prop :=
  True

def Pre_InpRefIdeal_numbers [hPre_numbers : Cert.Pre_numbers.Facts] (m : (ℓ : Loc Cert.InpRefIdeal.nD Cert.InpRefIdeal.τ Cert.InpRefIdeal.sig) → Buf (Elt Ideal) ℓ) : Prop :=
  ∀ c : Dev Cert.InpRefIdeal.nD,
    (Cert.Pre_numbers.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3))) = (fun _ => 1#1)

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatIdeal_queries [hPre_queries : Cert.Pre_queries.Facts] (m : (ℓ : Loc Cert.LatIdeal.nD Cert.LatIdeal.τ Cert.LatIdeal.sig) → Buf (Elt Ideal) ℓ) : Prop :=
  ∀ c : Dev Cert.LatIdeal.nD,
    (Cert.Pre_queries.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4)) (m ((c.tc : Thread Cert.LatIdeal.nD Cert.LatIdeal.τ).loc Cert.LatIdeal.main_arg5)) (m ((c.tc : Thread Cert.LatIdeal.nD Cert.LatIdeal.τ).loc Cert.LatIdeal.main_arg6)) (m ((c.tc : Thread Cert.LatIdeal.nD Cert.LatIdeal.τ).loc Cert.LatIdeal.main_arg7))) = (fun _ => 1#1)

def Pre_LatRefIdeal (m : (ℓ : Loc Cert.LatRefIdeal.nD Cert.LatRefIdeal.τ Cert.LatRefIdeal.sig) → Buf (Elt Ideal) ℓ) : Prop :=
  True

def Pre_LatRefIdeal_queries [hPre_queries : Cert.Pre_queries.Facts] (m : (ℓ : Loc Cert.LatRefIdeal.nD Cert.LatRefIdeal.τ Cert.LatRefIdeal.sig) → Buf (Elt Ideal) ℓ) : Prop :=
  ∀ c : Dev Cert.LatRefIdeal.nD,
    (Cert.Pre_queries.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4)) (m ((c.tc : Thread Cert.LatRefIdeal.nD Cert.LatRefIdeal.τ).loc Cert.LatRefIdeal.main_arg5)) (m ((c.tc : Thread Cert.LatRefIdeal.nD Cert.LatRefIdeal.τ).loc Cert.LatRefIdeal.main_arg6)) (m ((c.tc : Thread Cert.LatRefIdeal.nD Cert.LatRefIdeal.τ).loc Cert.LatRefIdeal.main_arg7))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Moe [hMoe : Cert.Moe.Facts] [hPre_tables : Cert.Pre_tables.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] [hPre_tables : Cert.Pre_tables.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeIdeal_pre_routed [hMoeIdeal : Cert.MoeIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_routed m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_MoeRefIdeal_pre_routed [hMoeRefIdeal : Cert.MoeRefIdeal.Facts] [hPre_routed : Cert.Pre_routed.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_routed m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3))
      ∧ r.2.sem = fun _ => 0)

def quiescent_InpIdeal_pre_numbers [hInpIdeal : Cert.InpIdeal.Facts] [hPre_numbers : Cert.Pre_numbers.Facts] : Prop :=
  ∀ (m : (ℓ : Loc Cert.InpIdeal.nD Cert.InpIdeal.τ Cert.InpIdeal.sig) → Buf (Elt Ideal) ℓ) (g : Dev Cert.InpIdeal.nD → PrngReg), Pre_InpIdeal_numbers m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3))
      ∧ r.2.sem = fun _ => 0)

def quiescent_InpRefIdeal_pre_numbers [hInpRefIdeal : Cert.InpRefIdeal.Facts] [hPre_numbers : Cert.Pre_numbers.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal_numbers m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3)
      ∧ r.2.mem ((c.tc : Thread Cert.Outp.nD Cert.Outp.τ).loc Cert.Outp.main_arg4) = m ((c.tc : Thread Cert.Outp.nD Cert.Outp.τ).loc Cert.Outp.main_arg4)
      ∧ r.2.mem ((c.tc : Thread Cert.Outp.nD Cert.Outp.τ).loc Cert.Outp.main_arg5) = m ((c.tc : Thread Cert.Outp.nD Cert.Outp.τ).loc Cert.Outp.main_arg5)
      ∧ r.2.mem ((c.tc : Thread Cert.Outp.nD Cert.Outp.τ).loc Cert.Outp.main_arg6) = m ((c.tc : Thread Cert.Outp.nD Cert.Outp.τ).loc Cert.Outp.main_arg6)
      ∧ r.2.mem ((c.tc : Thread Cert.Outp.nD Cert.Outp.τ).loc Cert.Outp.main_arg7) = m ((c.tc : Thread Cert.Outp.nD Cert.Outp.τ).loc Cert.Outp.main_arg7)
      ∧ r.2.mem ((c.tc : Thread Cert.Outp.nD Cert.Outp.τ).loc Cert.Outp.main_arg8) = m ((c.tc : Thread Cert.Outp.nD Cert.Outp.τ).loc Cert.Outp.main_arg8)
      ∧ r.2.mem ((c.tc : Thread Cert.Outp.nD Cert.Outp.τ).loc Cert.Outp.main_arg9) = m ((c.tc : Thread Cert.Outp.nD Cert.Outp.τ).loc Cert.Outp.main_arg9)
      ∧ r.2.mem ((c.tc : Thread Cert.Outp.nD Cert.Outp.τ).loc Cert.Outp.main_arg10) = m ((c.tc : Thread Cert.Outp.nD Cert.Outp.τ).loc Cert.Outp.main_arg10)
      ∧ r.2.mem ((c.tc : Thread Cert.Outp.nD Cert.Outp.τ).loc Cert.Outp.main_arg11) = m ((c.tc : Thread Cert.Outp.nD Cert.Outp.τ).loc Cert.Outp.main_arg11)
      ∧ r.2.mem ((c.tc : Thread Cert.Outp.nD Cert.Outp.τ).loc Cert.Outp.main_arg12) = m ((c.tc : Thread Cert.Outp.nD Cert.Outp.τ).loc Cert.Outp.main_arg12))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
      ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
      ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5)
      ∧ r.2.mem ((c.tc : Thread Cert.OutpIdeal.nD Cert.OutpIdeal.τ).loc Cert.OutpIdeal.main_arg6) = m ((c.tc : Thread Cert.OutpIdeal.nD Cert.OutpIdeal.τ).loc Cert.OutpIdeal.main_arg6)
      ∧ r.2.mem ((c.tc : Thread Cert.OutpIdeal.nD Cert.OutpIdeal.τ).loc Cert.OutpIdeal.main_arg7) = m ((c.tc : Thread Cert.OutpIdeal.nD Cert.OutpIdeal.τ).loc Cert.OutpIdeal.main_arg7)
      ∧ r.2.mem ((c.tc : Thread Cert.OutpIdeal.nD Cert.OutpIdeal.τ).loc Cert.OutpIdeal.main_arg8) = m ((c.tc : Thread Cert.OutpIdeal.nD Cert.OutpIdeal.τ).loc Cert.OutpIdeal.main_arg8)
      ∧ r.2.mem ((c.tc : Thread Cert.OutpIdeal.nD Cert.OutpIdeal.τ).loc Cert.OutpIdeal.main_arg9) = m ((c.tc : Thread Cert.OutpIdeal.nD Cert.OutpIdeal.τ).loc Cert.OutpIdeal.main_arg9)
      ∧ r.2.mem ((c.tc : Thread Cert.OutpIdeal.nD Cert.OutpIdeal.τ).loc Cert.OutpIdeal.main_arg10) = m ((c.tc : Thread Cert.OutpIdeal.nD Cert.OutpIdeal.τ).loc Cert.OutpIdeal.main_arg10)
      ∧ r.2.mem ((c.tc : Thread Cert.OutpIdeal.nD Cert.OutpIdeal.τ).loc Cert.OutpIdeal.main_arg11) = m ((c.tc : Thread Cert.OutpIdeal.nD Cert.OutpIdeal.τ).loc Cert.OutpIdeal.main_arg11)
      ∧ r.2.mem ((c.tc : Thread Cert.OutpIdeal.nD Cert.OutpIdeal.τ).loc Cert.OutpIdeal.main_arg12) = m ((c.tc : Thread Cert.OutpIdeal.nD Cert.OutpIdeal.τ).loc Cert.OutpIdeal.main_arg12))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2)
      ∧ r.2.mem ((c.tc : Thread Cert.OutpRefIdeal.nD Cert.OutpRefIdeal.τ).loc Cert.OutpRefIdeal.main_arg3) = m ((c.tc : Thread Cert.OutpRefIdeal.nD Cert.OutpRefIdeal.τ).loc Cert.OutpRefIdeal.main_arg3)
      ∧ r.2.mem ((c.tc : Thread Cert.OutpRefIdeal.nD Cert.OutpRefIdeal.τ).loc Cert.OutpRefIdeal.main_arg4) = m ((c.tc : Thread Cert.OutpRefIdeal.nD Cert.OutpRefIdeal.τ).loc Cert.OutpRefIdeal.main_arg4)
      ∧ r.2.mem ((c.tc : Thread Cert.OutpRefIdeal.nD Cert.OutpRefIdeal.τ).loc Cert.OutpRefIdeal.main_arg5) = m ((c.tc : Thread Cert.OutpRefIdeal.nD Cert.OutpRefIdeal.τ).loc Cert.OutpRefIdeal.main_arg5)
      ∧ r.2.mem ((c.tc : Thread Cert.OutpRefIdeal.nD Cert.OutpRefIdeal.τ).loc Cert.OutpRefIdeal.main_arg6) = m ((c.tc : Thread Cert.OutpRefIdeal.nD Cert.OutpRefIdeal.τ).loc Cert.OutpRefIdeal.main_arg6)
      ∧ r.2.mem ((c.tc : Thread Cert.OutpRefIdeal.nD Cert.OutpRefIdeal.τ).loc Cert.OutpRefIdeal.main_arg7) = m ((c.tc : Thread Cert.OutpRefIdeal.nD Cert.OutpRefIdeal.τ).loc Cert.OutpRefIdeal.main_arg7)
      ∧ r.2.mem ((c.tc : Thread Cert.OutpRefIdeal.nD Cert.OutpRefIdeal.τ).loc Cert.OutpRefIdeal.main_arg8) = m ((c.tc : Thread Cert.OutpRefIdeal.nD Cert.OutpRefIdeal.τ).loc Cert.OutpRefIdeal.main_arg8)
      ∧ r.2.mem ((c.tc : Thread Cert.OutpRefIdeal.nD Cert.OutpRefIdeal.τ).loc Cert.OutpRefIdeal.main_arg9) = m ((c.tc : Thread Cert.OutpRefIdeal.nD Cert.OutpRefIdeal.τ).loc Cert.OutpRefIdeal.main_arg9)
      ∧ r.2.mem ((c.tc : Thread Cert.OutpRefIdeal.nD Cert.OutpRefIdeal.τ).loc Cert.OutpRefIdeal.main_arg10) = m ((c.tc : Thread Cert.OutpRefIdeal.nD Cert.OutpRefIdeal.τ).loc Cert.OutpRefIdeal.main_arg10)
      ∧ r.2.mem ((c.tc : Thread Cert.OutpRefIdeal.nD Cert.OutpRefIdeal.τ).loc Cert.OutpRefIdeal.main_arg11) = m ((c.tc : Thread Cert.OutpRefIdeal.nD Cert.OutpRefIdeal.τ).loc Cert.OutpRefIdeal.main_arg11)
      ∧ r.2.mem ((c.tc : Thread Cert.OutpRefIdeal.nD Cert.OutpRefIdeal.τ).loc Cert.OutpRefIdeal.main_arg12) = m ((c.tc : Thread Cert.OutpRefIdeal.nD Cert.OutpRefIdeal.τ).loc Cert.OutpRefIdeal.main_arg12))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4)
      ∧ r.2.mem ((c.tc : Thread Cert.Lat.nD Cert.Lat.τ).loc Cert.Lat.main_arg5) = m ((c.tc : Thread Cert.Lat.nD Cert.Lat.τ).loc Cert.Lat.main_arg5)
      ∧ r.2.mem ((c.tc : Thread Cert.Lat.nD Cert.Lat.τ).loc Cert.Lat.main_arg6) = m ((c.tc : Thread Cert.Lat.nD Cert.Lat.τ).loc Cert.Lat.main_arg6)
      ∧ r.2.mem ((c.tc : Thread Cert.Lat.nD Cert.Lat.τ).loc Cert.Lat.main_arg7) = m ((c.tc : Thread Cert.Lat.nD Cert.Lat.τ).loc Cert.Lat.main_arg7))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
      ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
      ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
      ∧ r.2.mem ((c.tc : Thread Cert.LatIdeal.nD Cert.LatIdeal.τ).loc Cert.LatIdeal.main_arg7) = m ((c.tc : Thread Cert.LatIdeal.nD Cert.LatIdeal.τ).loc Cert.LatIdeal.main_arg7))
      ∧ r.2.sem = fun _ => 0)

def quiescent_LatIdeal_pre_queries [hLatIdeal : Cert.LatIdeal.Facts] [hPre_queries : Cert.Pre_queries.Facts] : Prop :=
  ∀ (m : (ℓ : Loc Cert.LatIdeal.nD Cert.LatIdeal.τ Cert.LatIdeal.sig) → Buf (Elt Ideal) ℓ) (g : Dev Cert.LatIdeal.nD → PrngReg), Pre_LatIdeal_queries m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
      ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
      ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
      ∧ r.2.mem ((c.tc : Thread Cert.LatIdeal.nD Cert.LatIdeal.τ).loc Cert.LatIdeal.main_arg7) = m ((c.tc : Thread Cert.LatIdeal.nD Cert.LatIdeal.τ).loc Cert.LatIdeal.main_arg7))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m ((c.tc : Thread Cert.LatRefIdeal.nD Cert.LatRefIdeal.τ).loc Cert.LatRefIdeal.main_arg6)
      ∧ r.2.mem ((c.tc : Thread Cert.LatRefIdeal.nD Cert.LatRefIdeal.τ).loc Cert.LatRefIdeal.main_arg7) = m ((c.tc : Thread Cert.LatRefIdeal.nD Cert.LatRefIdeal.τ).loc Cert.LatRefIdeal.main_arg7))
      ∧ r.2.sem = fun _ => 0)

def quiescent_LatRefIdeal_pre_queries [hLatRefIdeal : Cert.LatRefIdeal.Facts] [hPre_queries : Cert.Pre_queries.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal_queries m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m ((c.tc : Thread Cert.LatRefIdeal.nD Cert.LatRefIdeal.τ).loc Cert.LatRefIdeal.main_arg6)
      ∧ r.2.mem ((c.tc : Thread Cert.LatRefIdeal.nD Cert.LatRefIdeal.τ).loc Cert.LatRefIdeal.main_arg7) = m ((c.tc : Thread Cert.LatRefIdeal.nD Cert.LatRefIdeal.τ).loc Cert.LatRefIdeal.main_arg7))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v19)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v19) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v22) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Moe_MoeIdeal : Prop :=
  True

def algebraic_MoeIdeal_MoeRefIdeal_pre_routed [hMoeIdeal : Cert.MoeIdeal.Facts] [hMoeRefIdeal : Cert.MoeRefIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_routed m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v7)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v7) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v40) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_Inp_InpIdeal : Prop :=
  True

def algebraic_InpIdeal_InpRefIdeal_pre_numbers [hInpIdeal : Cert.InpIdeal.Facts] [hInpRefIdeal : Cert.InpRefIdeal.Facts] [hPre_numbers : Cert.Pre_numbers.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal_numbers m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)) →
    ∃ (v0 : (c : Dev Cert.InpIdeal.nD) → Buf (Elt Ideal) ((c.tc : Thread Cert.InpIdeal.nD Cert.InpIdeal.τ).loc Cert.InpIdeal.main_v25_0)) (v1 : (c : Dev Cert.InpIdeal.nD) → Buf (Elt Ideal) ((c.tc : Thread Cert.InpIdeal.nD Cert.InpIdeal.τ).loc Cert.InpIdeal.main_v25_1)) (v2 : (c : Dev Cert.InpIdeal.nD) → Buf (Elt Ideal) ((c.tc : Thread Cert.InpIdeal.nD Cert.InpIdeal.τ).loc Cert.InpIdeal.main_v25_2)) (v3 : (c : Dev Cert.InpIdeal.nD) → Buf (Elt Ideal) ((c.tc : Thread Cert.InpIdeal.nD Cert.InpIdeal.τ).loc Cert.InpIdeal.main_v25_3)) (v4 : (c : Dev Cert.InpIdeal.nD) → Buf (Elt Ideal) ((c.tc : Thread Cert.InpIdeal.nD Cert.InpIdeal.τ).loc Cert.InpIdeal.main_v25_4)) (v5 : (c : Dev Cert.InpIdeal.nD) → Buf (Elt Ideal) ((c.tc : Thread Cert.InpIdeal.nD Cert.InpIdeal.τ).loc Cert.InpIdeal.main_v25_5)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v25_0) = v0 c
          ∧ r.2.mem ((c.tc : Thread Cert.InpIdeal.nD Cert.InpIdeal.τ).loc Cert.InpIdeal.main_v25_1) = v1 c
          ∧ r.2.mem ((c.tc : Thread Cert.InpIdeal.nD Cert.InpIdeal.τ).loc Cert.InpIdeal.main_v25_2) = v2 c
          ∧ r.2.mem ((c.tc : Thread Cert.InpIdeal.nD Cert.InpIdeal.τ).loc Cert.InpIdeal.main_v25_3) = v3 c
          ∧ r.2.mem ((c.tc : Thread Cert.InpIdeal.nD Cert.InpIdeal.τ).loc Cert.InpIdeal.main_v25_4) = v4 c
          ∧ r.2.mem ((c.tc : Thread Cert.InpIdeal.nD Cert.InpIdeal.τ).loc Cert.InpIdeal.main_v25_5) = v5 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v43) = v0 c
          ∧ r.2.mem ((c.tc : Thread Cert.InpRefIdeal.nD Cert.InpRefIdeal.τ).loc Cert.InpRefIdeal.main_v44) = v1 c
          ∧ r.2.mem ((c.tc : Thread Cert.InpRefIdeal.nD Cert.InpRefIdeal.τ).loc Cert.InpRefIdeal.main_v45) = v2 c
          ∧ r.2.mem ((c.tc : Thread Cert.InpRefIdeal.nD Cert.InpRefIdeal.τ).loc Cert.InpRefIdeal.main_v46) = v3 c
          ∧ r.2.mem ((c.tc : Thread Cert.InpRefIdeal.nD Cert.InpRefIdeal.τ).loc Cert.InpRefIdeal.main_v47) = v4 c
          ∧ r.2.mem ((c.tc : Thread Cert.InpRefIdeal.nD Cert.InpRefIdeal.τ).loc Cert.InpRefIdeal.main_v42) = v5 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)
      ∧ m' ((c.tc : Thread Cert.OutpRefIdeal.nD Cert.OutpRefIdeal.τ).loc Cert.OutpRefIdeal.main_arg3) = m ((c.tc : Thread Cert.OutpIdeal.nD Cert.OutpIdeal.τ).loc Cert.OutpIdeal.main_arg3)
      ∧ m' ((c.tc : Thread Cert.OutpRefIdeal.nD Cert.OutpRefIdeal.τ).loc Cert.OutpRefIdeal.main_arg4) = m ((c.tc : Thread Cert.OutpIdeal.nD Cert.OutpIdeal.τ).loc Cert.OutpIdeal.main_arg4)
      ∧ m' ((c.tc : Thread Cert.OutpRefIdeal.nD Cert.OutpRefIdeal.τ).loc Cert.OutpRefIdeal.main_arg5) = m ((c.tc : Thread Cert.OutpIdeal.nD Cert.OutpIdeal.τ).loc Cert.OutpIdeal.main_arg5)
      ∧ m' ((c.tc : Thread Cert.OutpRefIdeal.nD Cert.OutpRefIdeal.τ).loc Cert.OutpRefIdeal.main_arg6) = m ((c.tc : Thread Cert.OutpIdeal.nD Cert.OutpIdeal.τ).loc Cert.OutpIdeal.main_arg6)
      ∧ m' ((c.tc : Thread Cert.OutpRefIdeal.nD Cert.OutpRefIdeal.τ).loc Cert.OutpRefIdeal.main_arg7) = m ((c.tc : Thread Cert.OutpIdeal.nD Cert.OutpIdeal.τ).loc Cert.OutpIdeal.main_arg7)
      ∧ m' ((c.tc : Thread Cert.OutpRefIdeal.nD Cert.OutpRefIdeal.τ).loc Cert.OutpRefIdeal.main_arg8) = m ((c.tc : Thread Cert.OutpIdeal.nD Cert.OutpIdeal.τ).loc Cert.OutpIdeal.main_arg8)
      ∧ m' ((c.tc : Thread Cert.OutpRefIdeal.nD Cert.OutpRefIdeal.τ).loc Cert.OutpRefIdeal.main_arg9) = m ((c.tc : Thread Cert.OutpIdeal.nD Cert.OutpIdeal.τ).loc Cert.OutpIdeal.main_arg9)
      ∧ m' ((c.tc : Thread Cert.OutpRefIdeal.nD Cert.OutpRefIdeal.τ).loc Cert.OutpRefIdeal.main_arg10) = m ((c.tc : Thread Cert.OutpIdeal.nD Cert.OutpIdeal.τ).loc Cert.OutpIdeal.main_arg10)
      ∧ m' ((c.tc : Thread Cert.OutpRefIdeal.nD Cert.OutpRefIdeal.τ).loc Cert.OutpRefIdeal.main_arg11) = m ((c.tc : Thread Cert.OutpIdeal.nD Cert.OutpIdeal.τ).loc Cert.OutpIdeal.main_arg11)
      ∧ m' ((c.tc : Thread Cert.OutpRefIdeal.nD Cert.OutpRefIdeal.τ).loc Cert.OutpRefIdeal.main_arg12) = m ((c.tc : Thread Cert.OutpIdeal.nD Cert.OutpIdeal.τ).loc Cert.OutpIdeal.main_arg12)) →
    ∃ (v0 : (c : Dev Cert.OutpIdeal.nD) → Buf (Elt Ideal) ((c.tc : Thread Cert.OutpIdeal.nD Cert.OutpIdeal.τ).loc Cert.OutpIdeal.main_v19)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v19) = v0 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
          ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
          ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5)
          ∧ r.2.mem ((c.tc : Thread Cert.OutpIdeal.nD Cert.OutpIdeal.τ).loc Cert.OutpIdeal.main_arg6) = m ((c.tc : Thread Cert.OutpIdeal.nD Cert.OutpIdeal.τ).loc Cert.OutpIdeal.main_arg6)
          ∧ r.2.mem ((c.tc : Thread Cert.OutpIdeal.nD Cert.OutpIdeal.τ).loc Cert.OutpIdeal.main_arg7) = m ((c.tc : Thread Cert.OutpIdeal.nD Cert.OutpIdeal.τ).loc Cert.OutpIdeal.main_arg7)
          ∧ r.2.mem ((c.tc : Thread Cert.OutpIdeal.nD Cert.OutpIdeal.τ).loc Cert.OutpIdeal.main_arg8) = m ((c.tc : Thread Cert.OutpIdeal.nD Cert.OutpIdeal.τ).loc Cert.OutpIdeal.main_arg8)
          ∧ r.2.mem ((c.tc : Thread Cert.OutpIdeal.nD Cert.OutpIdeal.τ).loc Cert.OutpIdeal.main_arg9) = m ((c.tc : Thread Cert.OutpIdeal.nD Cert.OutpIdeal.τ).loc Cert.OutpIdeal.main_arg9)
          ∧ r.2.mem ((c.tc : Thread Cert.OutpIdeal.nD Cert.OutpIdeal.τ).loc Cert.OutpIdeal.main_arg10) = m ((c.tc : Thread Cert.OutpIdeal.nD Cert.OutpIdeal.τ).loc Cert.OutpIdeal.main_arg10)
          ∧ r.2.mem ((c.tc : Thread Cert.OutpIdeal.nD Cert.OutpIdeal.τ).loc Cert.OutpIdeal.main_arg11) = m ((c.tc : Thread Cert.OutpIdeal.nD Cert.OutpIdeal.τ).loc Cert.OutpIdeal.main_arg11)
          ∧ r.2.mem ((c.tc : Thread Cert.OutpIdeal.nD Cert.OutpIdeal.τ).loc Cert.OutpIdeal.main_arg12) = m ((c.tc : Thread Cert.OutpIdeal.nD Cert.OutpIdeal.τ).loc Cert.OutpIdeal.main_arg12))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v78) = v0 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2)
          ∧ r.2.mem ((c.tc : Thread Cert.OutpRefIdeal.nD Cert.OutpRefIdeal.τ).loc Cert.OutpRefIdeal.main_arg3) = m' ((c.tc : Thread Cert.OutpRefIdeal.nD Cert.OutpRefIdeal.τ).loc Cert.OutpRefIdeal.main_arg3)
          ∧ r.2.mem ((c.tc : Thread Cert.OutpRefIdeal.nD Cert.OutpRefIdeal.τ).loc Cert.OutpRefIdeal.main_arg4) = m' ((c.tc : Thread Cert.OutpRefIdeal.nD Cert.OutpRefIdeal.τ).loc Cert.OutpRefIdeal.main_arg4)
          ∧ r.2.mem ((c.tc : Thread Cert.OutpRefIdeal.nD Cert.OutpRefIdeal.τ).loc Cert.OutpRefIdeal.main_arg5) = m' ((c.tc : Thread Cert.OutpRefIdeal.nD Cert.OutpRefIdeal.τ).loc Cert.OutpRefIdeal.main_arg5)
          ∧ r.2.mem ((c.tc : Thread Cert.OutpRefIdeal.nD Cert.OutpRefIdeal.τ).loc Cert.OutpRefIdeal.main_arg6) = m' ((c.tc : Thread Cert.OutpRefIdeal.nD Cert.OutpRefIdeal.τ).loc Cert.OutpRefIdeal.main_arg6)
          ∧ r.2.mem ((c.tc : Thread Cert.OutpRefIdeal.nD Cert.OutpRefIdeal.τ).loc Cert.OutpRefIdeal.main_arg7) = m' ((c.tc : Thread Cert.OutpRefIdeal.nD Cert.OutpRefIdeal.τ).loc Cert.OutpRefIdeal.main_arg7)
          ∧ r.2.mem ((c.tc : Thread Cert.OutpRefIdeal.nD Cert.OutpRefIdeal.τ).loc Cert.OutpRefIdeal.main_arg8) = m' ((c.tc : Thread Cert.OutpRefIdeal.nD Cert.OutpRefIdeal.τ).loc Cert.OutpRefIdeal.main_arg8)
          ∧ r.2.mem ((c.tc : Thread Cert.OutpRefIdeal.nD Cert.OutpRefIdeal.τ).loc Cert.OutpRefIdeal.main_arg9) = m' ((c.tc : Thread Cert.OutpRefIdeal.nD Cert.OutpRefIdeal.τ).loc Cert.OutpRefIdeal.main_arg9)
          ∧ r.2.mem ((c.tc : Thread Cert.OutpRefIdeal.nD Cert.OutpRefIdeal.τ).loc Cert.OutpRefIdeal.main_arg10) = m' ((c.tc : Thread Cert.OutpRefIdeal.nD Cert.OutpRefIdeal.τ).loc Cert.OutpRefIdeal.main_arg10)
          ∧ r.2.mem ((c.tc : Thread Cert.OutpRefIdeal.nD Cert.OutpRefIdeal.τ).loc Cert.OutpRefIdeal.main_arg11) = m' ((c.tc : Thread Cert.OutpRefIdeal.nD Cert.OutpRefIdeal.τ).loc Cert.OutpRefIdeal.main_arg11)
          ∧ r.2.mem ((c.tc : Thread Cert.OutpRefIdeal.nD Cert.OutpRefIdeal.τ).loc Cert.OutpRefIdeal.main_arg12) = m' ((c.tc : Thread Cert.OutpRefIdeal.nD Cert.OutpRefIdeal.τ).loc Cert.OutpRefIdeal.main_arg12))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v6)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v6) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v49) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Lat_LatIdeal : Prop :=
  True

def algebraic_LatIdeal_LatRefIdeal_pre_queries [hLatIdeal : Cert.LatIdeal.Facts] [hLatRefIdeal : Cert.LatRefIdeal.Facts] [hPre_queries : Cert.Pre_queries.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal_queries m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)
      ∧ m' ((c.tc : Thread Cert.LatRefIdeal.nD Cert.LatRefIdeal.τ).loc Cert.LatRefIdeal.main_arg5) = m ((c.tc : Thread Cert.LatIdeal.nD Cert.LatIdeal.τ).loc Cert.LatIdeal.main_arg5)
      ∧ m' ((c.tc : Thread Cert.LatRefIdeal.nD Cert.LatRefIdeal.τ).loc Cert.LatRefIdeal.main_arg6) = m ((c.tc : Thread Cert.LatIdeal.nD Cert.LatIdeal.τ).loc Cert.LatIdeal.main_arg6)
      ∧ m' ((c.tc : Thread Cert.LatRefIdeal.nD Cert.LatRefIdeal.τ).loc Cert.LatRefIdeal.main_arg7) = m ((c.tc : Thread Cert.LatIdeal.nD Cert.LatIdeal.τ).loc Cert.LatIdeal.main_arg7)) →
    ∃ (v0 : (c : Dev Cert.LatIdeal.nD) → Buf (Elt Ideal) ((c.tc : Thread Cert.LatIdeal.nD Cert.LatIdeal.τ).loc Cert.LatIdeal.main_v115_0)) (v1 : (c : Dev Cert.LatIdeal.nD) → Buf (Elt Ideal) ((c.tc : Thread Cert.LatIdeal.nD Cert.LatIdeal.τ).loc Cert.LatIdeal.main_v115_1)) (v2 : (c : Dev Cert.LatIdeal.nD) → Buf (Elt Ideal) ((c.tc : Thread Cert.LatIdeal.nD Cert.LatIdeal.τ).loc Cert.LatIdeal.main_v115_2)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v115_0) = v0 c
          ∧ r.2.mem ((c.tc : Thread Cert.LatIdeal.nD Cert.LatIdeal.τ).loc Cert.LatIdeal.main_v115_1) = v1 c
          ∧ r.2.mem ((c.tc : Thread Cert.LatIdeal.nD Cert.LatIdeal.τ).loc Cert.LatIdeal.main_v115_2) = v2 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
          ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
          ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
          ∧ r.2.mem ((c.tc : Thread Cert.LatIdeal.nD Cert.LatIdeal.τ).loc Cert.LatIdeal.main_arg7) = m ((c.tc : Thread Cert.LatIdeal.nD Cert.LatIdeal.τ).loc Cert.LatIdeal.main_arg7))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v113) = v0 c
          ∧ r.2.mem ((c.tc : Thread Cert.LatRefIdeal.nD Cert.LatRefIdeal.τ).loc Cert.LatRefIdeal.main_v115) = v1 c
          ∧ r.2.mem ((c.tc : Thread Cert.LatRefIdeal.nD Cert.LatRefIdeal.τ).loc Cert.LatRefIdeal.main_v116) = v2 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4)
          ∧ r.2.mem ((c.tc : Thread Cert.LatRefIdeal.nD Cert.LatRefIdeal.τ).loc Cert.LatRefIdeal.main_arg5) = m' ((c.tc : Thread Cert.LatRefIdeal.nD Cert.LatRefIdeal.τ).loc Cert.LatRefIdeal.main_arg5)
          ∧ r.2.mem ((c.tc : Thread Cert.LatRefIdeal.nD Cert.LatRefIdeal.τ).loc Cert.LatRefIdeal.main_arg6) = m' ((c.tc : Thread Cert.LatRefIdeal.nD Cert.LatRefIdeal.τ).loc Cert.LatRefIdeal.main_arg6)
          ∧ r.2.mem ((c.tc : Thread Cert.LatRefIdeal.nD Cert.LatRefIdeal.τ).loc Cert.LatRefIdeal.main_arg7) = m' ((c.tc : Thread Cert.LatRefIdeal.nD Cert.LatRefIdeal.τ).loc Cert.LatRefIdeal.main_arg7))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hInp : Cert.Inp.Facts) (hInpIdeal : Cert.InpIdeal.Facts) (hInpRefIdeal : Cert.InpRefIdeal.Facts) (hOutp : Cert.Outp.Facts) (hOutpIdeal : Cert.OutpIdeal.Facts) (hOutpRefIdeal : Cert.OutpRefIdeal.Facts) (hSgu : Cert.Sgu.Facts) (hSguIdeal : Cert.SguIdeal.Facts) (hSguRefIdeal : Cert.SguRefIdeal.Facts) (hLat : Cert.Lat.Facts) (hLatIdeal : Cert.LatIdeal.Facts) (hLatRefIdeal : Cert.LatRefIdeal.Facts) (hPre_finite : Cert.Pre_finite.Facts) (hPre_tables : Cert.Pre_tables.Facts) (hPre_routed : Cert.Pre_routed.Facts) (hPre_numbers : Cert.Pre_numbers.Facts) (hPre_queries : Cert.Pre_queries.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Moe (hMoe := hMoe) (hPre_tables := hPre_tables)
    ∧ quiescent_MoeIdeal (hMoeIdeal := hMoeIdeal) (hPre_tables := hPre_tables)
    ∧ quiescent_MoeIdeal_pre_routed (hMoeIdeal := hMoeIdeal) (hPre_routed := hPre_routed)
    ∧ quiescent_MoeRefIdeal (hMoeRefIdeal := hMoeRefIdeal)
    ∧ quiescent_MoeRefIdeal_pre_routed (hMoeRefIdeal := hMoeRefIdeal) (hPre_routed := hPre_routed)
    ∧ quiescent_Inp (hInp := hInp)
    ∧ quiescent_InpIdeal (hInpIdeal := hInpIdeal)
    ∧ quiescent_InpIdeal_pre_numbers (hInpIdeal := hInpIdeal) (hPre_numbers := hPre_numbers)
    ∧ quiescent_InpRefIdeal (hInpRefIdeal := hInpRefIdeal)
    ∧ quiescent_InpRefIdeal_pre_numbers (hInpRefIdeal := hInpRefIdeal) (hPre_numbers := hPre_numbers)
    ∧ quiescent_Outp (hOutp := hOutp)
    ∧ quiescent_OutpIdeal (hOutpIdeal := hOutpIdeal)
    ∧ quiescent_OutpRefIdeal (hOutpRefIdeal := hOutpRefIdeal)
    ∧ quiescent_Sgu (hSgu := hSgu)
    ∧ quiescent_SguIdeal (hSguIdeal := hSguIdeal)
    ∧ quiescent_SguRefIdeal (hSguRefIdeal := hSguRefIdeal)
    ∧ quiescent_Lat (hLat := hLat)
    ∧ quiescent_LatIdeal (hLatIdeal := hLatIdeal)
    ∧ quiescent_LatIdeal_pre_queries (hLatIdeal := hLatIdeal) (hPre_queries := hPre_queries)
    ∧ quiescent_LatRefIdeal (hLatRefIdeal := hLatRefIdeal)
    ∧ quiescent_LatRefIdeal_pre_queries (hLatRefIdeal := hLatRefIdeal) (hPre_queries := hPre_queries)
    ∧ preserves_Attn_AttnIdeal
    ∧ algebraic_AttnIdeal_AttnRefIdeal_pre_finite (hAttnIdeal := hAttnIdeal) (hAttnRefIdeal := hAttnRefIdeal) (hPre_finite := hPre_finite)
    ∧ preserves_Moe_MoeIdeal
    ∧ algebraic_MoeIdeal_MoeRefIdeal_pre_routed (hMoeIdeal := hMoeIdeal) (hMoeRefIdeal := hMoeRefIdeal) (hPre_routed := hPre_routed)
    ∧ preserves_Inp_InpIdeal
    ∧ algebraic_InpIdeal_InpRefIdeal_pre_numbers (hInpIdeal := hInpIdeal) (hInpRefIdeal := hInpRefIdeal) (hPre_numbers := hPre_numbers)
    ∧ preserves_Outp_OutpIdeal
    ∧ algebraic_OutpIdeal_OutpRefIdeal (hOutpIdeal := hOutpIdeal) (hOutpRefIdeal := hOutpRefIdeal)
    ∧ preserves_Sgu_SguIdeal
    ∧ algebraic_SguIdeal_SguRefIdeal (hSguIdeal := hSguIdeal) (hSguRefIdeal := hSguRefIdeal)
    ∧ preserves_Lat_LatIdeal
    ∧ algebraic_LatIdeal_LatRefIdeal_pre_queries (hLatIdeal := hLatIdeal) (hLatRefIdeal := hLatRefIdeal) (hPre_queries := hPre_queries)
-- ==== Pre_finite.lean ====
abbrev S32x2048x4x96 : Shape := ⟨4, ![32, 2048, 4, 96]⟩
abbrev S32x2048x4x64 : Shape := ⟨4, ![32, 2048, 4, 64]⟩
abbrev S32x2048x32 : Shape := ⟨3, ![32, 2048, 32]⟩
abbrev S_ : Shape := ⟨0, ![]⟩

class Facts : Prop where
  bcast_S_S32x2048x4x96 : S_.BroadcastsInDim S32x2048x4x96 (![] : Fin 0 → Fin S32x2048x4x96.rank)
  reducesTo_S32x2048x4x96_S_d0_1_2_3 : S32x2048x4x96.ReducesTo [0, 1, 2, 3] S_
  h_S_ : 0 < S_.numel
  bcast_S_S32x2048x4x64 : S_.BroadcastsInDim S32x2048x4x64 (![] : Fin 0 → Fin S32x2048x4x64.rank)
  reducesTo_S32x2048x4x64_S_d0_1_2_3 : S32x2048x4x64.ReducesTo [0, 1, 2, 3] S_
  bcast_S_S32x2048x32 : S_.BroadcastsInDim S32x2048x32 (![] : Fin 0 → Fin S32x2048x32.rank)
  reducesTo_S32x2048x32_S_d0_1_2 : S32x2048x32.ReducesTo [0, 1, 2] S_

variable [Facts]

def fn {F : FTy → Type} [FloatOps F] (main_arg0 : FVec F S32x2048x4x96 .f32) (main_arg1 : FVec F S32x2048x4x64 .f32) (main_arg2 : FVec F S32x2048x32 .f32) (main_arg3 : FVec F S32x2048x4x64 .f32) : IVec S_ 1 :=
  let main_v0 : FVec F S32x2048x4x96 .f32 := Host.absf main_arg0
  let main_cst : FVec F S_ .f32 := constant S_ .f32 0x7F800000#32
  let main_v1 : FVec F S32x2048x4x96 .f32 := broadcastInDim S32x2048x4x96 ![] bcast_S_S32x2048x4x96 main_cst
  let main_v2 : IVec S32x2048x4x96 1 := cmpf .olt main_v0 main_v1
  let main_c : IVec S_ 1 := constantI S_ 1 1#1
  let main_v3 : IVec S_ 1 := (fun x v => Host.reduce IntOp.andi x v reducesTo_S32x2048x4x96_S_d0_1_2_3 h_S_) main_v2 main_c
  let main_v4 : FVec F S32x2048x4x64 .f32 := Host.absf main_arg1
  let main_cst_0 : FVec F S_ .f32 := constant S_ .f32 0x7F800000#32
  let main_v5 : FVec F S32x2048x4x64 .f32 := broadcastInDim S32x2048x4x64 ![] bcast_S_S32x2048x4x64 main_cst_0
  let main_v6 : IVec S32x2048x4x64 1 := cmpf .olt main_v4 main_v5
  let main_c_1 : IVec S_ 1 := constantI S_ 1 1#1
  let main_v7 : IVec S_ 1 := (fun x v => Host.reduce IntOp.andi x v reducesTo_S32x2048x4x64_S_d0_1_2_3 h_S_) main_v6 main_c_1
  let main_v8 : IVec S_ 1 := andi main_v3 main_v7
  let main_v9 : FVec F S32x2048x32 .f32 := Host.absf main_arg2
  let main_cst_2 : FVec F S_ .f32 := constant S_ .f32 0x7F800000#32
  let main_v10 : FVec F S32x2048x32 .f32 := broadcastInDim S32x2048x32 ![] bcast_S_S32x2048x32 main_cst_2
  let main_v11 : IVec S32x2048x32 1 := cmpf .olt main_v9 main_v10
  let main_c_3 : IVec S_ 1 := constantI S_ 1 1#1
  let main_v12 : IVec S_ 1 := (fun x v => Host.reduce IntOp.andi x v reducesTo_S32x2048x32_S_d0_1_2 h_S_) main_v11 main_c_3
  let main_v13 : IVec S_ 1 := andi main_v8 main_v12
  main_v13
-- ==== Pre_numbers.lean ====
abbrev S65536x1024 : Shape := ⟨2, ![65536, 1024]⟩
abbrev S1024 : Shape := ⟨1, ![1024]⟩
abbrev S1024x2352 : Shape := ⟨2, ![1024, 2352]⟩
abbrev S_ : Shape := ⟨0, ![]⟩
abbrev S1024x16 : Shape := ⟨2, ![1024, 16]⟩

class Facts : Prop where
  bcast_S_S1024 : S_.BroadcastsInDim S1024 (![] : Fin 0 → Fin S1024.rank)
  reducesTo_S1024_S_d0 : S1024.ReducesTo [0] S_
  h_S_ : 0 < S_.numel
  slices_S1024x2352_S1024x16_0_2336 : S1024x2352.Slices ![0, 2336] S1024x16
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S65536x1024 .f32) (main_arg1 : FVec F S1024 .f32) (main_arg2 : FVec F S1024 .f32) (main_arg3 : FVec F S1024x2352 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x16 .f32 := (extractStridedSlice S1024x16 ![0, 2336] · slices_S1024x2352_S1024x16_0_2336) main_arg3
  let main_v10 : FVec F S1024x16 .f32 := Host.absf main_v9
  let main_cst_2 : FVec F S_ .f32 := constant S_ .f32 0x7F800000#32
  let main_v11 : FVec F S1024x16 .f32 := broadcastInDim S1024x16 ![] bcast_S_S1024x16 main_cst_2
  let main_v12 : IVec S1024x16 1 := cmpf .olt main_v10 main_v11
  let main_c_3 : IVec S_ 1 := constantI S_ 1 1#1
  let main_v13 : IVec S_ 1 := (fun x v => Host.reduce IntOp.andi x v reducesTo_S1024x16_S_d0_1 h_S_) main_v12 main_c_3
  let main_v14 : IVec S_ 1 := andi main_v8 main_v13
  main_v14
-- ==== Pre_queries.lean ====
abbrev S32x2048x384 : Shape := ⟨3, ![32, 2048, 384]⟩
abbrev S32x2048x128 : Shape := ⟨3, ![32, 2048, 128]⟩
abbrev S32x2048x32 : Shape := ⟨3, ![32, 2048, 32]⟩
abbrev S384 : Shape := ⟨1, ![384]⟩
abbrev S128 : Shape := ⟨1, ![128]⟩
abbrev S384x4x96 : Shape := ⟨3, ![384, 4, 96]⟩
abbrev S128x4x64 : Shape := ⟨3, ![128, 4, 64]⟩
abbrev S_ : Shape := ⟨0, ![]⟩
abbrev S384x4x16 : Shape := ⟨3, ![384, 4, 16]⟩

class Facts : Prop where
  bcast_S_S384 : S_.BroadcastsInDim S384 (![] : Fin 0 → Fin S384.rank)
  reducesTo_S384_S_d0 : S384.ReducesTo [0] S_
  h_S_ : 0 < S_.numel
  slices_S384x4x96_S384x4x16_0_0_80 : S384x4x96.Slices ![0, 0, 80] S384x4x16
  bcast_S_S384x4x16 : S_.BroadcastsInDim S384x4x16 (![] : Fin 0 → Fin S384x4x16.rank)
  reducesTo_S384x4x16_S_d0_1_2 : S384x4x16.ReducesTo [0, 1, 2] S_

variable [Facts]

def fn {F : FTy → Type} [FloatOps F] (main_arg0 : FVec F S32x2048x384 .bf16) (main_arg1 : FVec F S32x2048x128 .bf16) (main_arg2 : FVec F S32x2048x32 .bf16) (main_arg3 : FVec F S384 .f32) (main_arg4 : FVec F S128 .f32) (main_arg5 : FVec F S384x4x96 .f32) (main_arg6 : FVec F S128x4x64 .f32) (main_arg7 : FVec F S128x4x64 .f32) : IVec S_ 1 :=
  let main_v0 : FVec F S384 .f32 := Host.absf main_arg3
  let main_cst : FVec F S_ .f32 := constant S_ .f32 0x7F800000#32
  let main_v1 : FVec F S384 .f32 := broadcastInDim S384 ![] bcast_S_S384 main_cst
  let main_v2 : IVec S384 1 := cmpf .olt main_v0 main_v1
  let main_c : IVec S_ 1 := constantI S_ 1 1#1
  let main_v3 : IVec S_ 1 := (fun x v => Host.reduce IntOp.andi x v reducesTo_S384_S_d0 h_S_) main_v2 main_c
  let main_v4 : FVec F S384x4x16 .f32 := (extractStridedSlice S384x4x16 ![0, 0, 80] · slices_S384x4x96_S384x4x16_0_0_80) main_arg5
  let main_v5 : FVec F S384x4x16 .f32 := Host.absf main_v4
  let main_cst_0 : FVec F S_ .f32 := constant S_ .f32 0x7F800000#32
  let main_v6 : FVec F S384x4x16 .f32 := broadcastInDim S384x4x16 ![] bcast_S_S384x4x16 main_cst_0
  let main_v7 : IVec S384x4x16 1 := cmpf .olt main_v5 main_v6
  let main_c_1 : IVec S_ 1 := constantI S_ 1 1#1
  let main_v8 : IVec S_ 1 := (fun x v => Host.reduce IntOp.andi x v reducesTo_S384x4x16_S_d0_1_2 h_S_) main_v7 main_c_1
  let main_v9 : IVec S_ 1 := andi main_v3 main_v8
  main_v9
-- ==== Pre_routed.lean ====
abbrev S71680x1024 : Shape := ⟨2, ![71680, 1024]⟩
abbrev S280 : Shape := ⟨1, ![280]⟩
abbrev S1024x16 : Shape := ⟨2, ![1024, 16]⟩
abbrev S16x1024x512 : Shape := ⟨3, ![16, 1024, 512]⟩
abbrev S16x512x1024 : Shape := ⟨3, ![16, 512, 1024]⟩
abbrev S_ : Shape := ⟨0, ![]⟩

class Facts : Prop where
  bcast_S_S280 : S_.BroadcastsInDim S280 (![] : Fin 0 → Fin S280.rank)
  reducesTo_S280_S_d0 : S280.ReducesTo [0] S_
  h_S_ : 0 < S_.numel
  bcast_S_S71680x1024 : S_.BroadcastsInDim S71680x1024 (![] : Fin 0 → Fin S71680x1024.rank)
  reducesTo_S71680x1024_S_d0_1 : S71680x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg0 : FVec F S71680x1024 .f32) (main_arg3 : IVec S280 32) (main_arg4 : FVec F S1024x16 .f32) (main_v12 : IVec S_ 1) (main_v14 : IVec S280 1) (main_v15 : IVec S280 32) : IVec S_ 1 :=
  let main_v16 : IVec S280 1 := cmpi .eq main_arg3 main_v15
  let main_v17 : IVec S280 1 := ori main_v14 main_v16
  let main_c_7 : IVec S_ 1 := constantI S_ 1 1#1
  let main_v18 : IVec S_ 1 := (fun x v => Host.reduce IntOp.andi x v reducesTo_S280_S_d0 h_S_) main_v17 main_c_7
  let main_v19 : IVec S_ 1 := andi main_v12 main_v18
  let main_v20 : FVec F S71680x1024 .f32 := Host.absf main_arg0
  let main_cst : FVec F S_ .f32 := constant S_ .f32 0x7F800000#32
  let main_v21 : FVec F S71680x1024 .f32 := broadcastInDim S71680x1024 ![] bcast_S_S71680x1024 main_cst
  let main_v22 : IVec S71680x1024 1 := cmpf .olt main_v20 main_v21
  let main_c_8 : IVec S_ 1 := constantI S_ 1 1#1
  let main_v23 : IVec S_ 1 := (fun x v => Host.reduce IntOp.andi x v reducesTo_S71680x1024_S_d0_1 h_S_) main_v22 main_c_8
  let main_v24 : IVec S_ 1 := andi main_v19 main_v23
  let main_v25 : FVec F S1024x16 .f32 := Host.absf main_arg4
  let main_cst_9 : FVec F S_ .f32 := constant S_ .f32 0x7F800000#32
  let main_v26 : FVec F S1024x16 .f32 := broadcastInDim S1024x16 ![] bcast_S_S1024x16 main_cst_9
  let main_v27 : IVec S1024x16 1 := cmpf .olt main_v25 main_v26
  let main_c_10 : IVec S_ 1 := constantI S_ 1 1#1
  let main_v28 : IVec S_ 1 := (fun x v => Host.reduce IntOp.andi x v reducesTo_S1024x16_S_d0_1 h_S_) main_v27 main_c_10
  let main_v29 : IVec S_ 1 := andi main_v24 main_v28
  main_v29

def fn {F : FTy → Type} [FloatOps F] (main_arg0 : FVec F S71680x1024 .f32) (main_arg1 : IVec S280 32) (main_arg2 : IVec S280 32) (main_arg3 : IVec S280 32) (main_arg4 : FVec F S1024x16 .f32) (main_arg5 : FVec F S16x1024x512 .f32) (main_arg6 : FVec F S16x1024x512 .f32) (main_arg7 : FVec F S16x512x1024 .f32) : IVec S_ 1 :=
  let main_c : IVec S_ 32 := constantI S_ 32 0#32
  let main_v0 : IVec S280 32 := broadcastInDim S280 ![] bcast_S_S280 main_c
  let main_v1 : IVec S280 1 := cmpi .sge main_arg1 main_v0
  let main_c_0 : IVec S_ 32 := constantI S_ 32 16#32
  let main_v2 : IVec S280 32 := broadcastInDim S280 ![] bcast_S_S280 main_c_0
  let main_v3 : IVec S280 1 := cmpi .slt main_arg1 main_v2
  let main_v4 : IVec S280 1 := andi main_v1 main_v3
  let main_c_1 : IVec S_ 1 := constantI S_ 1 1#1
  let main_v5 : IVec S_ 1 := (fun x v => Host.reduce IntOp.andi x v reducesTo_S280_S_d0 h_S_) main_v4 main_c_1
  let main_c_2 : IVec S_ 32 := constantI S_ 32 0#32
  let main_v6 : IVec S280 32 := broadcastInDim S280 ![] bcast_S_S280 main_c_2
  let main_v7 : IVec S280 1 := cmpi .sge main_arg2 main_v6
  let main_c_3 : IVec S_ 32 := constantI S_ 32 16#32
  let main_v8 : IVec S280 32 := broadcastInDim S280 ![] bcast_S_S280 main_c_3
  let main_v9 : IVec S280 1 := cmpi .slt main_arg2 main_v8
  let main_v10 : IVec S280 1 := andi main_v7 main_v9
  let main_c_4 : IVec S_ 1 := constantI S_ 1 1#1
  let main_v11 : IVec S_ 1 := (fun x v => Host.reduce IntOp.andi x v reducesTo_S280_S_d0 h_S_) main_v10 main_c_4
  let main_v12 : IVec S_ 1 := andi main_v5 main_v11
  let main_c_5 : IVec S_ 32 := constantI S_ 32 0#32
  let main_v13 : IVec S280 32 := broadcastInDim S280 ![] bcast_S_S280 main_c_5
  let main_v14 : IVec S280 1 := cmpi .eq main_arg3 main_v13
  let main_c_6 : IVec S_ 32 := constantI S_ 32 1#32
  let main_v15 : IVec S280 32 := broadcastInDim S280 ![] bcast_S_S280 main_c_6
  fn_part1 (F := F) main_arg0 main_arg3 main_arg4 main_v12 main_v14 main_v15
-- ==== Pre_tables.lean ====
abbrev S71680x1024 : Shape := ⟨2, ![71680, 1024]⟩
abbrev S280 : Shape := ⟨1, ![280]⟩
abbrev S1024x16 : Shape := ⟨2, ![1024, 16]⟩
abbrev S16x1024x512 : Shape := ⟨3, ![16, 1024, 512]⟩
abbrev S16x512x1024 : Shape := ⟨3, ![16, 512, 1024]⟩
abbrev S_ : Shape := ⟨0, ![]⟩

class Facts : Prop where
  bcast_S_S280 : S_.BroadcastsInDim S280 (![] : Fin 0 → Fin S280.rank)
  reducesTo_S280_S_d0 : S280.ReducesTo [0] S_
  h_S_ : 0 < S_.numel

variable [Facts]

def fn_part1 {F : FTy → Type} [FloatOps F] (main_arg3 : IVec S280 32) (main_v12 : IVec S_ 1) (main_v14 : IVec S280 1) (main_v15 : IVec S280 32) : IVec S_ 1 :=
  let main_v16 : IVec S280 1 := cmpi .eq main_arg3 main_v15
  let main_v17 : IVec S280 1 := ori main_v14 main_v16
  let main_c_7 : IVec S_ 1 := constantI S_ 1 1#1
  let main_v18 : IVec S_ 1 := (fun x v => Host.reduce IntOp.andi x v reducesTo_S280_S_d0 h_S_) main_v17 main_c_7
  let main_v19 : IVec S_ 1 := andi main_v12 main_v18
  main_v19

def fn {F : FTy → Type} [FloatOps F] (main_arg0 : FVec F S71680x1024 .f32) (main_arg1 : IVec S280 32) (main_arg2 : IVec S280 32) (main_arg3 : IVec S280 32) (main_arg4 : FVec F S1024x16 .f32) (main_arg5 : FVec F S16x1024x512 .f32) (main_arg6 : FVec F S16x1024x512 .f32) (main_arg7 : FVec F S16x512x1024 .f32) : IVec S_ 1 :=
  let main_c : IVec S_ 32 := constantI S_ 32 0#32
  let main_v0 : IVec S280 32 := broadcastInDim S280 ![] bcast_S_S280 main_c
  let main_v1 : IVec S280 1 := cmpi .sge main_arg1 main_v0
  let main_c_0 : IVec S_ 32 := constantI S_ 32 16#32
  let main_v2 : IVec S280 32 := broadcastInDim S280 ![] bcast_S_S280 main_c_0
  let main_v3 : IVec S280 1 := cmpi .slt main_arg1 main_v2
  let main_v4 : IVec S280 1 := andi main_v1 main_v3
  let main_c_1 : IVec S_ 1 := constantI S_ 1 1#1
  let main_v5 : IVec S_ 1 := (fun x v => Host.reduce IntOp.andi x v reducesTo_S280_S_d0 h_S_) main_v4 main_c_1
  let main_c_2 : IVec S_ 32 := constantI S_ 32 0#32
  let main_v6 : IVec S280 32 := broadcastInDim S280 ![] bcast_S_S280 main_c_2
  let main_v7 : IVec S280 1 := cmpi .sge main_arg2 main_v6
  let main_c_3 : IVec S_ 32 := constantI S_ 32 16#32
  let main_v8 : IVec S280 32 := broadcastInDim S280 ![] bcast_S_S280 main_c_3
  let main_v9 : IVec S280 1 := cmpi .slt main_arg2 main_v8
  let main_v10 : IVec S280 1 := andi main_v7 main_v9
  let main_c_4 : IVec S_ 1 := constantI S_ 1 1#1
  let main_v11 : IVec S_ 1 := (fun x v => Host.reduce IntOp.andi x v reducesTo_S280_S_d0 h_S_) main_v10 main_c_4
  let main_v12 : IVec S_ 1 := andi main_v5 main_v11
  let main_c_5 : IVec S_ 32 := constantI S_ 32 0#32
  let main_v13 : IVec S280 32 := broadcastInDim S280 ![] bcast_S_S280 main_c_5
  let main_v14 : IVec S280 1 := cmpi .eq main_arg3 main_v13
  let main_c_6 : IVec S_ 32 := constantI S_ 32 1#32
  let main_v15 : IVec S280 32 := broadcastInDim S280 ![] bcast_S_S280 main_c_6
  fn_part1 (F := F) main_arg3 main_v12 main_v14 main_v15
-- ==== Attn.lean ====
abbrev S32x2048x4x96 : Shape := ⟨4, ![32, 2048, 4, 96]⟩
abbrev S32x2048x4x64 : Shape := ⟨4, ![32, 2048, 4, 64]⟩
abbrev S32x2048x32 : Shape := ⟨3, ![32, 2048, 32]⟩
abbrev S_ : Shape := ⟨0, ![]⟩
abbrev S32x2048x4x128 : Shape := ⟨4, ![32, 2048, 4, 128]⟩
abbrev S32x2048x512 : Shape := ⟨3, ![32, 2048, 512]⟩
abbrev S32x2048x1x32 : Shape := ⟨4, ![32, 2048, 1, 32]⟩
abbrev S32x2048x4x32 : Shape := ⟨4, ![32, 2048, 4, 32]⟩
abbrev S32x8x256x4x64 : Shape := ⟨5, ![32, 8, 256, 4, 64]⟩
abbrev S32x8x4x64x256 : Shape := ⟨5, ![32, 8, 4, 64, 256]⟩
abbrev S32x8x4x16x256 : Shape := ⟨5, ![32, 8, 4, 16, 256]⟩
abbrev S32x8x4x80x256 : Shape := ⟨5, ![32, 8, 4, 80, 256]⟩
abbrev S32x8x320x256 : Shape := ⟨4, ![32, 8, 320, 256]⟩
abbrev S32x2048x256 : Shape := ⟨3, ![32, 2048, 256]⟩
abbrev S1x256x512 : Shape := ⟨3, ![1, 256, 512]⟩
abbrev S1x2048x512 : Shape := ⟨3, ![1, 2048, 512]⟩
abbrev S1x8x320x256 : Shape := ⟨4, ![1, 8, 320, 256]⟩
abbrev S1x256x256 : Shape := ⟨3, ![1, 256, 256]⟩
abbrev S1x256x128 : Shape := ⟨3, ![1, 256, 128]⟩
abbrev S256x128 : Shape := ⟨2, ![256, 128]⟩
abbrev S1x256 : Shape := ⟨2, ![1, 256]⟩
abbrev S80x256 : Shape := ⟨2, ![80, 256]⟩
abbrev S256x256 : Shape := ⟨2, ![256, 256]⟩
abbrev S256 : Shape := ⟨1, ![256]⟩
abbrev S1x1x80x256 : Shape := ⟨4, ![1, 1, 80, 256]⟩
abbrev S64x256 : Shape := ⟨2, ![64, 256]⟩

abbrev nBuf : Space → Nat
  | .hbm => 31
  | .vmem => 8
  | .smem => 0
  | _ => 0

abbrev bufTy : (tb : Table) → Fin (tcTables nBuf tb) → BufTy
  | .hbm, ⟨0, _⟩ => ⟨S32x2048x4x96, .f32⟩
  | .hbm, ⟨1, _⟩ => ⟨S32x2048x4x64, .f32⟩
  | .hbm, ⟨2, _⟩ => ⟨S32x2048x32, .f32⟩
  | .hbm, ⟨3, _⟩ => ⟨S32x2048x4x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32x2048x4x96, .f32⟩
  | .hbm, ⟨9, _⟩ => ⟨S32x2048x4x96, .f32⟩
  | .hbm, ⟨10, _⟩ => ⟨S_, .i32⟩
  | .hbm, ⟨11, _⟩ => ⟨S_, .f32⟩
  | .hbm, ⟨12, _⟩ => ⟨S32x2048x4x128, .f32⟩
  | .hbm, ⟨13, _⟩ => ⟨S32x2048x4x128, .bf16⟩
  | .hbm, ⟨14, _⟩ => ⟨S32x2048x512, .bf16⟩
  | .hbm, ⟨15, _⟩ => ⟨S32x2048x1x32, .f32⟩
  | .hbm, ⟨16, _⟩ => ⟨S32x2048x4x32, .f32⟩
  | .hbm, ⟨17, _⟩ => ⟨S32x2048x4x96, .f32⟩
  | .hbm, ⟨18, _⟩ => ⟨S_, .i32⟩
  | .hbm, ⟨19, _⟩ => ⟨S_, .f32⟩
  | .hbm, ⟨20, _⟩ => ⟨S32x2048x4x128, .f32⟩
  | .hbm, ⟨21, _⟩ => ⟨S32x2048x4x128, .bf16⟩
  | .hbm, ⟨22, _⟩ => ⟨S32x2048x512, .bf16⟩
  | .hbm, ⟨23, _⟩ => ⟨S32x8x256x4x64, .f32⟩
  | .hbm, ⟨24, _⟩ => ⟨S32x8x4x64x256, .f32⟩
  | .hbm, ⟨25, _⟩ => ⟨S_, .f32⟩
  | .hbm, ⟨26, _⟩ => ⟨S32x8x4x16x256, .f32⟩
  | .hbm, ⟨27, _⟩ => ⟨S32x8x4x80x256, .f32⟩
  | .hbm, ⟨28, _⟩ => ⟨S32x8x320x256, .f32⟩
  | .hbm, ⟨29, _⟩ => ⟨S32x8x320x256, .bf16⟩
  | .hbm, ⟨30, _⟩ => ⟨S32x2048x256, .bf16⟩
  | .local _ .vmem, ⟨0, _⟩ => ⟨S1x256x512, .bf16⟩
  | .local _ .vmem, ⟨1, _⟩ => ⟨S1x256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x8x320x256, .bf16⟩
  | .local _ .vmem, ⟨5, _⟩ => ⟨S1x8x320x256, .bf16⟩
  | .local _ .vmem, ⟨6, _⟩ => ⟨S1x256x256, .bf16⟩
  | .local _ .vmem, ⟨7, _⟩ => ⟨S1x256x256, .bf16⟩
  | _, _ => ⟨S32x2048x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 1, 8], ![false, false, false]⟩

def k0_mult1 : BitVec 32 :=
  let c0_i32 : BitVec 32 := 0#32
  let c8_i32 : BitVec 32 := 8#32
  let v10 : BitVec 32 := Scalar.muli c0_i32 c8_i32
  let c0_i32_9 : BitVec 32 := 0#32
  let v11 : BitVec 32 := Scalar.addi v10 c0_i32_9
  let c256_i32 : BitVec 32 := 256#32
  let v12 : BitVec 32 := Scalar.muli v11 c256_i32
  v12
def k0_off1 (c0_i32_9 : BitVec 32) : Fin 3 → Nat :=
  let c0_10 : Index := 0#32
  let c0_i32 : BitVec 32 := 0#32
  let c8_i32 : BitVec 32 := 8#32
  let v10 : BitVec 32 := Scalar.muli c0_i32 c8_i32
  let v11 : BitVec 32 := Scalar.addi v10 c0_i32_9
  let c256_i32 : BitVec 32 := 256#32
  let v12 : BitVec 32 := Scalar.muli v11 c256_i32
  let v13 : BitVec 32 := v12
  let v14 : Index := Scalar.indexCast v13
  let c0_11 : Index := 0#32
  ![0, v14.toNat, 0]
def k0_mult2 : BitVec 32 :=
  let c0_i32 : BitVec 32 := 0#32
  let c8_i32 : BitVec 32 := 8#32
  let v10 : BitVec 32 := Scalar.muli c0_i32 c8_i32
  let c0_i32_13 : BitVec 32 := 0#32
  let v18 : BitVec 32 := Scalar.addi v10 c0_i32_13
  let c256_i32_14 : BitVec 32 := 256#32
  let v19 : BitVec 32 := Scalar.muli v18 c256_i32_14
  v19
def k0_off2 (c0_i32_13 : BitVec 32) : Fin 3 → Nat :=
  let c0_15 : Index := 0#32
  let c0_i32 : BitVec 32 := 0#32
  let c8_i32 : BitVec 32 := 8#32
  let v10 : BitVec 32 := Scalar.muli c0_i32 c8_i32
  let v18 : BitVec 32 := Scalar.addi v10 c0_i32_13
  let c256_i32_14 : BitVec 32 := 256#32
  let v19 : BitVec 32 := Scalar.muli v18 c256_i32_14
  let v20 : BitVec 32 := v19
  let v21 : Index := Scalar.indexCast v20
  let c128_16 : Index := 128#32
  ![0, v21.toNat, 128]
def k0_mult3 : BitVec 32 :=
  let c0_i32 : BitVec 32 := 0#32
  let c8_i32 : BitVec 32 := 8#32
  let v10 : BitVec 32 := Scalar.muli c0_i32 c8_i32
  let c0_i32_18 : BitVec 32 := 0#32
  let v25 : BitVec 32 := Scalar.addi v10 c0_i32_18
  let c256_i32_19 : BitVec 32 := 256#32
  let v26 : BitVec 32 := Scalar.muli v25 c256_i32_19
  v26
def k0_off3 (c0_i32_18 : BitVec 32) : Fin 3 → Nat :=
  let c0_20 : Index := 0#32
  let c0_i32 : BitVec 32 := 0#32
  let c8_i32 : BitVec 32 := 8#32
  let v10 : BitVec 32 := Scalar.muli c0_i32 c8_i32
  let v25 : BitVec 32 := Scalar.addi v10 c0_i32_18
  let c256_i32_19 : BitVec 32 := 256#32
  let v26 : BitVec 32 := Scalar.muli v25 c256_i32_19
  let v27 : BitVec 32 := v26
  let v28 : Index := Scalar.indexCast v27
  let c256_21 : Index := 256#32
  ![0, v28.toNat, 256]
def k0_mult4 : BitVec 32 :=
  let c0_i32 : BitVec 32 := 0#32
  let c8_i32 : BitVec 32 := 8#32
  let v10 : BitVec 32 := Scalar.muli c0_i32 c8_i32
  let c0_i32_23 : BitVec 32 := 0#32
  let v32 : BitVec 32 := Scalar.addi v10 c0_i32_23
  let c256_i32_24 : BitVec 32 := 256#32
  let v33 : BitVec 32 := Scalar.muli v32 c256_i32_24
  v33
def k0_off4 (c0_i32_23 : BitVec 32) : Fin 3 → Nat :=
  let c0_25 : Index := 0#32
  let c0_i32 : BitVec 32 := 0#32
  let c8_i32 : BitVec 32 := 8#32
  let v10 : BitVec 32 := Scalar.muli c0_i32 c8_i32
  let v32 : BitVec 32 := Scalar.addi v10 c0_i32_23
  let c256_i32_24 : BitVec 32 := 256#32
  let v33 : BitVec 32 := Scalar.muli v32 c256_i32_24
  let v34 : BitVec 32 := v33
  let v35 : Index := Scalar.indexCast v34
  let c384_26 : Index := 384#32
  ![0, v35.toNat, 384]
def k0_mult5 : BitVec 32 :=
  let c0_i32 : BitVec 32 := 0#32
  let c8_i32 : BitVec 32 := 8#32
  let v10 : BitVec 32 := Scalar.muli c0_i32 c8_i32
  let c1_i32 : BitVec 32 := 1#32
  let v39 : BitVec 32 := Scalar.addi v10 c1_i32
  let c256_i32_28 : BitVec 32 := 256#32
  let v40 : BitVec 32 := Scalar.muli v39 c256_i32_28
  v40
def k0_mult6 : BitVec 32 :=
  let c0_i32 : BitVec 32 := 0#32
  let c8_i32 : BitVec 32 := 8#32
  let v10 : BitVec 32 := Scalar.muli c0_i32 c8_i32
  let c1_i32_32 : BitVec 32 := 1#32
  let v46 : BitVec 32 := Scalar.addi v10 c1_i32_32
  let c256_i32_33 : BitVec 32 := 256#32
  let v47 : BitVec 32 := Scalar.muli v46 c256_i32_33
  v47
def k0_mult7 : BitVec 32 :=
  let c0_i32 : BitVec 32 := 0#32
  let c8_i32 : BitVec 32 := 8#32
  let v10 : BitVec 32 := Scalar.muli c0_i32 c8_i32
  let c1_i32_37 : BitVec 32 := 1#32
  let v53 : BitVec 32 := Scalar.addi v10 c1_i32_37
  let c256_i32_38 : BitVec 32 := 256#32
  let v54 : BitVec 32 := Scalar.muli v53 c256_i32_38
  v54
def k0_mult8 : BitVec 32 :=
  let c0_i32 : BitVec 32 := 0#32
  let c8_i32 : BitVec 32 := 8#32
  let v10 : BitVec 32 := Scalar.muli c0_i32 c8_i32
  let c1_i32_42 : BitVec 32 := 1#32
  let v60 : BitVec 32 := Scalar.addi v10 c1_i32_42
  let c256_i32_43 : BitVec 32 := 256#32
  let v61 : BitVec 32 := Scalar.muli v60 c256_i32_43
  v61
def k0_mult9 : BitVec 32 :=
  let c0_i32 : BitVec 32 := 0#32
  let c8_i32 : BitVec 32 := 8#32
  let v10 : BitVec 32 := Scalar.muli c0_i32 c8_i32
  let c2_i32 : BitVec 32 := 2#32
  let v67 : BitVec 32 := Scalar.addi v10 c2_i32
  let c256_i32_47 : BitVec 32 := 256#32
  let v68 : BitVec 32 := Scalar.muli v67 c256_i32_47
  v68
def k0_mult10 : BitVec 32 :=
  let c0_i32 : BitVec 32 := 0#32
  let c8_i32 : BitVec 32 := 8#32
  let v10 : BitVec 32 := Scalar.muli c0_i32 c8_i32
  let c2_i32_51 : BitVec 32 := 2#32
  let v74 : BitVec 32 := Scalar.addi v10 c2_i32_51
  let c256_i32_52 : BitVec 32 := 256#32
  let v75 : BitVec 32 := Scalar.muli v74 c256_i32_52
  v75
def k0_mult11 : BitVec 32 :=
  let c0_i32 : BitVec 32 := 0#32
  let c8_i32 : BitVec 32 := 8#32
  let v10 : BitVec 32 := Scalar.muli c0_i32 c8_i32
  let c2_i32_56 : BitVec 32 := 2#32
  let v81 : BitVec 32 := Scalar.addi v10 c2_i32_56
  let c256_i32_57 : BitVec 32 := 256#32
  let v82 : BitVec 32 := Scalar.muli v81 c256_i32_57
  v82
def k0_mult12 : BitVec 32 :=
  let c0_i32 : BitVec 32 := 0#32
  let c8_i32 : BitVec 32 := 8#32
  let v10 : BitVec 32 := Scalar.muli c0_i32 c8_i32
  let c2_i32_61 : BitVec 32 := 2#32
  let v88 : BitVec 32 := Scalar.addi v10 c2_i32_61
  let c256_i32_62 : BitVec 32 := 256#32
  let v89 : BitVec 32 := Scalar.muli v88 c256_i32_62
  v89
def k0_mult13 : BitVec 32 :=
  let c0_i32 : BitVec 32 := 0#32
  let c8_i32 : BitVec 32 := 8#32
  let v10 : BitVec 32 := Scalar.muli c0_i32 c8_i32
  let c0_i32_66 : BitVec 32 := 0#32
  let v95 : BitVec 32 := Scalar.addi v10 c0_i32_66
  let c3_i32 : BitVec 32 := 3#32
  let v96 : BitVec 32 := Scalar.addi v95 c3_i32
  let c256_i32_67 : BitVec 32 := 256#32
  let v97 : BitVec 32 := Scalar.muli v96 c256_i32_67
  v97
def k0_off5 (c0_i32_66 : BitVec 32) : Fin 3 → Nat :=
  let c0_68 : Index := 0#32
  let c0_i32 : BitVec 32 := 0#32
  let c8_i32 : BitVec 32 := 8#32
  let v10 : BitVec 32 := Scalar.muli c0_i32 c8_i32
  let v95 : BitVec 32 := Scalar.addi v10 c0_i32_66
  let c3_i32 : BitVec 32 := 3#32
  let v96 : BitVec 32 := Scalar.addi v95 c3_i32
  let c256_i32_67 : BitVec 32 := 256#32
  let v97 : BitVec 32 := Scalar.muli v96 c256_i32_67
  let v98 : BitVec 32 := v97
  let v99 : Index := Scalar.indexCast v98
  let c0_69 : Index := 0#32
  ![0, v99.toNat, 0]
def k0_mult14 : BitVec 32 :=
  let c0_i32 : BitVec 32 := 0#32
  let c8_i32 : BitVec 32 := 8#32
  let v10 : BitVec 32 := Scalar.muli c0_i32 c8_i32
  let c0_i32_71 : BitVec 32 := 0#32
  let v103 : BitVec 32 := Scalar.addi v10 c0_i32_71
  let c3_i32_72 : BitVec 32 := 3#32
  let v104 : BitVec 32 := Scalar.addi v103 c3_i32_72
  let c256_i32_73 : BitVec 32 := 256#32
  let v105 : BitVec 32 := Scalar.muli v104 c256_i32_73
  v105
def k0_off6 (c0_i32_71 : BitVec 32) : Fin 3 → Nat :=
  let c0_74 : Index := 0#32
  let c0_i32 : BitVec 32 := 0#32
  let c8_i32 : BitVec 32 := 8#32
  let v10 : BitVec 32 := Scalar.muli c0_i32 c8_i32
  let v103 : BitVec 32 := Scalar.addi v10 c0_i32_71
  let c3_i32_72 : BitVec 32 := 3#32
  let v104 : BitVec 32 := Scalar.addi v103 c3_i32_72
  let c256_i32_73 : BitVec 32 := 256#32
  let v105 : BitVec 32 := Scalar.muli v104 c256_i32_73
  let v106 : BitVec 32 := v105
  let v107 : Index := Scalar.indexCast v106
  let c128_75 : Index := 128#32
  ![0, v107.toNat, 128]
def k0_mult15 : BitVec 32 :=
  let c0_i32 : BitVec 32 := 0#32
  let c8_i32 : BitVec 32 := 8#32
  let v10 : BitVec 32 := Scalar.muli c0_i32 c8_i32
  let c0_i32_77 : BitVec 32 := 0#32
  let v111 : BitVec 32 := Scalar.addi v10 c0_i32_77
  let c3_i32_78 : BitVec 32 := 3#32
  let v112 : BitVec 32 := Scalar.addi v111 c3_i32_78
  let c256_i32_79 : BitVec 32 := 256#32
  let v113 : BitVec 32 := Scalar.muli v112 c256_i32_79
  v113
def k0_off7 (c0_i32_77 : BitVec 32) : Fin 3 → Nat :=
  let c0_80 : Index := 0#32
  let c0_i32 : BitVec 32 := 0#32
  let c8_i32 : BitVec 32 := 8#32
  let v10 : BitVec 32 := Scalar.muli c0_i32 c8_i32
  let v111 : BitVec 32 := Scalar.addi v10 c0_i32_77
  let c3_i32_78 : BitVec 32 := 3#32
  let v112 : BitVec 32 := Scalar.addi v111 c3_i32_78
  let c256_i32_79 : BitVec 32 := 256#32
  let v113 : BitVec 32 := Scalar.muli v112 c256_i32_79
  let v114 : BitVec 32 := v113
  let v115 : Index := Scalar.indexCast v114
  let c256_81 : Index := 256#32
  ![0, v115.toNat, 256]
def k0_mult16 : BitVec 32 :=
  let c0_i32 : BitVec 32 := 0#32
  let c8_i32 : BitVec 32 := 8#32
  let v10 : BitVec 32 := Scalar.muli c0_i32 c8_i32
  let c0_i32_83 : BitVec 32 := 0#32
  let v119 : BitVec 32 := Scalar.addi v10 c0_i32_83
  let c3_i32_84 : BitVec 32 := 3#32
  let v120 : BitVec 32 := Scalar.addi v119 c3_i32_84
  let c256_i32_85 : BitVec 32 := 256#32
  let v121 : BitVec 32 := Scalar.muli v120 c256_i32_85
  v121
def k0_off8 (c0_i32_83 : BitVec 32) : Fin 3 → Nat :=
  let c0_86 : Index := 0#32
  let c0_i32 : BitVec 32 := 0#32
  let c8_i32 : BitVec 32 := 8#32
  let v10 : BitVec 32 := Scalar.muli c0_i32 c8_i32
  let v119 : BitVec 32 := Scalar.addi v10 c0_i32_83
  let c3_i32_84 : BitVec 32 := 3#32
  let v120 : BitVec 32 := Scalar.addi v119 c3_i32_84
  let c256_i32_85 : BitVec 32 := 256#32
  let v121 : BitVec 32 := Scalar.muli v120 c256_i32_85
  let v122 : BitVec 32 := v121
  let v123 : Index := Scalar.indexCast v122
  let c384_87 : Index := 384#32
  ![0, v123.toNat, 384]
def k0_off9 (c0_i32_89 : BitVec 32) : Fin 4 → Nat :=
  let c0_91 : Index := 0#32
  let c0_i32 : BitVec 32 := 0#32
  let c8_i32 : BitVec 32 := 8#32
  let v10 : BitVec 32 := Scalar.muli c0_i32 c8_i32
  let v127 : BitVec 32 := Scalar.addi v10 c0_i32_89
  let v135 : Index := Scalar.indexCast v127
  let c0_92 : Index := 0#32
  let c0_93 : Index := 0#32
  ![0, v135.toNat, 0, 0]
def k0_off10 (c0_i32_95 : BitVec 32) : Fin 4 → Nat :=
  let c0_97 : Index := 0#32
  let c0_i32 : BitVec 32 := 0#32
  let c8_i32 : BitVec 32 := 8#32
  let v10 : BitVec 32 := Scalar.muli c0_i32 c8_i32
  let v144 : BitVec 32 := Scalar.addi v10 c0_i32_95
  let v152 : Index := Scalar.indexCast v144
  let c80 : Index := 80#32
  let c0_98 : Index := 0#32
  ![0, v152.toNat, 80, 0]
def k0_off11 (c0_i32_100 : BitVec 32) : Fin 4 → Nat :=
  let c0_102 : Index := 0#32
  let c0_i32 : BitVec 32 := 0#32
  let c8_i32 : BitVec 32 := 8#32
  let v10 : BitVec 32 := Scalar.muli c0_i32 c8_i32
  let v161 : BitVec 32 := Scalar.addi v10 c0_i32_100
  let v169 : Index := Scalar.indexCast v161
  let c160 : Index := 160#32
  let c0_103 : Index := 0#32
  ![0, v169.toNat, 160, 0]
def k0_off12 (c0_i32_105 : BitVec 32) : Fin 4 → Nat :=
  let c0_107 : Index := 0#32
  let c0_i32 : BitVec 32 := 0#32
  let c8_i32 : BitVec 32 := 8#32
  let v10 : BitVec 32 := Scalar.muli c0_i32 c8_i32
  let v178 : BitVec 32 := Scalar.addi v10 c0_i32_105
  let v186 : Index := Scalar.indexCast v178
  let c240 : Index := 240#32
  let c0_108 : Index := 0#32
  ![0, v186.toNat, 240, 0]
def k0_mult17 : BitVec 32 :=
  let c0_i32 : BitVec 32 := 0#32
  let c8_i32 : BitVec 32 := 8#32
  let v10 : BitVec 32 := Scalar.muli c0_i32 c8_i32
  let c1_i32_110 : BitVec 32 := 1#32
  let v195 : BitVec 32 := Scalar.addi v10 c1_i32_110
  let c3_i32_111 : BitVec 32 := 3#32
  let v196 : BitVec 32 := Scalar.addi v195 c3_i32_111
  let c256_i32_112 : BitVec 32 := 256#32
  let v197 : BitVec 32 := Scalar.muli v196 c256_i32_112
  v197
def k0_mult18 : BitVec 32 :=
  let c0_i32 : BitVec 32 := 0#32
  let c8_i32 : BitVec 32 := 8#32
  let v10 : BitVec 32 := Scalar.muli c0_i32 c8_i32
  let c1_i32_116 : BitVec 32 := 1#32
  let v203 : BitVec 32 := Scalar.addi v10 c1_i32_116
  let c3_i32_117 : BitVec 32 := 3#32
  let v204 : BitVec 32 := Scalar.addi v203 c3_i32_117
  let c256_i32_118 : BitVec 32 := 256#32
  let v205 : BitVec 32 := Scalar.muli v204 c256_i32_118
  v205
def k0_mult19 : BitVec 32 :=
  let c0_i32 : BitVec 32 := 0#32
  let c8_i32 : BitVec 32 := 8#32
  let v10 : BitVec 32 := Scalar.muli c0_i32 c8_i32
  let c1_i32_122 : BitVec 32 := 1#32
  let v211 : BitVec 32 := Scalar.addi v10 c1_i32_122
  let c3_i32_123 : BitVec 32 := 3#32
  let v212 : BitVec 32 := Scalar.addi v211 c3_i32_123
  let c256_i32_124 : BitVec 32 := 256#32
  let v213 : BitVec 32 := Scalar.muli v212 c256_i32_124
  v213
def k0_mult20 : BitVec 32 :=
  let c0_i32 : BitVec 32 := 0#32
  let c8_i32 : BitVec 32 := 8#32
  let v10 : BitVec 32 := Scalar.muli c0_i32 c8_i32
  let c1_i32_128 : BitVec 32 := 1#32
  let v219 : BitVec 32 := Scalar.addi v10 c1_i32_128
  let c3_i32_129 : BitVec 32 := 3#32
  let v220 : BitVec 32 := Scalar.addi v219 c3_i32_129
  let c256_i32_130 : BitVec 32 := 256#32
  let v221 : BitVec 32 := Scalar.muli v220 c256_i32_130
  v221
def k0_mult21 : BitVec 32 :=
  let c0_i32 : BitVec 32 := 0#32
  let c8_i32 : BitVec 32 := 8#32
  let v10 : BitVec 32 := Scalar.muli c0_i32 c8_i32
  let c2_i32_158 : BitVec 32 := 2#32
  let v295 : BitVec 32 := Scalar.addi v10 c2_i32_158
  let c3_i32_159 : BitVec 32 := 3#32
  let v296 : BitVec 32 := Scalar.addi v295 c3_i32_159
  let c256_i32_160 : BitVec 32 := 256#32
  let v297 : BitVec 32 := Scalar.muli v296 c256_i32_160
  v297
def k0_mult22 : BitVec 32 :=
  let c0_i32 : BitVec 32 := 0#32
  let c8_i32 : BitVec 32 := 8#32
  let v10 : BitVec 32 := Scalar.muli c0_i32 c8_i32
  let c2_i32_164 : BitVec 32 := 2#32
  let v303 : BitVec 32 := Scalar.addi v10 c2_i32_164
  let c3_i32_165 : BitVec 32 := 3#32
  let v304 : BitVec 32 := Scalar.addi v303 c3_i32_165
  let c256_i32_166 : BitVec 32 := 256#32
  let v305 : BitVec 32 := Scalar.muli v304 c256_i32_166
  v305
def k0_mult23 : BitVec 32 :=
  let c0_i32 : BitVec 32 := 0#32
  let c8_i32 : BitVec 32 := 8#32
  let v10 : BitVec 32 := Scalar.muli c0_i32 c8_i32
  let c2_i32_170 : BitVec 32 := 2#32
  let v311 : BitVec 32 := Scalar.addi v10 c2_i32_170
  let c3_i32_171 : BitVec 32 := 3#32
  let v312 : BitVec 32 := Scalar.addi v311 c3_i32_171
  let c256_i32_172 : BitVec 32 := 256#32
  let v313 : BitVec 32 := Scalar.muli v312 c256_i32_172
  v313
def k0_mult24 : BitVec 32 :=
  let c0_i32 : BitVec 32 := 0#32
  let c8_i32 : BitVec 32 := 8#32
  let v10 : BitVec 32 := Scalar.muli c0_i32 c8_i32
  let c2_i32_176 : BitVec 32 := 2#32
  let v319 : BitVec 32 := Scalar.addi v10 c2_i32_176
  let c3_i32_177 : BitVec 32 := 3#32
  let v320 : BitVec 32 := Scalar.addi v319 c3_i32_177
  let c256_i32_178 : BitVec 32 := 256#32
  let v321 : BitVec 32 := Scalar.muli v320 c256_i32_178
  v321
def k0_mult25 : BitVec 32 :=
  let c0_i32 : BitVec 32 := 0#32
  let c8_i32 : BitVec 32 := 8#32
  let v10 : BitVec 32 := Scalar.muli c0_i32 c8_i32
  let c3_i32_206 : BitVec 32 := 3#32
  let v395 : BitVec 32 := Scalar.addi v10 c3_i32_206
  let c3_i32_207 : BitVec 32 := 3#32
  let v396 : BitVec 32 := Scalar.addi v395 c3_i32_207
  let c256_i32_208 : BitVec 32 := 256#32
  let v397 : BitVec 32 := Scalar.muli v396 c256_i32_208
  v397
def k0_mult26 : BitVec 32 :=
  let c0_i32 : BitVec 32 := 0#32
  let c8_i32 : BitVec 32 := 8#32
  let v10 : BitVec 32 := Scalar.muli c0_i32 c8_i32
  let c3_i32_212 : BitVec 32 := 3#32
  let v403 : BitVec 32 := Scalar.addi v10 c3_i32_212
  let c3_i32_213 : BitVec 32 := 3#32
  let v404 : BitVec 32 := Scalar.addi v403 c3_i32_213
  let c256_i32_214 : BitVec 32 := 256#32
  let v405 : BitVec 32 := Scalar.muli v404 c256_i32_214
  v405
def k0_mult27 : BitVec 32 :=
  let c0_i32 : BitVec 32 := 0#32
  let c8_i32 : BitVec 32 := 8#32
  let v10 : BitVec 32 := Scalar.muli c0_i32 c8_i32
  let c3_i32_218 : BitVec 32 := 3#32
  let v411 : BitVec 32 := Scalar.addi v10 c3_i32_218
  let c3_i32_219 : BitVec 32 := 3#32
  let v412 : BitVec 32 := Scalar.addi v411 c3_i32_219
  let c256_i32_220 : BitVec 32 := 256#32
  let v413 : BitVec 32 := Scalar.muli v412 c256_i32_220
  v413
def k0_mult28 : BitVec 32 :=
  let c0_i32 : BitVec 32 := 0#32
  let c8_i32 : BitVec 32 := 8#32
  let v10 : BitVec 32 := Scalar.muli c0_i32 c8_i32
  let c3_i32_224 : BitVec 32 := 3#32
  let v419 : BitVec 32 := Scalar.addi v10 c3_i32_224
  let c3_i32_225 : BitVec 32 := 3#32
  let v420 : BitVec 32 := Scalar.addi v419 c3_i32_225
  let c256_i32_226 : BitVec 32 := 256#32
  let v421 : BitVec 32 := Scalar.muli v420 c256_i32_226
  v421
def k0_mult29 : BitVec 32 :=
  let c0_i32 : BitVec 32 := 0#32
  let c8_i32 : BitVec 32 := 8#32
  let v10 : BitVec 32 := Scalar.muli c0_i32 c8_i32
  let c4_i32 : BitVec 32 := 4#32
  let v495 : BitVec 32 := Scalar.addi v10 c4_i32
  let c3_i32_254 : BitVec 32 := 3#32
  let v496 : BitVec 32 := Scalar.addi v495 c3_i32_254
  let c256_i32_255 : BitVec 32 := 256#32
  let v497 : BitVec 32 := Scalar.muli v496 c256_i32_255
  v497
def k0_mult30 : BitVec 32 :=
  let c0_i32 : BitVec 32 := 0#32
  let c8_i32 : BitVec 32 := 8#32
  let v10 : BitVec 32 := Scalar.muli c0_i32 c8_i32
  let c4_i32_259 : BitVec 32 := 4#32
  let v503 : BitVec 32 := Scalar.addi v10 c4_i32_259
  let c3_i32_260 : BitVec 32 := 3#32
  let v504 : BitVec 32 := Scalar.addi v503 c3_i32_260
  let c256_i32_261 : BitVec 32 := 256#32
  let v505 : BitVec 32 := Scalar.muli v504 c256_i32_261
  v505
def k0_mult31 : BitVec 32 :=
  let c0_i32 : BitVec 32 := 0#32
  let c8_i32 : BitVec 32 := 8#32
  let v10 : BitVec 32 := Scalar.muli c0_i32 c8_i32
  let c4_i32_265 : BitVec 32 := 4#32
  let v511 : BitVec 32 := Scalar.addi v10 c4_i32_265
  let c3_i32_266 : BitVec 32 := 3#32
  let v512 : BitVec 32 := Scalar.addi v511 c3_i32_266
  let c256_i32_267 : BitVec 32 := 256#32
  let v513 : BitVec 32 := Scalar.muli v512 c256_i32_267
  v513
def k0_mult32 : BitVec 32 :=
  let c0_i32 : BitVec 32 := 0#32
  let c8_i32 : BitVec 32 := 8#32
  let v10 : BitVec 32 := Scalar.muli c0_i32 c8_i32
  let c4_i32_271 : BitVec 32 := 4#32
  let v519 : BitVec 32 := Scalar.addi v10 c4_i32_271
  let c3_i32_272 : BitVec 32 := 3#32
  let v520 : BitVec 32 := Scalar.addi v519 c3_i32_272
  let c256_i32_273 : BitVec 32 := 256#32
  let v521 : BitVec 32 := Scalar.muli v520 c256_i32_273
  v521
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x320x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S32x2048x4x96 : Shape := ⟨4, ![32, 2048, 4, 96]⟩
abbrev S32x2048x4x64 : Shape := ⟨4, ![32, 2048, 4, 64]⟩
abbrev S32x2048x32 : Shape := ⟨3, ![32, 2048, 32]⟩
abbrev S32x2048x4x32 : Shape := ⟨4, ![32, 2048, 4, 32]⟩
abbrev S32x4x2048x2048 : Shape := ⟨4, ![32, 4, 2048, 2048]⟩
abbrev S32x2048x2048x4 : Shape := ⟨4, ![32, 2048, 2048, 4]⟩
abbrev S_ : Shape := ⟨0, ![]⟩
abbrev S32x4x2048 : Shape := ⟨3, ![32, 4, 2048]⟩
abbrev S32x4x2048x1 : Shape := ⟨4, ![32, 4, 2048, 1]⟩
abbrev S32x4x64x2048 : Shape := ⟨4, ![32, 4, 64, 2048]⟩
abbrev S32x2048x256 : Shape := ⟨3, ![32, 2048, 256]⟩

abbrev nBuf : Space → Nat
  | .hbm => 31
  | .vmem => 0
  | .smem => 0
  | _ => 0

abbrev bufTy : (tb : Table) → Fin (tcTables nBuf tb) → BufTy
  | .hbm, ⟨0, _⟩ => ⟨S32x2048x4x96, .f32⟩
  | .hbm, ⟨1, _⟩ => ⟨S32x2048x4x64, .f32⟩
  | .hbm, ⟨2, _⟩ => ⟨S32x2048x32, .f32⟩
  | .hbm, ⟨3, _⟩ => ⟨S32x2048x4x64, .f32⟩
  | .hbm, ⟨4, _⟩ => ⟨S32x2048x4x64, .f32⟩
  | .hbm, ⟨5, _⟩ => ⟨S32x2048x4x32, .f32⟩
  | .hbm, ⟨6, _⟩ => ⟨S32x4x2048x2048, .f32⟩
  | .hbm, ⟨7, _⟩ => ⟨S32x2048x2048x4, .f32⟩
  | .hbm, ⟨8, _⟩ => ⟨S32x4x2048x2048, .f32⟩
  | .hbm, ⟨9, _⟩ => ⟨S32x4x2048x2048, .f32⟩
  | .hbm, ⟨10, _⟩ => ⟨S_, .f32⟩
  | .hbm, ⟨11, _⟩ => ⟨S32x4x2048x2048, .f32⟩
  | .hbm, ⟨12, _⟩ => ⟨S32x4x2048x2048, .f32⟩
  | .hbm, ⟨13, _⟩ => ⟨S_, .f32⟩
  | .hbm, ⟨14, _⟩ => ⟨S32x4x2048, .f32⟩
  | .hbm, ⟨15, _⟩ => ⟨S_, .f32⟩
  | .hbm, ⟨16, _⟩ => ⟨S32x4x2048, .f32⟩
  | .hbm, ⟨17, _⟩ => ⟨S32x4x2048, .f32⟩
  | .hbm, ⟨18, _⟩ => ⟨S32x4x2048x1, .f32⟩
  | .hbm, ⟨19, _⟩ => ⟨S32x4x2048x2048, .f32⟩
  | .hbm, ⟨20, _⟩ => ⟨S32x4x2048x2048, .f32⟩
  | .hbm, ⟨21, _⟩ => ⟨S32x4x2048x2048, .f32⟩
  | .hbm, ⟨22, _⟩ => ⟨S_, .f32⟩
  | .hbm, ⟨23, _⟩ => ⟨S32x4x2048, .f32⟩
  | .hbm, ⟨24, _⟩ => ⟨S32x4x2048x1, .f32⟩
  | .hbm, ⟨25, _⟩ => ⟨S32x4x2048x2048, .f32⟩
  | .hbm, ⟨26, _⟩ => ⟨S32x4x2048x2048, .f32⟩
  | .hbm, ⟨27, _⟩ => ⟨S32x4x64x2048, .f32⟩
  | .hbm, ⟨28, _⟩ => ⟨S32x2048x4x64, .f32⟩
  | .hbm, ⟨29, _⟩ => ⟨S32x2048x256, .f32⟩
  | .hbm, ⟨30, _⟩ => ⟨S32x2048x256, .bf16⟩
  | _, _ => ⟨S32x2048x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Moe.lean ====
abbrev S71680x1024 : Shape := ⟨2, ![71680, 1024]⟩
abbrev S280 : Shape := ⟨1, ![280]⟩
abbrev S1024x16 : Shape := ⟨2, ![1024, 16]⟩
abbrev S16x1024x512 : Shape := ⟨3, ![16, 1024, 512]⟩
abbrev S16x512x1024 : Shape := ⟨3, ![16, 512, 1024]⟩
abbrev S_ : Shape := ⟨0, ![]⟩
abbrev S1024x128 : Shape := ⟨2, ![1024, 128]⟩
abbrev S1 : Shape := ⟨1, ![1]⟩
abbrev S256x1024 : Shape := ⟨2, ![256, 1024]⟩
abbrev S1x1024x512 : Shape := ⟨3, ![1, 1024, 512]⟩
abbrev S1x512x1024 : Shape := ⟨3, ![1, 512, 1024]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 15
  | .vmem => 17
  | .smem => 3
  | _ => 0

abbrev bufTy : (tb : Table) → Fin (tcTables nBuf tb) → BufTy
  | .hbm, ⟨0, _⟩ => ⟨S71680x1024, .f32⟩
  | .hbm, ⟨1, _⟩ => ⟨S1024x16, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S16x1024x512, .bf16⟩
  | .hbm, ⟨6, _⟩ => ⟨S16x1024x512, .bf16⟩
  | .hbm, ⟨7, _⟩ => ⟨S16x512x1024, .bf16⟩
  | .hbm, ⟨8, _⟩ => ⟨S_, .bf16⟩
  | .hbm, ⟨9, _⟩ => ⟨S1024x128, .bf16⟩
  | .hbm, ⟨10, _⟩ => ⟨S1024x16, .bf16⟩
  | .hbm, ⟨11, _⟩ => ⟨S_, .i32⟩
  | .hbm, ⟨12, _⟩ => ⟨S1, .i32⟩
  | .hbm, ⟨13, _⟩ => ⟨S1024x128, .bf16⟩
  | .hbm, ⟨14, _⟩ => ⟨S71680x1024, .f32⟩
  | .local _ .vmem, ⟨0, _⟩ => ⟨S256x1024, .f32⟩
  | .local _ .vmem, ⟨1, _⟩ => ⟨S256x1024, .f32⟩
  | .local _ .vmem, ⟨2, _⟩ => ⟨S1024x128, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x512x1024, .bf16⟩
  | .local _ .vmem, ⟨14, _⟩ => ⟨S1x512x1024, .bf16⟩
  | .local _ .vmem, ⟨15, _⟩ => ⟨S256x1024, .f32⟩
  | .local _ .vmem, ⟨16, _⟩ => ⟨S256x1024, .f32⟩
  | .local _ .smem, ⟨0, _⟩ => ⟨S280, .i32⟩
  | .local _ .smem, ⟨1, _⟩ => ⟨S280, .i32⟩
  | .local _ .smem, ⟨2, _⟩ => ⟨S280, .i32⟩
  | _, _ => ⟨S71680x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![280], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v23 : Index := Scalar.indexCast arg0
  ![v23.toNat]
def k0_off3 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v6 : BitVec 32) : BitVec 1 :=
  let c0_i32_0 : BitVec 32 := 0#32
  let v7 : BitVec 1 := Scalar.cmpi .eq v6 c0_i32_0
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S280.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S280) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MoeRefIdeal.lean ====
abbrev S71680x1024 : Shape := ⟨2, ![71680, 1024]⟩
abbrev S280 : Shape := ⟨1, ![280]⟩
abbrev S1024x16 : Shape := ⟨2, ![1024, 16]⟩
abbrev S16x1024x512 : Shape := ⟨3, ![16, 1024, 512]⟩
abbrev S16x512x1024 : Shape := ⟨3, ![16, 512, 1024]⟩
abbrev S280x1 : Shape := ⟨2, ![280, 1]⟩
abbrev S280x2 : Shape := ⟨2, ![280, 2]⟩
abbrev S280x256x2 : Shape := ⟨3, ![280, 256, 2]⟩
abbrev S71680x2 : Shape := ⟨2, ![71680, 2]⟩
abbrev S71680x16 : Shape := ⟨2, ![71680, 16]⟩
abbrev S_ : Shape := ⟨0, ![]⟩
abbrev S71680x2x1 : Shape := ⟨3, ![71680, 2, 1]⟩
abbrev S1x1x16 : Shape := ⟨3, ![1, 1, 16]⟩
abbrev S71680x2x16 : Shape := ⟨3, ![71680, 2, 16]⟩
abbrev S71680x1x16 : Shape := ⟨3, ![71680, 1, 16]⟩
abbrev S71680 : Shape := ⟨1, ![71680]⟩
abbrev S71680x1 : Shape := ⟨2, ![71680, 1]⟩
abbrev S71680x16x512 : Shape := ⟨3, ![71680, 16, 512]⟩
abbrev S71680x16x1 : Shape := ⟨3, ![71680, 16, 1]⟩
abbrev S16x1024x71680 : Shape := ⟨3, ![16, 1024, 71680]⟩
abbrev S71680x16x1024 : Shape := ⟨3, ![71680, 16, 1024]⟩
abbrev S280x256 : Shape := ⟨2, ![280, 256]⟩

abbrev nBuf : Space → Nat
  | .hbm => 73
  | .vmem => 0
  | .smem => 0
  | _ => 0

abbrev bufTy : (tb : Table) → Fin (tcTables nBuf tb) → BufTy
  | .hbm, ⟨0, _⟩ => ⟨S71680x1024, .f32⟩
  | .hbm, ⟨1, _⟩ => ⟨S280, .i32⟩
  | .hbm, ⟨2, _⟩ => ⟨S280, .i32⟩
  | .hbm, ⟨3, _⟩ => ⟨S280, .i32⟩
  | .hbm, ⟨4, _⟩ => ⟨S1024x16, .f32⟩
  | .hbm, ⟨5, _⟩ => ⟨S16x1024x512, .f32⟩
  | .hbm, ⟨6, _⟩ => ⟨S16x1024x512, .f32⟩
  | .hbm, ⟨7, _⟩ => ⟨S16x512x1024, .f32⟩
  | .hbm, ⟨8, _⟩ => ⟨S280x1, .i32⟩
  | .hbm, ⟨9, _⟩ => ⟨S280x1, .i32⟩
  | .hbm, ⟨10, _⟩ => ⟨S280x2, .i32⟩
  | .hbm, ⟨11, _⟩ => ⟨S280x256x2, .i32⟩
  | .hbm, ⟨12, _⟩ => ⟨S71680x2, .i32⟩
  | .hbm, ⟨13, _⟩ => ⟨S71680x16, .f32⟩
  | .hbm, ⟨14, _⟩ => ⟨S71680x16, .f32⟩
  | .hbm, ⟨15, _⟩ => ⟨S71680x16, .f32⟩
  | .hbm, ⟨16, _⟩ => ⟨S_, .f32⟩
  | .hbm, ⟨17, _⟩ => ⟨S71680x16, .f32⟩
  | .hbm, ⟨18, _⟩ => ⟨S71680x16, .f32⟩
  | .hbm, ⟨19, _⟩ => ⟨S_, .f32⟩
  | .hbm, ⟨20, _⟩ => ⟨S71680x16, .f32⟩
  | .hbm, ⟨21, _⟩ => ⟨S71680x16, .f32⟩
  | .hbm, ⟨22, _⟩ => ⟨S71680x2x1, .i32⟩
  | .hbm, ⟨23, _⟩ => ⟨S1x1x16, .i32⟩
  | .hbm, ⟨24, _⟩ => ⟨S71680x2x16, .i32⟩
  | .hbm, ⟨25, _⟩ => ⟨S71680x2x16, .i32⟩
  | .hbm, ⟨26, _⟩ => ⟨S71680x2x16, .i1⟩
  | .hbm, ⟨27, _⟩ => ⟨S71680x2x16, .f32⟩
  | .hbm, ⟨28, _⟩ => ⟨S71680x1x16, .f32⟩
  | .hbm, ⟨29, _⟩ => ⟨S71680x2x16, .f32⟩
  | .hbm, ⟨30, _⟩ => ⟨S71680x2x16, .f32⟩
  | .hbm, ⟨31, _⟩ => ⟨S_, .f32⟩
  | .hbm, ⟨32, _⟩ => ⟨S71680x2, .f32⟩
  | .hbm, ⟨33, _⟩ => ⟨S_, .f32⟩
  | .hbm, ⟨34, _⟩ => ⟨S71680, .f32⟩
  | .hbm, ⟨35, _⟩ => ⟨S71680x1, .f32⟩
  | .hbm, ⟨36, _⟩ => ⟨S71680x2, .f32⟩
  | .hbm, ⟨37, _⟩ => ⟨S71680x2, .f32⟩
  | .hbm, ⟨38, _⟩ => ⟨S71680x2x1, .f32⟩
  | .hbm, ⟨39, _⟩ => ⟨S71680x2x16, .f32⟩
  | .hbm, ⟨40, _⟩ => ⟨S71680x2x16, .f32⟩
  | .hbm, ⟨41, _⟩ => ⟨S_, .f32⟩
  | .hbm, ⟨42, _⟩ => ⟨S71680x16, .f32⟩
  | .hbm, ⟨43, _⟩ => ⟨S71680x16x512, .f32⟩
  | .hbm, ⟨44, _⟩ => ⟨S71680x16x512, .f32⟩
  | .hbm, ⟨45, _⟩ => ⟨S71680x16x512, .f32⟩
  | .hbm, ⟨46, _⟩ => ⟨S_, .f32⟩
  | .hbm, ⟨47, _⟩ => ⟨S71680x16x512, .f32⟩
  | .hbm, ⟨48, _⟩ => ⟨S71680x16x512, .f32⟩
  | .hbm, ⟨49, _⟩ => ⟨S_, .f32⟩
  | .hbm, ⟨50, _⟩ => ⟨S71680x16x512, .f32⟩
  | .hbm, ⟨51, _⟩ => ⟨S71680x16x512, .f32⟩
  | .hbm, ⟨52, _⟩ => ⟨S71680x16x512, .f32⟩
  | .hbm, ⟨53, _⟩ => ⟨S71680x16x512, .f32⟩
  | .hbm, ⟨54, _⟩ => ⟨S71680x16x512, .f32⟩
  | .hbm, ⟨55, _⟩ => ⟨S71680x16x1, .f32⟩
  | .hbm, ⟨56, _⟩ => ⟨S16x1024x71680, .f32⟩
  | .hbm, ⟨57, _⟩ => ⟨S71680x16x1024, .f32⟩
  | .hbm, ⟨58, _⟩ => ⟨S71680x16x1024, .f32⟩
  | .hbm, ⟨59, _⟩ => ⟨S71680x16x1024, .f32⟩
  | .hbm, ⟨60, _⟩ => ⟨S_, .f32⟩
  | .hbm, ⟨61, _⟩ => ⟨S71680x1024, .f32⟩
  | .hbm, ⟨62, _⟩ => ⟨S280x256, .i32⟩
  | .hbm, ⟨63, _⟩ => ⟨S71680, .i32⟩
  | .hbm, ⟨64, _⟩ => ⟨S71680x1, .i32⟩
  | .hbm, ⟨65, _⟩ => ⟨S_, .i32⟩
  | .hbm, ⟨66, _⟩ => ⟨S71680x1, .i32⟩
  | .hbm, ⟨67, _⟩ => ⟨S71680x1, .i1⟩
  | .hbm, ⟨68, _⟩ => ⟨S_, .f32⟩
  | .hbm, ⟨69, _⟩ => ⟨S_, .f32⟩
  | .hbm, ⟨70, _⟩ => ⟨S71680x1024, .i1⟩
  | .hbm, ⟨71, _⟩ => ⟨S71680x1024, .f32⟩
  | .hbm, ⟨72, _⟩ => ⟨S71680x1024, .f32⟩
  | _, _ => ⟨S71680x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v40 : Ref sig .tc := ⟨.hbm, 72, rfl⟩

abbrev nD : Nat := 1
abbrev τ : Topo := Topo.v7x

variable {F : FTy → Type} [FloatOps F]
-- ==== Inp.lean ====
abbrev S65536x1024 : Shape := ⟨2, ![65536, 1024]⟩
abbrev S1024 : Shape := ⟨1, ![1024]⟩
abbrev S1024x2352 : Shape := ⟨2, ![1024, 2352]⟩
abbrev S1x1024 : Shape := ⟨2, ![1, 1024]⟩
abbrev S1024x768 : Shape := ⟨2, ![1024, 768]⟩
abbrev S1024x256 : Shape := ⟨2, ![1024, 256]⟩
abbrev S1024x8 : Shape := ⟨2, ![1024, 8]⟩
abbrev S1024x512 : Shape := ⟨2, ![1024, 512]⟩
abbrev S1024x384 : Shape := ⟨2, ![1024, 384]⟩
abbrev S1024x128 : Shape := ⟨2, ![1024, 128]⟩
abbrev S1024x32 : Shape := ⟨2, ![1024, 32]⟩
abbrev S1024x16 : Shape := ⟨2, ![1024, 16]⟩
abbrev S_ : Shape := ⟨0, ![]⟩
abbrev S1024x64 : Shape := ⟨2, ![1024, 64]⟩
abbrev S1024x112 : Shape := ⟨2, ![1024, 112]⟩
abbrev S1024x2688 : Shape := ⟨2, ![1024, 2688]⟩
abbrev S65536x768 : Shape := ⟨2, ![65536, 768]⟩
abbrev S65536x256 : Shape := ⟨2, ![65536, 256]⟩
abbrev S65536x512 : Shape := ⟨2, ![65536, 512]⟩
abbrev S65536x128 : Shape := ⟨2, ![65536, 128]⟩
abbrev S512x1024 : Shape := ⟨2, ![512, 1024]⟩
abbrev S512x768 : Shape := ⟨2, ![512, 768]⟩
abbrev S512x256 : Shape := ⟨2, ![512, 256]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 40
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1024x2352, .f32⟩
  | .hbm, ⟨4, _⟩ => ⟨S1x1024, .f32⟩
  | .hbm, ⟨5, _⟩ => ⟨S1x1024, .f32⟩
  | .hbm, ⟨6, _⟩ => ⟨S1024x768, .f32⟩
  | .hbm, ⟨7, _⟩ => ⟨S1024x256, .f32⟩
  | .hbm, ⟨8, _⟩ => ⟨S1024x8, .f32⟩
  | .hbm, ⟨9, _⟩ => ⟨S1024x8, .f32⟩
  | .hbm, ⟨10, _⟩ => ⟨S1024x512, .f32⟩
  | .hbm, ⟨11, _⟩ => ⟨S1024x256, .f32⟩
  | .hbm, ⟨12, _⟩ => ⟨S1024x384, .f32⟩
  | .hbm, ⟨13, _⟩ => ⟨S1024x128, .f32⟩
  | .hbm, ⟨14, _⟩ => ⟨S1024x32, .f32⟩
  | .hbm, ⟨15, _⟩ => ⟨S1024x16, .f32⟩
  | .hbm, ⟨16, _⟩ => ⟨S1024x16, .f32⟩
  | .hbm, ⟨17, _⟩ => ⟨S1024x16, .f32⟩
  | .hbm, ⟨18, _⟩ => ⟨S1024x32, .f32⟩
  | .hbm, ⟨19, _⟩ => ⟨S_, .f32⟩
  | .hbm, ⟨20, _⟩ => ⟨S1024x64, .f32⟩
  | .hbm, ⟨21, _⟩ => ⟨S_, .f32⟩
  | .hbm, ⟨22, _⟩ => ⟨S1024x32, .f32⟩
  | .hbm, ⟨23, _⟩ => ⟨S1024x128, .f32⟩
  | .hbm, ⟨24, _⟩ => ⟨S_, .f32⟩
  | .hbm, ⟨25, _⟩ => ⟨S1024x64, .f32⟩
  | .hbm, ⟨26, _⟩ => ⟨S_, .f32⟩
  | .hbm, ⟨27, _⟩ => ⟨S1024x32, .f32⟩
  | .hbm, ⟨28, _⟩ => ⟨S1024x128, .f32⟩
  | .hbm, ⟨29, _⟩ => ⟨S_, .f32⟩
  | .hbm, ⟨30, _⟩ => ⟨S1024x112, .f32⟩
  | .hbm, ⟨31, _⟩ => ⟨S1024x128, .f32⟩
  | .hbm, ⟨32, _⟩ => ⟨S1024x2688, .f32⟩
  | .hbm, ⟨33, _⟩ => ⟨S1024x2688, .bf16⟩
  | .hbm, ⟨34, _⟩ => ⟨S65536x768, .bf16⟩
  | .hbm, ⟨35, _⟩ => ⟨S65536x256, .bf16⟩
  | .hbm, ⟨36, _⟩ => ⟨S65536x512, .bf16⟩
  | .hbm, ⟨37, _⟩ => ⟨S65536x256, .bf16⟩
  | .hbm, ⟨38, _⟩ => ⟨S65536x768, .bf16⟩
  | .hbm, ⟨39, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2688, .bf16⟩
  | .local _ .vmem, ⟨5, _⟩ => ⟨S512x768, .bf16⟩
  | .local _ .vmem, ⟨6, _⟩ => ⟨S512x768, .bf16⟩
  | .local _ .vmem, ⟨7, _⟩ => ⟨S512x256, .bf16⟩
  | .local _ .vmem, ⟨8, _⟩ => ⟨S512x256, .bf16⟩
  | .local _ .vmem, ⟨9, _⟩ => ⟨S512x512, .bf16⟩
  | .local _ .vmem, ⟨10, _⟩ => ⟨S512x512, .bf16⟩
  | .local _ .vmem, ⟨11, _⟩ => ⟨S512x256, .bf16⟩
  | .local _ .vmem, ⟨12, _⟩ => ⟨S512x256, .bf16⟩
  | .local _ .vmem, ⟨13, _⟩ => ⟨S512x768, .bf16⟩
  | .local _ .vmem, ⟨14, _⟩ => ⟨S512x768, .bf16⟩
  | .local _ .vmem, ⟨15, _⟩ => ⟨S512x128, .f32⟩
  | .local _ .vmem, ⟨16, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InpRefIdeal.lean ====
abbrev S65536x1024 : Shape := ⟨2, ![65536, 1024]⟩
abbrev S1024 : Shape := ⟨1, ![1024]⟩
abbrev S1024x2352 : Shape := ⟨2, ![1024, 2352]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2352 : Shape := ⟨2, ![65536, 2352]⟩
abbrev S65536x768 : Shape := ⟨2, ![65536, 768]⟩
abbrev S65536x256 : Shape := ⟨2, ![65536, 256]⟩
abbrev S65536x8 : Shape := ⟨2, ![65536, 8]⟩
abbrev S65536x512 : Shape := ⟨2, ![65536, 512]⟩
abbrev S65536x384 : Shape := ⟨2, ![65536, 384]⟩
abbrev S65536x128 : Shape := ⟨2, ![65536, 128]⟩
abbrev S65536x32 : Shape := ⟨2, ![65536, 32]⟩
abbrev S65536x16 : Shape := ⟨2, ![65536, 16]⟩

abbrev nBuf : Space → Nat
  | .hbm => 63
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1024x2352, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S1x1024, .f32⟩
  | .hbm, ⟨28, _⟩ => ⟨S65536x1024, .f32⟩
  | .hbm, ⟨29, _⟩ => ⟨S65536x1024, .f32⟩
  | .hbm, ⟨30, _⟩ => ⟨S1x1024, .f32⟩
  | .hbm, ⟨31, _⟩ => ⟨S65536x1024, .f32⟩
  | .hbm, ⟨32, _⟩ => ⟨S65536x1024, .f32⟩
  | .hbm, ⟨33, _⟩ => ⟨S65536x2352, .f32⟩
  | .hbm, ⟨34, _⟩ => ⟨S65536x768, .f32⟩
  | .hbm, ⟨35, _⟩ => ⟨S65536x256, .f32⟩
  | .hbm, ⟨36, _⟩ => ⟨S65536x8, .f32⟩
  | .hbm, ⟨37, _⟩ => ⟨S65536x8, .f32⟩
  | .hbm, ⟨38, _⟩ => ⟨S65536x512, .f32⟩
  | .hbm, ⟨39, _⟩ => ⟨S65536x256, .f32⟩
  | .hbm, ⟨40, _⟩ => ⟨S65536x384, .f32⟩
  | .hbm, ⟨41, _⟩ => ⟨S65536x128, .f32⟩
  | .hbm, ⟨42, _⟩ => ⟨S65536x32, .f32⟩
  | .hbm, ⟨43, _⟩ => ⟨S65536x16, .f32⟩
  | .hbm, ⟨44, _⟩ => ⟨S65536x16, .f32⟩
  | .hbm, ⟨45, _⟩ => ⟨S_, .i32⟩
  | .hbm, ⟨46, _⟩ => ⟨S_, .f32⟩
  | .hbm, ⟨47, _⟩ => ⟨S65536x128, .f32⟩
  | .hbm, ⟨48, _⟩ => ⟨S65536x16, .f32⟩
  | .hbm, ⟨49, _⟩ => ⟨S65536x32, .f32⟩
  | .hbm, ⟨50, _⟩ => ⟨S_, .i32⟩
  | .hbm, ⟨51, _⟩ => ⟨S_, .f32⟩
  | .hbm, ⟨52, _⟩ => ⟨S65536x128, .f32⟩
  | .hbm, ⟨53, _⟩ => ⟨S65536x768, .f32⟩
  | .hbm, ⟨54, _⟩ => ⟨S65536x16, .f32⟩
  | .hbm, ⟨55, _⟩ => ⟨S_, .i32⟩
  | .hbm, ⟨56, _⟩ => ⟨S_, .f32⟩
  | .hbm, ⟨57, _⟩ => ⟨S65536x128, .f32⟩
  | .hbm, ⟨58, _⟩ => ⟨S65536x768, .bf16⟩
  | .hbm, ⟨59, _⟩ => ⟨S65536x256, .bf16⟩
  | .hbm, ⟨60, _⟩ => ⟨S65536x512, .bf16⟩
  | .hbm, ⟨61, _⟩ => ⟨S65536x256, .bf16⟩
  | .hbm, ⟨62, _⟩ => ⟨S65536x768, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_call0_v0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_4 : Ref sig .tc := ⟨.hbm, 50, rfl⟩
abbrev main_call1_v0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_5 : Ref sig .tc := ⟨.hbm, 55, rfl⟩
abbrev main_call2_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Outp.lean ====
abbrev S65536x1024 : Shape := ⟨2, ![65536, 1024]⟩
abbrev S1024 : Shape := ⟨1, ![1024]⟩
abbrev S65536x256 : Shape := ⟨2, ![65536, 256]⟩
abbrev S64 : Shape := ⟨1, ![64]⟩
abbrev S1024x1024 : Shape := ⟨2, ![1024, 1024]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x64 : Shape := ⟨2, ![1, 64]⟩
abbrev S4x64 : Shape := ⟨2, ![4, 64]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S256x1024 : Shape := ⟨2, ![256, 1024]⟩

abbrev nBuf : Space → Nat
  | .hbm => 51
  | .vmem => 23
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S65536x256, .bf16⟩
  | .hbm, ⟨4, _⟩ => ⟨S65536x256, .bf16⟩
  | .hbm, ⟨5, _⟩ => ⟨S65536x256, .bf16⟩
  | .hbm, ⟨6, _⟩ => ⟨S64, .f32⟩
  | .hbm, ⟨7, _⟩ => ⟨S65536x256, .bf16⟩
  | .hbm, ⟨8, _⟩ => ⟨S65536x256, .bf16⟩
  | .hbm, ⟨9, _⟩ => ⟨S65536x256, .bf16⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S256, .i32⟩
  | .hbm, ⟨16, _⟩ => ⟨S_, .i32⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S256, .i1⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S256x1, .i32⟩
  | .hbm, ⟨35, _⟩ => ⟨S1x256, .i32⟩
  | .hbm, ⟨36, _⟩ => ⟨S256x256, .i32⟩
  | .hbm, ⟨37, _⟩ => ⟨S256x256, .i32⟩
  | .hbm, ⟨38, _⟩ => ⟨S256x256, .i1⟩
  | .hbm, ⟨39, _⟩ => ⟨S256x256, .f32⟩
  | .hbm, ⟨40, _⟩ => ⟨S_, .f32⟩
  | .hbm, ⟨41, _⟩ => ⟨S256x256, .f32⟩
  | .hbm, ⟨42, _⟩ => ⟨S256x256, .f32⟩
  | .hbm, ⟨43, _⟩ => ⟨S1x64, .f32⟩
  | .hbm, ⟨44, _⟩ => ⟨S4x64, .f32⟩
  | .hbm, ⟨45, _⟩ => ⟨S256, .f32⟩
  | .hbm, ⟨46, _⟩ => ⟨S1x256, .f32⟩
  | .hbm, ⟨47, _⟩ => ⟨S1024x1024, .bf16⟩
  | .hbm, ⟨48, _⟩ => ⟨S1x1024, .f32⟩
  | .hbm, ⟨49, _⟩ => ⟨S1x1024, .f32⟩
  | .hbm, ⟨50, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1x256, .f32⟩
  | .local _ .vmem, ⟨11, _⟩ => ⟨S256x256, .f32⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OutpRefIdeal.lean ====
abbrev S65536x1024 : Shape := ⟨2, ![65536, 1024]⟩
abbrev S1024 : Shape := ⟨1, ![1024]⟩
abbrev S65536x256 : Shape := ⟨2, ![65536, 256]⟩
abbrev S64 : Shape := ⟨1, ![64]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4x64 : Shape := ⟨3, ![65536, 4, 64]⟩
abbrev S65536x4 : Shape := ⟨2, ![65536, 4]⟩
abbrev S65536x4x1 : Shape := ⟨3, ![65536, 4, 1]⟩
abbrev S1x1x64 : Shape := ⟨3, ![1, 1, 64]⟩

abbrev nBuf : Space → Nat
  | .hbm => 114
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S65536x256, .bf16⟩
  | .hbm, ⟨4, _⟩ => ⟨S65536x256, .bf16⟩
  | .hbm, ⟨5, _⟩ => ⟨S65536x256, .bf16⟩
  | .hbm, ⟨6, _⟩ => ⟨S64, .f32⟩
  | .hbm, ⟨7, _⟩ => ⟨S65536x256, .bf16⟩
  | .hbm, ⟨8, _⟩ => ⟨S65536x256, .bf16⟩
  | .hbm, ⟨9, _⟩ => ⟨S65536x256, .bf16⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536, .f32⟩
  | .hbm, ⟨24, _⟩ => ⟨S65536x1, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S65536x1, .f32⟩
  | .hbm, ⟨34, _⟩ => ⟨S65536x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | .hbm, ⟨39, _⟩ => ⟨S1x1024, .f32⟩
  | .hbm, ⟨40, _⟩ => ⟨S65536x1024, .f32⟩
  | .hbm, ⟨41, _⟩ => ⟨S65536x1024, .f32⟩
  | .hbm, ⟨42, _⟩ => ⟨S65536x256, .f32⟩
  | .hbm, ⟨43, _⟩ => ⟨S65536x4x64, .f32⟩
  | .hbm, ⟨44, _⟩ => ⟨S65536x256, .f32⟩
  | .hbm, ⟨45, _⟩ => ⟨S65536x4x64, .f32⟩
  | .hbm, ⟨46, _⟩ => ⟨S65536x4x64, .f32⟩
  | .hbm, ⟨47, _⟩ => ⟨S65536x4x64, .f32⟩
  | .hbm, ⟨48, _⟩ => ⟨S_, .f32⟩
  | .hbm, ⟨49, _⟩ => ⟨S65536x4, .f32⟩
  | .hbm, ⟨50, _⟩ => ⟨S65536x4x1, .f32⟩
  | .hbm, ⟨51, _⟩ => ⟨S_, .f32⟩
  | .hbm, ⟨52, _⟩ => ⟨S65536x4x1, .f32⟩
  | .hbm, ⟨53, _⟩ => ⟨S65536x4x1, .f32⟩
  | .hbm, ⟨54, _⟩ => ⟨S_, .f32⟩
  | .hbm, ⟨55, _⟩ => ⟨S65536x4x1, .f32⟩
  | .hbm, ⟨56, _⟩ => ⟨S65536x4x1, .f32⟩
  | .hbm, ⟨57, _⟩ => ⟨S65536x4x1, .f32⟩
  | .hbm, ⟨58, _⟩ => ⟨S65536x4x64, .f32⟩
  | .hbm, ⟨59, _⟩ => ⟨S65536x4x64, .f32⟩
  | .hbm, ⟨60, _⟩ => ⟨S1x1x64, .f32⟩
  | .hbm, ⟨61, _⟩ => ⟨S65536x4x64, .f32⟩
  | .hbm, ⟨62, _⟩ => ⟨S65536x4x64, .f32⟩
  | .hbm, ⟨63, _⟩ => ⟨S65536x256, .f32⟩
  | .hbm, ⟨64, _⟩ => ⟨S65536x4x64, .f32⟩
  | .hbm, ⟨65, _⟩ => ⟨S65536x4x64, .f32⟩
  | .hbm, ⟨66, _⟩ => ⟨S65536x4x64, .f32⟩
  | .hbm, ⟨67, _⟩ => ⟨S_, .f32⟩
  | .hbm, ⟨68, _⟩ => ⟨S65536x4x64, .f32⟩
  | .hbm, ⟨69, _⟩ => ⟨S65536x4x64, .f32⟩
  | .hbm, ⟨70, _⟩ => ⟨S_, .f32⟩
  | .hbm, ⟨71, _⟩ => ⟨S65536x4x64, .f32⟩
  | .hbm, ⟨72, _⟩ => ⟨S65536x4x64, .f32⟩
  | .hbm, ⟨73, _⟩ => ⟨S65536x4x64, .f32⟩
  | .hbm, ⟨74, _⟩ => ⟨S65536x4x64, .f32⟩
  | .hbm, ⟨75, _⟩ => ⟨S65536x256, .f32⟩
  | .hbm, ⟨76, _⟩ => ⟨S65536x256, .f32⟩
  | .hbm, ⟨77, _⟩ => ⟨S65536x256, .f32⟩
  | .hbm, ⟨78, _⟩ => ⟨S65536x256, .f32⟩
  | .hbm, ⟨79, _⟩ => ⟨S65536x1024, .f32⟩
  | .hbm, ⟨80, _⟩ => ⟨S65536x1024, .f32⟩
  | .hbm, ⟨81, _⟩ => ⟨S_, .f32⟩
  | .hbm, ⟨82, _⟩ => ⟨S65536x1024, .f32⟩
  | .hbm, ⟨83, _⟩ => ⟨S65536x1024, .f32⟩
  | .hbm, ⟨84, _⟩ => ⟨S65536x1024, .f32⟩
  | .hbm, ⟨85, _⟩ => ⟨S_, .f32⟩
  | .hbm, ⟨86, _⟩ => ⟨S65536, .f32⟩
  | .hbm, ⟨87, _⟩ => ⟨S65536x1, .f32⟩
  | .hbm, ⟨88, _⟩ => ⟨S_, .f32⟩
  | .hbm, ⟨89, _⟩ => ⟨S65536x1, .f32⟩
  | .hbm, ⟨90, _⟩ => ⟨S65536x1, .f32⟩
  | .hbm, ⟨91, _⟩ => ⟨S65536x1024, .f32⟩
  | .hbm, ⟨92, _⟩ => ⟨S65536x1024, .f32⟩
  | .hbm, ⟨93, _⟩ => ⟨S65536x1024, .f32⟩
  | .hbm, ⟨94, _⟩ => ⟨S_, .f32⟩
  | .hbm, ⟨95, _⟩ => ⟨S65536, .f32⟩
  | .hbm, ⟨96, _⟩ => ⟨S65536x1, .f32⟩
  | .hbm, ⟨97, _⟩ => ⟨S_, .f32⟩
  | .hbm, ⟨98, _⟩ => ⟨S65536x1, .f32⟩
  | .hbm, ⟨99, _⟩ => ⟨S65536x1, .f32⟩
  | .hbm, ⟨100, _⟩ => ⟨S65536x1024, .f32⟩
  | .hbm, ⟨101, _⟩ => ⟨S65536x1024, .f32⟩
  | .hbm, ⟨102, _⟩ => ⟨S_, .f32⟩
  | .hbm, ⟨103, _⟩ => ⟨S65536x1, .f32⟩
  | .hbm, ⟨104, _⟩ => ⟨S65536x1, .f32⟩
  | .hbm, ⟨105, _⟩ => ⟨S65536x1, .f32⟩
  | .hbm, ⟨106, _⟩ => ⟨S65536x1024, .f32⟩
  | .hbm, ⟨107, _⟩ => ⟨S65536x1024, .f32⟩
  | .hbm, ⟨108, _⟩ => ⟨S1x1024, .f32⟩
  | .hbm, ⟨109, _⟩ => ⟨S65536x1024, .f32⟩
  | .hbm, ⟨110, _⟩ => ⟨S65536x1024, .f32⟩
  | .hbm, ⟨111, _⟩ => ⟨S1x1024, .f32⟩
  | .hbm, ⟨112, _⟩ => ⟨S65536x1024, .f32⟩
  | .hbm, ⟨113, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩

abbrev nD : Nat := 1
abbrev τ : Topo := Topo.v7x

variable {F : FTy → Type} [FloatOps F]
-- ==== Sgu.lean ====
abbrev S65536x512 : Shape := ⟨2, ![65536, 512]⟩
abbrev S256 : Shape := ⟨1, ![256]⟩
abbrev S4x128x128 : Shape := ⟨3, ![4, 128, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S65536x256 : Shape := ⟨2, ![65536, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩

abbrev nBuf : Space → Nat
  | .hbm => 12
  | .vmem => 8
  | .smem => 0
  | _ => 0

abbrev bufTy : (tb : Table) → Fin (tcTables nBuf tb) → BufTy
  | .hbm, ⟨0, _⟩ => ⟨S65536x512, .bf16⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x64, .f32⟩
  | .hbm, ⟨7, _⟩ => ⟨S128x256, .f32⟩
  | .hbm, ⟨8, _⟩ => ⟨S1x256, .f32⟩
  | .hbm, ⟨9, _⟩ => ⟨S1x256, .f32⟩
  | .hbm, ⟨10, _⟩ => ⟨S4x128x128, .bf16⟩
  | .hbm, ⟨11, _⟩ => ⟨S65536x256, .bf16⟩
  | .local _ .vmem, ⟨0, _⟩ => ⟨S512x512, .bf16⟩
  | .local _ .vmem, ⟨1, _⟩ => ⟨S512x512, .bf16⟩
  | .local _ .vmem, ⟨2, _⟩ => ⟨S1x256, .f32⟩
  | .local _ .vmem, ⟨3, _⟩ => ⟨S1x256, .f32⟩
  | .local _ .vmem, ⟨4, _⟩ => ⟨S4x128x128, .bf16⟩
  | .local _ .vmem, ⟨5, _⟩ => ⟨S128x256, .f32⟩
  | .local _ .vmem, ⟨6, _⟩ => ⟨S512x256, .bf16⟩
  | .local _ .vmem, ⟨7, _⟩ => ⟨S512x256, .bf16⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguRefIdeal.lean ====
abbrev S65536x512 : Shape := ⟨2, ![65536, 512]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S65536x256 : Shape := ⟨2, ![65536, 256]⟩
abbrev S65536 : Shape := ⟨1, ![65536]⟩
abbrev S65536x1 : Shape := ⟨2, ![65536, 1]⟩
abbrev S1x256 : Shape := ⟨2, ![1, 256]⟩
abbrev S512x128x4x64 : Shape := ⟨4, ![512, 128, 4, 64]⟩
abbrev S4x512x64x128 : Shape := ⟨4, ![4, 512, 64, 128]⟩
abbrev S128x4 : Shape := ⟨2, ![128, 4]⟩
abbrev S1x128x4x1 : Shape := ⟨4, ![1, 128, 4, 1]⟩

abbrev nBuf : Space → Nat
  | .hbm => 64
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S65536x512, .f32⟩
  | .hbm, ⟨6, _⟩ => ⟨S65536x512, .f32⟩
  | .hbm, ⟨7, _⟩ => ⟨S65536x512, .f32⟩
  | .hbm, ⟨8, _⟩ => ⟨S_, .f32⟩
  | .hbm, ⟨9, _⟩ => ⟨S65536x512, .f32⟩
  | .hbm, ⟨10, _⟩ => ⟨S65536x512, .f32⟩
  | .hbm, ⟨11, _⟩ => ⟨S65536x512, .f32⟩
  | .hbm, ⟨12, _⟩ => ⟨S_, .f32⟩
  | .hbm, ⟨13, _⟩ => ⟨S65536x512, .f32⟩
  | .hbm, ⟨14, _⟩ => ⟨S65536x512, .f32⟩
  | .hbm, ⟨15, _⟩ => ⟨S65536x512, .f32⟩
  | .hbm, ⟨16, _⟩ => ⟨S_, .f32⟩
  | .hbm, ⟨17, _⟩ => ⟨S65536x512, .f32⟩
  | .hbm, ⟨18, _⟩ => ⟨S65536x512, .f32⟩
  | .hbm, ⟨19, _⟩ => ⟨S_, .f32⟩
  | .hbm, ⟨20, _⟩ => ⟨S65536x512, .f32⟩
  | .hbm, ⟨21, _⟩ => ⟨S65536x512, .f32⟩
  | .hbm, ⟨22, _⟩ => ⟨S65536x512, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S_, .f32⟩
  | .hbm, ⟨29, _⟩ => ⟨S65536x1, .f32⟩
  | .hbm, ⟨30, _⟩ => ⟨S65536x1, .f32⟩
  | .hbm, ⟨31, _⟩ => ⟨S65536x256, .f32⟩
  | .hbm, ⟨32, _⟩ => ⟨S65536x256, .f32⟩
  | .hbm, ⟨33, _⟩ => ⟨S65536x256, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S65536x256, .f32⟩
  | .hbm, ⟨41, _⟩ => ⟨S65536x256, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1, .f32⟩
  | .hbm, ⟨46, _⟩ => ⟨S65536x256, .f32⟩
  | .hbm, ⟨47, _⟩ => ⟨S65536x256, .f32⟩
  | .hbm, ⟨48, _⟩ => ⟨S1x256, .f32⟩
  | .hbm, ⟨49, _⟩ => ⟨S65536x256, .f32⟩
  | .hbm, ⟨50, _⟩ => ⟨S65536x256, .f32⟩
  | .hbm, ⟨51, _⟩ => ⟨S1x256, .f32⟩
  | .hbm, ⟨52, _⟩ => ⟨S65536x256, .f32⟩
  | .hbm, ⟨53, _⟩ => ⟨S65536x256, .f32⟩
  | .hbm, ⟨54, _⟩ => ⟨S512x128x4x64, .f32⟩
  | .hbm, ⟨55, _⟩ => ⟨S4x512x64x128, .f32⟩
  | .hbm, ⟨56, _⟩ => ⟨S512x128x4x64, .f32⟩
  | .hbm, ⟨57, _⟩ => ⟨S128x4, .f32⟩
  | .hbm, ⟨58, _⟩ => ⟨S1x128x4x1, .f32⟩
  | .hbm, ⟨59, _⟩ => ⟨S512x128x4x64, .f32⟩
  | .hbm, ⟨60, _⟩ => ⟨S512x128x4x64, .f32⟩
  | .hbm, ⟨61, _⟩ => ⟨S65536x256, .f32⟩
  | .hbm, ⟨62, _⟩ => ⟨S65536x256, .f32⟩
  | .hbm, ⟨63, _⟩ => ⟨S65536x256, .bf16⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Lat.lean ====
abbrev S32x2048x384 : Shape := ⟨3, ![32, 2048, 384]⟩
abbrev S32x2048x128 : Shape := ⟨3, ![32, 2048, 128]⟩
abbrev S32x2048x32 : Shape := ⟨3, ![32, 2048, 32]⟩
abbrev S384 : Shape := ⟨1, ![384]⟩
abbrev S128 : Shape := ⟨1, ![128]⟩
abbrev S384x4x96 : Shape := ⟨3, ![384, 4, 96]⟩
abbrev S128x4x64 : Shape := ⟨3, ![128, 4, 64]⟩
abbrev S32x2048x16 : Shape := ⟨3, ![32, 2048, 16]⟩
abbrev S_ : Shape := ⟨0, ![]⟩
abbrev S32x2048x768 : Shape := ⟨3, ![32, 2048, 768]⟩
abbrev S65536x768 : Shape := ⟨2, ![65536, 768]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S384x1x96 : Shape := ⟨3, ![384, 1, 96]⟩
abbrev S384x96 : Shape := ⟨2, ![384, 96]⟩
abbrev S384x32 : Shape := ⟨2, ![384, 32]⟩
abbrev S384x16 : Shape := ⟨2, ![384, 16]⟩
abbrev S384x128 : Shape := ⟨2, ![384, 128]⟩
abbrev S384x64 : Shape := ⟨2, ![384, 64]⟩
abbrev S128x1x64 : Shape := ⟨3, ![128, 1, 64]⟩
abbrev S128x64 : Shape := ⟨2, ![128, 64]⟩
abbrev S128x128 : Shape := ⟨2, ![128, 128]⟩
abbrev S384x1024 : Shape := ⟨2, ![384, 1024]⟩
abbrev S128x512 : Shape := ⟨2, ![128, 512]⟩
abbrev S128x256 : Shape := ⟨2, ![128, 256]⟩
abbrev S256x128 : Shape := ⟨2, ![256, 128]⟩
abbrev S1x384 : Shape := ⟨2, ![1, 384]⟩
abbrev S1x128 : Shape := ⟨2, ![1, 128]⟩
abbrev S65536x512 : Shape := ⟨2, ![65536, 512]⟩
abbrev S32x8x320x256 : Shape := ⟨4, ![32, 8, 320, 256]⟩
abbrev S512x768 : Shape := ⟨2, ![512, 768]⟩
abbrev S512x128 : Shape := ⟨2, ![512, 128]⟩
abbrev S512x512 : Shape := ⟨2, ![512, 512]⟩
abbrev S1x2x320x256 : Shape := ⟨4, ![1, 2, 320, 256]⟩
abbrev S512x384 : Shape := ⟨2, ![512, 384]⟩
abbrev S512 : Shape := ⟨1, ![512]⟩
abbrev S512x1 : Shape := ⟨2, ![512, 1]⟩
abbrev S384x512 : Shape := ⟨2, ![384, 512]⟩
abbrev S256x512 : Shape := ⟨2, ![256, 512]⟩
abbrev S16x512 : Shape := ⟨2, ![16, 512]⟩
abbrev S64x512 : Shape := ⟨2, ![64, 512]⟩
abbrev S320x512 : Shape := ⟨2, ![320, 512]⟩
abbrev S320x256 : Shape := ⟨2, ![320, 256]⟩
abbrev S1x1x320x256 : Shape := ⟨4, ![1, 1, 320, 256]⟩

abbrev nBuf : Space → Nat
  | .hbm => 158
  | .vmem => 17
  | .smem => 0
  | _ => 0

abbrev hbmTy0_0 (i : Nat) : BufTy := match i % 128 with
  | 0 => ⟨S32x2048x384, .bf16⟩
  | 1 => ⟨S32x2048x128, .bf16⟩
  | 2 => ⟨S32x2048x32, .bf16⟩
  | 3 => ⟨S384, .f32⟩
  | 4 => ⟨S128, .f32⟩
  | 5 => ⟨S384x4x96, .f32⟩
  | 6 => ⟨S128x4x64, .f32⟩
  | 7 => ⟨S128x4x64, .f32⟩
  | 8 => ⟨S32x2048x16, .bf16⟩
  | 9 => ⟨S32x2048x16, .bf16⟩
  | 10 => ⟨S32x2048x16, .bf16⟩
  | 11 => ⟨S32x2048x32, .bf16⟩
  | 12 => ⟨S_, .i32⟩
  | 13 => ⟨S_, .bf16⟩
  | 14 => ⟨S32x2048x128, .bf16⟩
  | 15 => ⟨S_, .i32⟩
  | 16 => ⟨S_, .bf16⟩
  | 17 => ⟨S32x2048x128, .bf16⟩
  | 18 => ⟨S32x2048x768, .bf16⟩
  | 19 => ⟨S65536x768, .bf16⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S2048, .f32⟩
  | 35 => ⟨S2048x1, .f32⟩
  | 36 => ⟨S1x16, .f32⟩
  | 37 => ⟨S2048x16, .f32⟩
  | 38 => ⟨S2048x16, .f32⟩
  | 39 => ⟨S2048x16, .f32⟩
  | 40 => ⟨S_, .f32⟩
  | 41 => ⟨S2048x64, .f32⟩
  | 42 => ⟨S2048x16, .f32⟩
  | 43 => ⟨S2048x16, .f32⟩
  | 44 => ⟨S_, .f32⟩
  | 45 => ⟨S2048x32, .f32⟩
  | 46 => ⟨S2048x128, .f32⟩
  | 47 => ⟨S_, .f32⟩
  | 48 => ⟨S2048x64, .f32⟩
  | 49 => ⟨S2048x16, .f32⟩
  | 50 => ⟨S2048x16, .f32⟩
  | 51 => ⟨S_, .f32⟩
  | 52 => ⟨S2048x32, .f32⟩
  | 53 => ⟨S2048x128, .f32⟩
  | 54 => ⟨S384x1x96, .f32⟩
  | 55 => ⟨S384x96, .f32⟩
  | 56 => ⟨S_, .f32⟩
  | 57 => ⟨S384x96, .f32⟩
  | 58 => ⟨S384x96, .f32⟩
  | 59 => ⟨S384x32, .f32⟩
  | 60 => ⟨S384x16, .f32⟩
  | 61 => ⟨S384x16, .f32⟩
  | 62 => ⟨S384x16, .f32⟩
  | 63 => ⟨S384x32, .f32⟩
  | 64 => ⟨S_, .f32⟩
  | 65 => ⟨S384x32, .f32⟩
  | 66 => ⟨S384x128, .f32⟩
  | 67 => ⟨S_, .f32⟩
  | 68 => ⟨S384x64, .f32⟩
  | 69 => ⟨S_, .f32⟩
  | 70 => ⟨S384x32, .f32⟩
  | 71 => ⟨S384x128, .f32⟩
  | 72 => ⟨S128x1x64, .f32⟩
  | 73 => ⟨S128x64, .f32⟩
  | 74 => ⟨S_, .f32⟩
  | 75 => ⟨S128x64, .f32⟩
  | 76 => ⟨S128x128, .f32⟩
  | 77 => ⟨S384x1x96, .f32⟩
  | 78 => ⟨S384x96, .f32⟩
  | 79 => ⟨S_, .f32⟩
  | 80 => ⟨S384x96, .f32⟩
  | 81 => ⟨S384x96, .f32⟩
  | 82 => ⟨S384x32, .f32⟩
  | 83 => ⟨S384x16, .f32⟩
  | 84 => ⟨S384x16, .f32⟩
  | 85 => ⟨S384x16, .f32⟩
  | 86 => ⟨S384x32, .f32⟩
  | 87 => ⟨S_, .f32⟩
  | 88 => ⟨S384x32, .f32⟩
  | 89 => ⟨S384x128, .f32⟩
  | 90 => ⟨S_, .f32⟩
  | 91 => ⟨S384x64, .f32⟩
  | 92 => ⟨S_, .f32⟩
  | 93 => ⟨S384x32, .f32⟩
  | 94 => ⟨S384x128, .f32⟩
  | 95 => ⟨S128x1x64, .f32⟩
  | 96 => ⟨S128x64, .f32⟩
  | 97 => ⟨S_, .f32⟩
  | 98 => ⟨S128x64, .f32⟩
  | 99 => ⟨S128x128, .f32⟩
  | 100 => ⟨S384x1x96, .f32⟩
  | 101 => ⟨S384x96, .f32⟩
  | 102 => ⟨S_, .f32⟩
  | 103 => ⟨S384x96, .f32⟩
  | 104 => ⟨S384x96, .f32⟩
  | 105 => ⟨S384x32, .f32⟩
  | 106 => ⟨S384x16, .f32⟩
  | 107 => ⟨S384x16, .f32⟩
  | 108 => ⟨S384x16, .f32⟩
  | 109 => ⟨S384x32, .f32⟩
  | 110 => ⟨S_, .f32⟩
  | 111 => ⟨S384x32, .f32⟩
  | 112 => ⟨S384x128, .f32⟩
  | 113 => ⟨S_, .f32⟩
  | 114 => ⟨S384x64, .f32⟩
  | 115 => ⟨S_, .f32⟩
  | 116 => ⟨S384x32, .f32⟩
  | 117 => ⟨S384x128, .f32⟩
  | 118 => ⟨S128x1x64, .f32⟩
  | 119 => ⟨S128x64, .f32⟩
  | 120 => ⟨S_, .f32⟩
  | 121 => ⟨S128x64, .f32⟩
  | 122 => ⟨S128x128, .f32⟩
  | 123 => ⟨S384x1x96, .f32⟩
  | 124 => ⟨S384x96, .f32⟩
  | 125 => ⟨S_, .f32⟩
  | 126 => ⟨S384x96, .f32⟩
  | 127 => ⟨S384x96, .f32⟩
  | _ => ⟨S32x2048x384, .bf16⟩

abbrev hbmTy0_1 (i : Nat) : BufTy := match i % 128 with
  | 0 => ⟨S384x32, .f32⟩
  | 1 => ⟨S384x16, .f32⟩
  | 2 => ⟨S384x16, .f32⟩
  | 3 => ⟨S384x16, .f32⟩
  | 4 => ⟨S384x32, .f32⟩
  | 5 => ⟨S_, .f32⟩
  | 6 => ⟨S384x32, .f32⟩
  | 7 => ⟨S384x128, .f32⟩
  | 8 => ⟨S_, .f32⟩
  | 9 => ⟨S384x64, .f32⟩
  | 10 => ⟨S_, .f32⟩
  | 11 => ⟨S384x32, .f32⟩
  | 12 => ⟨S384x128, .f32⟩
  | 13 => ⟨S128x1x64, .f32⟩
  | 14 => ⟨S128x64, .f32⟩
  | 15 => ⟨S_, .f32⟩
  | 16 => ⟨S128x64, .f32⟩
  | 17 => ⟨S128x128, .f32⟩
  | 18 => ⟨S384x1024, .f32⟩
  | 19 => ⟨S384x1024, .bf16⟩
  | 20 => ⟨S128x512, .f32⟩
  | 21 => ⟨S128x512, .bf16⟩
  | 22 => ⟨S128x256, .f32⟩
  | 23 => ⟨S256x128, .f32⟩
  | 24 => ⟨S256x128, .bf16⟩
  | 25 => ⟨S1x384, .f32⟩
  | 26 => ⟨S1x128, .f32⟩
  | 27 => ⟨S65536x512, .bf16⟩
  | 28 => ⟨S65536x512, .bf16⟩
  | 29 => ⟨S32x8x320x256, .bf16⟩
  | _ => ⟨S32x2048x384, .bf16⟩

abbrev hbmTy (i : Nat) : BufTy := match i / 128 with
  | 0 => hbmTy0_0 i
  | 1 => hbmTy0_1 i
  | _ => ⟨S32x2048x384, .bf16⟩

abbrev bufTy : (tb : Table) → Fin (tcTables nBuf tb) → BufTy
  | .hbm, ⟨i, _⟩ => hbmTy i
  | .local _ .vmem, ⟨0, _⟩ => ⟨S512x768, .bf16⟩
  | .local _ .vmem, ⟨1, _⟩ => ⟨S512x768, .bf16⟩
  | .local _ .vmem, ⟨2, _⟩ => ⟨S1x384, .f32⟩
  | .local _ .vmem, ⟨3, _⟩ => ⟨S1x128, .f32⟩
  | .local _ .vmem, ⟨4, _⟩ => ⟨S384x1024, .bf16⟩
  | .local _ .vmem, ⟨5, _⟩ => ⟨S128x512, .bf16⟩
  | .local _ .vmem, ⟨6, _⟩ => ⟨S256x128, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S1x2x320x256, .bf16⟩
  | .local _ .vmem, ⟨16, _⟩ => ⟨S1x2x320x256, .bf16⟩
  | _, _ => ⟨S32x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_cst_15 : Ref sig .tc := ⟨.hbm, 90, rfl⟩
abbrev main_v63 : Ref sig .tc := ⟨.hbm, 91, rfl⟩
abbrev main_cst_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_17 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_18 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_19 : Ref sig .tc := ⟨.hbm, 110, rfl⟩
abbrev main_v79 : Ref sig .tc := ⟨.hbm, 111, rfl⟩
abbrev main_v80 : Ref sig .tc := ⟨.hbm, 112, rfl⟩
abbrev main_cst_20 : Ref sig .tc := ⟨.hbm, 113, rfl⟩
abbrev main_v81 : Ref sig .tc := ⟨.hbm, 114, rfl⟩
abbrev main_cst_21 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_22 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_23 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_24 : Ref sig .tc := ⟨.hbm, 133, rfl⟩
abbrev main_v97 : Ref sig .tc := ⟨.hbm, 134, rfl⟩
abbrev main_v98 : Ref sig .tc := ⟨.hbm, 135, rfl⟩
abbrev main_cst_25 : Ref sig .tc := ⟨.hbm, 136, rfl⟩
abbrev main_v99 : Ref sig .tc := ⟨.hbm, 137, rfl⟩
abbrev main_cst_26 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_27 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115_0 : Ref sig .tc := ⟨.hbm, 155, rfl⟩
abbrev main_v115_1 : Ref sig .tc := ⟨.hbm, 156, rfl⟩
abbrev main_v115_2 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x320x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LatRefIdeal.lean ====
abbrev S32x2048x384 : Shape := ⟨3, ![32, 2048, 384]⟩
abbrev S32x2048x128 : Shape := ⟨3, ![32, 2048, 128]⟩
abbrev S32x2048x32 : Shape := ⟨3, ![32, 2048, 32]⟩
abbrev S384 : Shape := ⟨1, ![384]⟩
abbrev S128 : Shape := ⟨1, ![128]⟩
abbrev S384x4x96 : Shape := ⟨3, ![384, 4, 96]⟩
abbrev S128x4x64 : Shape := ⟨3, ![128, 4, 64]⟩
abbrev S_ : Shape := ⟨0, ![]⟩
abbrev S32x2048 : Shape := ⟨2, ![32, 2048]⟩
abbrev S32x2048x1 : Shape := ⟨3, ![32, 2048, 1]⟩
abbrev S1x1x384 : Shape := ⟨3, ![1, 1, 384]⟩
abbrev S32x2048x4x96 : Shape := ⟨4, ![32, 2048, 4, 96]⟩
abbrev S32x2048x4x64 : Shape := ⟨4, ![32, 2048, 4, 64]⟩
abbrev S32x2048x4x32 : Shape := ⟨4, ![32, 2048, 4, 32]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S32x2048x4x16 : Shape := ⟨4, ![32, 2048, 4, 16]⟩
abbrev S1x1x128 : Shape := ⟨3, ![1, 1, 128]⟩
abbrev S32x2048x1x32 : Shape := ⟨4, ![32, 2048, 1, 32]⟩
abbrev S32x2048x1x16 : Shape := ⟨4, ![32, 2048, 1, 16]⟩
abbrev S32x2048x4x128 : Shape := ⟨4, ![32, 2048, 4, 128]⟩
abbrev S32x2048x4x80 : Shape := ⟨4, ![32, 2048, 4, 80]⟩
abbrev S32x8x256x320 : Shape := ⟨4, ![32, 8, 256, 320]⟩
abbrev S32x8x320x256 : Shape := ⟨4, ![32, 8, 320, 256]⟩
abbrev S65536x512 : Shape := ⟨2, ![65536, 512]⟩

abbrev nBuf : Space → Nat
  | .hbm => 145
  | .vmem => 0
  | .smem => 0
  | _ => 0

abbrev hbmTy0_0 (i : Nat) : BufTy := match i % 128 with
  | 0 => ⟨S32x2048x384, .bf16⟩
  | 1 => ⟨S32x2048x128, .bf16⟩
  | 2 => ⟨S32x2048x32, .bf16⟩
  | 3 => ⟨S384, .f32⟩
  | 4 => ⟨S128, .f32⟩
  | 5 => ⟨S384x4x96, .f32⟩
  | 6 => ⟨S128x4x64, .f32⟩
  | 7 => ⟨S128x4x64, .f32⟩
  | 8 => ⟨S32x2048x384, .f32⟩
  | 9 => ⟨S32x2048x384, .f32⟩
  | 10 => ⟨S_, .f32⟩
  | 11 => ⟨S32x2048, .f32⟩
  | 12 => ⟨S32x2048x1, .f32⟩
  | 13 => ⟨S_, .f32⟩
  | 14 => ⟨S32x2048x1, .f32⟩
  | 15 => ⟨S32x2048x1, .f32⟩
  | 16 => ⟨S_, .f32⟩
  | 17 => ⟨S32x2048x1, .f32⟩
  | 18 => ⟨S32x2048x1, .f32⟩
  | 19 => ⟨S32x2048x1, .f32⟩
  | 20 => ⟨S32x2048x384, .f32⟩
  | 21 => ⟨S32x2048x384, .f32⟩
  | 22 => ⟨S1x1x384, .f32⟩
  | 23 => ⟨S32x2048x384, .f32⟩
  | 24 => ⟨S32x2048x384, .f32⟩
  | 25 => ⟨S32x2048x4x96, .f32⟩
  | 26 => ⟨S32x2048x4x64, .f32⟩
  | 27 => ⟨S32x2048x4x32, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S2048, .f32⟩
  | 43 => ⟨S2048x1, .f32⟩
  | 44 => ⟨S1x16, .f32⟩
  | 45 => ⟨S2048x16, .f32⟩
  | 46 => ⟨S2048x16, .f32⟩
  | 47 => ⟨S2048x16, .f32⟩
  | 48 => ⟨S2048x16, .f32⟩
  | 49 => ⟨S1x2048x1x16, .f32⟩
  | 50 => ⟨S2048x16, .f32⟩
  | 51 => ⟨S1x2048x1x16, .f32⟩
  | 52 => ⟨S32x2048x4x16, .f32⟩
  | 53 => ⟨S32x2048x4x16, .f32⟩
  | 54 => ⟨S32x2048x4x16, .f32⟩
  | 55 => ⟨S32x2048x4x16, .f32⟩
  | 56 => ⟨S32x2048x4x16, .f32⟩
  | 57 => ⟨S32x2048x4x16, .f32⟩
  | 58 => ⟨S32x2048x4x16, .f32⟩
  | 59 => ⟨S32x2048x4x16, .f32⟩
  | 60 => ⟨S32x2048x4x16, .f32⟩
  | 61 => ⟨S32x2048x4x16, .f32⟩
  | 62 => ⟨S32x2048x4x16, .f32⟩
  | 63 => ⟨S32x2048x4x16, .f32⟩
  | 64 => ⟨S32x2048x4x32, .f32⟩
  | 65 => ⟨S32x2048x128, .f32⟩
  | 66 => ⟨S32x2048x128, .f32⟩
  | 67 => ⟨S_, .f32⟩
  | 68 => ⟨S32x2048, .f32⟩
  | 69 => ⟨S32x2048x1, .f32⟩
  | 70 => ⟨S_, .f32⟩
  | 71 => ⟨S32x2048x1, .f32⟩
  | 72 => ⟨S32x2048x1, .f32⟩
  | 73 => ⟨S_, .f32⟩
  | 74 => ⟨S32x2048x1, .f32⟩
  | 75 => ⟨S32x2048x1, .f32⟩
  | 76 => ⟨S32x2048x1, .f32⟩
  | 77 => ⟨S32x2048x128, .f32⟩
  | 78 => ⟨S32x2048x128, .f32⟩
  | 79 => ⟨S1x1x128, .f32⟩
  | 80 => ⟨S32x2048x128, .f32⟩
  | 81 => ⟨S32x2048x128, .f32⟩
  | 82 => ⟨S32x2048x4x64, .f32⟩
  | 83 => ⟨S32x2048x4x64, .f32⟩
  | 84 => ⟨S32x2048x1x32, .bf16⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S2048, .f32⟩
  | 100 => ⟨S2048x1, .f32⟩
  | 101 => ⟨S1x16, .f32⟩
  | 102 => ⟨S2048x16, .f32⟩
  | 103 => ⟨S2048x16, .f32⟩
  | 104 => ⟨S2048x16, .f32⟩
  | 105 => ⟨S2048x16, .f32⟩
  | 106 => ⟨S1x2048x1x16, .f32⟩
  | 107 => ⟨S2048x16, .f32⟩
  | 108 => ⟨S1x2048x1x16, .f32⟩
  | 109 => ⟨S32x2048x1x32, .f32⟩
  | 110 => ⟨S32x2048x1x16, .f32⟩
  | 111 => ⟨S32x2048x1x16, .f32⟩
  | 112 => ⟨S32x2048x1x16, .f32⟩
  | 113 => ⟨S32x2048x1x16, .f32⟩
  | 114 => ⟨S32x2048x1x16, .f32⟩
  | 115 => ⟨S32x2048x1x16, .f32⟩
  | 116 => ⟨S32x2048x1x16, .f32⟩
  | 117 => ⟨S32x2048x1x16, .f32⟩
  | 118 => ⟨S32x2048x1x16, .f32⟩
  | 119 => ⟨S32x2048x1x16, .f32⟩
  | 120 => ⟨S32x2048x1x16, .f32⟩
  | 121 => ⟨S32x2048x1x16, .f32⟩
  | 122 => ⟨S32x2048x1x32, .f32⟩
  | 123 => ⟨S32x2048x4x96, .f32⟩
  | 124 => ⟨S_, .f32⟩
  | 125 => ⟨S32x2048x4x96, .f32⟩
  | 126 => ⟨S32x2048x4x96, .f32⟩
  | 127 => ⟨S_, .i32⟩
  | _ => ⟨S32x2048x384, .bf16⟩

abbrev hbmTy0_1 (i : Nat) : BufTy := match i % 128 with
  | 0 => ⟨S_, .f32⟩
  | 1 => ⟨S32x2048x4x128, .f32⟩
  | 2 => ⟨S32x2048x4x32, .f32⟩
  | 3 => ⟨S32x2048x4x96, .f32⟩
  | 4 => ⟨S_, .i32⟩
  | 5 => ⟨S_, .f32⟩
  | 6 => ⟨S32x2048x4x128, .f32⟩
  | 7 => ⟨S_, .f32⟩
  | 8 => ⟨S32x2048x4x16, .f32⟩
  | 9 => ⟨S32x2048x4x80, .f32⟩
  | 10 => ⟨S32x8x256x320, .f32⟩
  | 11 => ⟨S32x8x320x256, .f32⟩
  | 12 => ⟨S65536x512, .f32⟩
  | 13 => ⟨S65536x512, .bf16⟩
  | 14 => ⟨S65536x512, .f32⟩
  | 15 => ⟨S65536x512, .bf16⟩
  | 16 => ⟨S32x8x320x256, .bf16⟩
  | _ => ⟨S32x2048x384, .bf16⟩

abbrev hbmTy (i : Nat) : BufTy := match i / 128 with
  | 0 => hbmTy0_0 i
  | 1 => hbmTy0_1 i
  | _ => ⟨S32x2048x384, .bf16⟩

abbrev bufTy : (tb : Table) → Fin (tcTables nBuf tb) → BufTy
  | .hbm, ⟨i, _⟩ => hbmTy i
  | _, _ => ⟨S32x2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_cst_10 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_11 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_13 : Ref sig .tc := ⟨.hbm, 124, rfl⟩
abbrev main_v102 : Ref sig .tc := ⟨.hbm, 125, rfl⟩
abbrev main_v103 : Ref sig .tc := ⟨.hbm, 126, rfl⟩
abbrev main_c : Ref sig .tc := ⟨.hbm, 127, rfl⟩
abbrev main_call0_v0 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_c_14 : Ref sig .tc := ⟨.hbm, 132, rfl⟩
abbrev main_call1_v0 : Ref sig .tc := ⟨.hbm, 133, rfl⟩
abbrev main_v107 : Ref sig .tc := ⟨.hbm, 134, rfl⟩
abbrev main_cst_15 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩

abbrev nD : Nat := 1
abbrev τ : Topo := Topo.v7x

variable {F : FTy → Type} [FloatOps F]
-- ==== Proof.AttnBlock.lean ====
/- The attention kernel's body as one function of the three windows it reads: what a grid point stores is `block`
   of its query window, its key window and its window of transposed values, whatever the arithmetic `F`. -/
module

public import proofs.«01_k».proof.Proof.Gen.AttnIdeal.Value
public import Idealize.ShloMosaic.Lib.WholeRead
public import Idealize.ShloMosaic.Lib.VecWindow

@[expose] public section

set_option maxRecDepth 16384

noncomputable section

namespace Cert.AttnIdeal.Val

open Cert.AttnIdeal Cert.AttnIdeal.Gen Idealize.ShloMosaic Idealize.ShloMosaic.TcCoe Idealize.SL.Sem

variable {F : FTy → Type} [FloatOps F]

/-- The scores of one tile of 256 keys (rows) against the 256 queries (columns) of one head. -/
def score (q k : Vec F S1x256x128 .bf16) : FVec F S256x256 .f32 :=
  matmul dot_S256x128_S256x128_S256x256_1_1_0_0_n_n none
    (shapeCast S256x128 k shapeCasts_S1x256x128_S256x128) (shapeCast S256x128 q shapeCasts_S1x256x128_S256x128)
    (constant S256x256 .f32 0x00000000#32)

/-- The running maximum of each query's scores after one more tile. -/
def mNew (m : FVec F S1x256 .f32) (s : FVec F S256x256 .f32) : FVec F S1x256 .f32 :=
  maximumf m (shapeCast S1x256
    (multiReduction .maximumf [0] S256 s 0xFF800000#32 reduces_S256x256_S256 (.inl rfl) rfl) shapeCasts_S256_S1x256)

/-- The accumulated value rows (and, below them, the sums of the weights) after one more tile: what was there
    rescaled to the new maximum, and the tile's values times its weights. -/
def accNew (m : FVec F S1x256 .f32) (acc : FVec F S80x256 .f32) (s : FVec F S256x256 .f32)
    (v : Vec F S1x1x80x256 .bf16) : FVec F S80x256 .f32 :=
  addf (mulf acc (broadcastTo S80x256 (exp2 (subf m (mNew m s))) broadcasts_S1x256_S80x256))
    (matmul dot_S80x256_S256x256_S80x256_1_0_0_1_n_n none (shapeCast S80x256 v shapeCasts_S1x1x80x256_S80x256)
      (truncf .bf16 (exp2 (subf s (broadcastTo S256x256 (mNew m s) broadcasts_S1x256_S256x256))) bitsLt_bf16_f32)
      (constant S80x256 .f32 0x00000000#32))

/-- The running maximum and the accumulator of one head after the first `n` tiles. -/
def state (q : Vec F S1x256x128 .bf16) (k : Fin 8 → Vec F S1x256x128 .bf16) (v : Fin 8 → Vec F S1x1x80x256 .bf16) :
    ℕ → FVec F S1x256 .f32 × FVec F S80x256 .f32
  | 0 => (broadcast S1x256 (Scalar.ofBits .f32 0xFF800000#32), broadcast S80x256 (Scalar.ofBits .f32 0x00000000#32))
  | n + 1 => (mNew (state q k v n).1 (score q (k (Fin.ofNat 8 n))),
      accNew (state q k v n).1 (state q k v n).2 (score q (k (Fin.ofNat 8 n))) (v (Fin.ofNat 8 n)))

/-- One head's result: the accumulated values over the accumulated weights. -/
def quot (acc : FVec F S80x256 .f32) : FVec F S64x256 .f32 :=
  divf (extractStridedSlice S64x256 ![0, 0] acc slices_S80x256_o0_0_S64x256)
    (broadcastTo S64x256 (extractStridedSlice S1x256 ![64, 0] acc slices_S80x256_o64_0_S1x256)
      broadcasts_S1x256_S64x256)

/-- The four heads' results side by side, one row a query. -/
def block (acc : Fin 4 → FVec F S80x256 .f32) : FVec F S1x256x256 .bf16 :=
  shapeCast S1x256x256 (truncf .bf16 (transpose S256x256 [1, 0]
    (concatenate S256x256 0 [⟨S64x256, quot (acc 0)⟩, ⟨S64x256, quot (acc 1)⟩, ⟨S64x256, quot (acc 2)⟩,
      ⟨S64x256, quot (acc 3)⟩] concatenates_S64x256_S64x256_S64x256_S64x256_S256x256_d0)
    transposes_S256x256_p1_0_S256x256) bitsLt_bf16_f32) shapeCasts_S256x256_S1x256x256

theorem inbQ (h : Fin 4) : ∀ a, (![0, 0, 128 * h.val] : Fin 3 → ℕ) a + S1x256x128.size a ≤ S1x256x512.size a := by
  revert h; decide

theorem inbK (j : Fin 8) (h : Fin 4) :
    ∀ a, (![0, 256 * j.val, 128 * h.val] : Fin 3 → ℕ) a + S1x256x128.size a ≤ S1x2048x512.size a := by
  revert j h; decide

theorem inbV (j : Fin 8) (h : Fin 4) :
    ∀ a, (![0, j.val, 80 * h.val, 0] : Fin 4 → ℕ) a + S1x1x80x256.size a ≤ S1x8x320x256.size a := by
  revert j h; decide

/-- Head `h`'s queries of a query window. -/
def tileQ (x : Vec F S1x256x512 .bf16) (h : Fin 4) : Vec F S1x256x128 .bf16 :=
  fun y => x ((Rect.unit (s := S1x256x512) ![0, 0, 128 * h.val] S1x256x128.size (inbQ h)).toLoadRect.idx y)

/-- Head `h`'s keys of tile `j` of a key window. -/
def tileK (x : Vec F S1x2048x512 .bf16) (h : Fin 4) (j : Fin 8) : Vec F S1x256x128 .bf16 :=
  fun y => x ((Rect.unit (s := S1x2048x512) ![0, 256 * j.val, 128 * h.val] S1x256x128.size (inbK j h)).toLoadRect.idx y)

/-- Head `h`'s rows of tile `j` of a window of transposed values. -/
def tileV (x : Vec F S1x8x320x256 .bf16) (h : Fin 4) (j : Fin 8) : Vec F S1x1x80x256 .bf16 :=
  fun y => x ((Rect.unit (s := S1x8x320x256) ![0, j.val, 80 * h.val, 0] S1x1x80x256.size (inbV j h)).toLoadRect.idx y)

/-- What a grid point stores is the block function of its three windows. -/
theorem out_eq (c : Dev nD) (i : grid0.Coords) (arg3 : Memref sig .tc .vmem S1x256x512 .bf16) (harg3 : arg3.IsWhole)
    (arg4 : Memref sig .tc .vmem S1x2048x512 .bf16) (harg4 : arg4.IsWhole)
    (arg5 : Memref sig .tc .vmem S1x8x320x256 .bf16) (harg5 : arg5.IsWhole)
    (arg6 : Memref sig .tc .vmem S1x256x256 .bf16) (harg6 : arg6.IsWhole)
    (x0 : Vec F S1x256x512 .bf16) (x1 : Vec F S1x2048x512 .bf16) (x2 : Vec F S1x8x320x256 .bf16) :
    out0_A_3 c i arg3 harg3 arg4 harg4 arg5 harg5 arg6 harg6 x0 x1 x2
      = block (fun h => (state (tileQ x0 h) (tileK x1 h) (tileV x2 h) 8).2) := by
  have e0 : ∀ h, tileQ x0 h = View.readAt (Elt F) arg3.view
      (Rect.unit (s := S1x256x512) ![0, 0, 128 * h.val] S1x256x128.size (inbQ h)).toLoadRect (harg3.unread x0) :=
    fun h => funext fun y => (harg3.readAt_unread x0 (Rect.unit (s := S1x256x512) ![0, 0, 128 * h.val] S1x256x128.size (inbQ h)).toLoadRect y).symm
  have e1 : ∀ h j, tileK x1 h j = View.readAt (Elt F) arg4.view
      (Rect.unit (s := S1x2048x512) ![0, 256 * j.val, 128 * h.val] S1x256x128.size (inbK j h)).toLoadRect (harg4.unread x1) :=
    fun h j => funext fun y => (harg4.readAt_unread x1 (Rect.unit (s := S1x2048x512) ![0, 256 * j.val, 128 * h.val] S1x256x128.size (inbK j h)).toLoadRect y).symm
  have e2 : ∀ h j, tileV x2 h j = View.readAt (Elt F) arg5.view
      (Rect.unit (s := S1x8x320x256) ![0, j.val, 80 * h.val, 0] S1x1x80x256.size (inbV j h)).toLoadRect (harg5.unread x2) :=
    fun h j => funext fun y => (harg5.readAt_unread x2 (Rect.unit (s := S1x8x320x256) ![0, j.val, 80 * h.val, 0] S1x1x80x256.size (inbV j h)).toLoadRect y).symm
  have e1' : ∀ h, tileK x1 h = fun j => View.readAt (Elt F) arg4.view
      (Rect.unit (s := S1x2048x512) ![0, 256 * j.val, 128 * h.val] S1x256x128.size (inbK j h)).toLoadRect (harg4.unread x1) :=
    fun h => funext (e1 h)
  have e2' : ∀ h, tileV x2 h = fun j => View.readAt (Elt F) arg5.view
      (Rect.unit (s := S1x8x320x256) ![0, j.val, 80 * h.val, 0] S1x1x80x256.size (inbV j h)).toLoadRect (harg5.unread x2) :=
    fun h => funext (e2 h)
  simp only [e0, e1', e2']
  clear e0 e1 e2 e1' e2'
  unfold out0_A_3 kernelRun0_A
  dsimp only
  refine (View.read_writes_full _ _ _ _ _).trans ?_
  rfl

end Cert.AttnIdeal.Val
-- ==== Proof.ERealMath.lean ====
/- Facts about the extended reals: a nonnegative real factor distributes over sums of extended reals, infinite or not;
   and the one-pass softmax-weighted sum. -/
module

public import Idealize.ShloMosaic.PureOps.Ideal

@[expose] public section

noncomputable section

namespace Cert.ERealMath

open Idealize.ShloMosaic

/-- A nonnegative real times a sum of extended reals is the sum of the products. -/
theorem mul_sum {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, from minus infinity, of finitely many reals, at least one, is a real. -/
theorem fold_max_real {ι : Type*} (s : Finset ι) (hs : s.Nonempty) (f : ι → EReal) (r : ι → ℝ)
    (h : ∀ i, f i = (r i : EReal)) : ∃ m : ℝ, s.fold max ⊥ f = (m : EReal) := by
  classical
  induction hs using Finset.Nonempty.cons_induction with
  | singleton a => exact ⟨r a, by simp [h]⟩
  | cons a s ha hs ih =>
    obtain ⟨m, hm⟩ := ih
    refine ⟨max (r a) m, ?_⟩
    rw [Finset.fold_cons, hm, h a]
    exact (EReal.coe_strictMono.monotone.map_max).symm

/-- What an accumulator holds after the tiles `0 … n-1`: the values weighted by the powers `2 ^ (s - μ)`. -/
def wsum {T : ℕ} (v : ℕ → Fin T → EReal) (s : ℕ → Fin T → ℝ) (μ : ℝ) (n : ℕ) : EReal :=
  ∑ j ∈ Finset.range n, ∑ k : Fin T, v j k * ((Real.rpow 2 (s j k - μ) : ℝ) : EReal)

theorem rpow_shift (s μ μ' : ℝ) : Real.rpow 2 (s - μ) * Real.rpow 2 (μ - μ') = Real.rpow 2 (s - μ') := by
  have := Real.rpow_add (show (0 : ℝ) < 2 by norm_num) (s - μ) (μ - μ')
  rw [show s - μ + (μ - μ') = s - μ' by ring] at this
  exact this.symm

theorem rpow_nonneg' (x : ℝ) : 0 ≤ Real.rpow 2 x := Real.rpow_nonneg (by norm_num) x

theorem rpow_pos' (x : ℝ) : 0 < Real.rpow 2 x := Real.rpow_pos_of_pos (by norm_num) x

/-- Moving the maximum rescales the accumulator. -/
theorem wsum_rescale {T : ℕ} (v : ℕ → Fin T → EReal) (s : ℕ → Fin T → ℝ) (μ μ' : ℝ) (n : ℕ) :
    wsum v s μ n * ((Real.rpow 2 (μ - μ') : ℝ) : EReal) = wsum v s μ' n := by
  unfold wsum
  rw [mul_sum _ _ _ (rpow_nonneg' _)]
  refine Finset.sum_congr rfl fun j _ => ?_
  rw [mul_sum _ _ _ (rpow_nonneg' _)]
  refine Finset.sum_congr rfl fun k _ => ?_
  rw [mul_assoc, ← EReal.coe_mul, rpow_shift]

/-- A sum over the first `n` tiles of `T`, as one over the `N = n * T` positions. -/
theorem sum_tiles {M : Type*} [AddCommMonoid M] (n T N : ℕ) (hN : N = n * T) (f : ℕ → Fin T → M) (g : Fin N → M)
    (h : ∀ (j : Fin n) (k : Fin T) (hlt : T * j.val + k.val < N), g ⟨T * j.val + k.val, hlt⟩ = f j k) :
    ∑ j ∈ Finset.range n, ∑ k : Fin T, f j k = ∑ i, g i := by
  subst hN
  rw [Finset.sum_range, ← Fintype.sum_equiv finProdFinEquiv (fun p : Fin n × Fin T => g (finProdFinEquiv p)) g (fun _ => rfl),
    Fintype.sum_prod_type]
  refine Finset.sum_congr rfl fun j _ => Finset.sum_congr rfl fun k _ => ?_
  rw [← h j k (by have := (finProdFinEquiv (j, k)).isLt; simp only [finProdFinEquiv_apply_val] at this; omega)]
  congr 1
  apply Fin.ext
  simp only [finProdFinEquiv_apply_val]
  omega

/-- The quotient of the two accumulators is the softmax-weighted sum: with scores `S` (natural units) that are the
    kernel's times `log 2`, whatever real `μ`, `M` each side subtracts. -/
theorem softmax_eq {ι : Type*} [Fintype ι] [Nonempty ι] (v : ι → EReal) (s S : ι → ℝ) (hS : ∀ i, S i = s i * Real.log 2) (μ M : ℝ) :
    Ideal.div (∑ i, v i * ((Real.rpow 2 (s i - μ) : ℝ) : EReal)) (∑ i, 1 * ((Real.rpow 2 (s i - μ) : ℝ) : EReal))
      = ∑ i, v i * Ideal.div (Real.exp (S i - M) : EReal) (∑ j, (Real.exp (S j - M) : EReal)) := by
  classical
  have e : ∀ i, Real.rpow 2 (s i - μ) = Real.exp (S i - M) * Real.exp (M - μ * Real.log 2) := by
    intro i
    show (2 : ℝ) ^ (s i - μ) = _
    rw [Real.rpow_def_of_pos (by norm_num), ← Real.exp_add, hS]
    congr 1; ring
  set D : ℝ := ∑ j, Real.exp (S j - M) with hD
  have hDpos : 0 < D := Finset.sum_pos (fun i _ => Real.exp_pos _) Finset.univ_nonempty
  have h1 : (∑ i, 1 * ((Real.rpow 2 (s i - μ) : ℝ) : EReal)) = ((D * Real.exp (M - μ * Real.log 2) : ℝ) : EReal) := by
    simp only [one_mul, e]
    rw [← coe_sum, hD, Finset.sum_mul]
  have h2 : (∑ j, (Real.exp (S j - M) : EReal)) = (D : EReal) := by rw [← coe_sum]
  have hdiv : ∀ (x : EReal) (y : ℝ), 0 < y → Ideal.div x (y : EReal) = x * ((y⁻¹ : ℝ) : EReal) := by
    intro x y hy
    unfold Ideal.div
    rw [if_neg (by exact_mod_cast hy.ne'), EReal.coe_inv]
  have hE := Real.exp_pos (M - μ * Real.log 2)
  rw [h1, h2, hdiv _ _ (mul_pos hDpos hE), mul_sum _ _ _ (inv_nonneg.mpr (mul_pos hDpos hE).le)]
  refine Finset.sum_congr rfl fun i _ => ?_
  rw [hdiv _ _ hDpos, mul_assoc, ← EReal.coe_mul, ← EReal.coe_mul, e]
  congr 2
  field_simp

end Cert.ERealMath
-- ==== Proof.AttnPoint.lean ====
/- The attention body's steps over the extended reals, read at an index. -/
module

public import proofs.«01_k».proof.Proof.AttnBlock
public import proofs.«01_k».proof.Proof.ERealMath
public import Idealize.ShloMosaic.Lib.Pointwise

@[expose] public section

set_option maxRecDepth 16384

noncomputable section

namespace Cert.AttnIdeal.Val

open Cert.AttnIdeal Cert.AttnIdeal.Gen Idealize.ShloMosaic Idealize.ShloMosaic.TcCoe Idealize.SL.Sem Cert.ERealMath

theorem score_apply (q k : Vec Ideal S1x256x128 .bf16) (a b : Fin 256) :
    score q k (ix2 a b) = ∑ l : Fin 128, k (ix3 0 a l) * q (ix3 0 b l) := by
  unfold score
  pointwise

theorem mNew_apply (m : FVec Ideal S1x256 .f32) (s : FVec Ideal S256x256 .f32) (b : Fin 256) :
    mNew m s (ix2 0 b) = max (m (ix2 0 b)) ((Finset.univ : Finset (Fin 256)).fold max ⊥ fun a => s (ix2 a b)) := by
  unfold mNew
  pointwise
  rw [show (Ideal.ofBits FTy.f32 4286578688#32 : EReal) = ⊥ by simp [Ideal.ofBits, Ideal.ieee]]

theorem accNew_apply (m : FVec Ideal S1x256 .f32) (acc : FVec Ideal S80x256 .f32) (s : FVec Ideal S256x256 .f32)
    (v : Vec Ideal S1x1x80x256 .bf16) (r : Fin 80) (b : Fin 256) :
    accNew m acc s v (ix2 r b) = acc (ix2 r b) * Ideal.exp2 (m (ix2 0 b) - mNew m s (ix2 0 b))
      + ∑ k : Fin 256, v (ix4 0 0 r k) * Ideal.exp2 (s (ix2 k b) - mNew m s (ix2 0 b)) := by
  unfold accNew
  pointwise
  rfl

theorem quot_apply (acc : FVec Ideal S80x256 .f32) (d : Fin 64) (b : Fin 256) :
    quot acc (ix2 d b) = Ideal.div (acc (ix2 ⟨d, by omega⟩ b)) (acc (ix2 64 b)) := by
  unfold quot
  pointwise

theorem block_apply (acc : Fin 4 → FVec Ideal S80x256 .f32) (b : Fin 256) (h : Fin 4) (d : Fin 64) :
    block acc (ix3 0 b ⟨64 * h + d, by omega⟩) = quot (acc h) (ix2 d b) := by
  unfold block
  pointwise
  have hd := d.isLt
  have hh := h.isLt
  by_cases h1 : 64 * h.val + d.val < 64
  · obtain rfl : h = 0 := Fin.ext (by show h.val = 0; omega)
    refine (dif_pos h1).trans ?_
    congr 2; apply Fin.ext; simp
  refine (dif_neg h1).trans ?_
  by_cases h2 : 64 * h.val + d.val - 64 < 64
  · obtain rfl : h = 1 := Fin.ext (by show h.val = 1; omega)
    refine (dif_pos h2).trans ?_
    congr 2; apply Fin.ext; simp
  refine (dif_neg h2).trans ?_
  by_cases h3 : 64 * h.val + d.val - 64 - 64 < 64
  · obtain rfl : h = 2 := Fin.ext (by show h.val = 2; omega)
    refine (dif_pos h3).trans ?_
    congr 2; apply Fin.ext; simp; omega
  refine (dif_neg h3).trans ?_
  obtain rfl : h = 3 := Fin.ext (by show h.val = 3; omega)
  congr 2; apply Fin.ext; simp; omega

theorem tileQ_apply (x : Vec Ideal S1x256x512 .bf16) (h : Fin 4) (b : Fin 256) (l : Fin 128) :
    tileQ x h (ix3 0 b l) = x (ix3 0 b ⟨128 * h + l, by omega⟩) := by
  unfold tileQ
  congr 1
  idx_ext

theorem tileK_apply (x : Vec Ideal S1x2048x512 .bf16) (h : Fin 4) (j : Fin 8) (a : Fin 256) (l : Fin 128) :
    tileK x h j (ix3 0 a l) = x (ix3 0 ⟨256 * j + a, by omega⟩ ⟨128 * h + l, by omega⟩) := by
  unfold tileK
  congr 1
  idx_ext

theorem tileV_apply (x : Vec Ideal S1x8x320x256 .bf16) (h : Fin 4) (j : Fin 8) (r : Fin 80) (a : Fin 256) :
    tileV x h j (ix4 0 0 r a) = x (ix4 0 j ⟨80 * h + r, by omega⟩ a) := by
  unfold tileV
  congr 1
  idx_ext

/-- The position of key `a` of tile `j`. -/
def kix (j : Fin 8) (a : Fin 256) : Fin 2048 := ⟨256 * j + a, by omega⟩

/-- After one tile or more, at every query: the maximum is a real `μ`, and each accumulator row is the values' sum
    weighted by `2 ^ (s - μ)`. -/
theorem state_inv (q : Vec Ideal S1x256x128 .bf16) (k : Fin 8 → Vec Ideal S1x256x128 .bf16)
    (v : Fin 8 → Vec Ideal S1x1x80x256 .bf16) (b : Fin 256) (s : ℕ → Fin 256 → ℝ)
    (hs : ∀ j a, score q (k (Fin.ofNat 8 j)) (ix2 a b) = (s j a : EReal)) (n : ℕ) :
    ∃ μ : ℝ, (state q k v (n + 1)).1 (ix2 0 b) = (μ : EReal) ∧
      ∀ r, (state q k v (n + 1)).2 (ix2 r b) = wsum (fun j a => v (Fin.ofNat 8 j) (ix4 0 0 r a)) s μ (n + 1) := by
  obtain ⟨f, hf⟩ : ∃ f : ℕ → ℝ, ∀ j, (Finset.univ : Finset (Fin 256)).fold max ⊥
      (fun a => score q (k (Fin.ofNat 8 j)) (ix2 a b)) = (f j : EReal) := by
    choose f hf using fun j => fold_max_real (Finset.univ : Finset (Fin 256)) ⟨0, Finset.mem_univ _⟩ _ (s j) (hs j)
    exact ⟨f, hf⟩
  have e2 : ∀ x y : ℝ, Ideal.exp2 ((x : EReal) - (y : EReal)) = ((Real.rpow 2 (x - y) : ℝ) : EReal) := by
    intro x y; rw [← EReal.coe_sub, Ideal.exp2_coe]
  induction n with
  | zero =>
    have h0 : (state q k v 0).1 (ix2 0 b) = (⊥ : EReal) := by
      show (Ideal.ofBits .f32 0xFF800000#32 : EReal) = ⊥
      simp [Ideal.ofBits, Ideal.ieee]
    have h0' : ∀ r, (state q k v 0).2 (ix2 r b) = (0 : EReal) := by
      intro r
      show (Ideal.ofBits .f32 0x00000000#32 : EReal) = 0
      simp [Ideal.ofBits, Ideal.ieee]
    have hm : (state q k v 1).1 (ix2 0 b) = (f 0 : EReal) := by
      show mNew _ _ (ix2 0 b) = _
      rw [mNew_apply, h0, hf]; simp
    refine ⟨f 0, hm, fun r => ?_⟩
    show accNew _ _ _ _ (ix2 r b) = _
    rw [accNew_apply, show mNew (state q k v 0).1 (score q (k (Fin.ofNat 8 0))) (ix2 0 b) = (f 0 : EReal) from hm, h0', zero_mul, zero_add]
    unfold wsum
    rw [Finset.sum_range_one]
    refine Finset.sum_congr rfl fun a _ => ?_
    rw [hs, e2]
  | succ n ih =>
    obtain ⟨μ, hμ, hacc⟩ := ih
    have hm : (state q k v (n + 1 + 1)).1 (ix2 0 b) = ((max μ (f (n + 1)) : ℝ) : EReal) := by
      show mNew _ _ (ix2 0 b) = _
      rw [mNew_apply, hμ, hf]
      exact (EReal.coe_strictMono.monotone.map_max).symm
    refine ⟨_, hm, fun r => ?_⟩
    show accNew _ _ _ _ (ix2 r b) = _
    rw [accNew_apply, show mNew (state q k v (n + 1)).1 (score q (k (Fin.ofNat 8 (n + 1)))) (ix2 0 b) = _ from hm, hacc, hμ, e2, wsum_rescale]
    unfold wsum
    rw [Finset.sum_range_succ _ (n + 1)]
    congr 1
    refine Finset.sum_congr rfl fun a _ => ?_
    rw [hs, e2]

/-- One head of one query: with real scores `s` (in the kernel's units) and ones in row 64 of the values, the head's
    result is the softmax of the natural-unit scores `S` times the values. -/
theorem head_eq (q : Vec Ideal S1x256x128 .bf16) (k : Fin 8 → Vec Ideal S1x256x128 .bf16)
    (v : Fin 8 → Vec Ideal S1x1x80x256 .bf16) (b : Fin 256) (d : Fin 64) (w : Fin 2048 → EReal) (s S : Fin 2048 → ℝ) (M : ℝ)
    (hs : ∀ j a, score q (k j) (ix2 a b) = (s (kix j a) : EReal))
    (hS : ∀ i, S i = s i * Real.log 2)
    (hv : ∀ j a, v j (ix4 0 0 ⟨d, by omega⟩ a) = w (kix j a))
    (h1 : ∀ j a, v j (ix4 0 0 64 a) = 1) :
    quot (state q k v 8).2 (ix2 d b)
      = ∑ i, w i * Ideal.div (Real.exp (S i - M) : EReal) (∑ j, (Real.exp (S j - M) : EReal)) := by
  obtain ⟨μ, -, hacc⟩ := state_inv q k v b (fun j a => s (kix (Fin.ofNat 8 j) a)) (fun j a => hs _ a) 7
  rw [quot_apply, hacc, hacc, ← softmax_eq w s S hS μ M]
  have hcast : ∀ j : Fin 8, Fin.ofNat 8 j.val = j := by decide
  unfold wsum
  refine congrArg₂ Ideal.div (sum_tiles (M := EReal) 8 256 2048 rfl _ _ fun j a _ => ?_)
    (sum_tiles (M := EReal) 8 256 2048 rfl _ _ fun j a _ => ?_)
  · simp only [hcast, hv]; rfl
  · simp only [hcast]; rw [h1]; rfl

end Cert.AttnIdeal.Val
-- ==== Proof.AttnHost.lean ====
/- The arrays the attention kernel's host code prepares, read at an index: scaled and padded queries, keys joined with
   the shared rotary part, transposed values with rows of ones. -/
module

public import proofs.«01_k».proof.Proof.AttnPoint
public import Idealize.ShloMosaic.Lib.StableHlo.RunRead

@[expose] public section

set_option maxRecDepth 16384

noncomputable section

namespace Cert.AttnIdeal.Val

open Cert.AttnIdeal Cert.AttnIdeal.Gen Idealize.ShloMosaic Idealize.ShloMosaic.TcCoe Idealize.SL.Sem Cert.ERealMath

variable (m : (ℓ : Loc nD τ sig) → Buf (Elt Ideal) ℓ)

/-- The kernel's factor on the queries: the scale over `log 2`. -/
def cq : EReal := Ideal.div (Ideal.ofBits .f32 0x3DD105EC#32) (Ideal.log (Ideal.ofBits .f32 0x40000000#32))

def q3 (x : FVec Ideal S32x2048x4x96 .f32) : FVec Ideal S32x2048x512 .bf16 :=
  shapeCast S32x2048x512 (truncf .bf16 (pad S32x2048x4x128 ![0, 0, 0, 0] ![0, 0, 0, 32] ![0, 0, 0, 0]
    (mulf x (broadcastInDim S32x2048x4x96 ![] bcast_S_S32x2048x4x96
      (Host.divf (constant S_ .f32 0x3DD105EC#32) (Host.log (constant S_ .f32 0x40000000#32)))))
    (sitofp .f32 (constantI S_ 32 0#32)) pads_S32x2048x4x96_S32x2048x4x128_000_000_000_0320 h_S_) bitsLt_bf16_f32)
    shapeCasts_S32x2048x4x128_S32x2048x512

def k3 (x : FVec Ideal S32x2048x4x64 .f32) (y : FVec Ideal S32x2048x32 .f32) : FVec Ideal S32x2048x512 .bf16 :=
  shapeCast S32x2048x512 (truncf .bf16 (pad S32x2048x4x128 ![0, 0, 0, 0] ![0, 0, 0, 32] ![0, 0, 0, 0]
    (concatenate S32x2048x4x96 3 [⟨S32x2048x4x64, x⟩, ⟨S32x2048x4x32,
      broadcastInDim S32x2048x4x32 ![0, 1, 2, 3] bcast_S32x2048x1x32_S32x2048x4x32_0_1_2_3
        (broadcastInDim S32x2048x1x32 ![0, 1, 3] bcast_S32x2048x32_S32x2048x1x32_0_1_3 y)⟩]
      concatenates_S32x2048x4x64_S32x2048x4x32_S32x2048x4x96_d3)
    (sitofp .f32 (constantI S_ 32 0#32)) pads_S32x2048x4x96_S32x2048x4x128_000_000_000_0320 h_S_) bitsLt_bf16_f32)
    shapeCasts_S32x2048x4x128_S32x2048x512

def vt (x : FVec Ideal S32x2048x4x64 .f32) : FVec Ideal S32x8x320x256 .bf16 :=
  truncf .bf16 (shapeCast S32x8x320x256 (concatenate S32x8x4x80x256 3 [⟨S32x8x4x64x256,
      transpose S32x8x4x64x256 [0, 1, 3, 4, 2] (shapeCast S32x8x256x4x64 x shapeCasts_S32x2048x4x64_S32x8x256x4x64)
        transposes_S32x8x256x4x64_S32x8x4x64x256_0_1_3_4_2⟩,
      ⟨S32x8x4x16x256, broadcastInDim S32x8x4x16x256 ![] bcast_S_S32x8x4x16x256 (constant S_ .f32 0x3F800000#32)⟩]
      concatenates_S32x8x4x64x256_S32x8x4x16x256_S32x8x4x80x256_d3) shapeCasts_S32x8x4x80x256_S32x8x320x256) bitsLt_bf16_f32

theorem V_q (c : Dev nD) : V m c main_v6 = q3 (m ((c : Thread nD τ).loc main_arg0)) := by
  unfold V
  after_reads_simp <;> rfl

theorem V_k (c : Dev nD) : V m c main_v12 = k3 (m ((c : Thread nD τ).loc main_arg1)) (m ((c : Thread nD τ).loc main_arg2)) := by
  unfold V
  after_reads_simp <;> rfl

theorem V_v (c : Dev nD) : V m c main_v18 = vt (m ((c : Thread nD τ).loc main_arg3)) := by
  unfold V
  after_reads_simp <;> rfl

theorem q3_lt (x : FVec Ideal S32x2048x4x96 .f32) (b : Fin 32) (n : Fin 2048) (h : Fin 4) (l : Fin 96) :
    q3 x (ix3 b n ⟨128 * h + l, by omega⟩) = x (ix4 b n h l) * cq := by
  unfold q3
  pointwise
  have e : (128 * h.val + l.val) % 128 = l.val := by omega
  refine (dif_pos (by omega)).trans ?_
  show x _ * cq = x _ * cq
  congr 3
  exact Fin.ext e

theorem q3_ge (x : FVec Ideal S32x2048x4x96 .f32) (b : Fin 32) (n : Fin 2048) (h : Fin 4) (l : Fin 32) :
    q3 x (ix3 b n ⟨128 * h + (96 + l), by omega⟩) = 0 := by
  unfold q3
  pointwise
  refine (dif_neg (by omega)).trans ?_
  show (((0#32).toInt : ℝ) : EReal) = 0
  simp

theorem vt_lt (x : FVec Ideal S32x2048x4x64 .f32) (b : Fin 32) (j : Fin 8) (h : Fin 4) (d : Fin 64) (a : Fin 256) :
    vt x (ix4 b j ⟨80 * h + d, by omega⟩ a) = x (ix4 b ⟨256 * j + a, by omega⟩ h d) := by
  unfold vt
  pointwise
  have e : (80 * h.val + d.val) % 80 = d.val := by omega
  refine (dif_pos (by omega)).trans ?_
  congr 1
  idx_ext

theorem vt_64 (x : FVec Ideal S32x2048x4x64 .f32) (b : Fin 32) (j : Fin 8) (h : Fin 4) (a : Fin 256) :
    vt x (ix4 b j ⟨80 * h + 64, by omega⟩ a) = 1 := by
  unfold vt
  pointwise
  exact dif_neg (by omega)

theorem k3_lt (x : FVec Ideal S32x2048x4x64 .f32) (y : FVec Ideal S32x2048x32 .f32) (b : Fin 32) (n : Fin 2048)
    (h : Fin 4) (l : Fin 64) : k3 x y (ix3 b n ⟨128 * h + l, by omega⟩) = x (ix4 b n h l) := by
  unfold k3
  pointwise
  have e : (128 * h.val + l.val) % 128 = l.val := by omega
  refine (dif_pos (by omega)).trans ((dif_pos (by omega)).trans ?_)
  congr 1
  idx_ext

theorem k3_mid (x : FVec Ideal S32x2048x4x64 .f32) (y : FVec Ideal S32x2048x32 .f32) (b : Fin 32) (n : Fin 2048)
    (h : Fin 4) (l : Fin 32) : k3 x y (ix3 b n ⟨128 * h + (64 + l), by omega⟩) = y (ix3 b n l) := by
  unfold k3
  pointwise
  have e : (128 * h.val + (64 + l.val)) % 128 = 64 + l.val := by omega
  refine (dif_pos (by omega)).trans ((dif_neg (by omega)).trans ?_)
  congr 1
  idx_ext

end Cert.AttnIdeal.Val
-- ==== Proof.AttnFinite.lean ====
/- What the attention claim's precondition says of the arrays: every entry of the queries and of the keys is a real number. -/
module

public import proofs.«01_k».proof.Proof.Gen.Pre_finite
public import Idealize.ShloMosaic.Lib.ReduceAll
public import proofs.«01_k».proof.Proof.ERealMath
public import Idealize.ShloMosaic.Lib.Pointwise

@[expose] public section

set_option maxRecDepth 16384

noncomputable section

open Idealize.ShloMosaic Idealize.SL.Sem

namespace Cert.Pre_finite.Val

open Cert.Pre_finite Cert.Pre_finite.Gen

theorem lt_top_real (x : EReal) (h : Ideal.cmp .olt (max x (-x)) (Ideal.ofBits .f32 0x7F800000#32) = 1#1) : ∃ r : ℝ, x = ↑r := by
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => exact ⟨r, rfl⟩

theorem finite_of (q : FVec Ideal S32x2048x4x96 .f32) (kn : FVec Ideal S32x2048x4x64 .f32)
    (kr : FVec Ideal S32x2048x32 .f32) (v : FVec Ideal S32x2048x4x64 .f32) (h : ∀ i, fn q kn kr v i = 1#1) :
    (∀ i, ∃ r : ℝ, q i = ↑r) ∧ (∀ i, ∃ r : ℝ, kn i = ↑r) ∧ (∀ i, ∃ r : ℝ, kr i = ↑r) := by
  have h0 := h (fun a => a.elim0)
  dsimp only [fn] at h0
  obtain ⟨h1, h2⟩ := IntOp.andi_eq_one.mp h0
  obtain ⟨h3, h4⟩ := IntOp.andi_eq_one.mp h1
  haveI : Subsingleton S_.Idx := ⟨fun a b => funext fun x => x.elim0⟩
  exact ⟨fun i => lt_top_real _ (Host.reduce_andi_all _ _ _ _ _ h3 i), fun i => lt_top_real _ (Host.reduce_andi_all _ _ _ _ _ h4 i),
    fun i => lt_top_real _ (Host.reduce_andi_all _ _ _ _ _ h2 i)⟩

end Cert.Pre_finite.Val

namespace Cert.AttnSpec

theorem scale_real : ∃ r : ℝ, Ideal.ofBits .f32 0x3DD105EC#32 = ↑r := by
  have h : Ideal.ofBits .f32 0x3DD105EC#32 ≠ ⊥ ∧ Ideal.ofBits .f32 0x3DD105EC#32 ≠ ⊤ := by
    simp only [Ideal.ofBits, Ideal.ieee]
    rw [if_neg (by decide), if_neg (by decide)]
    exact ⟨EReal.coe_ne_bot _, EReal.coe_ne_top _⟩
  exact ⟨_, (EReal.coe_toReal h.2 h.1).symm⟩

theorem two_real : Ideal.ofBits .f32 0x40000000#32 = ((2 : ℝ) : EReal) := by
  simp [Ideal.ofBits, Ideal.ieee]
  rw [← EReal.coe_mul]
  norm_num

end Cert.AttnSpec
-- ==== Proof.AttnRef.lean ====
/- The attention reference's result, read at an index: the softmax of the scaled scores times the values. -/
module

public import proofs.«01_k».proof.Proof.Gen.AttnRefIdeal.Run
public import Idealize.ShloMosaic.Lib.Pointwise

@[expose] public section

set_option maxRecDepth 16384

noncomputable section

namespace Cert.AttnSpec

open Idealize.ShloMosaic

/-- The scaled score of query `n` against key `i` of head `h`, batch `b`. -/
def sc (q : Vec Ideal ⟨4, ![32, 2048, 4, 96]⟩ .f32) (kn : Vec Ideal ⟨4, ![32, 2048, 4, 64]⟩ .f32)
    (kr : Vec Ideal ⟨3, ![32, 2048, 32]⟩ .f32) (b : Fin 32) (h : Fin 4) (n i : Fin 2048) : EReal :=
  ((∑ l : Fin 64, q (ix4 b n h ⟨l, by omega⟩) * kn (ix4 b i h l))
    + ∑ l : Fin 32, kr (ix3 b i l) * q (ix4 b n h ⟨64 + l, by omega⟩)) * Ideal.ofBits .f32 0x3DD105EC#32

/-- The largest score of query `n`. -/
def mx (q : Vec Ideal ⟨4, ![32, 2048, 4, 96]⟩ .f32) (kn : Vec Ideal ⟨4, ![32, 2048, 4, 64]⟩ .f32)
    (kr : Vec Ideal ⟨3, ![32, 2048, 32]⟩ .f32) (b : Fin 32) (h : Fin 4) (n : Fin 2048) : EReal :=
  (Finset.univ : Finset (Fin 2048)).fold max ⊥ (sc q kn kr b h n)

/-- The attention's result. -/
def out (q : Vec Ideal ⟨4, ![32, 2048, 4, 96]⟩ .f32) (kn : Vec Ideal ⟨4, ![32, 2048, 4, 64]⟩ .f32)
    (kr : Vec Ideal ⟨3, ![32, 2048, 32]⟩ .f32) (v : Vec Ideal ⟨4, ![32, 2048, 4, 64]⟩ .f32)
    (b : Fin 32) (n : Fin 2048) (h : Fin 4) (d : Fin 64) : EReal :=
  ∑ i : Fin 2048, v (ix4 b i h d) * Ideal.div (Ideal.exp (sc q kn kr b h n i - mx q kn kr b h n))
    (∑ j : Fin 2048, Ideal.exp (sc q kn kr b h n j - mx q kn kr b h n))

end Cert.AttnSpec

namespace Cert.AttnRefIdeal.Val

open Cert.AttnRefIdeal Cert.AttnRefIdeal.Gen Idealize.ShloMosaic Idealize.ShloMosaic.TcCoe Idealize.SL.Sem

/-- The array of scaled scores. -/
def scores (q : FVec Ideal S32x2048x4x96 .f32) (kn : FVec Ideal S32x2048x4x64 .f32) (kr : FVec Ideal S32x2048x32 .f32) :
    FVec Ideal S32x4x2048x2048 .f32 :=
  mulf (addf (Host.dotGeneral dot_S32x2048x4x64_S32x2048x4x64_S32x4x2048x2048_3_3_1_1_02_02 none
      (extractStridedSlice S32x2048x4x64 ![0, 0, 0, 0] q slices_S32x2048x4x96_S32x2048x4x64_0_0_0_0) kn)
    (transpose S32x4x2048x2048 [0, 3, 2, 1] (Host.dotGeneral dot_S32x2048x32_S32x2048x4x32_S32x2048x2048x4_2_3_1_12_0_0 none kr
      (extractStridedSlice S32x2048x4x32 ![0, 0, 0, 64] q slices_S32x2048x4x96_S32x2048x4x32_0_0_0_64))
      transposes_S32x2048x2048x4_S32x4x2048x2048_0_3_2_1))
    (broadcastInDim S32x4x2048x2048 ![] bcast_S_S32x4x2048x2048 (constant S_ .f32 0x3DD105EC#32))

/-- The exponentials of the scores less a bound for each query. -/
def expoBy (S : FVec Ideal S32x4x2048x2048 .f32) (R : FVec Ideal S32x4x2048 .f32) : FVec Ideal S32x4x2048x2048 .f32 :=
  Host.exp (subf S (broadcastInDim S32x4x2048x2048 ![0, 1, 2, 3] bcast_S32x4x2048x1_S32x4x2048x2048_0_1_2_3
    (broadcastInDim S32x4x2048x1 ![0, 1, 2] bcast_S32x4x2048_S32x4x2048x1_0_1_2
      (maximumf (broadcastInDim S32x4x2048 ![] bcast_S_S32x4x2048 (constant S_ .f32 0xFF800000#32)) R))))

/-- The exponentials of the scores less their largest. -/
def expo (S : FVec Ideal S32x4x2048x2048 .f32) : FVec Ideal S32x4x2048x2048 .f32 :=
  expoBy S (Host.reduce FloatOps.maximumf S (constant S_ .f32 0xFF800000#32) reducesTo_S32x4x2048x2048_S32x4x2048_d3 h_S_)

/-- The exponentials over their sum. -/
def norm (E : FVec Ideal S32x4x2048x2048 .f32) : FVec Ideal S32x4x2048x2048 .f32 :=
  Host.divf E (broadcastInDim S32x4x2048x2048 ![0, 1, 2, 3] bcast_S32x4x2048x1_S32x4x2048x2048_0_1_2_3
    (broadcastInDim S32x4x2048x1 ![0, 1, 2] bcast_S32x4x2048_S32x4x2048x1_0_1_2
      (Host.reduceAdd E (constant S_ .f32 0x00000000#32) reducesTo_S32x4x2048x2048_S32x4x2048_d3 h_S_)))

/-- The weights times the values, laid out as the result. -/
def mix (v : FVec Ideal S32x2048x4x64 .f32) (P : FVec Ideal S32x4x2048x2048 .f32) : FVec Ideal S32x2048x256 .bf16 :=
  truncf .bf16 (shapeCast S32x2048x256 (transpose S32x2048x4x64 [0, 3, 1, 2]
    (Host.dotGeneral dot_S32x2048x4x64_S32x4x2048x2048_S32x4x64x2048_1_3_3_2_02_01 none v P)
    transposes_S32x4x64x2048_S32x2048x4x64_0_3_1_2) shapeCasts_S32x2048x4x64_S32x2048x256) bitsLt_bf16_f32

theorem res_eq (m : (ℓ : Loc nD τ sig) → Buf (Elt Ideal) ℓ) (c : Dev nD) :
    Value.res_out0 m c = mix (m ((c.tc : Thread nD τ).loc main_arg3)) (norm (expo (scores (m ((c.tc : Thread nD τ).loc main_arg0))
      (m ((c.tc : Thread nD τ).loc main_arg1)) (m ((c.tc : Thread nD τ).loc main_arg2))))) := by
  unfold Value.res_out0 Value.res_main_v22 mix norm expo expoBy scores
  rfl

theorem scores_apply (q : FVec Ideal S32x2048x4x96 .f32) (kn : FVec Ideal S32x2048x4x64 .f32) (kr : FVec Ideal S32x2048x32 .f32)
    (b : Fin 32) (h : Fin 4) (n i : Fin 2048) : scores q kn kr (ix4 b h n i) = AttnSpec.sc q kn kr b h n i := by
  unfold scores AttnSpec.sc
  pointwise

theorem rowMax {n0 n1 n2 n3 : ℕ} {u : Shape} (x : FVec Ideal ⟨4, ![n0, n1, n2, n3]⟩ .f32) (init : FVec Ideal u .f32)
    (hr : (⟨4, ![n0, n1, n2, n3]⟩ : Shape).ReducesTo [3] ⟨3, ![n0, n1, n2]⟩) (hu : 0 < u.numel) (a : Fin n0) (b : Fin n1) (c : Fin n2) :
    Host.reduce FloatOps.maximumf x init hr hu (ix3 a b c)
      = (Finset.univ : Finset (Fin n3)).fold max (init (Shape.Idx.first hu)) (fun k => x (ix4 a b c k)) := by
  pointwise

theorem expoBy_apply (S : FVec Ideal S32x4x2048x2048 .f32) (R : FVec Ideal S32x4x2048 .f32) (b : Fin 32) (h : Fin 4) (n i : Fin 2048) :
    expoBy S R (ix4 b h n i) = Ideal.exp (S (ix4 b h n i) - max (Ideal.ofBits FTy.f32 4286578688#32) (R (ix3 b h n))) := by
  unfold expoBy
  pointwise

theorem negInf : Ideal.ofBits FTy.f32 4286578688#32 = ⊥ := by simp [Ideal.ofBits, Ideal.ieee]

theorem expo_apply (S : FVec Ideal S32x4x2048x2048 .f32) (b : Fin 32) (h : Fin 4) (n i : Fin 2048) :
    expo S (ix4 b h n i) = Ideal.exp (S (ix4 b h n i) - (Finset.univ : Finset (Fin 2048)).fold max ⊥ (fun j => S (ix4 b h n j))) := by
  refine (expoBy_apply S _ b h n i).trans ?_
  rw [negInf, max_eq_right bot_le]
  refine congrArg (fun r => Ideal.exp (S (ix4 b h n i) - r)) ?_
  refine (rowMax S _ _ _ b h n).trans ?_
  refine congrArg (fun r => Finset.fold max r (fun k => S (ix4 b h n k)) Finset.univ) ?_
  exact negInf

theorem norm_apply (E : FVec Ideal S32x4x2048x2048 .f32) (b : Fin 32) (h : Fin 4) (n i : Fin 2048) :
    norm E (ix4 b h n i) = Ideal.div (E (ix4 b h n i)) (∑ j : Fin 2048, E (ix4 b h n j)) := by
  unfold norm
  pointwise

theorem mix_apply (v : FVec Ideal S32x2048x4x64 .f32) (P : FVec Ideal S32x4x2048x2048 .f32) (b : Fin 32) (n : Fin 2048)
    (h : Fin 4) (d : Fin 64) :
    mix v P (ix3 b n ⟨64 * h + d, by omega⟩) = ∑ i : Fin 2048, v (ix4 b i h d) * P (ix4 b h n i) := by
  unfold mix
  pointwise

theorem res_apply (m : (ℓ : Loc nD τ sig) → Buf (Elt Ideal) ℓ) (c : Dev nD) (b : Fin 32) (n : Fin 2048) (h : Fin 4) (d : Fin 64) :
    Value.res_out0 m c (ix3 b n ⟨64 * h + d, by omega⟩)
      = AttnSpec.out (m ((c.tc : Thread nD τ).loc main_arg0)) (m ((c.tc : Thread nD τ).loc main_arg1))
          (m ((c.tc : Thread nD τ).loc main_arg2)) (m ((c.tc : Thread nD τ).loc main_arg3)) b n h d := by
  rw [res_eq, mix_apply]
  simp only [norm_apply, expo_apply, scores_apply]
  rfl

end Cert.AttnRefIdeal.Val
-- ==== Proof.AttnScore.lean ====
/- The attention kernel's scores and softmax, from the arrays its host code prepares, are the reference's: on real queries and keys
   the kernel's head is `AttnSpec.out`. -/
module

public import proofs.«01_k».proof.Proof.AttnHost
public import proofs.«01_k».proof.Proof.AttnFinite
public import proofs.«01_k».proof.Proof.AttnRef

@[expose] public section

set_option maxRecDepth 16384

noncomputable section

namespace Cert.AttnIdeal.Val

open Cert.AttnIdeal Cert.AttnIdeal.Gen Idealize.ShloMosaic Idealize.ShloMosaic.TcCoe Idealize.SL.Sem Cert.ERealMath

theorem cq_eq (c : ℝ) (hc : Ideal.ofBits .f32 0x3DD105EC#32 = ↑c) : cq = ↑(c / Real.log 2) := by
  have hl : Real.log 2 ≠ 0 := (Real.log_pos (by norm_num)).ne'
  unfold cq
  rw [hc, AttnSpec.two_real, Ideal.log_coe, if_neg (by norm_num), Ideal.div, if_neg (by exact_mod_cast hl), ← EReal.coe_inv,
    ← EReal.coe_mul, div_eq_mul_inv]

/-- A sum over 128 lanes in its parts of 64, 32 and 32. -/
theorem sum_lanes (f : Fin 128 → EReal) : ∑ l : Fin 128, f l
    = ∑ l : Fin 64, f ⟨l, by omega⟩ + (∑ l : Fin 32, f ⟨64 + l, by omega⟩ + ∑ l : Fin 32, f ⟨96 + l, by omega⟩) := by
  have e : ∑ l : Fin 128, f l = ∑ l : Fin (64 + (32 + 32)), f ⟨l, by omega⟩ := rfl
  rw [e, Fin.sum_univ_add, Fin.sum_univ_add]
  refine congrArg₂ _ rfl (congrArg₂ _ rfl (Finset.sum_congr rfl fun l _ => congrArg f (Fin.ext ?_)))
  show 64 + (32 + l.val) = 96 + l.val
  omega

section
variable (Q : FVec Ideal S32x2048x4x96 .f32) (Kn : FVec Ideal S32x2048x4x64 .f32) (Kr : FVec Ideal S32x2048x32 .f32)
  (W : FVec Ideal S32x2048x4x64 .f32)
  (hQ : ∀ i, ∃ r : ℝ, Q i = ↑r) (hKn : ∀ i, ∃ r : ℝ, Kn i = ↑r) (hKr : ∀ i, ∃ r : ℝ, Kr i = ↑r)
include hQ hKn hKr

/-- On real arrays the reference's scores are real. -/
theorem sc_real (b : Fin 32) (h : Fin 4) (n i : Fin 2048) : ∃ r : ℝ, AttnSpec.sc Q Kn Kr b h n i = ↑r := by
  choose q hq using hQ
  choose kn hkn using hKn
  choose kr hkr using hKr
  obtain ⟨c, hc⟩ := AttnSpec.scale_real
  refine ⟨((∑ l : Fin 64, q (ix4 b n h ⟨l, by omega⟩) * kn (ix4 b i h l))
    + ∑ l : Fin 32, kr (ix3 b i l) * q (ix4 b n h ⟨64 + l, by omega⟩)) * c, ?_⟩
  unfold AttnSpec.sc
  simp only [hq, hkn, hkr, hc, EReal.coe_mul, EReal.coe_add, coe_sum]

/-- The kernel's product of a key row and a query row, the score over `log 2`. -/
theorem dot_eq (b : Fin 32) (h : Fin 4) (n i : Fin 2048) (S : ℝ) (hS : AttnSpec.sc Q Kn Kr b h n i = ↑S) :
    ∑ l : Fin 128, k3 Kn Kr (ix3 b i ⟨128 * h + l, by omega⟩) * q3 Q (ix3 b n ⟨128 * h + l, by omega⟩) = ↑(S / Real.log 2) := by
  choose q hq using hQ
  choose kn hkn using hKn
  choose kr hkr using hKr
  obtain ⟨c, hc⟩ := AttnSpec.scale_real
  have e : S = ((∑ l : Fin 64, q (ix4 b n h ⟨l, by omega⟩) * kn (ix4 b i h l))
    + ∑ l : Fin 32, kr (ix3 b i l) * q (ix4 b n h ⟨64 + l, by omega⟩)) * c := by
    have : ((S : ℝ) : EReal) = ↑(((∑ l : Fin 64, q (ix4 b n h ⟨l, by omega⟩) * kn (ix4 b i h l))
      + ∑ l : Fin 32, kr (ix3 b i l) * q (ix4 b n h ⟨64 + l, by omega⟩)) * c) := by
      rw [← hS]
      unfold AttnSpec.sc
      simp only [hq, hkn, hkr, hc, EReal.coe_mul, EReal.coe_add, coe_sum]
    exact_mod_cast this
  rw [sum_lanes]
  have p1 : ∀ l : Fin 64, k3 Kn Kr (ix3 b i ⟨128 * h + l, by omega⟩) * q3 Q (ix3 b n ⟨128 * h + l, by omega⟩)
      = ↑(q (ix4 b n h ⟨l, by omega⟩) * kn (ix4 b i h l) * (c / Real.log 2)) := fun l => by
    rw [k3_lt Kn Kr b i h l, q3_lt Q b n h ⟨l, by omega⟩, hq, hkn, cq_eq c hc, ← EReal.coe_mul, ← EReal.coe_mul]
    congr 1; ring
  have p2 : ∀ l : Fin 32, k3 Kn Kr (ix3 b i ⟨128 * h + (64 + l), by omega⟩) * q3 Q (ix3 b n ⟨128 * h + (64 + l), by omega⟩)
      = ↑(kr (ix3 b i l) * q (ix4 b n h ⟨64 + l, by omega⟩) * (c / Real.log 2)) := fun l => by
    rw [k3_mid Kn Kr b i h l, q3_lt Q b n h ⟨64 + l, by omega⟩, hq, hkr, cq_eq c hc, ← EReal.coe_mul, ← EReal.coe_mul]
    congr 1; ring
  have p3 : ∀ l : Fin 32, k3 Kn Kr (ix3 b i ⟨128 * h + (96 + l), by omega⟩) * q3 Q (ix3 b n ⟨128 * h + (96 + l), by omega⟩) = 0 :=
    fun l => by rw [q3_ge Q b n h l, mul_zero]
  rw [Finset.sum_congr rfl fun l _ => p1 l, Finset.sum_congr rfl fun l _ => p2 l, Finset.sum_congr rfl fun l _ => p3 l,
    Finset.sum_const_zero, add_zero, ← coe_sum, ← coe_sum, ← EReal.coe_add, ← Finset.sum_mul, ← Finset.sum_mul, e]
  congr 1; ring

/-- A head of the kernel's block, on tiles of the prepared arrays, is the reference's result. -/
theorem head_out (b : Fin 32) (h : Fin 4) (n : Fin 2048) (d : Fin 64) (q : Vec Ideal S1x256x128 .bf16)
    (k : Fin 8 → Vec Ideal S1x256x128 .bf16) (v : Fin 8 → Vec Ideal S1x1x80x256 .bf16) (a' : Fin 256)
    (hq : ∀ l : Fin 128, q (ix3 0 a' l) = q3 Q (ix3 b n ⟨128 * h + l, by omega⟩))
    (hk : ∀ (j : Fin 8) (a : Fin 256) (l : Fin 128), k j (ix3 0 a l) = k3 Kn Kr (ix3 b (kix j a) ⟨128 * h + l, by omega⟩))
    (hv : ∀ (j : Fin 8) (r : Fin 80) (a : Fin 256), v j (ix4 0 0 r a) = vt W (ix4 b j ⟨80 * h + r, by omega⟩ a)) :
    quot (F := Ideal) (state q k v 8).2 (ix2 d a') = AttnSpec.out Q Kn Kr W b n h d := by
  choose S hS using sc_real Q Kn Kr hQ hKn hKr b h n
  obtain ⟨M, hM⟩ := fold_max_real (Finset.univ : Finset (Fin 2048)) Finset.univ_nonempty _ S hS
  have hM' : AttnSpec.mx Q Kn Kr b h n = ↑M := hM
  refine (head_eq q k v a' d (fun i => W (ix4 b i h d)) (fun i => S i / Real.log 2) S M (fun j a => ?_) (fun i => ?_)
    (fun j a => ?_) (fun j a => ?_)).trans ?_
  · rw [score_apply]
    refine (Finset.sum_congr rfl fun l _ => ?_).trans (dot_eq Q Kn Kr hQ hKn hKr b h n (kix j a) _ (hS _))
    exact congrArg₂ (fun x y : EReal => x * y) (hk j a l) (hq l)
  · have : Real.log 2 ≠ 0 := (Real.log_pos (by norm_num)).ne'
    field_simp
  · exact (hv j ⟨d, by omega⟩ a).trans (vt_lt W b j h d a)
  · exact (hv j 64 a).trans (vt_64 W b j h a)
  · unfold AttnSpec.out
    refine Finset.sum_congr rfl fun i _ => ?_
    simp only [hS, hM', ← EReal.coe_sub, Ideal.exp_coe]
end

end Cert.AttnIdeal.Val
-- ==== Proof.AttnWin.lean ====
/- The attention kernel's windows: what each reads of the prepared arrays, and how the result's blocks cover its array. -/
module

public import proofs.«01_k».proof.Proof.Gen.AttnIdeal.Value
public import Idealize.ShloMosaic.Lib.Pointwise
public import Idealize.ShloMosaic.Lib.Pipeline.Value

@[expose] public section

set_option maxRecDepth 16384

noncomputable section

namespace Cert.AttnIdeal.Val

open Cert.AttnIdeal Cert.AttnIdeal.Gen Idealize.ShloMosaic Idealize.ShloMosaic.TcCoe Idealize.SL.Sem

variable (m : (ℓ : Loc nD τ sig) → Buf (Elt Ideal) ℓ) (ρ : Dev nD → PrngReg)

theorem hi0 : ∀ t : Fin cfg0.N, win0_0.index t 0 = t.val / 8 ∧ win0_0.index t 1 = t.val % 8 ∧ win0_0.index t 2 = 0 := by
  decide +kernel
theorem hi1 : ∀ t : Fin cfg0.N, win0_1.index t 0 = t.val / 8 ∧ win0_1.index t 1 = 0 ∧ win0_1.index t 2 = 0 := by
  decide +kernel
theorem hi2 : ∀ t : Fin cfg0.N, win0_2.index t 0 = t.val / 8 ∧ win0_2.index t 1 = 0 ∧ win0_2.index t 2 = 0
    ∧ win0_2.index t 3 = 0 := by
  decide +kernel
theorem hi3 : ∀ t : Fin cfg0.N, win0_3.index t 0 = t.val / 8 ∧ win0_3.index t 1 = t.val % 8 ∧ win0_3.index t 2 = 0 := by
  decide +kernel
theorem hx3 : ∀ t : Fin cfg0.N, win0_3.xsize (grid0.coords t) 0 = 1 ∧ win0_3.xsize (grid0.coords t) 1 = 256
    ∧ win0_3.xsize (grid0.coords t) 2 = 256 := by
  decide +kernel

theorem tlt (t : Fin cfg0.N) : t.val < 256 := N_0 ▸ t.isLt

/-- Point `t`'s batch and the row of the arrays its query row `a` is. -/
def bt (t : Fin cfg0.N) : Fin 32 := ⟨t.val / 8, by have := tlt t; omega⟩
def nt (t : Fin cfg0.N) (a : Fin 256) : Fin 2048 := ⟨256 * (t.val % 8) + a, by omega⟩

theorem blk0 (c : Dev nD) (t : Fin cfg0.N) (a : Fin 256) (l : Fin 512) :
    iblk m c 0 t (ix3 0 a l) = V m c main_v6 (ix3 (bt t) (nt t a) l) := by
  have hi := hi0 t
  unfold iblk
  rw [View.read_apply]
  show V m c main_v6 _ = V m c main_v6 _
  congr 1
  funext x
  apply Fin.ext
  match x with
  | ⟨0, _⟩ => show win0_0.index t 0 * 1 + 1 * 0 = t.val / 8; rw [hi.1]; omega
  | ⟨1, _⟩ => show win0_0.index t 1 * 256 + 1 * a.val = 256 * (t.val % 8) + a.val; rw [hi.2.1]; omega
  | ⟨2, _⟩ => show win0_0.index t 2 * 512 + 1 * l.val = l.val; rw [hi.2.2]; omega

theorem blk1 (c : Dev nD) (t : Fin cfg0.N) (a : Fin 2048) (l : Fin 512) :
    iblk m c 1 t (ix3 0 a l) = V m c main_v12 (ix3 (bt t) a l) := by
  have hi := hi1 t
  unfold iblk
  rw [View.read_apply]
  show V m c main_v12 _ = V m c main_v12 _
  congr 1
  funext x
  apply Fin.ext
  match x with
  | ⟨0, _⟩ => show win0_1.index t 0 * 1 + 1 * 0 = t.val / 8; rw [hi.1]; omega
  | ⟨1, _⟩ => show win0_1.index t 1 * 2048 + 1 * a.val = a.val; rw [hi.2.1]; omega
  | ⟨2, _⟩ => show win0_1.index t 2 * 512 + 1 * l.val = l.val; rw [hi.2.2]; omega

theorem blk2 (c : Dev nD) (t : Fin cfg0.N) (j : Fin 8) (r : Fin 320) (a : Fin 256) :
    iblk m c 2 t (ix4 0 j r a) = V m c main_v18 (ix4 (bt t) j r a) := by
  have hi := hi2 t
  unfold iblk
  rw [View.read_apply]
  show V m c main_v18 _ = V m c main_v18 _
  congr 1
  funext x
  apply Fin.ext
  match x with
  | ⟨0, _⟩ => show win0_2.index t 0 * 1 + 1 * 0 = t.val / 8; rw [hi.1]; omega
  | ⟨1, _⟩ => show win0_2.index t 1 * 8 + 1 * j.val = j.val; rw [hi.2.1]; omega
  | ⟨2, _⟩ => show win0_2.index t 2 * 320 + 1 * r.val = r.val; rw [hi.2.2.1]; omega
  | ⟨3, _⟩ => show win0_2.index t 3 * 256 + 1 * a.val = a.val; rw [hi.2.2.2]; omega

theorem mem_blk3 (t : Fin cfg0.N) (i : S32x2048x256.Idx) :
    i ∈ ((cfg0.win 3).blk t).view.set ↔ (i 0).val = t.val / 8 ∧ (i 1).val / 256 = t.val % 8 := by
  show i ∈ ((View.whole main_v19).slice (win0_3.rect t)).set ↔ _
  rw [View.set_slice_whole, Rect.mem_set_unit]
  have h2 : (i 2).val < 256 := (i 2).isLt
  have hi := hi3 t
  have hx := hx3 t
  refine ⟨fun h => ?_, fun h a => ?_⟩
  · have e0 : win0_3.index t 0 * 1 ≤ (i 0).val ∧ (i 0).val < win0_3.index t 0 * 1 + win0_3.xsize (grid0.coords t) 0 := h 0
    have e1 : win0_3.index t 1 * 256 ≤ (i 1).val ∧ (i 1).val < win0_3.index t 1 * 256 + win0_3.xsize (grid0.coords t) 1 := h 1
    rw [hi.1, hx.1] at e0
    rw [hi.2.1, hx.2.1] at e1
    omega
  · match a with
    | ⟨0, _⟩ => show win0_3.index t 0 * 1 ≤ (i 0).val ∧ (i 0).val < win0_3.index t 0 * 1 + win0_3.xsize (grid0.coords t) 0
                rw [hi.1, hx.1]; omega
    | ⟨1, _⟩ => show win0_3.index t 1 * 256 ≤ (i 1).val ∧ (i 1).val < win0_3.index t 1 * 256 + win0_3.xsize (grid0.coords t) 1
                rw [hi.2.1, hx.2.1]; omega
    | ⟨2, _⟩ => show win0_3.index t 2 * 256 ≤ (i 2).val ∧ (i 2).val < win0_3.index t 2 * 256 + win0_3.xsize (grid0.coords t) 2
                rw [hi.2.2, hx.2.2]; omega

theorem cover3 (i : S32x2048x256.Idx) : ∃ t : Fin cfg0.N, (cfg0.win 3).flush t = true ∧ i ∈ ((cfg0.win 3).blk t).view.set := by
  have h0 : (i 0).val < 32 := (i 0).isLt
  have h1 : (i 1).val < 2048 := (i 1).isLt
  refine ⟨⟨8 * (i 0).val + (i 1).val / 256, by have : cfg0.N = 256 := N_0; omega⟩, flush0_3 _, ?_⟩
  rw [mem_blk3]
  dsimp only
  omega

end Cert.AttnIdeal.Val
-- ==== Proof.AttnValue.lean ====
/- The attention kernel's run: its result array is the reference's attention, block by block, on real queries and keys. -/
module

public import proofs.«01_k».proof.Proof.AttnScore
public import proofs.«01_k».proof.Proof.AttnWin
public import Idealize.ShloMosaic.Lib.Pipeline.Value

@[expose] public section

set_option maxRecDepth 16384

noncomputable section

namespace Cert.AttnIdeal.Val

open Cert.AttnIdeal Cert.AttnIdeal.Gen Idealize.ShloMosaic Idealize.ShloMosaic.TcCoe Idealize.SL.Sem

variable (m : (ℓ : Loc nD τ sig) → Buf (Elt Ideal) ℓ) (ρ : Dev nD → PrngReg)

/-- The result array: the reference's attention of the arguments. -/
def G (Q : FVec Ideal S32x2048x4x96 .f32) (Kn : FVec Ideal S32x2048x4x64 .f32) (Kr : FVec Ideal S32x2048x32 .f32)
    (W : FVec Ideal S32x2048x4x64 .f32) : FVec Ideal S32x2048x256 .bf16 := fun i =>
  AttnSpec.out Q Kn Kr W ⟨(i 0).val, (i 0).isLt⟩ ⟨(i 1).val, (i 1).isLt⟩
    ⟨(i 2).val / 64, by have : (i 2).val < 256 := (i 2).isLt; omega⟩ ⟨(i 2).val % 64, by omega⟩

theorem G_apply (Q : FVec Ideal S32x2048x4x96 .f32) (Kn : FVec Ideal S32x2048x4x64 .f32) (Kr : FVec Ideal S32x2048x32 .f32)
    (W : FVec Ideal S32x2048x4x64 .f32) (b : Fin 32) (n : Fin 2048) (h : Fin 4) (d : Fin 64) :
    G Q Kn Kr W (ix3 b n ⟨64 * h + d, by omega⟩) = AttnSpec.out Q Kn Kr W b n h d := by
  show AttnSpec.out Q Kn Kr W b n ⟨(64 * h.val + d.val) / 64, _⟩ ⟨(64 * h.val + d.val) % 64, _⟩ = _
  congr 1
  · apply Fin.ext; show (64 * h.val + d.val) / 64 = h.val; omega
  · apply Fin.ext; show (64 * h.val + d.val) % 64 = d.val; omega

section
variable (c : Dev nD)
  (hQ : ∀ i, ∃ r : ℝ, (m ((c : Thread nD τ).loc main_arg0) : FVec Ideal S32x2048x4x96 .f32) i = (↑r : EReal))
  (hKn : ∀ i, ∃ r : ℝ, (m ((c : Thread nD τ).loc main_arg1) : FVec Ideal S32x2048x4x64 .f32) i = (↑r : EReal))
  (hKr : ∀ i, ∃ r : ℝ, (m ((c : Thread nD τ).loc main_arg2) : FVec Ideal S32x2048x32 .f32) i = (↑r : EReal))
include hQ hKn hKr

theorem flushed_eq (t : Fin cfg0.N) :
    (dats m 0 c).flushed 3 t = (win0_3.blk t).view.read (Elt Ideal) (G (m ((c : Thread nD τ).loc main_arg0))
      (m ((c : Thread nD τ).loc main_arg1)) (m ((c : Thread nD τ).loc main_arg2)) (m ((c : Thread nD τ).loc main_arg3))) := by
  rw [Value.flushed3_A, out_eq]
  have hi := hi3 t
  funext j
  rw [View.read_apply]
  have key : ∀ (a : Fin 256) (h : Fin 4) (d : Fin 64),
      block (F := Ideal) (fun h => (state (tileQ (iblk m c 0 t) h) (tileK (iblk m c 1 t) h) (tileV (iblk m c 2 t) h) 8).2)
        (ix3 0 a ⟨64 * h + d, by omega⟩)
      = G (m ((c : Thread nD τ).loc main_arg0)) (m ((c : Thread nD τ).loc main_arg1)) (m ((c : Thread nD τ).loc main_arg2))
          (m ((c : Thread nD τ).loc main_arg3)) (ix3 (bt t) (nt t a) ⟨64 * h + d, by omega⟩) := fun a h d => by
    rw [block_apply, G_apply]
    refine head_out _ _ _ _ hQ hKn hKr (bt t) h (nt t a) d _ _ _ a (fun l => ?_) (fun j x l => ?_) (fun j r x => ?_)
    · rw [tileQ_apply, ← V_q]
      exact blk0 m c t a ⟨128 * h + l, by omega⟩
    · rw [tileK_apply, ← V_k]
      exact blk1 m c t (kix j x) ⟨128 * h + l, by omega⟩
    · rw [tileV_apply, ← V_v]
      exact blk2 m c t j ⟨80 * h + r, by omega⟩ x
  have h0 : (j 0).val < 1 := (j 0).isLt
  have h1 : (j 1).val < 256 := (j 1).isLt
  have h2 : (j 2).val < 256 := (j 2).isLt
  have k := key ⟨(j 1).val, h1⟩ ⟨(j 2).val / 64, by omega⟩ ⟨(j 2).val % 64, by omega⟩
  refine Eq.trans ?_ (k.trans ?_)
  · refine congrArg (block (F := Ideal) _) ?_
    funext x
    apply Fin.ext
    match x with
    | ⟨0, _⟩ => show (j 0).val = 0; omega
    | ⟨1, _⟩ => rfl
    | ⟨2, _⟩ => show (j 2).val = 64 * ((j 2).val / 64) + (j 2).val % 64; omega
  · refine congrArg (G _ _ _ _) ?_
    funext x
    apply Fin.ext
    match x with
    | ⟨0, _⟩ => show t.val / 8 = win0_3.index t 0 * 1 + 1 * (j 0).val; rw [hi.1]; omega
    | ⟨1, _⟩ => show 256 * (t.val % 8) + (j 1).val = win0_3.index t 1 * 256 + 1 * (j 1).val; rw [hi.2.1]; omega
    | ⟨2, _⟩ => show 64 * ((j 2).val / 64) + (j 2).val % 64 = win0_3.index t 2 * 256 + 1 * (j 2).val; rw [hi.2.2]; omega

theorem final_o : (dats m 0 c).arrAt 3 cfg0.N = G (m ((c : Thread nD τ).loc main_arg0))
      (m ((c : Thread nD τ).loc main_arg1)) (m ((c : Thread nD τ).loc main_arg2)) (m ((c : Thread nD τ).loc main_arg3)) :=
  (dats m 0 c).arrAt_eq_of_cover 3 _ (fun t _ => flushed_eq m c hQ hKn hKr t) cover3
end

end Cert.AttnIdeal.Val
-- ==== Proof.AttnClaims.lean ====
/- The claims about the attention, put together from the kernel's run, the reference's run and the precondition. -/
module

public import proofs.«01_k».proof.Defs
public import proofs.«01_k».proof.Proof.Gen.Attn.Frame
public import proofs.«01_k».proof.Proof.Gen.AttnIdeal.Frame
public import proofs.«01_k».proof.Proof.Gen.Pre_finite
public import proofs.«01_k».proof.Proof.AttnValue
public import Idealize.ShloMosaic.Lib.Quiescent

@[expose] public section

set_option maxRecDepth 16384

noncomputable section

namespace Cert.AttnClaims

open Idealize.ShloMosaic Idealize.ShloMosaic.TcCoe Idealize.SL.Sem

theorem frame_A : Cert.quiescent_Attn := fun m ρ _ => Cert.Attn.Gen.frame m ρ
theorem frame_AI : Cert.quiescent_AttnIdeal := fun m ρ _ => Cert.AttnIdeal.Gen.frame m ρ
theorem frame_AI_pre : Cert.quiescent_AttnIdeal_pre_finite := fun m ρ _ => Cert.AttnIdeal.Gen.frame m ρ

theorem frame_AR : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)
theorem frame_AR_pre : Cert.quiescent_AttnRefIdeal_pre_finite := fun m ρ _ => frame_AR m ρ trivial

theorem preserves : Cert.preserves_Attn_AttnIdeal := trivial

/-- The reference's result array is `G` of its arguments. -/
theorem ref_eq (m : (ℓ : Loc Cert.AttnRefIdeal.nD Cert.AttnRefIdeal.τ Cert.AttnRefIdeal.sig) → Buf (Elt Ideal) ℓ)
    (c : Dev Cert.AttnRefIdeal.nD) :
    Cert.AttnRefIdeal.Value.res_out0 m c = Cert.AttnIdeal.Val.G (m ((c.tc : Thread Cert.AttnRefIdeal.nD Cert.AttnRefIdeal.τ).loc Cert.AttnRefIdeal.main_arg0))
      (m ((c.tc : Thread Cert.AttnRefIdeal.nD Cert.AttnRefIdeal.τ).loc Cert.AttnRefIdeal.main_arg1))
      (m ((c.tc : Thread Cert.AttnRefIdeal.nD Cert.AttnRefIdeal.τ).loc Cert.AttnRefIdeal.main_arg2))
      (m ((c.tc : Thread Cert.AttnRefIdeal.nD Cert.AttnRefIdeal.τ).loc Cert.AttnRefIdeal.main_arg3)) := by
  funext i
  have h0 : (i 0).val < 32 := (i 0).isLt
  have h1 : (i 1).val < 2048 := (i 1).isLt
  have h2 : (i 2).val < 256 := (i 2).isLt
  have k := Cert.AttnRefIdeal.Val.res_apply m c ⟨(i 0).val, h0⟩ ⟨(i 1).val, h1⟩ ⟨(i 2).val / 64, by omega⟩ ⟨(i 2).val % 64, by omega⟩
  refine Eq.trans ?_ k
  refine congrArg (Cert.AttnRefIdeal.Value.res_out0 m c) ?_
  funext x
  apply Fin.ext
  match x with
  | ⟨0, _⟩ => rfl
  | ⟨1, _⟩ => rfl
  | ⟨2, _⟩ => show (i 2).val = 64 * ((i 2).val / 64) + (i 2).val % 64; omega

theorem algebraic : Cert.algebraic_AttnIdeal_AttnRefIdeal_pre_finite := by
  intro m ρ m' ρ' hpre hag
  refine ⟨fun c => Cert.AttnIdeal.Val.G (m ((c.tc : Thread Cert.AttnIdeal.nD Cert.AttnIdeal.τ).loc Cert.AttnIdeal.main_arg0))
      (m ((c.tc : Thread Cert.AttnIdeal.nD Cert.AttnIdeal.τ).loc Cert.AttnIdeal.main_arg1))
      (m ((c.tc : Thread Cert.AttnIdeal.nD Cert.AttnIdeal.τ).loc Cert.AttnIdeal.main_arg2))
      (m ((c.tc : Thread Cert.AttnIdeal.nD Cert.AttnIdeal.τ).loc Cert.AttnIdeal.main_arg3)), ?_, ?_⟩
  · refine (θ_run Cert.AttnIdeal.defs _ _).mono (fun r h c => ⟨(h c).1.trans ?_, (h c).2⟩) (Cert.AttnIdeal.Value.run_blocks m ρ)
    obtain ⟨hq, hk, hr⟩ := Cert.Pre_finite.Val.finite_of _ _ _ _ (congrFun (hpre c))
    exact Cert.AttnIdeal.Val.final_o m c hq hk hr
  · refine (θ_run Cert.AttnRefIdeal.defs _ _).mono (fun r h c => ⟨(h c).1.trans ((ref_eq m' c).trans ?_), (h c).2⟩)
      (Cert.AttnRefIdeal.Value.run (F := Ideal) m' ρ')
    rw [(hag c).1, (hag c).2.1, (hag c).2.2.1, (hag c).2.2.2]

end Cert.AttnClaims
-- ==== Proof.MoeRun.lean ====
module

public import proofs.«01_k».proof.Proof.Gen.MoeIdeal.Skeleton
public import proofs.«01_k».proof.Proof.Gen.MoeIdeal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.MoeIdeal.Val

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the certificate. -/
abbrev Mo (F : FTy → Type) [FloatOps F] := MT nD τ sig Unit (Elt F) ℕ (UR sig nD τ) ℕ

abbrev tb1 : Memref sig .tc .smem S280 .i32 := Memref.whole main_arg1
abbrev htb1 : tb1.IsWhole := Memref.isWhole_whole _
abbrev tb2 : Memref sig .tc .smem S280 .i32 := Memref.whole main_arg2
abbrev htb2 : tb2.IsWhole := Memref.isWhole_whole _
abbrev tb3 : Memref sig .tc .smem S280 .i32 := Memref.whole main_arg3
abbrev htb3 : tb3.IsWhole := Memref.isWhole_whole _

/-- What a table's memref holds, and that table held at half a share. -/
abbrev TabBuf (F : FTy → Type) [FloatOps F] (c : Dev nD) (M : Memref sig .tc .smem S280 .i32) : Type := Buf (Elt F) (M.view.loc (c : Thread nD τ))
abbrev tabPt (c : Dev nD) (M : Memref sig .tc .smem S280 .i32) (f : TabBuf F c M) : sProp (Mo F) :=
  M.view.loc (c : Thread nD τ) ↦{fullShare.right} f

theorem word_lt (i : grid0.Coords) {a : Fin 1} : (i 0).val < S280.size a := by
  obtain rfl : a = 0 := Subsingleton.elim _ _
  exact (i 0).isLt

/-- The word a table holds for a grid point. -/
def word (f : S280.Idx → BitVec 32) (i : grid0.Coords) : BitVec 32 := f (fun _ => ⟨(i 0).val, word_lt i⟩)

/-- What a grid point stores, of its blocks and its three table words: zeros for a tile not in use, else the mixture of the
    tile's two experts. -/
def tileOut (x0 : Vec F S256x1024 .f32) (x1 : Vec F S1024x128 .bf16) (x2 x3 : Vec F S1x1024x512 .bf16) (x4 : Vec F S1x512x1024 .bf16)
    (x5 x6 : Vec F S1x1024x512 .bf16) (x7 : Vec F S1x512x1024 .bf16) (w0 w1 w2 : BitVec 32) : Vec F S256x1024 .f32 :=
  if k0_cond2 w2 = 1#1 then k0_pay1
  else k0_pay9 (k0_pay2 x0) (k0_pay4 x0 x1 w0) (k0_pay5 x0 x1 w1) (k0_pay6 x0 x1 w0 w1) (k0_pay7 x0 x2) (k0_pay8 x0 x2)
    (Scalar.ofBits .f32 0x3F800000#32) x3 x5 x6 x4 x7

theorem read_w0 (c : Dev nD) (i : grid0.Coords) (f : TabBuf F c tb1) {off : Fin 1 → ℕ} (ho : off = ![(i 0).val])
    (h : ∀ a, off a + (![1] : Fin 1 → ℕ) a ≤ S280.size a) (h1 : 0 < ((Rect.unit (s := S280) off ![1] h).toLoadRect.shape).numel) :
    View.readAt (Elt F) tb1.view (Rect.unit (s := S280) off ![1] h).toLoadRect f (Shape.Idx.first h1) = word f i := by
  subst ho
  exact congrArg f (funext fun a : Fin 1 => Fin.ext (by obtain rfl : a = 0 := Subsingleton.elim _ _; rfl))

theorem read_w1 (c : Dev nD) (i : grid0.Coords) (f : TabBuf F c tb2) {off : Fin 1 → ℕ} (ho : off = ![(i 0).val])
    (h : ∀ a, off a + (![1] : Fin 1 → ℕ) a ≤ S280.size a) (h1 : 0 < ((Rect.unit (s := S280) off ![1] h).toLoadRect.shape).numel) :
    View.readAt (Elt F) tb2.view (Rect.unit (s := S280) off ![1] h).toLoadRect f (Shape.Idx.first h1) = word f i := by
  subst ho
  exact congrArg f (funext fun a : Fin 1 => Fin.ext (by obtain rfl : a = 0 := Subsingleton.elim _ _; rfl))

theorem read_w2 (c : Dev nD) (i : grid0.Coords) (f : TabBuf F c tb3) {off : Fin 1 → ℕ} (ho : off = ![(i 0).val])
    (h : ∀ a, off a + (![1] : Fin 1 → ℕ) a ≤ S280.size a) (h1 : 0 < ((Rect.unit (s := S280) off ![1] h).toLoadRect.shape).numel) :
    View.readAt (Elt F) tb3.view (Rect.unit (s := S280) off ![1] h).toLoadRect f (Shape.Idx.first h1) = word f i := by
  subst ho
  exact congrArg f (funext fun a : Fin 1 => Fin.ext (by obtain rfl : a = 0 := Subsingleton.elim _ _; rfl))

theorem zero2 : ∀ a : Fin 2, (![0, 0] : Fin 2 → ℕ) a = 0 := by decide
theorem zero3 : ∀ a : Fin 3, (![0, 0, 0] : Fin 3 → ℕ) a = 0 := by decide

/-- A load of a whole staged block reads the block. -/
theorem read_all {s : Shape} {e : EltTy} {m : Memref sig .tc .vmem s e} (h : m.IsWhole) (x : Vec F s e) {off : Fin s.rank → ℕ}
    (ho : ∀ a, off a = 0) (inb : ∀ a, off a + s.size a ≤ s.size a) :
    View.readAt (Elt F) m.view (Rect.unit (s := s) off s.size inb).toLoadRect (h.unread x) = x := by
  funext y
  refine (h.readAt_unread x _ y).trans (congrArg x (funext fun a => Fin.ext ?_))
  show off a + 1 * (y a).val = (y a).val
  rw [ho, Nat.one_mul, Nat.zero_add]

set_option maxHeartbeats 1000000 in
/-- The body's triple, at a point whose third word is 0 or 1. -/
theorem run_tile (c : Dev nD) (i : grid0.Coords) (a4 : Memref sig .tc .vmem S256x1024 .f32) (h4 : a4.IsWhole)
    (a5 : Memref sig .tc .vmem S1024x128 .bf16) (h5 : a5.IsWhole) (a6 : Memref sig .tc .vmem S1x1024x512 .bf16) (h6 : a6.IsWhole)
    (a7 : Memref sig .tc .vmem S1x1024x512 .bf16) (h7 : a7.IsWhole) (a8 : Memref sig .tc .vmem S1x512x1024 .bf16) (h8 : a8.IsWhole)
    (a9 : Memref sig .tc .vmem S1x1024x512 .bf16) (h9 : a9.IsWhole) (a10 : Memref sig .tc .vmem S1x1024x512 .bf16) (h10 : a10.IsWhole)
    (a11 : Memref sig .tc .vmem S1x512x1024 .bf16) (h11 : a11.IsWhole) (a12 : Memref sig .tc .vmem S256x1024 .f32) (h12 : a12.IsWhole)
    (x0 : Vec F S256x1024 .f32) (x1 : Vec F S1024x128 .bf16) (x2 x3 : Vec F S1x1024x512 .bf16) (x4 : Vec F S1x512x1024 .bf16)
    (x5 x6 : Vec F S1x1024x512 .bf16) (x7 : Vec F S1x512x1024 .bf16)
    (t0 : TabBuf F c tb1) (t1 : TabBuf F c tb2) (t2 : TabBuf F c tb3)
    (hU : k0_cond1 (word t2 i) = 1#1 ∨ k0_cond2 (word t2 i) = 1#1) :
      ∀ (E : Set ℕ) (K : PUnit → sProp (Mo F)),
        iprop(owns (c : Thread nD τ) a4 fullShare x0 ∗ owns (c : Thread nD τ) a5 fullShare x1 ∗ owns (c : Thread nD τ) a6 fullShare x2
            ∗ owns (c : Thread nD τ) a7 fullShare x3 ∗ owns (c : Thread nD τ) a8 fullShare x4 ∗ owns (c : Thread nD τ) a9 fullShare x5
            ∗ owns (c : Thread nD τ) a10 fullShare x6 ∗ owns (c : Thread nD τ) a11 fullShare x7 ∗ (∃ d, owns (c : Thread nD τ) a12 fullShare d)
            ∗ tabPt c tb1 t0 ∗ tabPt c tb2 t1 ∗ tabPt c tb3 t2
            ∗ (iprop(owns (c : Thread nD τ) a4 fullShare x0 ∗ owns (c : Thread nD τ) a5 fullShare x1 ∗ owns (c : Thread nD τ) a6 fullShare x2
            ∗ owns (c : Thread nD τ) a7 fullShare x3 ∗ owns (c : Thread nD τ) a8 fullShare x4 ∗ owns (c : Thread nD τ) a9 fullShare x5
            ∗ owns (c : Thread nD τ) a10 fullShare x6 ∗ owns (c : Thread nD τ) a11 fullShare x7
            ∗ owns (c : Thread nD τ) a12 fullShare (tileOut x0 x1 x2 x3 x4 x5 x6 x7 (word t0 i) (word t1 i) (word t2 i))
            ∗ tabPt c tb1 t0 ∗ tabPt c tb2 t1 ∗ tabPt c tb3 t2) -∗ K ⟨⟩))
          ⊢ wp frame (wpE (defs₀ (F := F)) Variants.none c none) E
            (cc0_moe_experts i tb1 htb1 tb2 htb2 tb3 htb3 a4 h4 a5 h5 a6 h6 a7 h7 a8 h8 a9 h9 a10 h10 a11 h11 a12 h12) K := by
  intro E K
  simp only [cc0_moe_experts_eq_skeleton]; unfold cc0_moe_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT0, HT1, HT2, Hk⟩
  obtain rfl := h4.eq_unread hf0; obtain rfl := h5.eq_unread hf1; obtain rfl := h6.eq_unread hf2; obtain rfl := h7.eq_unread hf3
  obtain rfl := h8.eq_unread hf4; obtain rfl := h9.eq_unread hf5; obtain rfl := h10.eq_unread hf6; obtain rfl := h11.eq_unread hf7
  sl_exec
  sl_step
  iapply Hk
  isplitl [H0]
  · iexists _; isplitr; · ipureintro; exact h4.read_unread _
    iexact H0
  isplitl [H1]
  · iexists _; isplitr; · ipureintro; exact h5.read_unread _
    iexact H1
  isplitl [H2]
  · iexists _; isplitr; · ipureintro; exact h6.read_unread _
    iexact H2
  isplitl [H3]
  · iexists _; isplitr; · ipureintro; exact h7.read_unread _
    iexact H3
  isplitl [H4]
  · iexists _; isplitr; · ipureintro; exact h8.read_unread _
    iexact H4
  isplitl [H5]
  · iexists _; isplitr; · ipureintro; exact h9.read_unread _
    iexact H5
  isplitl [H6]
  · iexists _; isplitr; · ipureintro; exact h10.read_unread _
    iexact H6
  isplitl [H7]
  · iexists _; isplitr; · ipureintro; exact h11.read_unread _
    iexact H7
  isplitl [H8]
  · iexists _; isplitr; swap; · iexact H8
    ipureintro
    unfold run_tile.sl.r_10 run_tile.sl.r run_tile.sl.r_9 run_tile.sl.r_3 run_tile.sl.r_4 run_tile.sl.r_5 run_tile.sl.r_6 run_tile.sl.r_7
      run_tile.sl.r_8 run_tile.sl.cst_19
    unfold run_tile.sl.r_1
    unfold run_tile.sl.r_2
    rw [read_w2 c i t2 (k0_off3_eq i), read_w2 c i t2 (k0_off1_eq i)]
    unfold tileOut
    by_cases hc : k0_cond2 (word t2 i) = 1#1
    · rw [dif_pos hc, if_pos hc]
      exact View.read_writes_full _ _ _ _ _
    · rw [dif_neg hc, if_neg hc, dif_pos (hU.resolve_right hc)]
      refine (View.read_writes_full _ _ _ _ _).trans ?_
      rw [read_w0 c i t0 (k0_off2_eq i), read_w1 c i t1 (k0_off2_eq i)]
      rw [read_all h4 x0 zero2, read_all h5 x1 zero2, read_all h6 x2 zero3, read_all h7 x3 zero3, read_all h8 x4 zero3,
        read_all h9 x5 zero3, read_all h10 x6 zero3, read_all h11 x7 zero3]
  isplitl [HT0]; · iexact HT0
  isplitl [HT1]; · iexact HT1
  iexact HT2

end Cert.MoeIdeal.Val
-- ==== Proof.MoeFrame.lean ====
module

public import proofs.«01_k».proof.Proof.MoeRun
public import Idealize.ShloMosaic.Lib.StableHlo.RunRead

@[expose] public section

set_option maxRecDepth 16384

noncomputable section

namespace Cert.MoeIdeal.Val

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A core's buffers when the pipeline starts: the launch contents after the host operations. -/
def V (c : Dev nD) (b : Ref sig .tc) : Buf (Elt F) ((c : Thread nD τ).loc b) :=
  StableHlo.after (hostOps0 (F := F)) (fun b => m (c, b)) b

theorem starts : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub
    ⟨rfl, rfl, rfl, rfl, rfl, rfl, rfl, rfl, rfl⟩ fun c => main_chain c

/-! The host operations leave the arguments as they were. -/

theorem V_arg0 (c : Dev nD) : V m c main_arg0 = m ((c : Thread nD τ).loc main_arg0) := by
  unfold V
  after_reads_simp <;> rfl
theorem V_arg1 (c : Dev nD) : V m c main_arg1 = m ((c : Thread nD τ).loc main_arg1) := by
  unfold V
  after_reads_simp <;> rfl
theorem V_arg2 (c : Dev nD) : V m c main_arg2 = m ((c : Thread nD τ).loc main_arg2) := by
  unfold V
  after_reads_simp <;> rfl
theorem V_arg3 (c : Dev nD) : V m c main_arg3 = m ((c : Thread nD τ).loc main_arg3) := by
  unfold V
  after_reads_simp <;> rfl
theorem V_arg4 (c : Dev nD) : V m c main_arg4 = m ((c : Thread nD τ).loc main_arg4) := by
  unfold V
  after_reads_simp <;> rfl
theorem V_arg5 (c : Dev nD) : V m c main_arg5 = m ((c : Thread nD τ).loc main_arg5) := by
  unfold V
  after_reads_simp <;> rfl
theorem V_arg6 (c : Dev nD) : V m c main_arg6 = m ((c : Thread nD τ).loc main_arg6) := by
  unfold V
  after_reads_simp <;> rfl
theorem V_arg7 (c : Dev nD) : V m c main_arg7 = m ((c : Thread nD τ).loc main_arg7) := by
  unfold V
  after_reads_simp <;> rfl

/-- The three tables' contents. -/
def tbl : pre0.Contents (Elt F) := fun j => V m (0 : Dev nD) (pre0.ref j)
theorem V_tbl (c : Dev nD) (j : Fin 3) : V m c (pre0.ref j) = tbl m j := by
  obtain rfl : c = 0 := Subsingleton.elim _ _; rfl
/-- The blocks the tables choose lie inside their arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)
/-- Every tile is in use or not: at each point one of the body's two conditions holds. -/
def Used : Prop := ∀ i : grid0.Coords, k0_cond1 (word (tbl m 2) i) = 1#1 ∨ k0_cond2 (word (tbl m 2) i) = 1#1

theorem tables_held (c : Dev nD) :
    (Pipeline.ΦT pre0 (tbl m) c : sProp (Mo F)) = iprop(tabPt c tb1 (tbl m 0) ∗ tabPt c tb2 (tbl m 1) ∗ tabPt c tb3 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at a point, of the array the pipeline finds. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- What the point stores. -/
def oblk (hO : Ok m) (c : Dev nD) (t : Fin (cfgM m hO).N) : Vec F S256x1024 .f32 :=
  tileOut (iblk m hO c 0 t) (iblk m hO c 1 t) (iblk m hO c 2 t) (iblk m hO c 3 t) (iblk m hO c 4 t) (iblk m hO c 5 t) (iblk m hO c 6 t)
    (iblk m hO c 7 t) (word (tbl m 0) (grid0.coords t)) (word (tbl m 1) (grid0.coords t)) (word (tbl m 2) (grid0.coords t))

abbrev stg0 (hO : Ok m) (t : Fin (cfgM m hO).N) : Memref sig .tc .vmem S256x1024 .f32 := spec0_0.stage ((cfgM m hO).slots t 0)
abbrev stg1 (hO : Ok m) (t : Fin (cfgM m hO).N) : Memref sig .tc .vmem S1024x128 .bf16 := spec0_1.stage ((cfgM m hO).slots t 1)
abbrev stg2 (hO : Ok m) (t : Fin (cfgM m hO).N) : Memref sig .tc .vmem S1x1024x512 .bf16 := spec0_2.stage ((cfgM m hO).slots t 2)
abbrev stg3 (hO : Ok m) (t : Fin (cfgM m hO).N) : Memref sig .tc .vmem S1x1024x512 .bf16 := spec0_3.stage ((cfgM m hO).slots t 3)
abbrev stg4 (hO : Ok m) (t : Fin (cfgM m hO).N) : Memref sig .tc .vmem S1x512x1024 .bf16 := spec0_4.stage ((cfgM m hO).slots t 4)
abbrev stg5 (hO : Ok m) (t : Fin (cfgM m hO).N) : Memref sig .tc .vmem S1x1024x512 .bf16 := spec0_5.stage ((cfgM m hO).slots t 5)
abbrev stg6 (hO : Ok m) (t : Fin (cfgM m hO).N) : Memref sig .tc .vmem S1x1024x512 .bf16 := spec0_6.stage ((cfgM m hO).slots t 6)
abbrev stg7 (hO : Ok m) (t : Fin (cfgM m hO).N) : Memref sig .tc .vmem S1x512x1024 .bf16 := spec0_7.stage ((cfgM m hO).slots t 7)
abbrev stg8 (hO : Ok m) (t : Fin (cfgM m hO).N) : Memref sig .tc .vmem S256x1024 .f32 := spec0_8.stage ((cfgM m hO).slots t 8)

/-- The body as the pipeline calls it at a point. -/
abbrev bodyAt (hO : Ok m) (t : Fin (cfgM m hO).N) : Prog (TpuEff nD τ sig (Elt F) Λ₀ .tc) PUnit :=
  cc0_moe_experts (grid0.coords t) tb1 htb1 tb2 htb2 tb3 htb3
    (stg0 m hO t) (hstage0_0 (((cfgM m hO).slots t 0).cast nbuf0_0)) (stg1 m hO t) (hstage0_1 (((cfgM m hO).slots t 1).cast nbuf0_1))
    (stg2 m hO t) (hstage0_2 (((cfgM m hO).slots t 2).cast nbuf0_2)) (stg3 m hO t) (hstage0_3 (((cfgM m hO).slots t 3).cast nbuf0_3))
    (stg4 m hO t) (hstage0_4 (((cfgM m hO).slots t 4).cast nbuf0_4)) (stg5 m hO t) (hstage0_5 (((cfgM m hO).slots t 5).cast nbuf0_5))
    (stg6 m hO t) (hstage0_6 (((cfgM m hO).slots t 6).cast nbuf0_6)) (stg7 m hO t) (hstage0_7 (((cfgM m hO).slots t 7).cast nbuf0_7))
    (stg8 m hO t) (hstage0_8 (((cfgM m hO).slots t 8).cast nbuf0_8))

/-- The pipeline's proof data: inputs keep their blocks, the output gets `oblk`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => oblk m hO c t
  Φ _ := iprop(Pipeline.ΦA spec0 c ∗ Pipeline.ΦT pre0 (tbl m) c)
  q w := Pipeline.shareOf spec0 w
  owed _ := 0

theorem dats_A (hO : Ok m) (c : Dev nD) (w : Fin (cfgM m hO).W) : (dats m hO 0 c).A w = V m c (Pipeline.arrRef spec0 w) := by dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = iblk m hO c 6 t := by dsimp only [dats]; try rfl
theorem after7 (hO : Ok m) (c : Dev nD) (t : Fin (cfgM m hO).N) : (dats m hO 0 c).after 7 t = iblk m hO c 7 t := by dsimp only [dats]; try rfl
theorem after8 (hO : Ok m) (c : Dev nD) (t : Fin (cfgM m hO).N) : (dats m hO 0 c).after 8 t = oblk m hO c t := by dsimp only [dats]; try rfl

theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [dats_A]; try rfl) t d).trans (by unfold Dat.fetched Dat.blockOf iblk; rw [dats_A]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [dats_A]; try rfl) t d).trans (by unfold Dat.fetched Dat.blockOf iblk; rw [dats_A]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after2]; unfold Dat.blockOf iblk; rw [dats_A]; try rfl) t d).trans (by unfold Dat.fetched Dat.blockOf iblk; rw [dats_A]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after3]; unfold Dat.blockOf iblk; rw [dats_A]; try rfl) t d).trans (by unfold Dat.fetched Dat.blockOf iblk; rw [dats_A]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
    (fun t => by rw [after4]; unfold Dat.blockOf iblk; rw [dats_A]; try rfl) t d).trans (by unfold Dat.fetched Dat.blockOf iblk; rw [dats_A]; try rfl)
theorem before5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl)
    (fun t => by rw [after5]; unfold Dat.blockOf iblk; rw [dats_A]; try rfl) t d).trans (by unfold Dat.fetched Dat.blockOf iblk; rw [dats_A]; try rfl)
theorem before6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl)
    (fun t => by rw [after6]; unfold Dat.blockOf iblk; rw [dats_A]; try rfl) t d).trans (by unfold Dat.fetched Dat.blockOf iblk; rw [dats_A]; try rfl)
theorem before7 (hO : Ok m) (c : Dev nD) (t : Fin (cfgM m hO).N) (d) : (dats m hO 0 c).before 7 t d = iblk m hO c 7 t :=
  ((dats m hO 0 c).before_in_eq_fetched 7 rfl (fun _ => rfl) (fun _ _ _ => rfl)
    (fun t => by rw [after7]; unfold Dat.blockOf iblk; rw [dats_A]; try rfl) t d).trans (by unfold Dat.fetched Dat.blockOf iblk; rw [dats_A]; try rfl)

/-- What the body is called with. -/
def bodyPre (hO : Ok m) (c : Dev nD) (t : Fin (cfgM m hO).N) : sProp (Mo F) :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d))
    ∗ (∃ d, owns (c : Thread nD τ) (stg5 m hO t) fullShare ((dats m hO 0 c).before 5 t d))
    ∗ (∃ d, owns (c : Thread nD τ) (stg6 m hO t) fullShare ((dats m hO 0 c).before 6 t d))
    ∗ (∃ d, owns (c : Thread nD τ) (stg7 m hO t) fullShare ((dats m hO 0 c).before 7 t d))
    ∗ (∃ d, owns (c : Thread nD τ) (stg8 m hO t) fullShare ((dats m hO 0 c).before 8 t d)))

/-- What it gives back. -/
def bodyPost (hO : Ok m) (c : Dev nD) (t : Fin (cfgM m hO).N) : sProp (Mo F) :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ owns (c : Thread nD τ) (stg4 m hO t) fullShare ((dats m hO 0 c).after 4 t)
    ∗ owns (c : Thread nD τ) (stg5 m hO t) fullShare ((dats m hO 0 c).after 5 t)
    ∗ owns (c : Thread nD τ) (stg6 m hO t) fullShare ((dats m hO 0 c).after 6 t)
    ∗ owns (c : Thread nD τ) (stg7 m hO t) fullShare ((dats m hO 0 c).after 7 t)
    ∗ owns (c : Thread nD τ) (stg8 m hO t) fullShare ((dats m hO 0 c).after 8 t))

set_option maxHeartbeats 800000 in
/-- The body at a point. -/
theorem body_point (hO : Ok m) (hU : Used m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4, before5, before6, before7]
  rw [show (dats m hO 0 c).Φ t.succ = (dats m hO 0 c).Φ t.castSucc from rfl,
    show (dats m hO 0 c).owesAt () t.succ = (dats m hO 0 c).owesAt () t.castSucc from rfl,
    after0, after1, after2, after3, after4, after5, after6, after7, after8]
  rw [show (dats m hO 0 c).Φ t.castSucc = iprop(Pipeline.ΦA spec0 c ∗ Pipeline.ΦT pre0 (tbl m) c) from rfl, tables_held]
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run_tile c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2) (hU _)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HT0]; · iexact HT0
  isplitl [HT1]; · iexact HT1
  isplitl [HT2]; · iexact HT2
  iintro ⟨H0, H1, H2, H3, H4, H5, H6, H7, H8, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem atD_word (pf : pre0.Contents (Elt F)) {i : grid0.Coords} {off : Fin 1 → ℕ} (h : off = ![(i 0).val]) : pf.atD 2 off = word (pf 2) i := by
  subst h
  refine (dif_pos fun a : Fin 1 => ?_).trans ?_
  · obtain rfl : a = 0 := Subsingleton.elim _ _
    exact (i 0).isLt
  · exact congrArg (pf 2) (funext fun a : Fin 1 => Fin.ext (by obtain rfl : a = 0 := Subsingleton.elim _ _; rfl))

/-- Under `Used` no point leaves the output alone. -/
theorem busy (hO : Ok m) (hU : Used m) (i : grid0.Coords) : (cfgM m hO).idle 8 i = false := by
  have e1 := atD_word (tbl m) (k0_off1_eq i)
  have e3 := atD_word (tbl m) (k0_off3_eq i)
  show (!(k0_cond1 ((tbl m).atD 2 (k0_off1 i)) == 1#1) && !(k0_cond2 ((tbl m).atD 2 (k0_off3 i)) == 1#1)) = false
  rw [e1, e3]
  rcases hU i with h | h <;> rw [h] <;> simp

theorem body_meets (hO : Ok m) (hU : Used m) (c : Dev nD) :
    BodyObligation (dats (F := F) m hO 0 c) (defs₀ (F := F)) Variants.none () Set.univ := fun t => by
  rw [bigSep_W0, bigSep_W0, body_row m hO]
  refine triple_restated (body_point m hO hU c t) rfl .rfl fun _ => ?_
  rw [busy m hO hU]
  exact .rfl

set_option backward.isDefEq.respectTransparency.types false in
/-- The run: every array ends at what the pipeline leaves in it, and every semaphore counter at zero. -/
theorem run_ends (hO : Ok m) (hU : Used m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_shared (Q' := _) pcfgs (fun _ => adm m hO) (dats m hO) (0 : Fin 1) launch₀0 defs₀ Variants.none m ρ main
    (hbody := fun c => (body_meets m hO hU c).loose) (hq := fun _ _ _ => rfl)
    (howed := fun _ _ => rfl) (V := V m) (hmain := starts m) (hA := dats_A m hO) (hpf := V_tbl m) (hΦ := fun _ _ => rfl)

/-- The frame: the arguments end as they began. -/
theorem frame (hO : Ok m) (hU : Used m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    ⟨((h.1 c).1 0).trans (((dats m hO 0 c).arrAt_in 0 rfl _).trans ((dats_A m hO c 0).trans (V_arg0 m c))),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c),
      ((h.1 c).2 main_arg5 (by decide : main_arg5 ∈ Pipeline.restRefs sig spec0)).trans (V_arg5 m c),
      ((h.1 c).2 main_arg6 (by decide : main_arg6 ∈ Pipeline.restRefs sig spec0)).trans (V_arg6 m c),
      ((h.1 c).2 main_arg7 (by decide : main_arg7 ∈ Pipeline.restRefs sig spec0)).trans (V_arg7 m c)⟩, h.2⟩) (run_ends m ρ hO hU)

/-- The result: what the pipeline leaves in its array, and the arguments as they began. -/
theorem run_result (hO : Ok m) (hU : Used m) : θ_run defs (onTc (τ := τ) (main (F := F))) ⟨m, fun _ => 0, ρ⟩ (fun r => ∀ c : Dev nD,
      r.2.mem ((c.tc : Thread nD τ).loc main_v7) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h.1 c).1 8, ((h.1 c).1 0).trans (((dats m hO 0 c).arrAt_in 0 rfl _).trans ((dats_A m hO c 0).trans (V_arg0 m c))),
    ((h.1 c).2 main_arg1 (by decide : main_arg1 ∈ Pipeline.restRefs sig spec0)).trans (V_arg1 m c),
    ((h.1 c).2 main_arg2 (by decide : main_arg2 ∈ Pipeline.restRefs sig spec0)).trans (V_arg2 m c),
    ((h.1 c).2 main_arg3 (by decide : main_arg3 ∈ Pipeline.restRefs sig spec0)).trans (V_arg3 m c),
    ((h.1 c).2 main_arg4 (by decide : main_arg4 ∈ Pipeline.restRefs sig spec0)).trans (V_arg4 m c),
    ((h.1 c).2 main_arg5 (by decide : main_arg5 ∈ Pipeline.restRefs sig spec0)).trans (V_arg5 m c),
    ((h.1 c).2 main_arg6 (by decide : main_arg6 ∈ Pipeline.restRefs sig spec0)).trans (V_arg6 m c),
    ((h.1 c).2 main_arg7 (by decide : main_arg7 ∈ Pipeline.restRefs sig spec0)).trans (V_arg7 m c)⟩) (run_ends m ρ hO hU)

end Cert.MoeIdeal.Val
-- ==== Proof.MoePre.lean ====
/- What the experts' precondition says of the three tables, and what follows for the launch: every block a table chooses lies
   inside its array, and every tile is either in use or not. -/
module

public import proofs.«01_k».proof.Proof.Gen.Pre_tables
public import proofs.«01_k».proof.Proof.MoeFrame
public import Idealize.ShloMosaic.Lib.ReduceAll
public import Idealize.ShloMosaic.Lib.Affine

@[expose] public section

set_option maxRecDepth 16384

noncomputable section

namespace Cert.Pre_tables.Val

open Cert.Pre_tables Cert.Pre_tables.Gen Idealize.ShloMosaic

variable {F : FTy → Type} [FloatOps F]

theorem word_range (w : BitVec 32) (h : IntOp.andi (IntOp.cmpi .sge w 0#32) (IntOp.cmpi .slt w 16#32) = 1#1) : w.toNat < 16 := by
  obtain ⟨h1, h2⟩ := IntOp.andi_eq_one.mp h
  have e1 : (0#32).sle w = true := by
    by_contra hc; simp only [IntOp.cmpi] at h1; rw [Bool.not_eq_true] at hc; rw [hc] at h1; exact absurd h1 (by decide)
  have e2 : w.slt 16#32 = true := by
    by_contra hc; simp only [IntOp.cmpi] at h2; rw [Bool.not_eq_true] at hc; rw [hc] at h2; exact absurd h2 (by decide)
  simp only [BitVec.sle, BitVec.slt, decide_eq_true_eq, BitVec.toInt_eq_toNat_cond] at e1 e2
  have := w.isLt
  simp at e1 e2
  omega

theorem word_flag (w : BitVec 32) (h : IntOp.ori (IntOp.cmpi .eq w 0#32) (IntOp.cmpi .eq w 1#32) = 1#1) : w = 0#32 ∨ w = 1#32 := by
  by_contra hc
  obtain ⟨h0, h1⟩ := not_or.mp hc
  have b0 : (w == 0#32) = false := beq_eq_false_iff_ne.mpr h0
  have b1 : (w == 1#32) = false := beq_eq_false_iff_ne.mpr h1
  simp only [IntOp.cmpi, b0, b1] at h
  exact absurd h (by decide)

theorem tables_of (a0 : FVec F S71680x1024 .f32) (a1 a2 a3 : IVec S280 32) (a4 : FVec F S1024x16 .f32)
    (a5 a6 : FVec F S16x1024x512 .f32) (a7 : FVec F S16x512x1024 .f32) (h : fn (F := F) a0 a1 a2 a3 a4 a5 a6 a7 = fun _ => 1#1) :
    (∀ i, (a1 i).toNat < 16) ∧ (∀ i, (a2 i).toNat < 16) ∧ (∀ i, a3 i = 0#32 ∨ a3 i = 1#32) := by
  have h0 := congrFun h (fun a => a.elim0)
  dsimp only [fn, fn_part1] at h0
  obtain ⟨h1, h2⟩ := IntOp.andi_eq_one.mp h0
  obtain ⟨h3, h4⟩ := IntOp.andi_eq_one.mp h1
  haveI : Subsingleton S_.Idx := ⟨fun a b => funext fun x => x.elim0⟩
  exact ⟨fun i => word_range _ (Host.reduce_andi_all _ _ _ _ _ h3 i), fun i => word_range _ (Host.reduce_andi_all _ _ _ _ _ h4 i),
    fun i => word_flag _ (Host.reduce_andi_all _ _ _ _ _ h2 i)⟩

end Cert.Pre_tables.Val

namespace Cert.MoeIdeal.Val

open Cert.MoeIdeal.Gen Idealize.ShloMosaic Idealize.ShloMosaic.TcCoe Idealize.SL.Sem

variable {F : FTy → Type} [FloatOps F]

theorem at_word0 (pf : pre0.Contents (Elt F)) (i : grid0.Coords) :
    pf.at 0 (Rect.unit (s := S280) (k0_off1 i) S1.size (k0_off1_inb i)) numel1_S1 = word (pf 0) i := by
  have e : (k0_off1 i) 0 = (i 0).val := congrFun (k0_off1_eq i) 0
  refine congrArg (pf 0) (funext fun a : Fin 1 => Fin.ext ?_)
  obtain rfl : a = 0 := Subsingleton.elim _ _
  show (k0_off1 i) 0 + 1 * 0 = (i 0).val
  omega

theorem at_word1 (pf : pre0.Contents (Elt F)) (i : grid0.Coords) :
    pf.at 1 (Rect.unit (s := S280) (k0_off1 i) S1.size (k0_off1_inb i)) numel1_S1 = word (pf 1) i := by
  have e : (k0_off1 i) 0 = (i 0).val := congrFun (k0_off1_eq i) 0
  refine congrArg (pf 1) (funext fun a : Fin 1 => Fin.ext ?_)
  obtain rfl : a = 0 := Subsingleton.elim _ _
  show (k0_off1 i) 0 + 1 * 0 = (i 0).val
  omega

theorem tr2 (pf : pre0.Contents (Elt F)) (i : grid0.Coords) : cc0_transform_2 k0_off1_inb numel1_S1 pf i = ![(word (pf 0) i).toNat, 0, 0] :=
  congrArg (fun w : BitVec 32 => ![w.toNat, 0, 0]) (at_word0 pf i)
theorem tr3 (pf : pre0.Contents (Elt F)) (i : grid0.Coords) : cc0_transform_3 k0_off1_inb numel1_S1 pf i = ![(word (pf 0) i).toNat, 0, 0] :=
  congrArg (fun w : BitVec 32 => ![w.toNat, 0, 0]) (at_word0 pf i)
theorem tr4 (pf : pre0.Contents (Elt F)) (i : grid0.Coords) : cc0_transform_4 k0_off1_inb numel1_S1 pf i = ![(word (pf 0) i).toNat, 0, 0] :=
  congrArg (fun w : BitVec 32 => ![w.toNat, 0, 0]) (at_word0 pf i)
theorem tr5 (pf : pre0.Contents (Elt F)) (i : grid0.Coords) : cc0_transform_5 k0_off1_inb numel1_S1 pf i = ![(word (pf 1) i).toNat, 0, 0] :=
  congrArg (fun w : BitVec 32 => ![w.toNat, 0, 0]) (at_word1 pf i)
theorem tr6 (pf : pre0.Contents (Elt F)) (i : grid0.Coords) : cc0_transform_6 k0_off1_inb numel1_S1 pf i = ![(word (pf 1) i).toNat, 0, 0] :=
  congrArg (fun w : BitVec 32 => ![w.toNat, 0, 0]) (at_word1 pf i)
theorem tr7 (pf : pre0.Contents (Elt F)) (i : grid0.Coords) : cc0_transform_7 k0_off1_inb numel1_S1 pf i = ![(word (pf 1) i).toNat, 0, 0] :=
  congrArg (fun w : BitVec 32 => ![w.toNat, 0, 0]) (at_word1 pf i)

theorem in_up {ix : Fin 3 → ℕ} {w : ℕ} (e : ix = ![w, 0, 0]) (h : w < 16) : ∀ a, (ix a + 1) * S1x1024x512.size a ≤ S16x1024x512.size a := by
  subst e
  intro a
  match a with
  | ⟨0, _⟩ => show (w + 1) * 1 ≤ 16; omega
  | ⟨1, _⟩ => show (0 + 1) * 1024 ≤ 1024; omega
  | ⟨2, _⟩ => show (0 + 1) * 512 ≤ 512; omega

theorem in_down {ix : Fin 3 → ℕ} {w : ℕ} (e : ix = ![w, 0, 0]) (h : w < 16) : ∀ a, (ix a + 1) * S1x512x1024.size a ≤ S16x512x1024.size a := by
  subst e
  intro a
  match a with
  | ⟨0, _⟩ => show (w + 1) * 1 ≤ 16; omega
  | ⟨1, _⟩ => show (0 + 1) * 512 ≤ 512; omega
  | ⟨2, _⟩ => show (0 + 1) * 1024 ≤ 1024; omega

theorem ok_of (pf : pre0.Contents (Elt F)) (h0 : ∀ i, (word (pf 0) i).toNat < 16) (h1 : ∀ i, (word (pf 1) i).toNat < 16) : ok0 pf :=
  ⟨fun i => ⟨in_up (tr2 pf i) (h0 i), .inr (Affine.block_words_dvd (of_decide_eq_true rfl) (by decide))⟩,
    fun i => ⟨in_up (tr3 pf i) (h0 i), .inr (Affine.block_words_dvd (of_decide_eq_true rfl) (by decide))⟩,
    fun i => ⟨in_down (tr4 pf i) (h0 i), .inr (Affine.block_words_dvd (of_decide_eq_true rfl) (by decide))⟩,
    fun i => ⟨in_up (tr5 pf i) (h1 i), .inr (Affine.block_words_dvd (of_decide_eq_true rfl) (by decide))⟩,
    fun i => ⟨in_up (tr6 pf i) (h1 i), .inr (Affine.block_words_dvd (of_decide_eq_true rfl) (by decide))⟩,
    fun i => ⟨in_down (tr7 pf i) (h1 i), .inr (Affine.block_words_dvd (of_decide_eq_true rfl) (by decide))⟩⟩

variable (m : (ℓ : Loc nD τ sig) → Buf (Elt F) ℓ)

theorem tbl0 : (tbl m 0 : S280.Idx → BitVec 32) = m (((0 : Dev nD) : Thread nD τ).loc main_arg1) := V_arg1 m 0
theorem tbl1 : (tbl m 1 : S280.Idx → BitVec 32) = m (((0 : Dev nD) : Thread nD τ).loc main_arg2) := V_arg2 m 0
theorem tbl2 : (tbl m 2 : S280.Idx → BitVec 32) = m (((0 : Dev nD) : Thread nD τ).loc main_arg3) := V_arg3 m 0

/-- The tables as the launch finds them, of arguments that meet the precondition. -/
def Tables : Prop := (∀ i, (word (tbl m 0) i).toNat < 16) ∧ (∀ i, (word (tbl m 1) i).toNat < 16)
  ∧ (∀ i, word (tbl m 2) i = 0#32 ∨ word (tbl m 2) i = 1#32)

variable {m}

theorem tables_met (h : ∀ c : Dev nD, Cert.Pre_tables.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) = (fun _ => 1#1)) :
    Tables m := by
  obtain ⟨h1, h2, h3⟩ := Cert.Pre_tables.Val.tables_of _ _ _ _ _ _ _ _ (h 0)
  refine ⟨fun i => ?_, fun i => ?_, fun i => ?_⟩
  · rw [tbl0]; exact h1 _
  · rw [tbl1]; exact h2 _
  · rw [tbl2]; exact h3 _

theorem Tables.ok (h : Tables m) : Ok m := ok_of _ h.1 h.2.1

theorem Tables.used (h : Tables m) : Used m := fun i => by
  rcases h.2.2 i with e | e <;> rw [e]
  · exact .inr (by decide)
  · exact .inl (by decide)

end Cert.MoeIdeal.Val
-- ==== Proof.MoeRouted.lean ====
/- What the experts' value precondition says: the tables' ranges, and that every entry of the rows and of the router is a real
   number. -/
module

public import proofs.«01_k».proof.Proof.Gen.Pre_routed
public import proofs.«01_k».proof.Proof.MoePre
public import proofs.«01_k».proof.Proof.AttnFinite

@[expose] public section

set_option maxRecDepth 16384

noncomputable section

namespace Cert.Pre_routed.Val

open Cert.Pre_routed Cert.Pre_routed.Gen Idealize.ShloMosaic

theorem routed_of (a0 : FVec Ideal S71680x1024 .f32) (a1 a2 a3 : IVec S280 32) (a4 : FVec Ideal S1024x16 .f32)
    (a5 a6 : FVec Ideal S16x1024x512 .f32) (a7 : FVec Ideal S16x512x1024 .f32) (h : fn (F := Ideal) a0 a1 a2 a3 a4 a5 a6 a7 = fun _ => 1#1) :
    ((∀ i, (a1 i).toNat < 16) ∧ (∀ i, (a2 i).toNat < 16) ∧ (∀ i, a3 i = 0#32 ∨ a3 i = 1#32))
      ∧ (∀ i, ∃ r : ℝ, a0 i = (r : EReal)) ∧ (∀ i, ∃ r : ℝ, a4 i = (r : EReal)) := by
  have h0 := congrFun h (fun a => a.elim0)
  dsimp only [fn, fn_part1] at h0
  obtain ⟨h1, hr⟩ := IntOp.andi_eq_one.mp h0
  obtain ⟨h2, hx⟩ := IntOp.andi_eq_one.mp h1
  obtain ⟨h3, hf⟩ := IntOp.andi_eq_one.mp h2
  obtain ⟨hp, hq⟩ := IntOp.andi_eq_one.mp h3
  haveI : Subsingleton S_.Idx := ⟨fun a b => funext fun x => x.elim0⟩
  exact ⟨⟨fun i => Cert.Pre_tables.Val.word_range _ (Host.reduce_andi_all _ _ _ _ _ hp i),
    fun i => Cert.Pre_tables.Val.word_range _ (Host.reduce_andi_all _ _ _ _ _ hq i),
    fun i => Cert.Pre_tables.Val.word_flag _ (Host.reduce_andi_all _ _ _ _ _ hf i)⟩,
    fun i => Cert.Pre_finite.Val.lt_top_real _ (Host.reduce_andi_all _ _ _ _ _ hx i),
    fun i => Cert.Pre_finite.Val.lt_top_real _ (Host.reduce_andi_all _ _ _ _ _ hr i)⟩

end Cert.Pre_routed.Val

namespace Cert.MoeIdeal.Val

open Cert.MoeIdeal Cert.MoeIdeal.Gen Idealize.ShloMosaic Idealize.ShloMosaic.TcCoe Idealize.SL.Sem

variable {m : (ℓ : Loc nD τ sig) → Buf (Elt Ideal) ℓ}

theorem routed_met (h : ∀ c : Dev nD, Cert.Pre_routed.fn (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) = (fun _ => 1#1)) :
    Tables m := by
  obtain ⟨h1, h2, h3⟩ := (Cert.Pre_routed.Val.routed_of _ _ _ _ _ _ _ _ (h 0)).1
  refine ⟨fun i => ?_, fun i => ?_, fun i => ?_⟩
  · rw [tbl0]; exact h1 _
  · rw [tbl1]; exact h2 _
  · rw [tbl2]; exact h3 _

end Cert.MoeIdeal.Val
-- ==== Proof.MoeWin.lean ====
/- The experts' windows: what each reads of the prepared arrays, and how the result's blocks cover its array. -/
module

public import proofs.«01_k».proof.Proof.MoePre
public import Idealize.ShloMosaic.Lib.Pointwise
public import Idealize.ShloMosaic.Lib.Pipeline.Value

@[expose] public section

set_option maxRecDepth 16384

noncomputable section

namespace Cert.MoeIdeal.Val

open Cert.MoeIdeal Cert.MoeIdeal.Gen Idealize.ShloMosaic Idealize.ShloMosaic.TcCoe Idealize.SL.Sem

variable (m : (ℓ : Loc nD τ sig) → Buf (Elt Ideal) ℓ) (hO : Ok m)

theorem coord : ∀ t : Fin grid0.N, (grid0.coords t 0).val = t.val := by decide +kernel

theorem tr0 (i : grid0.Coords) : cc0_transform_0 i = ![(i 0).val, 0] := by
  have h : (i 0).val < 280 := (i 0).isLt
  show ![(BitVec.ofNat 32 (i 0).val).toNat, 0] = _
  rw [BitVec.toNat_ofNat, Nat.mod_eq_of_lt (by omega)]

theorem tr8 (i : grid0.Coords) : cc0_transform_8 i = ![(i 0).val, 0] := tr0 i

/-- Row `a` of the tile at point `t`. -/
def row (t : Fin (cfgM m hO).N) (a : Fin 256) : Fin 71680 := ⟨256 * t.val + a, by have h : t.val < 280 := t.isLt; omega⟩

theorem hi8 (t : Fin (cfgM m hO).N) : cc0_transform_8 (grid0.coords t) 0 = t.val ∧ cc0_transform_8 (grid0.coords t) 1 = 0 :=
  ⟨(congrFun (tr8 (grid0.coords t)) 0).trans (coord t), congrFun (tr8 (grid0.coords t)) 1⟩

theorem blk0 (c : Dev nD) (t : Fin (cfgM m hO).N) (a : Fin 256) (k : Fin 1024) :
    iblk m hO c 0 t (ix2 a k) = V m c main_arg0 (ix2 (row m hO t a) k) := by
  have hi := hi8 m hO t
  unfold iblk
  refine Eq.trans (View.read_apply ..) ?_
  show V m c main_arg0 _ = V m c main_arg0 _
  congr 1
  funext x
  apply Fin.ext
  match x with
  | ⟨0, _⟩ => show cc0_transform_8 (grid0.coords t) 0 * 256 + 1 * a.val = 256 * t.val + a.val; rw [hi.1]; omega
  | ⟨1, _⟩ => show cc0_transform_8 (grid0.coords t) 1 * 1024 + 1 * k.val = k.val; rw [hi.2]; omega

theorem blk1 (c : Dev nD) (t : Fin (cfgM m hO).N) (k : Fin 1024) (l : Fin 128) :
    iblk m hO c 1 t (ix2 k l) = V m c main_v6 (ix2 k l) := by
  unfold iblk
  refine Eq.trans (View.read_apply ..) ?_
  show V m c main_v6 _ = V m c main_v6 _
  congr 1
  funext x
  apply Fin.ext
  match x with
  | ⟨0, _⟩ => show 0 * 1024 + 1 * k.val = k.val; omega
  | ⟨1, _⟩ => show 0 * 128 + 1 * l.val = l.val; omega

theorem blk2 (c : Dev nD) (t : Fin (cfgM m hO).N) (e : Fin 16) (he : (word (tbl m 0) (grid0.coords t)).toNat = e.val)
    (k : Fin 1024) (f : Fin 512) : iblk m hO c 2 t (ix3 0 k f) = V m c main_v0 (ix3 e k f) := by
  have hi : cc0_transform_2 k0_off1_inb numel1_S1 (tbl m) (grid0.coords t) = ![(word (tbl m 0) (grid0.coords t)).toNat, 0, 0] := tr2 (tbl m) (grid0.coords t)
  unfold iblk
  refine Eq.trans (View.read_apply ..) ?_
  show V m c main_v0 _ = V m c main_v0 _
  congr 1
  funext x
  apply Fin.ext
  match x with
  | ⟨0, _⟩ => show cc0_transform_2 k0_off1_inb numel1_S1 (tbl m) (grid0.coords t) 0 * 1 + 1 * 0 = e.val; rw [hi, ← he]; show (word (tbl m 0) (grid0.coords t)).toNat * 1 + 1 * 0 = _; omega
  | ⟨1, _⟩ => show cc0_transform_2 k0_off1_inb numel1_S1 (tbl m) (grid0.coords t) 1 * 1024 + 1 * k.val = k.val; rw [hi]; show 0 * 1024 + 1 * k.val = k.val; omega
  | ⟨2, _⟩ => show cc0_transform_2 k0_off1_inb numel1_S1 (tbl m) (grid0.coords t) 2 * 512 + 1 * f.val = f.val; rw [hi]; show 0 * 512 + 1 * f.val = f.val; omega

theorem blk3 (c : Dev nD) (t : Fin (cfgM m hO).N) (e : Fin 16) (he : (word (tbl m 0) (grid0.coords t)).toNat = e.val)
    (k : Fin 1024) (f : Fin 512) : iblk m hO c 3 t (ix3 0 k f) = V m c main_v1 (ix3 e k f) := by
  have hi : cc0_transform_3 k0_off1_inb numel1_S1 (tbl m) (grid0.coords t) = ![(word (tbl m 0) (grid0.coords t)).toNat, 0, 0] := tr3 (tbl m) (grid0.coords t)
  unfold iblk
  refine Eq.trans (View.read_apply ..) ?_
  show V m c main_v1 _ = V m c main_v1 _
  congr 1
  funext x
  apply Fin.ext
  match x with
  | ⟨0, _⟩ => show cc0_transform_3 k0_off1_inb numel1_S1 (tbl m) (grid0.coords t) 0 * 1 + 1 * 0 = e.val; rw [hi, ← he]; show (word (tbl m 0) (grid0.coords t)).toNat * 1 + 1 * 0 = _; omega
  | ⟨1, _⟩ => show cc0_transform_3 k0_off1_inb numel1_S1 (tbl m) (grid0.coords t) 1 * 1024 + 1 * k.val = k.val; rw [hi]; show 0 * 1024 + 1 * k.val = k.val; omega
  | ⟨2, _⟩ => show cc0_transform_3 k0_off1_inb numel1_S1 (tbl m) (grid0.coords t) 2 * 512 + 1 * f.val = f.val; rw [hi]; show 0 * 512 + 1 * f.val = f.val; omega

theorem blk4 (c : Dev nD) (t : Fin (cfgM m hO).N) (e : Fin 16) (he : (word (tbl m 0) (grid0.coords t)).toNat = e.val)
    (k : Fin 512) (f : Fin 1024) : iblk m hO c 4 t (ix3 0 k f) = V m c main_v2 (ix3 e k f) := by
  have hi : cc0_transform_4 k0_off1_inb numel1_S1 (tbl m) (grid0.coords t) = ![(word (tbl m 0) (grid0.coords t)).toNat, 0, 0] := tr4 (tbl m) (grid0.coords t)
  unfold iblk
  refine Eq.trans (View.read_apply ..) ?_
  show V m c main_v2 _ = V m c main_v2 _
  congr 1
  funext x
  apply Fin.ext
  match x with
  | ⟨0, _⟩ => show cc0_transform_4 k0_off1_inb numel1_S1 (tbl m) (grid0.coords t) 0 * 1 + 1 * 0 = e.val; rw [hi, ← he]; show (word (tbl m 0) (grid0.coords t)).toNat * 1 + 1 * 0 = _; omega
  | ⟨1, _⟩ => show cc0_transform_4 k0_off1_inb numel1_S1 (tbl m) (grid0.coords t) 1 * 512 + 1 * k.val = k.val; rw [hi]; show 0 * 512 + 1 * k.val = k.val; omega
  | ⟨2, _⟩ => show cc0_transform_4 k0_off1_inb numel1_S1 (tbl m) (grid0.coords t) 2 * 1024 + 1 * f.val = f.val; rw [hi]; show 0 * 1024 + 1 * f.val = f.val; omega

theorem blk5 (c : Dev nD) (t : Fin (cfgM m hO).N) (e : Fin 16) (he : (word (tbl m 1) (grid0.coords t)).toNat = e.val)
    (k : Fin 1024) (f : Fin 512) : iblk m hO c 5 t (ix3 0 k f) = V m c main_v0 (ix3 e k f) := by
  have hi : cc0_transform_5 k0_off1_inb numel1_S1 (tbl m) (grid0.coords t) = ![(word (tbl m 1) (grid0.coords t)).toNat, 0, 0] := tr5 (tbl m) (grid0.coords t)
  unfold iblk
  refine Eq.trans (View.read_apply ..) ?_
  show V m c main_v0 _ = V m c main_v0 _
  congr 1
  funext x
  apply Fin.ext
  match x with
  | ⟨0, _⟩ => show cc0_transform_5 k0_off1_inb numel1_S1 (tbl m) (grid0.coords t) 0 * 1 + 1 * 0 = e.val; rw [hi, ← he]; show (word (tbl m 1) (grid0.coords t)).toNat * 1 + 1 * 0 = _; omega
  | ⟨1, _⟩ => show cc0_transform_5 k0_off1_inb numel1_S1 (tbl m) (grid0.coords t) 1 * 1024 + 1 * k.val = k.val; rw [hi]; show 0 * 1024 + 1 * k.val = k.val; omega
  | ⟨2, _⟩ => show cc0_transform_5 k0_off1_inb numel1_S1 (tbl m) (grid0.coords t) 2 * 512 + 1 * f.val = f.val; rw [hi]; show 0 * 512 + 1 * f.val = f.val; omega

theorem blk6 (c : Dev nD) (t : Fin (cfgM m hO).N) (e : Fin 16) (he : (word (tbl m 1) (grid0.coords t)).toNat = e.val)
    (k : Fin 1024) (f : Fin 512) : iblk m hO c 6 t (ix3 0 k f) = V m c main_v1 (ix3 e k f) := by
  have hi : cc0_transform_6 k0_off1_inb numel1_S1 (tbl m) (grid0.coords t) = ![(word (tbl m 1) (grid0.coords t)).toNat, 0, 0] := tr6 (tbl m) (grid0.coords t)
  unfold iblk
  refine Eq.trans (View.read_apply ..) ?_
  show V m c main_v1 _ = V m c main_v1 _
  congr 1
  funext x
  apply Fin.ext
  match x with
  | ⟨0, _⟩ => show cc0_transform_6 k0_off1_inb numel1_S1 (tbl m) (grid0.coords t) 0 * 1 + 1 * 0 = e.val; rw [hi, ← he]; show (word (tbl m 1) (grid0.coords t)).toNat * 1 + 1 * 0 = _; omega
  | ⟨1, _⟩ => show cc0_transform_6 k0_off1_inb numel1_S1 (tbl m) (grid0.coords t) 1 * 1024 + 1 * k.val = k.val; rw [hi]; show 0 * 1024 + 1 * k.val = k.val; omega
  | ⟨2, _⟩ => show cc0_transform_6 k0_off1_inb numel1_S1 (tbl m) (grid0.coords t) 2 * 512 + 1 * f.val = f.val; rw [hi]; show 0 * 512 + 1 * f.val = f.val; omega

theorem blk7 (c : Dev nD) (t : Fin (cfgM m hO).N) (e : Fin 16) (he : (word (tbl m 1) (grid0.coords t)).toNat = e.val)
    (k : Fin 512) (f : Fin 1024) : iblk m hO c 7 t (ix3 0 k f) = V m c main_v2 (ix3 e k f) := by
  have hi : cc0_transform_7 k0_off1_inb numel1_S1 (tbl m) (grid0.coords t) = ![(word (tbl m 1) (grid0.coords t)).toNat, 0, 0] := tr7 (tbl m) (grid0.coords t)
  unfold iblk
  refine Eq.trans (View.read_apply ..) ?_
  show V m c main_v2 _ = V m c main_v2 _
  congr 1
  funext x
  apply Fin.ext
  match x with
  | ⟨0, _⟩ => show cc0_transform_7 k0_off1_inb numel1_S1 (tbl m) (grid0.coords t) 0 * 1 + 1 * 0 = e.val; rw [hi, ← he]; show (word (tbl m 1) (grid0.coords t)).toNat * 1 + 1 * 0 = _; omega
  | ⟨1, _⟩ => show cc0_transform_7 k0_off1_inb numel1_S1 (tbl m) (grid0.coords t) 1 * 512 + 1 * k.val = k.val; rw [hi]; show 0 * 512 + 1 * k.val = k.val; omega
  | ⟨2, _⟩ => show cc0_transform_7 k0_off1_inb numel1_S1 (tbl m) (grid0.coords t) 2 * 1024 + 1 * f.val = f.val; rw [hi]; show 0 * 1024 + 1 * f.val = f.val; omega

theorem flush8 : ∀ t : Fin (cfgM m hO).N, ((cfgM m hO).win 8).flush t = true :=
  (fun t => (Pipeline.Window.flushOf_reads cc0_transform_8 reads0_8 hreads0_8 0 (by decide) (by decide)
    (Pipeline.Window.sep_of_coord cc0_transform_8 0 0 (fun _ => rfl) (by decide)) (P := 1) (m := 0) (by decide) rfl t).mpr (Nat.mod_one _) :
    ∀ t : Fin grid0.N, Pipeline.Window.flushOf grid0 true cc0_transform_8 t = true)

theorem mem_blk8 (t : Fin (cfgM m hO).N) (i : S71680x1024.Idx) (h : (i 0).val / 256 = t.val) :
    i ∈ (((cfgM m hO).win 8).blk t).view.set := by
  show i ∈ ((View.whole main_v7).slice (((cfgM m hO).win 8).rect t)).set
  refine Eq.mpr (congrArg (fun S => i ∈ S) (View.set_slice_whole ..)) ?_
  refine Rect.mem_set_unit.mpr ?_
  have h1 : (i 1).val < 1024 := (i 1).isLt
  have hi := hi8 m hO t
  intro a
  match a with
  | ⟨0, _⟩ => show cc0_transform_8 (grid0.coords t) 0 * 256 ≤ (i 0).val ∧ (i 0).val < cc0_transform_8 (grid0.coords t) 0 * 256 + 256
              rw [hi.1]; omega
  | ⟨1, _⟩ => show cc0_transform_8 (grid0.coords t) 1 * 1024 ≤ (i 1).val ∧ (i 1).val < cc0_transform_8 (grid0.coords t) 1 * 1024 + 1024
              rw [hi.2]; omega

theorem cover8 (i : S71680x1024.Idx) : ∃ t : Fin (cfgM m hO).N, ((cfgM m hO).win 8).flush t = true ∧ i ∈ (((cfgM m hO).win 8).blk t).view.set := by
  have h0 : (i 0).val < 71680 := (i 0).isLt
  have hN : (cfgM m hO).N = 280 := N_0
  exact ⟨⟨(i 0).val / 256, by omega⟩, flush8 m hO _, mem_blk8 m hO _ i rfl⟩

end Cert.MoeIdeal.Val
-- ==== Proof.MoePoint.lean ====
/- The experts' body over the extended reals, read at an index. -/
module

public import proofs.«01_k».proof.Proof.MoeRun
public import Idealize.ShloMosaic.Lib.Pointwise

@[expose] public section

set_option maxRecDepth 16384

noncomputable section

namespace Cert.MoeIdeal.Val

open Cert.MoeIdeal Cert.MoeIdeal.Gen Idealize.ShloMosaic Idealize.ShloMosaic.TcCoe Idealize.SL.Sem

/-- The logistic function as the kernel computes it. -/
def ksg (z : EReal) : EReal := Ideal.div 1 (1 + Ideal.exp (0 - z))

/-- A row of a block through a matrix. -/
def kpr (x : FVec Ideal S256x1024 .f32) (w : FVec Ideal S1x1024x512 .bf16) (a : Fin 256) (f : Fin 512) : EReal :=
  ∑ k : Fin 1024, x (ix2 a k) * w (ix3 0 k f)

/-- The hidden row of the block. -/
def khd (x : FVec Ideal S256x1024 .f32) (g u : FVec Ideal S1x1024x512 .bf16) (a : Fin 256) (f : Fin 512) : EReal :=
  kpr x g a f * ksg (kpr x g a f) * kpr x u a f

theorem pay3_apply (x : FVec Ideal S256x1024 .f32) (r : FVec Ideal S1024x128 .bf16) (a : Fin 256) (l : Fin 128) :
    k0_pay3 (F := Ideal) x r (ix2 a l) = ksg (∑ k : Fin 1024, x (ix2 a k) * r (ix2 k l)) := by
  unfold k0_pay3 k0_pay2 ksg
  pointwise

theorem pay7_apply (x : FVec Ideal S256x1024 .f32) (w : FVec Ideal S1x1024x512 .bf16) (a : Fin 256) (f : Fin 512) :
    k0_pay7 (F := Ideal) x w (ix2 a f) = kpr x w a f := by
  unfold k0_pay7 k0_pay2 kpr
  pointwise

theorem pay8_apply (x : FVec Ideal S256x1024 .f32) (w : FVec Ideal S1x1024x512 .bf16) (a : Fin 256) (f : Fin 512) :
    k0_pay8 (F := Ideal) x w (ix2 a f) = 1 + Ideal.exp (0 - kpr x w a f) := by
  rw [← pay7_apply]
  unfold k0_pay8
  generalize k0_pay7 (F := Ideal) x w = y
  pointwise

/-- The entry of a row at the lane a word names, as a sum over the lanes. -/
def laneOf (w : BitVec 32) (s : FVec Ideal S256x128 .f32) : FVec Ideal S256x1 .f32 :=
  shapeCast S256x1 (multiReduction .add [1] S256 (select (cmpi .eq (iota .tc S256x128 32 [1] iota_S256x128_d1_w32) (broadcast S256x128 w)) s
    (broadcast S256x128 (Scalar.ofBits .f32 0x00000000#32))) 0x00000000#32 reduces_S256x128_S256 (.inl rfl) rfl) shapeCasts_S256_S256x1

theorem laneOf_apply (w : BitVec 32) (s : FVec Ideal S256x128 .f32) (a : Fin 256) :
    laneOf w s (ix2 a 0) = ∑ l : Fin 128, if BitVec.ofNat 32 l.val = w then s (ix2 a l) else 0 := by
  unfold laneOf
  pointwise
  refine Finset.sum_congr rfl fun l _ => ?_
  rw [WordCmp.cmpi_eq_eq, WordCmp.select_decide]

theorem pay4_eq (x : FVec Ideal S256x1024 .f32) (r : FVec Ideal S1024x128 .bf16) (w : BitVec 32) :
    k0_pay4 (F := Ideal) x r w = laneOf w (k0_pay3 x r) := rfl

theorem pay5_eq (x : FVec Ideal S256x1024 .f32) (r : FVec Ideal S1024x128 .bf16) (w : BitVec 32) :
    k0_pay5 (F := Ideal) x r w = laneOf w (k0_pay3 x r) := rfl

theorem pay6_apply (x : FVec Ideal S256x1024 .f32) (r : FVec Ideal S1024x128 .bf16) (w w' : BitVec 32) (a : Fin 256) :
    k0_pay6 (F := Ideal) x r w w' (ix2 a 0) = Ideal.div 1 (laneOf w (k0_pay3 x r) (ix2 a 0) + laneOf w' (k0_pay3 x r) (ix2 a 0)) := by
  unfold k0_pay6
  rw [pay4_eq, pay5_eq]
  generalize laneOf w (k0_pay3 (F := Ideal) x r) = y
  generalize laneOf w' (k0_pay3 (F := Ideal) x r) = z
  pointwise

theorem mm_apply (x : FVec Ideal S256x1024 .bf16) (w : FVec Ideal S1x1024x512 .bf16) (a : Fin 256) (f : Fin 512) :
    matmul dot_S256x1024_S1024x512_S256x512_1_0_0_1_n_n none x (shapeCast S1024x512 w shapeCasts_S1x1024x512_S1024x512)
      (constant S256x512 .f32 0x00000000#32) (ix2 a f) = ∑ k : Fin 1024, x (ix2 a k) * w (ix3 0 k f) := by
  pointwise

/-- One expert's share of the block's result. -/
def half (g q u : FVec Ideal S256x512 .f32) (s r : FVec Ideal S256x1 .f32) (d : FVec Ideal S1x512x1024 .bf16) : FVec Ideal S256x1024 .f32 :=
  matmul dot_S256x512_S512x1024_S256x1024_1_0_0_1_n_n none
    (truncf .bf16 (mulf (mulf (mulf g (divf (broadcast S256x512 (Scalar.ofBits .f32 0x3F800000#32)) q)) u)
      (broadcastTo S256x512 (mulf s r) broadcasts_S256x1_S256x512)) bitsLt_bf16_f32)
    (shapeCast S512x1024 d shapeCasts_S1x512x1024_S512x1024) (constant S256x1024 .f32 0x00000000#32)

theorem half_apply (g q u : FVec Ideal S256x512 .f32) (s r : FVec Ideal S256x1 .f32) (d : FVec Ideal S1x512x1024 .bf16)
    (a : Fin 256) (c : Fin 1024) :
    half g q u s r d (ix2 a c)
      = ∑ f : Fin 512, g (ix2 a f) * Ideal.div 1 (q (ix2 a f)) * u (ix2 a f) * (s (ix2 a 0) * r (ix2 a 0)) * d (ix3 0 f c) := by
  unfold half
  pointwise

def times (x : FVec Ideal S256x1024 .bf16) (w : FVec Ideal S1x1024x512 .bf16) : FVec Ideal S256x512 .f32 :=
  matmul dot_S256x1024_S1024x512_S256x512_1_0_0_1_n_n none x (shapeCast S1024x512 w shapeCasts_S1x1024x512_S1024x512)
      (constant S256x512 .f32 0x00000000#32)

theorem times_apply (x : FVec Ideal S256x1024 .f32) (w : FVec Ideal S1x1024x512 .bf16) (a : Fin 256) (f : Fin 512) :
    times (k0_pay2 x) w (ix2 a f) = kpr x w a f := by
  unfold times kpr k0_pay2
  pointwise

def expNeg (z : FVec Ideal S256x512 .f32) : FVec Ideal S256x512 .f32 :=
  addf (broadcast S256x512 (Scalar.ofBits .f32 0x3F800000#32)) (exp (subf (broadcast S256x512 (Scalar.ofBits .f32 0x00000000#32)) z))

theorem expNeg_apply (z : FVec Ideal S256x512 .f32) (a : Fin 256) (f : Fin 512) :
    expNeg z (ix2 a f) = 1 + Ideal.exp (0 - z (ix2 a f)) := by
  unfold expNeg
  pointwise

theorem pay9_eq (v11 : FVec Ideal S256x1024 .bf16) (v30 v38 v41 : FVec Ideal S256x1 .f32) (v44 v49 : FVec Ideal S256x512 .f32)
    (v53 v60 v71 : Vec Ideal S1x1024x512 .bf16) (v79 v83 : Vec Ideal S1x512x1024 .bf16) :
    k0_pay9 (F := Ideal) v11 v30 v38 v41 v44 v49 (Scalar.ofBits .f32 0x3F800000#32) v53 v60 v71 v79 v83
      = addf (half v44 v49 (times v11 v53) v30 v41 v79) (half (times v11 v60) (expNeg (times v11 v60)) (times v11 v71) v38 v41 v83) := rfl

theorem pay1_apply (a : Fin 256) (c : Fin 1024) : k0_pay1 (F := Ideal) (ix2 a c) = 0 := by
  unfold k0_pay1
  pointwise

/-- One expert's share of row `a`, column `c`. -/
def kshare (x : FVec Ideal S256x1024 .f32) (g u : FVec Ideal S1x1024x512 .bf16) (d : FVec Ideal S1x512x1024 .bf16) (s r : EReal)
    (a : Fin 256) (c : Fin 1024) : EReal :=
  ∑ f : Fin 512, khd x g u a f * (s * r) * d (ix3 0 f c)

theorem tileOut_used (x0 : Vec Ideal S256x1024 .f32) (x1 : Vec Ideal S1024x128 .bf16) (x2 x3 : Vec Ideal S1x1024x512 .bf16) (x4 : Vec Ideal S1x512x1024 .bf16)
    (x5 x6 : Vec Ideal S1x1024x512 .bf16) (x7 : Vec Ideal S1x512x1024 .bf16) (w0 w1 : BitVec 32) (a : Fin 256) (c : Fin 1024) (s1 s2 : EReal)
    (h1 : laneOf w0 (k0_pay3 x0 x1) (ix2 a 0) = s1) (h2 : laneOf w1 (k0_pay3 x0 x1) (ix2 a 0) = s2) :
    tileOut x0 x1 x2 x3 x4 x5 x6 x7 w0 w1 1#32 (ix2 a c)
      = kshare x0 x2 x3 x4 s1 (Ideal.div 1 (s1 + s2)) a c + kshare x0 x5 x6 x7 s2 (Ideal.div 1 (s1 + s2)) a c := by
  unfold tileOut
  rw [if_neg (by decide), pay9_eq]
  show half _ _ _ _ _ _ (ix2 a c) + half _ _ _ _ _ _ (ix2 a c) = _
  rw [half_apply, half_apply]
  simp only [pay4_eq, pay5_eq, pay6_apply, h1, h2, pay7_apply, pay8_apply, times_apply, expNeg_apply]
  rfl

theorem tileOut_unused (x0 : Vec Ideal S256x1024 .f32) (x1 : Vec Ideal S1024x128 .bf16) (x2 x3 : Vec Ideal S1x1024x512 .bf16) (x4 : Vec Ideal S1x512x1024 .bf16)
    (x5 x6 : Vec Ideal S1x1024x512 .bf16) (x7 : Vec Ideal S1x512x1024 .bf16) (w0 w1 : BitVec 32) (a : Fin 256) (c : Fin 1024) :
    tileOut x0 x1 x2 x3 x4 x5 x6 x7 w0 w1 0#32 (ix2 a c) = 0 := by
  unfold tileOut
  rw [if_pos (by decide), pay1_apply]

end Cert.MoeIdeal.Val
-- ==== Proof.MoeHost.lean ====
/- The arrays the experts' host code prepares, read at an index: the weights, and the router padded to 128 lanes. -/
module

public import proofs.«01_k».proof.Proof.MoeFrame
public import Idealize.ShloMosaic.Lib.Pointwise
public import Idealize.ShloMosaic.Lib.Routing.OpsSet

@[expose] public section

set_option maxRecDepth 16384

noncomputable section

namespace Cert.MoeIdeal.Val

open Cert.MoeIdeal Cert.MoeIdeal.Gen Idealize.ShloMosaic Idealize.ShloMosaic.TcCoe Idealize.SL.Sem

/-- The router padded to 128 lanes. -/
def lanes (r : FVec Ideal S1024x16 .f32) : FVec Ideal S1024x128 .bf16 :=
  Host.scatter scatter_S1024x128_S1_S1024x16_01_n_1_0 (fun _ b => b)
    (broadcastInDim S1024x128 ![] bcast_S_S1024x128 (constant S_ .bf16 0x0000#16))
    (broadcastInDim S1 ![] bcast_S_S1 (constantI S_ 32 0#32)) (truncf .bf16 r bitsLt_bf16_f32)

/-- Entry `(k, l)` of the router's update lands at entry `(k, l)` of the padded router. -/
theorem lands (k : Fin 1024) (l : Fin 16) (k' : Fin 1024) (l' : Fin 128) :
    (scatter_S1024x128_S1_S1024x16_01_n_1_0).resultIdx? (ix2 k l)
      (broadcastInDim S1 ![] bcast_S_S1 (constantI S_ 32 0#32) : IVec S1 32) = some (ix2 k' l') ↔ k.val = k'.val ∧ l.val = l'.val := by
  refine (Routing.resultIdx?_ix2 _ _ _ k' l').trans ?_
  have s0 : (scatter_S1024x128_S1_S1024x16_01_n_1_0).start (ix2 k l) (broadcastInDim S1 ![] bcast_S_S1 (constantI S_ 32 0#32) : IVec S1 32) 0 = 0 := rfl
  have s1 : (scatter_S1024x128_S1_S1024x16_01_n_1_0).start (ix2 k l) (broadcastInDim S1 ![] bcast_S_S1 (constantI S_ 32 0#32) : IVec S1 32) 1 = 0 := rfl
  have w0 : (scatter_S1024x128_S1_S1024x16_01_n_1_0).window (ix2 k l) 0 = k.val := rfl
  have w1 : (scatter_S1024x128_S1_S1024x16_01_n_1_0).window (ix2 k l) 1 = l.val := rfl
  rw [s0, s1, w0, w1]
  omega

theorem lanes_apply (r : FVec Ideal S1024x16 .f32) (k : Fin 1024) (l : Fin 16) :
    lanes r (ix2 k ⟨l, by omega⟩) = r (ix2 k l) := by
  unfold lanes
  refine Routing.scatter_set_hit _ _ _ _ _ _ (fun j hj => ?_) (ix2 k l) ((lands k l k _).2 ⟨rfl, rfl⟩)
  have ej : j = ix2 (j 0) (j 1) := eq_ix2 j
  rw [ej] at hj ⊢
  obtain ⟨h0, h1⟩ := (lands (j 0) (j 1) k _).1 hj
  show r (ix2 (j 0) (j 1)) = r (ix2 k l)
  congr 2
  · exact Fin.ext h0
  · exact Fin.ext h1

variable (m : (ℓ : Loc nD τ sig) → Buf (Elt Ideal) ℓ)

theorem V_lanes (c : Dev nD) : V m c main_v6 = lanes (m ((c : Thread nD τ).loc main_arg4)) := by
  unfold V
  after_reads_simp <;> rfl

theorem V_gate (c : Dev nD) : V m c main_v0 = (truncf .bf16 (m ((c : Thread nD τ).loc main_arg5) : FVec Ideal S16x1024x512 .f32) bitsLt_bf16_f32 : FVec Ideal S16x1024x512 .bf16) := by
  unfold V
  after_reads_simp <;> rfl

theorem V_up (c : Dev nD) : V m c main_v1 = (truncf .bf16 (m ((c : Thread nD τ).loc main_arg6) : FVec Ideal S16x1024x512 .f32) bitsLt_bf16_f32 : FVec Ideal S16x1024x512 .bf16) := by
  unfold V
  after_reads_simp <;> rfl

theorem V_down (c : Dev nD) : V m c main_v2 = (truncf .bf16 (m ((c : Thread nD τ).loc main_arg7) : FVec Ideal S16x512x1024 .f32) bitsLt_bf16_f32 : FVec Ideal S16x512x1024 .bf16) := by
  unfold V
  after_reads_simp <;> rfl

end Cert.MoeIdeal.Val
-- ==== Proof.MoeRef.lean ====
/- The experts' reference, read at an index: the sum over the experts of gate times the expert's result, on the rows of the
   tiles in use. -/
module

public import proofs.«01_k».proof.Proof.Gen.MoeRefIdeal.Run
public import Idealize.ShloMosaic.Lib.Pointwise
public import Idealize.ShloMosaic.Lib.WordCmp

@[expose] public section

set_option maxRecDepth 16384

noncomputable section

namespace Cert.MoeSpec

open Idealize.ShloMosaic

/-- The logistic function, from its quotient. -/
def sg (z : EReal) : EReal := Ideal.div 1 (1 + Ideal.exp (-z))

/-- The score of expert `e` on row `n`. -/
def sc (x : Vec Ideal ⟨2, ![71680, 1024]⟩ .f32) (r : Vec Ideal ⟨2, ![1024, 16]⟩ .f32) (n : Fin 71680) (e : Fin 16) : EReal :=
  sg (∑ k : Fin 1024, x (ix2 n k) * r (ix2 k e))

/-- Row `n` through the first matrices of expert `e`. -/
def pr (x : Vec Ideal ⟨2, ![71680, 1024]⟩ .f32) (w : Vec Ideal ⟨3, ![16, 1024, 512]⟩ .f32) (n : Fin 71680) (e : Fin 16) (f : Fin 512) : EReal :=
  ∑ k : Fin 1024, x (ix2 n k) * w (ix3 e k f)

/-- The hidden row of expert `e`. -/
def hd (x : Vec Ideal ⟨2, ![71680, 1024]⟩ .f32) (g u : Vec Ideal ⟨3, ![16, 1024, 512]⟩ .f32) (n : Fin 71680) (e : Fin 16) (f : Fin 512) : EReal :=
  pr x g n e f * sg (pr x g n e f) * pr x u n e f

end Cert.MoeSpec

namespace Cert.MoeRefIdeal.Val

open Cert.MoeRefIdeal Cert.MoeRefIdeal.Gen Idealize.ShloMosaic Idealize.ShloMosaic.TcCoe Idealize.SL.Sem

def pairs (e1 e2 : IVec S280 32) : IVec S71680x2 32 :=
  shapeCast _ (broadcastInDim S280x256x2 ![0, 2] bcast_S280x2_S280x256x2_0_2 (concatenate S280x2 1 [⟨S280x1, (broadcastInDim S280x1 ![0] bcast_S280_S280x1_0 e1)⟩, ⟨S280x1, (broadcastInDim S280x1 ![0] bcast_S280_S280x1_0 e2)⟩] concatenates_S280x1_S280x1_S280x2_d1)) shapeCasts_S280x256x2_S71680x2

def hot (p : IVec S71680x2 32) : FVec Ideal S71680x2x16 .f32 :=
  uitofp .f32 (cmpi .eq (broadcastInDim S71680x2x16 ![0, 1, 2] bcast_S71680x2x1_S71680x2x16_0_1_2 (broadcastInDim S71680x2x1 ![0, 1] bcast_S71680x2_S71680x2x1_0_1 p)) (broadcastInDim S71680x2x16 ![0, 1, 2] bcast_S1x1x16_S71680x2x16_0_1_2 (iotaInDim S1x1x16 32 2)))

def scores (x : FVec Ideal S71680x1024 .f32) (r : FVec Ideal S1024x16 .f32) : FVec Ideal S71680x16 .f32 :=
  Host.divf (broadcastInDim S71680x16 ![] bcast_S_S71680x16 (constant S_ .f32 0x3F800000#32)) (addf (broadcastInDim S71680x16 ![] bcast_S_S71680x16 (constant S_ .f32 0x3F800000#32)) (Host.exp (Host.negf (Host.dotGeneral dot_S71680x1024_S1024x16_S71680x16_1_0_0_1_n_n none x r))))

def picked (h : FVec Ideal S71680x2x16 .f32) (s : FVec Ideal S71680x16 .f32) : FVec Ideal S71680x2 .f32 :=
  Host.reduceAdd (mulf h (broadcastInDim S71680x2x16 ![0, 1, 2] bcast_S71680x1x16_S71680x2x16_0_1_2 (broadcastInDim S71680x1x16 ![0, 2] bcast_S71680x16_S71680x1x16_0_2 s))) (constant S_ .f32 0x00000000#32) reducesTo_S71680x2x16_S71680x2_d2 h_S_

def shares (p : FVec Ideal S71680x2 .f32) : FVec Ideal S71680x2 .f32 :=
  Host.divf p (broadcastInDim S71680x2 ![0, 1] bcast_S71680x1_S71680x2_0_1 (broadcastInDim S71680x1 ![0] bcast_S71680_S71680x1_0 (Host.reduceAdd p (constant S_ .f32 0x00000000#32) reducesTo_S71680x2_S71680_d1 h_S_)))

def gate (h : FVec Ideal S71680x2x16 .f32) (w : FVec Ideal S71680x2 .f32) : FVec Ideal S71680x16 .f32 :=
  Host.reduceAdd (mulf h (broadcastInDim S71680x2x16 ![0, 1, 2] bcast_S71680x2x1_S71680x2x16_0_1_2 (broadcastInDim S71680x2x1 ![0, 1] bcast_S71680x2_S71680x2x1_0_1 w))) (constant S_ .f32 0x00000000#32) reducesTo_S71680x2x16_S71680x16_d1 h_S_

def proj (x : FVec Ideal S71680x1024 .f32) (w : FVec Ideal S16x1024x512 .f32) : FVec Ideal S71680x16x512 .f32 :=
  Host.dotGeneral dot_S71680x1024_S16x1024x512_S71680x16x512_1_1_0_02_n_n none x w

def hidden (g u : FVec Ideal S71680x16x512 .f32) : FVec Ideal S71680x16x512 .f32 :=
  mulf (mulf g (Host.divf (broadcastInDim S71680x16x512 ![] bcast_S_S71680x16x512 (constant S_ .f32 0x3F800000#32)) (addf (broadcastInDim S71680x16x512 ![] bcast_S_S71680x16x512 (constant S_ .f32 0x3F800000#32)) (Host.exp (Host.negf g))))) u

def down (d : FVec Ideal S16x512x1024 .f32) (h : FVec Ideal S71680x16x512 .f32) : FVec Ideal S71680x16x1024 .f32 :=
  transpose S71680x16x1024 [2, 0, 1] (Host.dotGeneral dot_S16x512x1024_S71680x16x512_S16x1024x71680_1_2_2_0_0_1 none d h) transposes_S16x1024x71680_S71680x16x1024_2_0_1

def mix (g : FVec Ideal S71680x16 .f32) (y : FVec Ideal S71680x16x1024 .f32) : FVec Ideal S71680x1024 .f32 :=
  Host.reduceAdd (mulf (broadcastInDim S71680x16x1024 ![0, 1, 2] bcast_S71680x16x1_S71680x16x1024_0_1_2 (broadcastInDim S71680x16x1 ![0, 1] bcast_S71680x16_S71680x16x1_0_1 g)) y) (constant S_ .f32 0x00000000#32) reducesTo_S71680x16x1024_S71680x1024_d1 h_S_

def masked (f : IVec S280 32) (y : FVec Ideal S71680x1024 .f32) : FVec Ideal S71680x1024 .f32 :=
  select (broadcastInDim S71680x1024 ![0, 1] bcast_S71680x1_S71680x1024_0_1 (cmpi .eq (broadcastInDim S71680x1 ![0] bcast_S71680_S71680x1_0 (shapeCast _ (broadcastInDim S280x256 ![0] bcast_S280_S280x256_0 f) shapeCasts_S280x256_S71680)) (broadcastInDim S71680x1 ![] bcast_S_S71680x1 (constantI S_ 32 1#32)))) y (broadcastInDim S71680x1024 ![] bcast_S_S71680x1024 (id (constant S_ .f32 0x00000000#32)))

def whole (x : FVec Ideal S71680x1024 .f32) (e1 e2 f : IVec S280 32) (r : FVec Ideal S1024x16 .f32)
    (wg wu : FVec Ideal S16x1024x512 .f32) (wd : FVec Ideal S16x512x1024 .f32) : FVec Ideal S71680x1024 .f32 :=
  masked f (mix (gate (hot (pairs e1 e2)) (shares (picked (hot (pairs e1 e2)) (scores x r)))) (down wd (hidden (proj x wg) (proj x wu))))

theorem res_eq (m : (ℓ : Loc nD τ sig) → Buf (Elt Ideal) ℓ) (c : Dev nD) :
    Value.res_out0 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold Value.res_out0 Value.res_main_v40 whole masked mix gate hot pairs shares picked scores down hidden proj
  rfl

theorem pairs_zero (e1 e2 : IVec S280 32) (t : Fin 280) (a : Fin 256) :
    pairs e1 e2 (ix2 ⟨256 * t + a, by omega⟩ 0) = e1 (ix1 t) := by
  unfold pairs
  pointwise

theorem pairs_one (e1 e2 : IVec S280 32) (t : Fin 280) (a : Fin 256) :
    pairs e1 e2 (ix2 ⟨256 * t + a, by omega⟩ 1) = e2 (ix1 t) := by
  unfold pairs
  pointwise

theorem hot_apply (p : IVec S71680x2 32) (n : Fin 71680) (j : Fin 2) (e : Fin 16) :
    hot p (ix3 n j e) = if p (ix2 n j) = BitVec.ofNat 32 e.val then 1 else 0 := by
  unfold hot
  pointwise
  rw [WordCmp.cmpi_eq_eq]
  by_cases h : p (ix2 n j) = BitVec.ofNat 32 e.val
  · rw [if_pos h, decide_eq_true h]
    show (((1 : ℕ) : ℝ) : EReal) = 1
    simp
  · rw [if_neg h, decide_eq_false h]
    show (((0 : ℕ) : ℝ) : EReal) = 0
    simp

theorem scores_apply (x : FVec Ideal S71680x1024 .f32) (r : FVec Ideal S1024x16 .f32) (n : Fin 71680) (e : Fin 16) :
    scores x r (ix2 n e) = MoeSpec.sc x r n e := by
  unfold scores MoeSpec.sc MoeSpec.sg
  pointwise

theorem picked_apply (h : FVec Ideal S71680x2x16 .f32) (s : FVec Ideal S71680x16 .f32) (n : Fin 71680) (j : Fin 2) :
    picked h s (ix2 n j) = ∑ e : Fin 16, h (ix3 n j e) * s (ix2 n e) := by
  unfold picked
  pointwise

theorem shares_apply (p : FVec Ideal S71680x2 .f32) (n : Fin 71680) (j : Fin 2) :
    shares p (ix2 n j) = Ideal.div (p (ix2 n j)) (∑ i : Fin 2, p (ix2 n i)) := by
  unfold shares
  pointwise

theorem gate_apply (h : FVec Ideal S71680x2x16 .f32) (w : FVec Ideal S71680x2 .f32) (n : Fin 71680) (e : Fin 16) :
    gate h w (ix2 n e) = ∑ j : Fin 2, h (ix3 n j e) * w (ix2 n j) := by
  unfold gate
  pointwise

theorem proj_apply (x : FVec Ideal S71680x1024 .f32) (w : FVec Ideal S16x1024x512 .f32) (n : Fin 71680) (e : Fin 16) (f : Fin 512) :
    proj x w (ix3 n e f) = MoeSpec.pr x w n e f := by
  unfold proj MoeSpec.pr
  pointwise

theorem hidden_apply (g u : FVec Ideal S71680x16x512 .f32) (n : Fin 71680) (e : Fin 16) (f : Fin 512) :
    hidden g u (ix3 n e f) = g (ix3 n e f) * MoeSpec.sg (g (ix3 n e f)) * u (ix3 n e f) := by
  unfold hidden MoeSpec.sg
  pointwise

theorem down_apply (d : FVec Ideal S16x512x1024 .f32) (h : FVec Ideal S71680x16x512 .f32) (n : Fin 71680) (e : Fin 16) (c : Fin 1024) :
    down d h (ix3 n e c) = ∑ f : Fin 512, d (ix3 e f c) * h (ix3 n e f) := by
  unfold down
  pointwise

theorem mix_apply (g : FVec Ideal S71680x16 .f32) (y : FVec Ideal S71680x16x1024 .f32) (n : Fin 71680) (c : Fin 1024) :
    mix g y (ix2 n c) = ∑ e : Fin 16, g (ix2 n e) * y (ix3 n e c) := by
  unfold mix
  pointwise

theorem masked_apply (f : IVec S280 32) (y : FVec Ideal S71680x1024 .f32) (t : Fin 280) (a : Fin 256) (c : Fin 1024) :
    masked f y (ix2 ⟨256 * t + a, by omega⟩ c)
      = if f (ix1 t) = 1#32 then y (ix2 ⟨256 * t + a, by omega⟩ c) else 0 := by
  unfold masked
  pointwise
  rw [WordCmp.cmpi_eq_eq, WordCmp.select_decide]
  have z : (id (constant (F := Ideal) S_ FTy.f32 0#32) ix0 : EReal) = 0 := by
    show Ideal.ofBits .f32 0#32 = 0
    simp [Ideal.ofBits, Ideal.ieee]
  exact congrArg (ite _ _) z

end Cert.MoeRefIdeal.Val
-- ==== Proof.MoeMath.lean ====
/- The experts' mathematics over the extended reals: with real scores, the reference's sum over all experts is the sum of the
   two chosen ones, each weighted by its score over the two scores' sum. -/
module

public import proofs.«01_k».proof.Proof.MoeRef
public import proofs.«01_k».proof.Proof.ERealMath

@[expose] public section

set_option maxRecDepth 16384

noncomputable section

namespace Cert.MoeSpec

open Idealize.ShloMosaic

/-- The expert a table's word names. -/
def ex (w : BitVec 32) : Fin 16 := ⟨w.toNat % 16, by omega⟩

theorem ex_eq (w : BitVec 32) (h : w.toNat < 16) (e : Fin 16) : w = BitVec.ofNat 32 e.val ↔ ex w = e := by
  have he := e.isLt
  constructor
  · rintro rfl
    apply Fin.ext
    show (BitVec.ofNat 32 e.val).toNat % 16 = e.val
    rw [BitVec.toNat_ofNat]; omega
  · rintro rfl
    apply BitVec.eq_of_toNat_eq
    rw [BitVec.toNat_ofNat]
    show w.toNat = (w.toNat % 16) % 2 ^ 32
    omega

/-- One chosen expert's share. -/
def share (x : Vec Ideal ⟨2, ![71680, 1024]⟩ .f32) (g u : Vec Ideal ⟨3, ![16, 1024, 512]⟩ .f32) (d : Vec Ideal ⟨3, ![16, 512, 1024]⟩ .f32)
    (n : Fin 71680) (c : Fin 1024) (e : Fin 16) (w : EReal) : EReal :=
  ∑ f : Fin 512, hd x g u n e f * w * d (ix3 e f c)

/-- The mixture of the experts `e1` and `e2` on row `n`. -/
def out (x : Vec Ideal ⟨2, ![71680, 1024]⟩ .f32) (r : Vec Ideal ⟨2, ![1024, 16]⟩ .f32) (g u : Vec Ideal ⟨3, ![16, 1024, 512]⟩ .f32)
    (d : Vec Ideal ⟨3, ![16, 512, 1024]⟩ .f32) (n : Fin 71680) (c : Fin 1024) (e1 e2 : Fin 16) : EReal :=
  share x g u d n c e1 (sc x r n e1 * Ideal.div 1 (sc x r n e1 + sc x r n e2))
    + share x g u d n c e2 (sc x r n e2 * Ideal.div 1 (sc x r n e1 + sc x r n e2))

theorem sg_real (z : ℝ) : ∃ s : ℝ, 0 < s ∧ sg (z : EReal) = (s : EReal) := by
  have hp : 0 < 1 + Real.exp (-z) := by positivity
  refine ⟨1 / (1 + Real.exp (-z)), by positivity, ?_⟩
  unfold sg
  rw [← EReal.coe_neg, Ideal.exp_coe, ← EReal.coe_one, ← EReal.coe_add, Ideal.div_coe hp.ne', EReal.coe_one, one_mul]

theorem sc_real (x : Vec Ideal ⟨2, ![71680, 1024]⟩ .f32) (r : Vec Ideal ⟨2, ![1024, 16]⟩ .f32)
    (hx : ∀ i, ∃ a : ℝ, x i = (a : EReal)) (hr : ∀ i, ∃ a : ℝ, r i = (a : EReal)) (n : Fin 71680) (e : Fin 16) :
    ∃ s : ℝ, 0 < s ∧ sc x r n e = (s : EReal) := by
  choose a ha using hx
  choose b hb using hr
  unfold sc
  have : (∑ k : Fin 1024, x (ix2 n k) * r (ix2 k e)) = ((∑ k : Fin 1024, a (ix2 n k) * b (ix2 k e) : ℝ) : EReal) := by
    rw [ERealMath.coe_sum]
    refine Finset.sum_congr rfl fun k _ => ?_
    rw [ha, hb, EReal.coe_mul]
  rw [this]
  exact sg_real _

/-- A sum of terms picked by a one-hot row. -/
theorem pick (e1 : Fin 16) (s : Fin 16 → EReal) : (∑ e : Fin 16, (if e1 = e then (1 : EReal) else 0) * s e) = s e1 := by
  simp only [ite_mul, one_mul, zero_mul]
  rw [Finset.sum_ite_eq]
  exact if_pos (Finset.mem_univ _)

theorem pick_real (e1 : Fin 16) (a : EReal) (Y : Fin 16 → EReal) :
    (∑ e : Fin 16, (if e1 = e then (1 : EReal) else 0) * a * Y e) = a * Y e1 := by
  simp only [ite_mul, one_mul, zero_mul]
  rw [Finset.sum_ite_eq]
  exact if_pos (Finset.mem_univ _)

theorem mixture (e1 e2 : Fin 16) (a b : EReal) (ha : 0 ≤ a) (hb : 0 ≤ b) (Y : Fin 16 → EReal) :
    (∑ e : Fin 16, ((if e1 = e then (1 : EReal) else 0) * a + (if e2 = e then (1 : EReal) else 0) * b) * Y e)
      = a * Y e1 + b * Y e2 := by
  rw [← pick_real e1 a Y, ← pick_real e2 b Y, ← Finset.sum_add_distrib]
  refine Finset.sum_congr rfl fun e _ => ?_
  refine EReal.right_distrib_of_nonneg ?_ ?_
  · split
    · rw [one_mul]; exact ha
    · rw [zero_mul]
  · split
    · rw [one_mul]; exact hb
    · rw [zero_mul]

end Cert.MoeSpec

namespace Cert.MoeRefIdeal.Val

open Cert.MoeRefIdeal Cert.MoeRefIdeal.Gen Idealize.ShloMosaic Idealize.ShloMosaic.TcCoe Idealize.SL.Sem

theorem share_eq (x : FVec Ideal S71680x1024 .f32) (wg wu : FVec Ideal S16x1024x512 .f32) (wd : FVec Ideal S16x512x1024 .f32)
    (n : Fin 71680) (c : Fin 1024) (e : Fin 16) (w : ℝ) (hw : 0 ≤ w) :
    (w : EReal) * down wd (hidden (proj x wg) (proj x wu)) (ix3 n e c) = MoeSpec.share x wg wu wd n c e (w : EReal) := by
  rw [down_apply, mul_comm, ERealMath.mul_sum _ _ _ hw]
  unfold MoeSpec.share MoeSpec.hd
  refine Finset.sum_congr rfl fun f _ => ?_
  rw [hidden_apply, proj_apply, proj_apply]
  rw [mul_assoc, mul_comm]

theorem whole_apply (x : FVec Ideal S71680x1024 .f32) (e1 e2 f : IVec S280 32) (r : FVec Ideal S1024x16 .f32)
    (wg wu : FVec Ideal S16x1024x512 .f32) (wd : FVec Ideal S16x512x1024 .f32)
    (hx : ∀ i, ∃ a : ℝ, x i = (a : EReal)) (hr : ∀ i, ∃ a : ℝ, r i = (a : EReal))
    (h1 : ∀ i, (e1 i).toNat < 16) (h2 : ∀ i, (e2 i).toNat < 16) (t : Fin 280) (a : Fin 256) (c : Fin 1024) :
    whole x e1 e2 f r wg wu wd (ix2 ⟨256 * t + a, by omega⟩ c)
      = if f (ix1 t) = 1#32 then
          MoeSpec.out x r wg wu wd ⟨256 * t + a, by omega⟩ c (MoeSpec.ex (e1 (ix1 t))) (MoeSpec.ex (e2 (ix1 t)))
        else 0 := by
  unfold whole
  rw [masked_apply]
  refine if_congr Iff.rfl ?_ rfl
  obtain ⟨s1, p1, q1⟩ := MoeSpec.sc_real x r hx hr ⟨256 * t + a, by omega⟩ (MoeSpec.ex (e1 (ix1 t)))
  obtain ⟨s2, p2, q2⟩ := MoeSpec.sc_real x r hx hr ⟨256 * t + a, by omega⟩ (MoeSpec.ex (e2 (ix1 t)))
  have hot0 : ∀ e : Fin 16, hot (pairs e1 e2) (ix3 ⟨256 * t + a, by omega⟩ 0 e) = if MoeSpec.ex (e1 (ix1 t)) = e then 1 else 0 := fun e => by
    rw [hot_apply, pairs_zero]
    exact if_congr (MoeSpec.ex_eq _ (h1 _) e) rfl rfl
  have hot1 : ∀ e : Fin 16, hot (pairs e1 e2) (ix3 ⟨256 * t + a, by omega⟩ 1 e) = if MoeSpec.ex (e2 (ix1 t)) = e then 1 else 0 := fun e => by
    rw [hot_apply, pairs_one]
    exact if_congr (MoeSpec.ex_eq _ (h2 _) e) rfl rfl
  have hp : (0 : ℝ) < s1 + s2 := by positivity
  have pk0 : picked (hot (pairs e1 e2)) (scores x r) (ix2 ⟨256 * t + a, by omega⟩ 0) = (s1 : EReal) := by
    rw [picked_apply]
    simp only [hot0, scores_apply]
    rw [MoeSpec.pick, q1]
  have pk1 : picked (hot (pairs e1 e2)) (scores x r) (ix2 ⟨256 * t + a, by omega⟩ 1) = (s2 : EReal) := by
    rw [picked_apply]
    simp only [hot1, scores_apply]
    rw [MoeSpec.pick, q2]
  have w0 : shares (picked (hot (pairs e1 e2)) (scores x r)) (ix2 ⟨256 * t + a, by omega⟩ 0) = ((s1 * (1 / (s1 + s2)) : ℝ) : EReal) := by
    rw [shares_apply, Fin.sum_univ_two, pk0, pk1, ← EReal.coe_add, Ideal.div_coe hp.ne', EReal.coe_mul]
  have w1 : shares (picked (hot (pairs e1 e2)) (scores x r)) (ix2 ⟨256 * t + a, by omega⟩ 1) = ((s2 * (1 / (s1 + s2)) : ℝ) : EReal) := by
    rw [shares_apply, Fin.sum_univ_two, pk0, pk1, ← EReal.coe_add, Ideal.div_coe hp.ne', EReal.coe_mul]
  have n0 : (0 : ℝ) ≤ s1 * (1 / (s1 + s2)) := by positivity
  have n1 : (0 : ℝ) ≤ s2 * (1 / (s1 + s2)) := by positivity
  rw [mix_apply]
  simp only [gate_apply, Fin.sum_univ_two, hot0, hot1, w0, w1]
  rw [MoeSpec.mixture _ _ _ _ (by exact_mod_cast n0) (by exact_mod_cast n1), share_eq _ _ _ _ _ _ _ _ n0, share_eq _ _ _ _ _ _ _ _ n1]
  unfold MoeSpec.out
  rw [q1, q2, ← EReal.coe_add, Ideal.div_coe hp.ne', one_mul, ← EReal.coe_mul, ← EReal.coe_mul]

end Cert.MoeRefIdeal.Val
-- ==== Proof.MoeValue.lean ====
/- The experts' run: its result array is the mixture of each tile's two experts, tile by tile. -/
module

public import proofs.«01_k».proof.Proof.MoeWin
public import proofs.«01_k».proof.Proof.MoePoint
public import proofs.«01_k».proof.Proof.MoeHost
public import proofs.«01_k».proof.Proof.MoeMath

@[expose] public section

set_option maxRecDepth 16384

noncomputable section

namespace Cert.MoeSpec

open Idealize.ShloMosaic

/-- The tile of a row. -/
def tl (n : Fin 71680) : Fin 280 := ⟨n.val / 256, by omega⟩

theorem tl_row (t : Fin 280) (a : Fin 256) : tl ⟨256 * t + a, by omega⟩ = t := Fin.ext (by show (256 * t.val + a.val) / 256 = t.val; omega)

/-- The result array: on the rows of a tile in use the mixture of the tile's two experts, elsewhere zero. -/
def G (x : Vec Ideal ⟨2, ![71680, 1024]⟩ .f32) (e1 e2 f : IVec ⟨1, ![280]⟩ 32) (r : Vec Ideal ⟨2, ![1024, 16]⟩ .f32)
    (g u : Vec Ideal ⟨3, ![16, 1024, 512]⟩ .f32) (d : Vec Ideal ⟨3, ![16, 512, 1024]⟩ .f32) : Vec Ideal ⟨2, ![71680, 1024]⟩ .f32 := fun i =>
  if f (ix1 (tl (i 0))) = 1#32 then out x r g u d (i 0) (i 1) (ex (e1 (ix1 (tl (i 0))))) (ex (e2 (ix1 (tl (i 0))))) else 0

theorem G_apply (x : Vec Ideal ⟨2, ![71680, 1024]⟩ .f32) (e1 e2 f : IVec ⟨1, ![280]⟩ 32) (r : Vec Ideal ⟨2, ![1024, 16]⟩ .f32)
    (g u : Vec Ideal ⟨3, ![16, 1024, 512]⟩ .f32) (d : Vec Ideal ⟨3, ![16, 512, 1024]⟩ .f32) (t : Fin 280) (a : Fin 256) (c : Fin 1024) :
    G x e1 e2 f r g u d (ix2 ⟨256 * t + a, by omega⟩ c)
      = if f (ix1 t) = 1#32 then out x r g u d ⟨256 * t + a, by omega⟩ c (ex (e1 (ix1 t))) (ex (e2 (ix1 t))) else 0 := by
  show (if f (ix1 (tl ⟨256 * t + a, by omega⟩)) = 1#32 then out x r g u d ⟨256 * t + a, by omega⟩ c
    (ex (e1 (ix1 (tl ⟨256 * t + a, by omega⟩)))) (ex (e2 (ix1 (tl ⟨256 * t + a, by omega⟩)))) else 0) = _
  rw [tl_row]

end Cert.MoeSpec

namespace Cert.MoeRefIdeal.Val

open Cert.MoeRefIdeal Cert.MoeRefIdeal.Gen Idealize.ShloMosaic Idealize.ShloMosaic.TcCoe Idealize.SL.Sem

theorem whole_eq (x : FVec Ideal S71680x1024 .f32) (e1 e2 f : IVec S280 32) (r : FVec Ideal S1024x16 .f32)
    (wg wu : FVec Ideal S16x1024x512 .f32) (wd : FVec Ideal S16x512x1024 .f32)
    (hx : ∀ i, ∃ a : ℝ, x i = (a : EReal)) (hr : ∀ i, ∃ a : ℝ, r i = (a : EReal))
    (h1 : ∀ i, (e1 i).toNat < 16) (h2 : ∀ i, (e2 i).toNat < 16) : whole x e1 e2 f r wg wu wd = MoeSpec.G x e1 e2 f r wg wu wd := by
  funext i
  have h : (i 0).val < 71680 := (i 0).isLt
  have ei : i = ix2 (⟨256 * (⟨(i 0).val / 256, by omega⟩ : Fin 280) + (⟨(i 0).val % 256, by omega⟩ : Fin 256), by omega⟩ : Fin 71680)
      (⟨(i 1).val, (i 1).isLt⟩ : Fin 1024) := by
    funext x
    apply Fin.ext
    match x with
    | ⟨0, _⟩ => show (i 0).val = 256 * ((i 0).val / 256) + (i 0).val % 256; omega
    | ⟨1, _⟩ => rfl
  rw [ei, whole_apply x e1 e2 f r wg wu wd hx hr h1 h2, MoeSpec.G_apply]

end Cert.MoeRefIdeal.Val

namespace Cert.MoeIdeal.Val

open Cert.MoeIdeal Cert.MoeIdeal.Gen Idealize.ShloMosaic Idealize.ShloMosaic.TcCoe Idealize.SL.Sem

theorem ksg_eq (z : EReal) : ksg z = MoeSpec.sg z := by
  unfold ksg MoeSpec.sg
  rw [zero_sub]

theorem lane_pick (w : BitVec 32) (s : FVec Ideal S256x128 .f32) (a : Fin 256) (e : Fin 16) (h : w.toNat = e.val) :
    laneOf w s (ix2 a 0) = s (ix2 a ⟨e, by omega⟩) := by
  rw [laneOf_apply]
  have he := e.isLt
  have key : ∀ l : Fin 128, (if BitVec.ofNat 32 l.val = w then s (ix2 a l) else 0) = if (⟨e, by omega⟩ : Fin 128) = l then s (ix2 a l) else 0 := fun l => by
    refine if_congr ?_ rfl rfl
    have hl := l.isLt
    constructor
    · rintro rfl
      rw [BitVec.toNat_ofNat] at h
      apply Fin.ext
      show e.val = l.val
      omega
    · rintro rfl
      apply BitVec.eq_of_toNat_eq
      rw [BitVec.toNat_ofNat, h]
      show e.val % 2 ^ 32 = e.val
      omega
  simp only [key]
  rw [Finset.sum_ite_eq]
  exact if_pos (Finset.mem_univ _)

section
variable (x0 : Vec Ideal S256x1024 .f32) (x1 : Vec Ideal S1024x128 .bf16) (x2 x3 : Vec Ideal S1x1024x512 .bf16) (x4 : Vec Ideal S1x512x1024 .bf16)
  (x5 x6 : Vec Ideal S1x1024x512 .bf16) (x7 : Vec Ideal S1x512x1024 .bf16) (X : Vec Ideal ⟨2, ![71680, 1024]⟩ .f32)
  (R : Vec Ideal ⟨2, ![1024, 16]⟩ .f32) (A B : Vec Ideal ⟨3, ![16, 1024, 512]⟩ .f32) (D : Vec Ideal ⟨3, ![16, 512, 1024]⟩ .f32)
  (n : Fin 71680) (a : Fin 256) (h0 : ∀ k : Fin 1024, (x0 (ix2 a k) : EReal) = X (ix2 n k))
include h0

theorem kpr_eq (e : Fin 16) (h2 : ∀ (k : Fin 1024) (f : Fin 512), (x2 (ix3 0 k f) : EReal) = A (ix3 e k f)) (f : Fin 512) :
    kpr x0 x2 a f = MoeSpec.pr X A n e f := by
  unfold kpr MoeSpec.pr
  exact Finset.sum_congr rfl fun k _ => congrArg₂ (fun y z : EReal => y * z) (h0 k) (h2 k f)

theorem kshare_eq (e : Fin 16) (h2 : ∀ (k : Fin 1024) (f : Fin 512), (x2 (ix3 0 k f) : EReal) = A (ix3 e k f))
    (h3 : ∀ (k : Fin 1024) (f : Fin 512), (x3 (ix3 0 k f) : EReal) = B (ix3 e k f))
    (h4 : ∀ (f : Fin 512) (c : Fin 1024), (x4 (ix3 0 f c) : EReal) = D (ix3 e f c)) (s r : EReal) (c : Fin 1024) :
    kshare x0 x2 x3 x4 s r a c = MoeSpec.share X A B D n c e (s * r) := by
  unfold kshare MoeSpec.share khd MoeSpec.hd
  refine Finset.sum_congr rfl fun f _ => ?_
  rw [kpr_eq x0 x2 X A n a h0 e h2, kpr_eq x0 x3 X B n a h0 e h3, ksg_eq]
  exact congrArg (fun z : EReal => _ * z) (h4 f c)

theorem lane_score (h1 : ∀ (k : Fin 1024) (l : Fin 16), (x1 (ix2 k ⟨l, by omega⟩) : EReal) = R (ix2 k l)) (w : BitVec 32) (e : Fin 16)
    (h : w.toNat = e.val) : laneOf w (k0_pay3 x0 x1) (ix2 a 0) = MoeSpec.sc X R n e := by
  rw [lane_pick w _ a e h, pay3_apply, ksg_eq]
  unfold MoeSpec.sc
  exact congrArg MoeSpec.sg (Finset.sum_congr rfl fun k _ => congrArg₂ (fun y z : EReal => y * z) (h0 k) (h1 k e))

theorem tile_spec (h1 : ∀ (k : Fin 1024) (l : Fin 16), (x1 (ix2 k ⟨l, by omega⟩) : EReal) = R (ix2 k l))
    (w0 w1 : BitVec 32) (e1 e2 : Fin 16) (hw0 : w0.toNat = e1.val) (hw1 : w1.toNat = e2.val)
    (h2 : ∀ (k : Fin 1024) (f : Fin 512), (x2 (ix3 0 k f) : EReal) = A (ix3 e1 k f))
    (h3 : ∀ (k : Fin 1024) (f : Fin 512), (x3 (ix3 0 k f) : EReal) = B (ix3 e1 k f))
    (h4 : ∀ (f : Fin 512) (c : Fin 1024), (x4 (ix3 0 f c) : EReal) = D (ix3 e1 f c))
    (h5 : ∀ (k : Fin 1024) (f : Fin 512), (x5 (ix3 0 k f) : EReal) = A (ix3 e2 k f))
    (h6 : ∀ (k : Fin 1024) (f : Fin 512), (x6 (ix3 0 k f) : EReal) = B (ix3 e2 k f))
    (h7 : ∀ (f : Fin 512) (c : Fin 1024), (x7 (ix3 0 f c) : EReal) = D (ix3 e2 f c)) (c : Fin 1024) :
    tileOut x0 x1 x2 x3 x4 x5 x6 x7 w0 w1 1#32 (ix2 a c) = MoeSpec.out X R A B D n c e1 e2 := by
  rw [tileOut_used x0 x1 x2 x3 x4 x5 x6 x7 w0 w1 a c _ _ (lane_score x0 x1 X R n a h0 h1 w0 e1 hw0) (lane_score x0 x1 X R n a h0 h1 w1 e2 hw1),
    kshare_eq x0 x2 x3 x4 X A B D n a h0 e1 h2 h3 h4, kshare_eq x0 x5 x6 x7 X A B D n a h0 e2 h5 h6 h7]
  rfl

end

variable (m : (ℓ : Loc nD τ sig) → Buf (Elt Ideal) ℓ) (hO : Ok m)

/-- The tile's number, of a grid point. -/
def tile (t : Fin (cfgM m hO).N) : Fin 280 := ⟨t.val, t.isLt⟩

theorem word_at (f : S280.Idx → BitVec 32) (t : Fin (cfgM m hO).N) : word f (grid0.coords t) = f (ix1 (tile m hO t)) := by
  unfold word
  congr 1
  funext x
  apply Fin.ext
  match x with
  | ⟨0, _⟩ => exact coord t

/-- The result array, of the launch contents. -/
abbrev GM (c : Dev nD) : Vec Ideal ⟨2, ![71680, 1024]⟩ .f32 :=
  MoeSpec.G (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

theorem oblk_eq (hT : Tables m) (t : Fin (cfgM m hO).N) (a : Fin 256) (d : Fin 1024) :
    oblk m hO 0 t (ix2 a d) = GM m 0 (ix2 (row m hO t a) d) := by
  refine Eq.trans ?_ (MoeSpec.G_apply _ _ _ _ _ _ _ _ (tile m hO t) a d).symm
  have w0 : word (tbl m 0) (grid0.coords t) = (m (((0 : Dev nD) : Thread nD τ).loc main_arg1) : S280.Idx → BitVec 32) (ix1 (tile m hO t)) :=
    (congrArg (fun f => word f (grid0.coords t)) (tbl0 m)).trans (word_at m hO _ t)
  have w1 : word (tbl m 1) (grid0.coords t) = (m (((0 : Dev nD) : Thread nD τ).loc main_arg2) : S280.Idx → BitVec 32) (ix1 (tile m hO t)) :=
    (congrArg (fun f => word f (grid0.coords t)) (tbl1 m)).trans (word_at m hO _ t)
  have w2 : word (tbl m 2) (grid0.coords t) = (m (((0 : Dev nD) : Thread nD τ).loc main_arg3) : S280.Idx → BitVec 32) (ix1 (tile m hO t)) :=
    (congrArg (fun f => word f (grid0.coords t)) (tbl2 m)).trans (word_at m hO _ t)
  have l0 := hT.1 (grid0.coords t)
  have l1 := hT.2.1 (grid0.coords t)
  have e0 : (word (tbl m 0) (grid0.coords t)).toNat = (MoeSpec.ex (word (tbl m 0) (grid0.coords t))).val := (Nat.mod_eq_of_lt l0).symm
  have e1 : (word (tbl m 1) (grid0.coords t)).toNat = (MoeSpec.ex (word (tbl m 1) (grid0.coords t))).val := (Nat.mod_eq_of_lt l1).symm
  rw [← w0, ← w1, ← w2]
  unfold oblk
  rcases hT.2.2 (grid0.coords t) with e | e
  · rw [e, if_neg (by decide)]
    exact tileOut_unused _ _ _ _ _ _ _ _ _ _ a d
  · rw [e, if_pos rfl]
    refine tile_spec (iblk m hO 0 0 t) (iblk m hO 0 1 t) (iblk m hO 0 2 t) (iblk m hO 0 3 t) (iblk m hO 0 4 t) (iblk m hO 0 5 t) (iblk m hO 0 6 t)
      (iblk m hO 0 7 t) _ _ _ _ _ _ a (fun k => ?_) (fun k l => ?_) _ _ _ _ e0 e1 (fun k f => ?_) (fun k f => ?_) (fun k f => ?_) (fun k f => ?_)
      (fun k f => ?_) (fun k f => ?_) d
    · exact (blk0 m hO 0 t a k).trans (congrFun (V_arg0 m 0) _)
    · exact (blk1 m hO 0 t k ⟨l, by omega⟩).trans ((congrFun (V_lanes m 0) _).trans (lanes_apply _ k l))
    · exact (blk2 m hO 0 t _ e0 k f).trans (congrFun (V_gate m 0) _)
    · exact (blk3 m hO 0 t _ e0 k f).trans (congrFun (V_up m 0) _)
    · exact (blk4 m hO 0 t _ e0 k f).trans (congrFun (V_down m 0) _)
    · exact (blk5 m hO 0 t _ e1 k f).trans (congrFun (V_gate m 0) _)
    · exact (blk6 m hO 0 t _ e1 k f).trans (congrFun (V_up m 0) _)
    · exact (blk7 m hO 0 t _ e1 k f).trans (congrFun (V_down m 0) _)

theorem flushed_eq (hT : Tables m) (t : Fin (cfgM m hO).N) :
    (dats m hO 0 0).flushed 8 t = (((cfgM m hO).win 8).blk t).view.read (Elt Ideal) (GM m 0) := by
  have hi := hi8 m hO t
  refine funext fun (j : S256x1024.Idx) => ?_
  have h0 : (j 0).val < 256 := (j 0).isLt
  have h1 : (j 1).val < 1024 := (j 1).isLt
  refine Eq.trans ?_ ((oblk_eq m hO hT t ⟨(j 0).val, h0⟩ ⟨(j 1).val, h1⟩).trans (Eq.trans ?_ (View.read_apply ..).symm))
  · show (dats m hO 0 0).after 8 t _ = _
    rw [after8]
    refine congrArg (oblk m hO 0 t) ?_
    funext x
    apply Fin.ext
    match x with
    | ⟨0, _⟩ => rfl
    | ⟨1, _⟩ => rfl
  · show GM m 0 _ = GM m 0 _
    refine congrArg (GM m 0) ?_
    funext x
    apply Fin.ext
    match x with
    | ⟨0, _⟩ => show 256 * t.val + (j 0).val = cc0_transform_8 (grid0.coords t) 0 * 256 + 1 * (j 0).val; rw [hi.1]; omega
    | ⟨1, _⟩ => show (j 1).val = cc0_transform_8 (grid0.coords t) 1 * 1024 + 1 * (j 1).val; rw [hi.2]; omega

theorem final_o (hT : Tables m) (c : Dev nD) : (dats m hO 0 c).arrAt 8 (cfgM m hO).N = GM m c := by
  obtain rfl : c = 0 := Subsingleton.elim _ _
  exact (dats m hO 0 0).arrAt_eq_of_cover 8 _ (fun t _ => flushed_eq m hO hT t) (cover8 m hO)

end Cert.MoeIdeal.Val
-- ==== Proof.MoeClaims.lean ====
/- The claims about the experts, put together from the kernel's run, the reference's run and the precondition. -/
module

public import proofs.«01_k».proof.Defs
public import proofs.«01_k».proof.Proof.Gen.Moe.Launch
public import proofs.«01_k».proof.Proof.Gen.MoeRefIdeal.Run
public import proofs.«01_k».proof.Proof.MoeRouted
public import proofs.«01_k».proof.Proof.MoeValue
public import Idealize.ShloMosaic.Lib.Quiescent
public import Idealize.ShloMosaic.Lib.Tactic

@[expose] public section

set_option maxRecDepth 16384

noncomputable section

namespace Cert.MoeClaims

open Idealize.ShloMosaic Idealize.ShloMosaic.TcCoe Idealize.SL.Sem

theorem frame_M : Cert.quiescent_Moe := fun m ρ hpre => by
  have ht : Cert.MoeIdeal.Val.Tables (F := Bits) m := Cert.MoeIdeal.Val.tables_met hpre
  refine Eq.mp ?_ (Cert.MoeIdeal.Val.frame (F := Bits) m ρ ht.ok ht.used)
  sl_kernel_rfl

theorem frame_MI : Cert.quiescent_MoeIdeal := fun m ρ hpre =>
  have ht : Cert.MoeIdeal.Val.Tables (F := Ideal) m := Cert.MoeIdeal.Val.tables_met hpre
  Cert.MoeIdeal.Val.frame (F := Ideal) m ρ ht.ok ht.used

theorem frame_MI_pre : Cert.quiescent_MoeIdeal_pre_routed := fun m ρ hpre =>
  have ht : Cert.MoeIdeal.Val.Tables (F := Ideal) m := Cert.MoeIdeal.Val.routed_met hpre
  Cert.MoeIdeal.Val.frame (F := Ideal) m ρ ht.ok ht.used

theorem frame_MR : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)
theorem frame_MR_pre : Cert.quiescent_MoeRefIdeal_pre_routed := fun m ρ _ => frame_MR m ρ trivial

theorem preserves : Cert.preserves_Moe_MoeIdeal := trivial

/-- The reference's result array, of arguments that meet the precondition. -/
theorem ref_eq (m : (ℓ : Loc Cert.MoeRefIdeal.nD Cert.MoeRefIdeal.τ Cert.MoeRefIdeal.sig) → Buf (Elt Ideal) ℓ) (c : Dev Cert.MoeRefIdeal.nD)
    (h : Cert.Pre_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) = fun _ => 1#1) :
    Cert.MoeRefIdeal.Value.res_out0 m c = Cert.MoeSpec.G (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) := by
  obtain ⟨⟨h1, h2, -⟩, hx, hr⟩ := Cert.Pre_routed.Val.routed_of _ _ _ _ _ _ _ _ h
  exact (Cert.MoeRefIdeal.Val.res_eq m c).trans (Cert.MoeRefIdeal.Val.whole_eq _ _ _ _ _ _ _ _ hx hr h1 h2)

theorem algebraic : Cert.algebraic_MoeIdeal_MoeRefIdeal_pre_routed := by
  intro m ρ m' ρ' hpre hag
  have ht : Cert.MoeIdeal.Val.Tables (F := Ideal) m := Cert.MoeIdeal.Val.routed_met hpre
  refine ⟨fun c => Cert.MoeIdeal.Val.GM m c, ?_, ?_⟩
  · exact (θ_run Cert.MoeIdeal.defs _ _).mono (fun r h c => ⟨(h c).1.trans (Cert.MoeIdeal.Val.final_o m ht.ok ht c), (h c).2⟩) (Cert.MoeIdeal.Val.run_result m ρ ht.ok ht.used)
  · refine (θ_run Cert.MoeRefIdeal.defs _ _).mono (fun r h c => ⟨(h c).1.trans ((ref_eq m' c ?_).trans ?_), (h c).2⟩)
      (Cert.MoeRefIdeal.Value.run (F := Ideal) m' ρ')
    · rw [(hag c).1, (hag c).2.1, (hag c).2.2.1, (hag c).2.2.2.1, (hag c).2.2.2.2.1, (hag c).2.2.2.2.2.1, (hag c).2.2.2.2.2.2.1, (hag c).2.2.2.2.2.2.2]
      exact hpre c
    · rw [(hag c).1, (hag c).2.1, (hag c).2.2.1, (hag c).2.2.2.1, (hag c).2.2.2.2.1, (hag c).2.2.2.2.2.1, (hag c).2.2.2.2.2.2.1, (hag c).2.2.2.2.2.2.2]

end Cert.MoeClaims
-- ==== Proof.InpPre.lean ====
/- What the input projection's precondition says of the arrays: every entry of the norm's scale and shift, and of the sixteen
   columns of the weight that the half rotation negates, is a real number. -/
module

public import proofs.«01_k».proof.Proof.Gen.Pre_numbers
public import proofs.«01_k».proof.Proof.AttnFinite

@[expose] public section

set_option maxRecDepth 16384

noncomputable section

open Idealize.ShloMosaic Idealize.SL.Sem

namespace Cert.Pre_numbers.Val

open Cert.Pre_numbers Cert.Pre_numbers.Gen

theorem real_of (x : FVec Ideal S65536x1024 .f32) (g b : FVec Ideal S1024 .f32) (w : FVec Ideal S1024x2352 .f32)
    (h : ∀ i, fn x g b w i = 1#1) :
    (∀ i, ∃ r : ℝ, g i = ↑r) ∧ (∀ i, ∃ r : ℝ, b i = ↑r) ∧
      ∀ (k : Fin 1024) (j : Fin 16), ∃ r : ℝ, w (ix2 k ⟨2336 + j.val, by omega⟩) = ↑r := by
  have h0 := h (fun a => a.elim0)
  dsimp only [fn] at h0
  obtain ⟨h1, hw⟩ := IntOp.andi_eq_one.mp h0
  obtain ⟨hg, hb⟩ := IntOp.andi_eq_one.mp h1
  haveI : Subsingleton S_.Idx := ⟨fun a b => funext fun x => x.elim0⟩
  refine ⟨fun i => Cert.Pre_finite.Val.lt_top_real _ (Host.reduce_andi_all _ _ _ _ _ hg i),
    fun i => Cert.Pre_finite.Val.lt_top_real _ (Host.reduce_andi_all _ _ _ _ _ hb i), fun k j => ?_⟩
  obtain ⟨r, hr⟩ := Cert.Pre_finite.Val.lt_top_real _ (Host.reduce_andi_all _ _ _ _ _ hw (ix2 k j))
  refine ⟨r, Eq.trans (congrArg w (funext fun x => ?_)) hr⟩
  match x with
  | ⟨0, _⟩ => exact Fin.ext (Nat.zero_add _).symm
  | ⟨1, _⟩ => rfl

end Cert.Pre_numbers.Val
-- ==== Proof.ProjSpec.lean ====
/- The layer norm of a row, the plain terms in which the two projections' calls and their references are compared. -/
module

public import proofs.«01_k».proof.Proof.ERealMath
public import Idealize.ShloMosaic.Lib.Pointwise

@[expose] public section

noncomputable section

namespace Cert.ProjSpec

open Idealize.ShloMosaic

/-- The mean of a row. -/
def mean (x : Fin 1024 → EReal) : EReal := Ideal.div (∑ k, x k) (Ideal.ofBits .f32 0x44800000#32)

/-- The mean of the squares of a row less its mean. -/
def var (x : Fin 1024 → EReal) : EReal := mean fun k => (x k - mean x) * (x k - mean x)

/-- The layer norm of a row. -/
def ln (x g b : Fin 1024 → EReal) (k : Fin 1024) : EReal :=
  (x k - mean x) * Ideal.rsqrt (var x + Ideal.ofBits .f32 0x3727C5AC#32) * g k + b k

/-- An entry of the normed rows' projection. -/
def pe (x : FVec Ideal ⟨2, ![65536, 1024]⟩ .f32) (g b : FVec Ideal ⟨1, ![1024]⟩ .f32) (w : FVec Ideal ⟨2, ![1024, 2352]⟩ .f32)
    (i : Fin 65536) (j : Fin 2352) : EReal :=
  ∑ k : Fin 1024, ln (fun k => x (ix2 i k)) (fun k => g (ix1 k)) (fun k => b (ix1 k)) k * w (ix2 k j)

/-- The lanes of the key's rotary tile: 32 columns from lane 64, zeros beside them. -/
def ropeS (f : Fin 2352 → EReal) (l : Fin 128) : EReal :=
  if h : 64 ≤ l.val ∧ l.val < 96 then f ⟨2320 + (l.val - 64), by omega⟩ else 0

/-- The lanes of its half rotation. -/
def rotS (f : Fin 2352 → EReal) (l : Fin 128) : EReal :=
  if h : 64 ≤ l.val ∧ l.val < 80 then -f ⟨2336 + (l.val - 64), by omega⟩
  else if h : 80 ≤ l.val ∧ l.val < 96 then f ⟨2320 + (l.val - 80), by omega⟩ else 0

/-- The columns of the attention's array. -/
def mlaS (f : Fin 2352 → EReal) (j : Fin 768) : EReal :=
  if h : j.val < 512 then f ⟨1808 + j.val, by omega⟩
  else if h : j.val < 640 then ropeS f ⟨j.val - 512, by omega⟩ else rotS f ⟨j.val - 640, by omega⟩

/-- The lanes of the gates' array. -/
def gateS (f : Fin 2352 → EReal) (l : Fin 128) : EReal :=
  if h : l.val < 16 then f ⟨1024 + l.val, by omega⟩ else 0

end Cert.ProjSpec
-- ==== Proof.InpRef.lean ====
/- The input projection's reference, read at an index: columns of the normed rows' product with the weight. -/
module

public import proofs.«01_k».proof.Proof.Gen.InpRefIdeal.Run
public import proofs.«01_k».proof.Proof.ProjSpec

@[expose] public section

set_option maxRecDepth 16384

noncomputable section

namespace Cert.InpRefIdeal.Val

open Cert.InpRefIdeal Cert.InpRefIdeal.Gen Idealize.ShloMosaic Idealize.ShloMosaic.TcCoe Idealize.SL.Sem

/-- Each row's mean. -/
def mean1 (x : FVec Ideal S65536x1024 .f32) : FVec Ideal S65536x1 .f32 :=
  Host.divf (broadcastInDim S65536x1 ![0] bcast_S65536_S65536x1_0 (Host.reduceAdd x (constant S_ .f32 0x00000000#32)
    reducesTo_S65536x1024_S65536_d1 h_S_)) (broadcastInDim S65536x1 ![] bcast_S_S65536x1 (constant S_ .f32 0x44800000#32))

/-- Each row less its mean. -/
def cen (x : FVec Ideal S65536x1024 .f32) : FVec Ideal S65536x1024 .f32 :=
  subf x (broadcastInDim S65536x1024 ![0, 1] bcast_S65536x1_S65536x1024_0_1 (mean1 x))

/-- A vector as one row. -/
def row (g : FVec Ideal S1024 .f32) : FVec Ideal S1x1024 .f32 := broadcastInDim S1x1024 ![1] bcast_S1024_S1x1024_1 g

/-- A vector laid along the rows. -/
def lay (g : FVec Ideal S1024 .f32) : FVec Ideal S65536x1024 .f32 :=
  broadcastInDim S65536x1024 ![0, 1] bcast_S1x1024_S65536x1024_0_1 (row g)

/-- The normed rows. -/
def lnA (x : FVec Ideal S65536x1024 .f32) (g b : FVec Ideal S1024 .f32) : FVec Ideal S65536x1024 .f32 :=
  addf (mulf (mulf (cen x) (broadcastInDim S65536x1024 ![0, 1] bcast_S65536x1_S65536x1024_0_1
    (Host.rsqrt (addf (mean1 (mulf (cen x) (cen x))) (broadcastInDim S65536x1 ![] bcast_S_S65536x1 (constant S_ .f32 0x3727C5AC#32))))))
    (lay g)) (lay b)

/-- The projection of the normed rows. -/
def prod (x : FVec Ideal S65536x1024 .f32) (g b : FVec Ideal S1024 .f32) (w : FVec Ideal S1024x2352 .f32) : FVec Ideal S65536x2352 .f32 :=
  Host.dotGeneral dot_S65536x1024_S1024x2352_S65536x2352_1_0_0_1_n_n none (lnA x g b) w

/-- A tile of lanes holding 32 columns from lane 64. -/
def tile (r : FVec Ideal S65536x32 .f32) : FVec Ideal S65536x128 .f32 :=
  pad S65536x128 ![0, 64] ![0, 32] ![0, 0] r (sitofp .f32 (constantI S_ 32 0#32)) pads_S65536x32_S65536x128_000_64320 h_S_

def rope (p : FVec Ideal S65536x2352 .f32) : FVec Ideal S65536x32 .f32 :=
  extractStridedSlice S65536x32 ![0, 2320] p slices_S65536x2352_S65536x32_0_2320

/-- The half rotation of 32 columns. -/
def rot (r : FVec Ideal S65536x32 .f32) : FVec Ideal S65536x32 .f32 :=
  concatenate S65536x32 1 [⟨S65536x16, (Host.negf (extractStridedSlice S65536x16 ![0, 16] r slices_S65536x32_S65536x16_0_16))⟩,
    ⟨S65536x16, (extractStridedSlice S65536x16 ![0, 0] r slices_S65536x32_S65536x16_0_0)⟩] concatenates_S65536x16_S65536x16_S65536x32_d1

def mla (p : FVec Ideal S65536x2352 .f32) (a b : FVec Ideal S65536x128 .f32) : FVec Ideal S65536x768 .bf16 :=
  truncf .bf16 ((concatenate S65536x768 1 [⟨S65536x384, ((extractStridedSlice S65536x384 ![0, 1808] p slices_S65536x2352_S65536x384_0_1808) : (⟨S65536x384, .f32⟩ : BufTy).Contents (Elt Ideal))⟩,
    ⟨S65536x128, ((extractStridedSlice S65536x128 ![0, 2192] p slices_S65536x2352_S65536x128_0_2192) : (⟨S65536x128, .f32⟩ : BufTy).Contents (Elt Ideal))⟩,
    ⟨S65536x128, (a : (⟨S65536x128, .f32⟩ : BufTy).Contents (Elt Ideal))⟩, ⟨S65536x128, (b : (⟨S65536x128, .f32⟩ : BufTy).Contents (Elt Ideal))⟩]
    concatenates_S65536x384_S65536x128_S65536x128_S65536x128_S65536x768_d1 : (⟨S65536x768, .f32⟩ : BufTy).Contents (Elt Ideal))) bitsLt_bf16_f32

def gates (p : FVec Ideal S65536x2352 .f32) : FVec Ideal S65536x128 .f32 :=
  pad S65536x128 ![0, 0] ![0, 112] ![0, 0] (concatenate S65536x16 1 [⟨S65536x8, (extractStridedSlice S65536x8 ![0, 1024] p slices_S65536x2352_S65536x8_0_1024)⟩,
    ⟨S65536x8, (extractStridedSlice S65536x8 ![0, 1032] p slices_S65536x2352_S65536x8_0_1032)⟩] concatenates_S65536x8_S65536x8_S65536x16_d1)
    (sitofp .f32 (constantI S_ 32 0#32)) pads_S65536x16_S65536x128_000_01120 h_S_

section
variable (m : (ℓ : Loc nD τ sig) → Buf (Elt Ideal) ℓ) (c : Dev nD)

/-- The projection of the arguments. -/
abbrev P : FVec Ideal S65536x2352 .f32 := prod (m ((c.tc : Thread nD τ).loc main_arg0)) (m ((c.tc : Thread nD τ).loc main_arg1))
  (m ((c.tc : Thread nD τ).loc main_arg2)) (m ((c.tc : Thread nD τ).loc main_arg3))

theorem res4_eq : Value.res_out4 m c = mla (P m c) (tile (rope (P m c))) (tile (rot (rope (P m c)))) := rfl
theorem res5_eq : Value.res_out5 m c = gates (P m c) := rfl
end

theorem mean1_apply (x : FVec Ideal S65536x1024 .f32) (i : Fin 65536) : mean1 x (ix2 i 0) = ProjSpec.mean fun k => x (ix2 i k) := by
  unfold mean1 ProjSpec.mean
  pointwise

theorem cen_apply (x : FVec Ideal S65536x1024 .f32) (i : Fin 65536) (k : Fin 1024) :
    cen x (ix2 i k) = x (ix2 i k) - ProjSpec.mean fun k => x (ix2 i k) := by
  rw [← mean1_apply]
  unfold cen
  generalize mean1 x = y
  pointwise

theorem lay_apply (g : FVec Ideal S1024 .f32) (i : Fin 65536) (k : Fin 1024) : lay g (ix2 i k) = g (ix1 k) := by
  have e : row g (ix2 0 k) = g (ix1 k) := by
    unfold row
    pointwise
  rw [← e]
  unfold lay
  generalize row g = y
  pointwise

theorem lnA_apply (x : FVec Ideal S65536x1024 .f32) (g b : FVec Ideal S1024 .f32) (i : Fin 65536) (k : Fin 1024) :
    lnA x g b (ix2 i k) = ProjSpec.ln (fun k => x (ix2 i k)) (fun k => g (ix1 k)) (fun k => b (ix1 k)) k := by
  have e : mean1 (mulf (cen x) (cen x)) (ix2 i 0) = ProjSpec.var fun k => x (ix2 i k) := by
    rw [mean1_apply]
    unfold ProjSpec.var
    refine congrArg ProjSpec.mean (funext fun k => ?_)
    show cen x (ix2 i k) * cen x (ix2 i k) = _
    rw [cen_apply]
  unfold ProjSpec.ln
  dsimp only
  rw [← e, ← cen_apply, ← lay_apply g i k, ← lay_apply b i k]
  unfold lnA
  generalize mean1 (mulf (cen x) (cen x)) = y
  generalize cen x = z
  generalize lay g = u
  generalize lay b = v
  pointwise

theorem prod_apply (x : FVec Ideal S65536x1024 .f32) (g b : FVec Ideal S1024 .f32) (w : FVec Ideal S1024x2352 .f32)
    (i : Fin 65536) (j : Fin 2352) : prod x g b w (ix2 i j) = ProjSpec.pe x g b w i j := by
  unfold ProjSpec.pe
  simp only [← lnA_apply]
  unfold prod
  generalize lnA x g b = y
  pointwise

theorem rope_apply (p : FVec Ideal S65536x2352 .f32) (i : Fin 65536) (l : Fin 32) : rope p (ix2 i l) = p (ix2 i ⟨2320 + l, by omega⟩) := by
  unfold rope
  pointwise

theorem zero_eq : (FloatOps.sitofp (F := Ideal) .f32 (0#32 : BitVec 32) : EReal) = 0 := by
  show (((0#32).toInt : ℝ) : EReal) = 0
  simp

theorem tile_apply (r : FVec Ideal S65536x32 .f32) (i : Fin 65536) (l : Fin 128) :
    tile r (ix2 i l) = if h : 64 ≤ l.val ∧ l.val < 96 then r (ix2 i ⟨l.val - 64, by omega⟩) else 0 := by
  unfold tile
  pointwise
  by_cases h : 64 ≤ l.val ∧ l.val < 96
  · rw [dif_pos h]
    exact dif_pos (by omega)
  · rw [dif_neg h]
    exact (dif_neg (by omega)).trans zero_eq

theorem rot_apply (r : FVec Ideal S65536x32 .f32) (i : Fin 65536) (l : Fin 32) :
    rot r (ix2 i l) = if h : l.val < 16 then -r (ix2 i ⟨16 + l, by omega⟩) else r (ix2 i ⟨l.val - 16, by omega⟩) := by
  unfold rot
  pointwise

theorem mla_apply (p : FVec Ideal S65536x2352 .f32) (a b : FVec Ideal S65536x128 .f32) (i : Fin 65536) (j : Fin 768) :
    mla p a b (ix2 i j) = if h : j.val < 512 then p (ix2 i ⟨1808 + j.val, by omega⟩)
      else if h : j.val < 640 then a (ix2 i ⟨j.val - 512, by omega⟩) else b (ix2 i ⟨j.val - 640, by omega⟩) := by
  unfold mla
  pointwise
  by_cases h1 : j.val < 384
  · rw [dif_pos h1, dif_pos (by omega)]
  by_cases h2 : j.val < 512
  · rw [dif_neg h1, dif_pos (by omega), dif_pos h2]
    congr 2
    apply Fin.ext
    show 2192 + (j.val - 384) = 1808 + j.val
    omega
  rw [dif_neg h1, dif_neg (by omega), dif_neg h2]
  by_cases h3 : j.val < 640
  · rw [dif_pos (by omega), dif_pos h3]
    congr 2
  · rw [dif_neg (by omega), dif_neg h3]
    congr 2

theorem gates_apply (p : FVec Ideal S65536x2352 .f32) (i : Fin 65536) (l : Fin 128) :
    gates p (ix2 i l) = ProjSpec.gateS (fun c => p (ix2 i c)) l := by
  unfold gates ProjSpec.gateS
  pointwise
  by_cases h : l.val < 16
  · rw [dif_pos h, dif_pos h]
    by_cases h1 : l.val < 8
    · rw [dif_pos h1]
    · rw [dif_neg h1]
      congr 2
      apply Fin.ext
      show 1032 + (l.val - 8) = 1024 + l.val
      omega
  · rw [dif_neg h, dif_neg h]
    exact zero_eq

theorem mlaS_eq (p : FVec Ideal S65536x2352 .f32) (i : Fin 65536) (j : Fin 768) :
    mla p (tile (rope p)) (tile (rot (rope p))) (ix2 i j) = ProjSpec.mlaS (fun c => p (ix2 i c)) j := by
  rw [mla_apply]
  unfold ProjSpec.mlaS
  by_cases h2 : j.val < 512
  · rw [dif_pos h2, dif_pos h2]
  rw [dif_neg h2, dif_neg h2]
  by_cases h3 : j.val < 640
  · rw [dif_pos h3, dif_pos h3, tile_apply]
    unfold ProjSpec.ropeS
    simp only [rope_apply]
  rw [dif_neg h3, dif_neg h3, tile_apply]
  unfold ProjSpec.rotS
  simp only [rot_apply, rope_apply]
  by_cases h4 : 64 ≤ j.val - 640 ∧ j.val - 640 < 96
  · rw [dif_pos h4]
    by_cases h5 : 64 ≤ j.val - 640 ∧ j.val - 640 < 80
    · rw [dif_pos h5, dif_pos (by omega)]
      exact congrArg (fun c => -p (ix2 i c)) (Fin.ext (by show 2320 + (16 + (j.val - 640 - 64)) = 2336 + (j.val - 640 - 64); omega))
    · rw [dif_neg h5, dif_neg (by omega), dif_pos (by omega)]
      exact congrArg (fun c => p (ix2 i c)) (Fin.ext (by show 2320 + (j.val - 640 - 64 - 16) = 2320 + (j.val - 640 - 80); omega))
  · rw [dif_neg h4, dif_neg (by omega), dif_neg (by omega)]

end Cert.InpRefIdeal.Val
-- ==== Proof.InpPoint.lean ====
/- The input projection's body over the extended reals, read at an index: a normed row times the packed weight's columns. -/
module

public import proofs.«01_k».proof.Proof.Gen.InpIdeal.Value
public import proofs.«01_k».proof.Proof.ProjSpec

@[expose] public section

set_option maxRecDepth 16384

noncomputable section

namespace Cert.InpIdeal.Val

open Cert.InpIdeal Cert.InpIdeal.Gen Idealize.ShloMosaic Idealize.ShloMosaic.TcCoe Idealize.SL.Sem

/-- Each row's mean. -/
def mean1 (x : FVec Ideal S512x1024 .f32) : FVec Ideal S512x1 .f32 :=
  divf (shapeCast S512x1 (multiReduction .add [1] S512 x 0x00000000#32 reduces_S512x1024_S512 (.inl rfl) rfl) shapeCasts_S512_S512x1)
    (broadcast S512x1 (Scalar.ofBits .f32 0x44800000#32))

/-- Each row less its mean. -/
def cen (x : FVec Ideal S512x1024 .f32) : FVec Ideal S512x1024 .f32 :=
  subf x (broadcastTo S512x1024 (mean1 x) broadcasts_S512x1_S512x1024)

/-- One row laid along the rows of the block. -/
def lay (g : FVec Ideal S1x1024 .f32) : FVec Ideal S512x1024 .f32 :=
  broadcastTo S512x1024 (shapeCast S1x1024 g shapeCasts_S1x1024_S1x1024) broadcasts_S1x1024_S512x1024

theorem pay5_eq (x : FVec Ideal S512x1024 .f32) (g b : FVec Ideal S1x1024 .f32) :
    k0_pay5 (F := Ideal) x g b = truncf .bf16 (addf (mulf (mulf (cen x) (broadcastTo S512x1024
      (rsqrt (addf (mean1 (mulf (cen x) (cen x))) (broadcast S512x1 (Scalar.ofBits .f32 0x3727C5AC#32)))) broadcasts_S512x1_S512x1024))
      (lay g)) (lay b)) bitsLt_bf16_f32 := rfl

theorem mean1_apply (x : FVec Ideal S512x1024 .f32) (i : Fin 512) : mean1 x (ix2 i 0) = ProjSpec.mean fun k => x (ix2 i k) := by
  unfold mean1 ProjSpec.mean
  pointwise

theorem cen_apply (x : FVec Ideal S512x1024 .f32) (i : Fin 512) (k : Fin 1024) :
    cen x (ix2 i k) = x (ix2 i k) - ProjSpec.mean fun k => x (ix2 i k) := by
  rw [← mean1_apply]
  unfold cen
  generalize mean1 x = y
  pointwise

theorem lay_apply (g : FVec Ideal S1x1024 .f32) (i : Fin 512) (k : Fin 1024) : lay g (ix2 i k) = g (ix2 0 k) := by
  unfold lay
  pointwise

theorem pay5_apply (x : FVec Ideal S512x1024 .f32) (g b : FVec Ideal S1x1024 .f32) (i : Fin 512) (k : Fin 1024) :
    k0_pay5 (F := Ideal) x g b (ix2 i k) = ProjSpec.ln (fun k => x (ix2 i k)) (fun k => g (ix2 0 k)) (fun k => b (ix2 0 k)) k := by
  have e : mean1 (mulf (cen x) (cen x)) (ix2 i 0) = ProjSpec.var fun k => x (ix2 i k) := by
    rw [mean1_apply]
    unfold ProjSpec.var
    refine congrArg ProjSpec.mean (funext fun k => ?_)
    show cen x (ix2 i k) * cen x (ix2 i k) = _
    rw [cen_apply]
  unfold ProjSpec.ln
  dsimp only
  rw [← e, ← cen_apply, ← lay_apply g i k, ← lay_apply b i k, pay5_eq]
  generalize mean1 (mulf (cen x) (cen x)) = y
  generalize cen x = z
  generalize lay g = u
  generalize lay b = v
  pointwise

theorem pay1_apply (y : FVec Ideal S512x1024 .bf16) (w : FVec Ideal S1024x512 .bf16) (i : Fin 512) (j : Fin 512) :
    k0_pay1 (F := Ideal) y w (ix2 i j) = ∑ k : Fin 1024, y (ix2 i k) * w (ix2 k j) := by
  unfold k0_pay1
  pointwise

theorem pay2_apply (y : FVec Ideal S512x1024 .bf16) (w : FVec Ideal S1024x256 .bf16) (i : Fin 512) (j : Fin 256) :
    k0_pay2 (F := Ideal) y w (ix2 i j) = ∑ k : Fin 1024, y (ix2 i k) * w (ix2 k j) := by
  unfold k0_pay2
  pointwise

theorem pay3_apply (y : FVec Ideal S512x1024 .bf16) (w : FVec Ideal S1024x768 .bf16) (i : Fin 512) (j : Fin 768) :
    k0_pay3 (F := Ideal) y w (ix2 i j) = ∑ k : Fin 1024, y (ix2 i k) * w (ix2 k j) := by
  unfold k0_pay3
  pointwise

theorem pay4_apply (y : FVec Ideal S512x1024 .bf16) (w : FVec Ideal S1024x128 .bf16) (i : Fin 512) (j : Fin 128) :
    k0_pay4 (F := Ideal) y w (ix2 i j) = ∑ k : Fin 1024, y (ix2 i k) * w (ix2 k j) := by
  unfold k0_pay4
  pointwise

theorem pay6_apply (x : FVec Ideal S512x1024 .f32) (g b : FVec Ideal S1x1024 .f32) (w : FVec Ideal S1024x768 .bf16) (i : Fin 512) (j : Fin 768) :
    k0_pay6 (F := Ideal) x g b w (ix2 i j) = ∑ k : Fin 1024, k0_pay5 (F := Ideal) x g b (ix2 i k) * w (ix2 k j) := by
  unfold k0_pay6
  generalize k0_pay5 (F := Ideal) x g b = y
  pointwise

theorem pay7_apply (x : FVec Ideal S512x1024 .f32) (g b : FVec Ideal S1x1024 .f32) (w : FVec Ideal S1024x256 .bf16) (i : Fin 512) (j : Fin 256) :
    k0_pay7 (F := Ideal) x g b w (ix2 i j) = ∑ k : Fin 1024, k0_pay5 (F := Ideal) x g b (ix2 i k) * w (ix2 k j) := by
  unfold k0_pay7
  generalize k0_pay5 (F := Ideal) x g b = y
  pointwise

end Cert.InpIdeal.Val
-- ==== Proof.InpHost.lean ====
/- The weight as the projection's host code lays it out, read at an index: the reference's columns in the call's order,
   its padding zeros, the half rotation's columns negated. -/
module

public import proofs.«01_k».proof.Proof.InpPoint
public import Idealize.ShloMosaic.Lib.StableHlo.RunRead

@[expose] public section

set_option maxRecDepth 16384

noncomputable section

namespace Cert.InpIdeal.Val

open Cert.InpIdeal Cert.InpIdeal.Gen Idealize.ShloMosaic Idealize.ShloMosaic.TcCoe Idealize.SL.Sem

variable (m : (ℓ : Loc nD τ sig) → Buf (Elt Ideal) ℓ)

def row (g : FVec Ideal S1024 .f32) : FVec Ideal S1x1024 .f32 := shapeCast S1x1024 g shapeCasts_S1024_S1x1024

def rope (w : FVec Ideal S1024x2352 .f32) : FVec Ideal S1024x32 .f32 :=
  extractStridedSlice S1024x32 ![0, 2320] w slices_S1024x2352_S1024x32_0_2320

def rot (r : FVec Ideal S1024x32 .f32) : FVec Ideal S1024x32 .f32 :=
  concatenate S1024x32 1 [⟨S1024x16, Host.negf (extractStridedSlice S1024x16 ![0, 16] r slices_S1024x32_S1024x16_0_16)⟩,
    ⟨S1024x16, extractStridedSlice S1024x16 ![0, 0] r slices_S1024x32_S1024x16_0_0⟩] concatenates_S1024x16_S1024x16_S1024x32_d1

/-- A tile of lanes holding 32 columns from lane 64. -/
def tile (r : FVec Ideal S1024x32 .f32) : FVec Ideal S1024x128 .f32 :=
  concatenate S1024x128 1 [⟨S1024x64, broadcastInDim S1024x64 ![] bcast_S_S1024x64 (constant S_ .f32 0x00000000#32)⟩, ⟨S1024x32, r⟩,
    ⟨S1024x32, broadcastInDim S1024x32 ![] bcast_S_S1024x32 (constant S_ .f32 0x00000000#32)⟩]
    concatenates_S1024x64_S1024x32_S1024x32_S1024x128_d1

def gates (w : FVec Ideal S1024x2352 .f32) : FVec Ideal S1024x128 .f32 :=
  concatenate S1024x128 1 [⟨S1024x8, extractStridedSlice S1024x8 ![0, 1024] w slices_S1024x2352_S1024x8_0_1024⟩,
    ⟨S1024x8, extractStridedSlice S1024x8 ![0, 1032] w slices_S1024x2352_S1024x8_0_1032⟩,
    ⟨S1024x112, broadcastInDim S1024x112 ![] bcast_S_S1024x112 (constant S_ .f32 0x00000000#32)⟩]
    concatenates_S1024x8_S1024x8_S1024x112_S1024x128_d1

def pack (w : FVec Ideal S1024x2352 .f32) (a b d : FVec Ideal S1024x128 .f32) : FVec Ideal S1024x2688 .bf16 :=
  truncf .bf16 (concatenate S1024x2688 1 [⟨S1024x768, extractStridedSlice S1024x768 ![0, 0] w slices_S1024x2352_S1024x768_0_0⟩,
    ⟨S1024x256, extractStridedSlice S1024x256 ![0, 768] w slices_S1024x2352_S1024x256_0_768⟩,
    ⟨S1024x512, extractStridedSlice S1024x512 ![0, 1040] w slices_S1024x2352_S1024x512_0_1040⟩,
    ⟨S1024x256, extractStridedSlice S1024x256 ![0, 1552] w slices_S1024x2352_S1024x256_0_1552⟩,
    ⟨S1024x384, extractStridedSlice S1024x384 ![0, 1808] w slices_S1024x2352_S1024x384_0_1808⟩,
    ⟨S1024x128, extractStridedSlice S1024x128 ![0, 2192] w slices_S1024x2352_S1024x128_0_2192⟩,
    ⟨S1024x128, a⟩, ⟨S1024x128, b⟩, ⟨S1024x128, d⟩] concatenates_S1024x768_S1024x256_S1024x512_S1024x256_S1024x384_S1024x128_S1024x128_S1024x128_S1024x128_S1024x2688_d1) bitsLt_bf16_f32

theorem V_g (c : Dev nD) : V m c main_v0 = row (m ((c : Thread nD τ).loc main_arg1)) := by
  unfold V
  after_reads_simp <;> rfl

theorem V_b (c : Dev nD) : V m c main_v1 = row (m ((c : Thread nD τ).loc main_arg2)) := by
  unfold V
  after_reads_simp <;> rfl

theorem V_w (c : Dev nD) : V m c main_v24 = pack (m ((c : Thread nD τ).loc main_arg3)) (tile (rope (m ((c : Thread nD τ).loc main_arg3))))
    (tile (rot (rope (m ((c : Thread nD τ).loc main_arg3))))) (gates (m ((c : Thread nD τ).loc main_arg3))) := by
  unfold V
  after_reads_simp <;> rfl

theorem row_apply (g : FVec Ideal S1024 .f32) (k : Fin 1024) : row g (ix2 0 k) = g (ix1 k) := by
  unfold row
  pointwise

theorem rope_apply (w : FVec Ideal S1024x2352 .f32) (k : Fin 1024) (l : Fin 32) : rope w (ix2 k l) = w (ix2 k ⟨2320 + l, by omega⟩) := by
  unfold rope
  pointwise

theorem rot_apply (r : FVec Ideal S1024x32 .f32) (i : Fin 1024) (l : Fin 32) :
    rot r (ix2 i l) = if h : l.val < 16 then -r (ix2 i ⟨16 + l, by omega⟩) else r (ix2 i ⟨l.val - 16, by omega⟩) := by
  unfold rot
  pointwise

theorem tile_apply (r : FVec Ideal S1024x32 .f32) (i : Fin 1024) (l : Fin 128) :
    tile r (ix2 i l) = if h : 64 ≤ l.val ∧ l.val < 96 then r (ix2 i ⟨l.val - 64, by omega⟩) else 0 := by
  unfold tile
  pointwise
  by_cases h : l.val < 64
  · rw [dif_pos h, dif_neg (by omega)]
  rw [dif_neg h]
  by_cases h : l.val < 96
  · rw [dif_pos (by omega), dif_pos (by omega)]
  · rw [dif_neg (by omega), dif_neg (by omega)]

theorem gates_apply (p : FVec Ideal S1024x2352 .f32) (i : Fin 1024) (l : Fin 128) :
    gates p (ix2 i l) = ProjSpec.gateS (fun c => p (ix2 i c)) l := by
  unfold gates ProjSpec.gateS
  pointwise
  by_cases h1 : l.val < 8
  · rw [dif_pos h1, dif_pos (by omega)]
  rw [dif_neg h1]
  by_cases h : l.val < 16
  · rw [dif_pos (by omega), dif_pos h]
    exact congrArg (fun c => p (ix2 i c)) (Fin.ext (by show 1032 + (l.val - 8) = 1024 + l.val; omega))
  · rw [dif_neg (by omega), dif_neg h]

theorem rotS_apply (p : FVec Ideal S1024x2352 .f32) (i : Fin 1024) (l : Fin 128) :
    tile (rot (rope p)) (ix2 i l) = ProjSpec.rotS (fun c => p (ix2 i c)) l := by
  rw [tile_apply]
  unfold ProjSpec.rotS
  simp only [rot_apply, rope_apply]
  by_cases h4 : 64 ≤ l.val ∧ l.val < 96
  · rw [dif_pos h4]
    by_cases h5 : 64 ≤ l.val ∧ l.val < 80
    · rw [dif_pos h5, dif_pos (by omega)]
      exact congrArg (fun c => -p (ix2 i c)) (Fin.ext (by show 2320 + (16 + (l.val - 64)) = 2336 + (l.val - 64); omega))
    · rw [dif_neg h5, dif_neg (by omega), dif_pos (by omega)]
      exact congrArg (fun c => p (ix2 i c)) (Fin.ext (by show 2320 + (l.val - 64 - 16) = 2320 + (l.val - 80); omega))
  · rw [dif_neg h4, dif_neg (by omega), dif_neg (by omega)]

theorem ropeS_apply (p : FVec Ideal S1024x2352 .f32) (i : Fin 1024) (l : Fin 128) :
    tile (rope p) (ix2 i l) = ProjSpec.ropeS (fun c => p (ix2 i c)) l := by
  rw [tile_apply]
  unfold ProjSpec.ropeS
  simp only [rope_apply]

section
variable (w : FVec Ideal S1024x2352 .f32) (a b d : FVec Ideal S1024x128 .f32) (k : Fin 1024) (j : Fin 2688)

theorem pack_qkv (h : j.val < 768) : pack w a b d (ix2 k j) = w (ix2 k ⟨j, by omega⟩) := by
  unfold pack
  pointwise
  rw [dif_pos h]

theorem pack_z (h : 768 ≤ j.val ∧ j.val < 1024) : pack w a b d (ix2 k j) = w (ix2 k ⟨j, by omega⟩) := by
  unfold pack
  pointwise
  rw [dif_neg (by omega), dif_pos (by omega)]
  exact congrArg (fun c => w (ix2 k c)) (Fin.ext (by show 768 + (j.val - 768) = j.val; omega))

theorem pack_sgu (h : 1024 ≤ j.val ∧ j.val < 1536) : pack w a b d (ix2 k j) = w (ix2 k ⟨16 + j, by omega⟩) := by
  unfold pack
  pointwise
  rw [dif_neg (by omega), dif_neg (by omega), dif_pos (by omega)]
  exact congrArg (fun c => w (ix2 k c)) (Fin.ext (by show 1040 + (j.val - 768 - 256) = 16 + j.val; omega))

theorem pack_pool (h : 1536 ≤ j.val ∧ j.val < 1792) : pack w a b d (ix2 k j) = w (ix2 k ⟨16 + j, by omega⟩) := by
  unfold pack
  pointwise
  rw [dif_neg (by omega), dif_neg (by omega), dif_neg (by omega), dif_pos (by omega)]
  exact congrArg (fun c => w (ix2 k c)) (Fin.ext (by show 1552 + (j.val - 768 - 256 - 512) = 16 + j.val; omega))

theorem pack_lat (h : 1792 ≤ j.val ∧ j.val < 2304) : pack w a b d (ix2 k j) = w (ix2 k ⟨16 + j, by omega⟩) := by
  unfold pack
  pointwise
  rw [dif_neg (by omega), dif_neg (by omega), dif_neg (by omega), dif_neg (by omega)]
  by_cases h1 : j.val < 2176
  · rw [dif_pos (by omega)]
    exact congrArg (fun c => w (ix2 k c)) (Fin.ext (by show 1808 + (j.val - 768 - 256 - 512 - 256) = 16 + j.val; omega))
  · rw [dif_neg (by omega), dif_pos (by omega)]
    exact congrArg (fun c => w (ix2 k c)) (Fin.ext (by show 2192 + (j.val - 768 - 256 - 512 - 256 - 384) = 16 + j.val; omega))

theorem pack_rope (h : 2304 ≤ j.val ∧ j.val < 2432) : pack w a b d (ix2 k j) = a (ix2 k ⟨j - 2304, by omega⟩) := by
  unfold pack
  pointwise
  rw [dif_neg (by omega), dif_neg (by omega), dif_neg (by omega), dif_neg (by omega), dif_neg (by omega), dif_neg (by omega), dif_pos (by omega)]
  exact congrArg (fun c => a (ix2 k c)) (Fin.ext (by show j.val - 768 - 256 - 512 - 256 - 384 - 128 = j.val - 2304; omega))

theorem pack_rot (h : 2432 ≤ j.val ∧ j.val < 2560) : pack w a b d (ix2 k j) = b (ix2 k ⟨j - 2432, by omega⟩) := by
  unfold pack
  pointwise
  rw [dif_neg (by omega), dif_neg (by omega), dif_neg (by omega), dif_neg (by omega), dif_neg (by omega), dif_neg (by omega), dif_neg (by omega), dif_pos (by omega)]
  exact congrArg (fun c => b (ix2 k c)) (Fin.ext (by show j.val - 768 - 256 - 512 - 256 - 384 - 128 - 128 = j.val - 2432; omega))

theorem pack_gates (h : 2560 ≤ j.val) : pack w a b d (ix2 k j) = d (ix2 k ⟨j - 2560, by omega⟩) := by
  unfold pack
  pointwise
  rw [dif_neg (by omega), dif_neg (by omega), dif_neg (by omega), dif_neg (by omega), dif_neg (by omega), dif_neg (by omega), dif_neg (by omega), dif_neg (by omega)]
  exact congrArg (fun c => d (ix2 k c)) (Fin.ext (by show j.val - 768 - 256 - 512 - 256 - 384 - 128 - 128 - 128 = j.val - 2560; omega))
end

/-- The packed weight. -/
def pk (w : FVec Ideal S1024x2352 .f32) : FVec Ideal S1024x2688 .bf16 :=
  pack w (tile (rope w)) (tile (rot (rope w))) (gates w)

theorem V_pk (c : Dev nD) : V m c main_v24 = pk (m ((c : Thread nD τ).loc main_arg3)) := V_w m c

theorem pk_mla (w : FVec Ideal S1024x2352 .f32) (k : Fin 1024) (j : Fin 768) :
    pk w (ix2 k ⟨1792 + j, by omega⟩) = ProjSpec.mlaS (fun c => w (ix2 k c)) j := by
  unfold pk ProjSpec.mlaS
  by_cases h2 : j.val < 512
  · rw [dif_pos h2, pack_lat _ _ _ _ _ _ (by dsimp only; omega)]
    exact congrArg (fun c => w (ix2 k c)) (Fin.ext (by show 16 + (1792 + j.val) = 1808 + j.val; omega))
  rw [dif_neg h2]
  by_cases h3 : j.val < 640
  · rw [dif_pos h3, pack_rope _ _ _ _ _ _ (by dsimp only; omega), ropeS_apply]
    exact congrArg (ProjSpec.ropeS _) (Fin.ext (by show 1792 + j.val - 2304 = j.val - 512; omega))
  · rw [dif_neg h3, pack_rot _ _ _ _ _ _ (by dsimp only; omega), rotS_apply]
    exact congrArg (ProjSpec.rotS _) (Fin.ext (by show 1792 + j.val - 2432 = j.val - 640; omega))

theorem pk_gates (w : FVec Ideal S1024x2352 .f32) (k : Fin 1024) (j : Fin 128) :
    pk w (ix2 k ⟨2560 + j, by omega⟩) = ProjSpec.gateS (fun c => w (ix2 k c)) j := by
  unfold pk
  rw [pack_gates _ _ _ _ _ _ (by dsimp only; omega), gates_apply]
  exact congrArg (ProjSpec.gateS _) (Fin.ext (by show 2560 + j.val - 2560 = j.val; omega))

theorem pk_qkv (w : FVec Ideal S1024x2352 .f32) (k : Fin 1024) (j : Fin 768) :
    pk w (ix2 k ⟨j, by omega⟩) = w (ix2 k ⟨j, by omega⟩) := by
  unfold pk
  rw [pack_qkv _ _ _ _ _ _ (by dsimp only; omega)]

theorem pk_z (w : FVec Ideal S1024x2352 .f32) (k : Fin 1024) (j : Fin 256) :
    pk w (ix2 k ⟨768 + j, by omega⟩) = w (ix2 k ⟨768 + j, by omega⟩) := by
  unfold pk
  rw [pack_z _ _ _ _ _ _ (by dsimp only; omega)]

theorem pk_sgu (w : FVec Ideal S1024x2352 .f32) (k : Fin 1024) (j : Fin 512) :
    pk w (ix2 k ⟨1024 + j, by omega⟩) = w (ix2 k ⟨1040 + j, by omega⟩) := by
  unfold pk
  rw [pack_sgu _ _ _ _ _ _ (by dsimp only; omega)]
  exact congrArg (fun c => w (ix2 k c)) (Fin.ext (by show 16 + (1024 + j.val) = 1040 + j.val; omega))

theorem pk_pool (w : FVec Ideal S1024x2352 .f32) (k : Fin 1024) (j : Fin 256) :
    pk w (ix2 k ⟨1536 + j, by omega⟩) = w (ix2 k ⟨1552 + j, by omega⟩) := by
  unfold pk
  rw [pack_pool _ _ _ _ _ _ (by dsimp only; omega)]
  exact congrArg (fun c => w (ix2 k c)) (Fin.ext (by show 16 + (1536 + j.val) = 1552 + j.val; omega))

end Cert.InpIdeal.Val
-- ==== Proof.InpWin.lean ====
/- The input projection's windows: what each reads of the prepared arrays, what a grid point leaves in each output's block,
   and how the outputs' blocks cover their arrays. -/
module

public import proofs.«01_k».proof.Proof.InpHost
public import Idealize.ShloMosaic.Lib.Pipeline.Value
public import Idealize.ShloMosaic.Lib.Pipeline.ValueKit.Basic

@[expose] public section

set_option maxRecDepth 16384

noncomputable section

namespace Cert.InpIdeal.Val

open Cert.InpIdeal Cert.InpIdeal.Gen Idealize.ShloMosaic Idealize.ShloMosaic.TcCoe Idealize.SL.Sem

variable (m : (ℓ : Loc nD τ sig) → Buf (Elt Ideal) ℓ) (ρ : Dev nD → PrngReg)

theorem tlt (t : Fin cfg0.N) : t.val < 128 := N_0 ▸ t.isLt

/-- The row of the arrays that row `a` of point `t`'s block is. -/
def rt (t : Fin cfg0.N) (a : Fin 512) : Fin 65536 := ⟨512 * t + a, by have := tlt t; omega⟩

theorem hi0 : ∀ t : Fin cfg0.N, win0_0.index t 0 = t.val ∧ win0_0.index t 1 = 0 := by
  decide +kernel
theorem hi1 : ∀ t : Fin cfg0.N, win0_1.index t 0 = 0 ∧ win0_1.index t 1 = 0 := by
  decide +kernel
theorem hi2 : ∀ t : Fin cfg0.N, win0_2.index t 0 = 0 ∧ win0_2.index t 1 = 0 := by
  decide +kernel
theorem hi3 : ∀ t : Fin cfg0.N, win0_3.index t 0 = 0 ∧ win0_3.index t 1 = 0 := by
  decide +kernel

theorem blk0 (c : Dev nD) (t : Fin cfg0.N) (a : Fin 512) (k : Fin 1024) :
    iblk m c 0 t (ix2 a k) = (m ((c : Thread nD τ).loc main_arg0) : FVec Ideal S65536x1024 .f32) (ix2 (rt t a) k) := by
  have hi := hi0 t
  rw [← V_main_arg0 m c]
  unfold iblk
  rw [View.read_apply]
  show V m c main_arg0 _ = V m c main_arg0 _
  congr 1
  funext x
  apply Fin.ext
  match x with
  | ⟨0, _⟩ => show win0_0.index t 0 * 512 + 1 * a.val = 512 * t.val + a.val; rw [hi.1]; omega
  | ⟨1, _⟩ => show win0_0.index t 1 * 1024 + 1 * k.val = k.val; rw [hi.2]; omega

theorem blk1 (c : Dev nD) (t : Fin cfg0.N) (k : Fin 1024) :
    iblk m c 1 t (ix2 0 k) = (m ((c : Thread nD τ).loc main_arg1) : FVec Ideal S1024 .f32) (ix1 k) := by
  have hi := hi1 t
  rw [← row_apply (m ((c : Thread nD τ).loc main_arg1)) k, ← V_g m c]
  unfold iblk
  rw [View.read_apply]
  show V m c main_v0 _ = V m c main_v0 _
  congr 1
  funext x
  apply Fin.ext
  match x with
  | ⟨0, _⟩ => show win0_1.index t 0 * 1 + 1 * 0 = 0; rw [hi.1]
  | ⟨1, _⟩ => show win0_1.index t 1 * 1024 + 1 * k.val = k.val; rw [hi.2]; omega

theorem blk2 (c : Dev nD) (t : Fin cfg0.N) (k : Fin 1024) :
    iblk m c 2 t (ix2 0 k) = (m ((c : Thread nD τ).loc main_arg2) : FVec Ideal S1024 .f32) (ix1 k) := by
  have hi := hi2 t
  rw [← row_apply (m ((c : Thread nD τ).loc main_arg2)) k, ← V_b m c]
  unfold iblk
  rw [View.read_apply]
  show V m c main_v1 _ = V m c main_v1 _
  congr 1
  funext x
  apply Fin.ext
  match x with
  | ⟨0, _⟩ => show win0_2.index t 0 * 1 + 1 * 0 = 0; rw [hi.1]
  | ⟨1, _⟩ => show win0_2.index t 1 * 1024 + 1 * k.val = k.val; rw [hi.2]; omega

theorem blk3 (c : Dev nD) (t : Fin cfg0.N) (k : Fin 1024) (j : Fin 2688) :
    iblk m c 3 t (ix2 k j) = pk (m ((c : Thread nD τ).loc main_arg3)) (ix2 k j) := by
  have hi := hi3 t
  rw [← V_pk m c]
  unfold iblk
  rw [View.read_apply]
  show V m c main_v24 _ = V m c main_v24 _
  congr 1
  funext x
  apply Fin.ext
  match x with
  | ⟨0, _⟩ => show win0_3.index t 0 * 1024 + 1 * k.val = k.val; rw [hi.1]; omega
  | ⟨1, _⟩ => show win0_3.index t 1 * 2688 + 1 * j.val = j.val; rw [hi.2]; omega

theorem ld0 (x : FVec Ideal S512x1024 .f32) : View.ld (Val := Elt Ideal) (e' := .f32) x r0_0 = x := View.ld_unit_lit _ _ (by decide)
theorem ld1 (x : FVec Ideal S1x1024 .f32) : View.ld (Val := Elt Ideal) (e' := .f32) x r0_1 = x := View.ld_unit_lit _ _ (by decide)

/-- An entry of output window 4's block. -/
theorem out4_apply (x0 : FVec Ideal S512x1024 .f32) (x1 x2 : FVec Ideal S1x1024 .f32) (x3 : FVec Ideal S1024x2688 .bf16)
    (a : Fin 512) (j : Fin 768) : out0_4 (F := Ideal) x0 x1 x2 x3 (ix2 a j) = ∑ k : Fin 1024,
      ProjSpec.ln (fun k => x0 (ix2 a k)) (fun k => x1 (ix2 0 k)) (fun k => x2 (ix2 0 k)) k * x3 (ix2 k ⟨j, by omega⟩) := by
  have e : ∀ k : Fin 1024, View.ld (Val := Elt Ideal) (e' := .bf16) x3 r0_2 (ix2 k j) = x3 (ix2 k ⟨j, by omega⟩) := fun k => by
    show x3 _ = x3 _
    refine congrArg x3 (funext fun x => Fin.ext ?_)
    match x with
    | ⟨0, _⟩ => show 0 + 1 * k.val = k.val; omega
    | ⟨1, _⟩ => show 0 + 1 * j.val = j.val; omega
  unfold out0_4
  rw [View.canon_cons_unit_lit _ _ _ (by decide), ld0, ld1, ld1, pay6_apply]
  exact Finset.sum_congr rfl fun k _ => by rw [pay5_apply, e k]

/-- An entry of output window 5's block. -/
theorem out5_apply (x0 : FVec Ideal S512x1024 .f32) (x1 x2 : FVec Ideal S1x1024 .f32) (x3 : FVec Ideal S1024x2688 .bf16)
    (a : Fin 512) (j : Fin 256) : out0_5 (F := Ideal) x0 x1 x2 x3 (ix2 a j) = ∑ k : Fin 1024,
      ProjSpec.ln (fun k => x0 (ix2 a k)) (fun k => x1 (ix2 0 k)) (fun k => x2 (ix2 0 k)) k * x3 (ix2 k ⟨768 + j, by omega⟩) := by
  have e : ∀ k : Fin 1024, View.ld (Val := Elt Ideal) (e' := .bf16) x3 r0_4 (ix2 k j) = x3 (ix2 k ⟨768 + j, by omega⟩) := fun k => by
    show x3 _ = x3 _
    refine congrArg x3 (funext fun x => Fin.ext ?_)
    match x with
    | ⟨0, _⟩ => show 0 + 1 * k.val = k.val; omega
    | ⟨1, _⟩ => show 768 + 1 * j.val = 768 + j.val; omega
  unfold out0_5
  rw [View.canon_cons_unit_lit _ _ _ (by decide), ld0, ld1, ld1, pay7_apply]
  exact Finset.sum_congr rfl fun k _ => by rw [pay5_apply, e k]

/-- An entry of output window 6's block. -/
theorem out6_apply (x0 : FVec Ideal S512x1024 .f32) (x1 x2 : FVec Ideal S1x1024 .f32) (x3 : FVec Ideal S1024x2688 .bf16)
    (a : Fin 512) (j : Fin 512) : out0_6 (F := Ideal) x0 x1 x2 x3 (ix2 a j) = ∑ k : Fin 1024,
      ProjSpec.ln (fun k => x0 (ix2 a k)) (fun k => x1 (ix2 0 k)) (fun k => x2 (ix2 0 k)) k * x3 (ix2 k ⟨1024 + j, by omega⟩) := by
  have e : ∀ k : Fin 1024, View.ld (Val := Elt Ideal) (e' := .bf16) x3 r0_6 (ix2 k j) = x3 (ix2 k ⟨1024 + j, by omega⟩) := fun k => by
    show x3 _ = x3 _
    refine congrArg x3 (funext fun x => Fin.ext ?_)
    match x with
    | ⟨0, _⟩ => show 0 + 1 * k.val = k.val; omega
    | ⟨1, _⟩ => show 1024 + 1 * j.val = 1024 + j.val; omega
  unfold out0_6 k0_pay8
  rw [View.canon_cons_unit_lit _ _ _ (by decide), ld0, ld1, ld1, pay1_apply]
  exact Finset.sum_congr rfl fun k _ => by rw [pay5_apply, e k]

/-- An entry of output window 7's block. -/
theorem out7_apply (x0 : FVec Ideal S512x1024 .f32) (x1 x2 : FVec Ideal S1x1024 .f32) (x3 : FVec Ideal S1024x2688 .bf16)
    (a : Fin 512) (j : Fin 256) : out0_7 (F := Ideal) x0 x1 x2 x3 (ix2 a j) = ∑ k : Fin 1024,
      ProjSpec.ln (fun k => x0 (ix2 a k)) (fun k => x1 (ix2 0 k)) (fun k => x2 (ix2 0 k)) k * x3 (ix2 k ⟨1536 + j, by omega⟩) := by
  have e : ∀ k : Fin 1024, View.ld (Val := Elt Ideal) (e' := .bf16) x3 r0_8 (ix2 k j) = x3 (ix2 k ⟨1536 + j, by omega⟩) := fun k => by
    show x3 _ = x3 _
    refine congrArg x3 (funext fun x => Fin.ext ?_)
    match x with
    | ⟨0, _⟩ => show 0 + 1 * k.val = k.val; omega
    | ⟨1, _⟩ => show 1536 + 1 * j.val = 1536 + j.val; omega
  unfold out0_7 k0_pay8
  rw [View.canon_cons_unit_lit _ _ _ (by decide), ld0, ld1, ld1, pay2_apply]
  exact Finset.sum_congr rfl fun k _ => by rw [pay5_apply, e k]

/-- An entry of output window 8's block. -/
theorem out8_apply (x0 : FVec Ideal S512x1024 .f32) (x1 x2 : FVec Ideal S1x1024 .f32) (x3 : FVec Ideal S1024x2688 .bf16)
    (a : Fin 512) (j : Fin 768) : out0_8 (F := Ideal) x0 x1 x2 x3 (ix2 a j) = ∑ k : Fin 1024,
      ProjSpec.ln (fun k => x0 (ix2 a k)) (fun k => x1 (ix2 0 k)) (fun k => x2 (ix2 0 k)) k * x3 (ix2 k ⟨1792 + j, by omega⟩) := by
  have e : ∀ k : Fin 1024, View.ld (Val := Elt Ideal) (e' := .bf16) x3 r0_9 (ix2 k j) = x3 (ix2 k ⟨1792 + j, by omega⟩) := fun k => by
    show x3 _ = x3 _
    refine congrArg x3 (funext fun x => Fin.ext ?_)
    match x with
    | ⟨0, _⟩ => show 0 + 1 * k.val = k.val; omega
    | ⟨1, _⟩ => show 1792 + 1 * j.val = 1792 + j.val; omega
  unfold out0_8 k0_pay8
  rw [View.canon_cons_unit_lit _ _ _ (by decide), ld0, ld1, ld1, pay3_apply]
  exact Finset.sum_congr rfl fun k _ => by rw [pay5_apply, e k]

/-- An entry of output window 9's block. -/
theorem out9_apply (x0 : FVec Ideal S512x1024 .f32) (x1 x2 : FVec Ideal S1x1024 .f32) (x3 : FVec Ideal S1024x2688 .bf16)
    (a : Fin 512) (j : Fin 128) : out0_9 (F := Ideal) x0 x1 x2 x3 (ix2 a j) = ∑ k : Fin 1024,
      ProjSpec.ln (fun k => x0 (ix2 a k)) (fun k => x1 (ix2 0 k)) (fun k => x2 (ix2 0 k)) k * x3 (ix2 k ⟨2560 + j, by omega⟩) := by
  have e : ∀ k : Fin 1024, View.ld (Val := Elt Ideal) (e' := .bf16) x3 r0_10 (ix2 k j) = x3 (ix2 k ⟨2560 + j, by omega⟩) := fun k => by
    show x3 _ = x3 _
    refine congrArg x3 (funext fun x => Fin.ext ?_)
    match x with
    | ⟨0, _⟩ => show 0 + 1 * k.val = k.val; omega
    | ⟨1, _⟩ => show 2560 + 1 * j.val = 2560 + j.val; omega
  unfold out0_9 k0_pay8
  rw [View.canon_cons_unit_lit _ _ _ (by decide), ld0, ld1, ld1, pay4_apply]
  exact Finset.sum_congr rfl fun k _ => by rw [pay5_apply, e k]

theorem hi4 : ∀ t : Fin cfg0.N, win0_4.index t 0 = t.val ∧ win0_4.index t 1 = 0 := by
  decide +kernel
theorem hx4 : ∀ t : Fin cfg0.N, win0_4.xsize (grid0.coords t) 0 = 512 ∧ win0_4.xsize (grid0.coords t) 1 = 768 := by
  decide +kernel

theorem mem_blk4 (t : Fin cfg0.N) (i : S65536x768.Idx) (ha : 512 * t.val ≤ (i 0).val) (hb : (i 0).val < 512 * t.val + 512) :
    i ∈ ((cfg0.win 4).blk t).view.set := by
  show i ∈ ((View.whole main_v25_0).slice (win0_4.rect t)).set
  rw [View.set_slice_whole, Rect.mem_set_unit]
  have h1 : (i 1).val < 768 := (i 1).isLt
  have hi := hi4 t
  have hx := hx4 t
  intro a
  match a with
  | ⟨0, _⟩ => show win0_4.index t 0 * 512 ≤ (i 0).val ∧ (i 0).val < win0_4.index t 0 * 512 + win0_4.xsize (grid0.coords t) 0
              rw [hi.1, hx.1]; omega
  | ⟨1, _⟩ => show win0_4.index t 1 * 768 ≤ (i 1).val ∧ (i 1).val < win0_4.index t 1 * 768 + win0_4.xsize (grid0.coords t) 1
              rw [hi.2, hx.2]; omega

theorem cover4 (i : S65536x768.Idx) : ∃ t : Fin cfg0.N, (cfg0.win 4).flush t = true ∧ i ∈ ((cfg0.win 4).blk t).view.set := by
  have h0 : (i 0).val < 65536 := (i 0).isLt
  have h1 : (i 1).val < 768 := (i 1).isLt
  refine ⟨⟨(i 0).val / 512, by have : cfg0.N = 128 := N_0; omega⟩, flush0_4 _, mem_blk4 _ i ?_ ?_⟩
  · dsimp only; omega
  · dsimp only; omega

theorem hi5 : ∀ t : Fin cfg0.N, win0_5.index t 0 = t.val ∧ win0_5.index t 1 = 0 := by
  decide +kernel
theorem hx5 : ∀ t : Fin cfg0.N, win0_5.xsize (grid0.coords t) 0 = 512 ∧ win0_5.xsize (grid0.coords t) 1 = 256 := by
  decide +kernel

theorem mem_blk5 (t : Fin cfg0.N) (i : S65536x256.Idx) (ha : 512 * t.val ≤ (i 0).val) (hb : (i 0).val < 512 * t.val + 512) :
    i ∈ ((cfg0.win 5).blk t).view.set := by
  show i ∈ ((View.whole main_v25_1).slice (win0_5.rect t)).set
  rw [View.set_slice_whole, Rect.mem_set_unit]
  have h1 : (i 1).val < 256 := (i 1).isLt
  have hi := hi5 t
  have hx := hx5 t
  intro a
  match a with
  | ⟨0, _⟩ => show win0_5.index t 0 * 512 ≤ (i 0).val ∧ (i 0).val < win0_5.index t 0 * 512 + win0_5.xsize (grid0.coords t) 0
              rw [hi.1, hx.1]; omega
  | ⟨1, _⟩ => show win0_5.index t 1 * 256 ≤ (i 1).val ∧ (i 1).val < win0_5.index t 1 * 256 + win0_5.xsize (grid0.coords t) 1
              rw [hi.2, hx.2]; omega

theorem cover5 (i : S65536x256.Idx) : ∃ t : Fin cfg0.N, (cfg0.win 5).flush t = true ∧ i ∈ ((cfg0.win 5).blk t).view.set := by
  have h0 : (i 0).val < 65536 := (i 0).isLt
  have h1 : (i 1).val < 256 := (i 1).isLt
  refine ⟨⟨(i 0).val / 512, by have : cfg0.N = 128 := N_0; omega⟩, flush0_5 _, mem_blk5 _ i ?_ ?_⟩
  · dsimp only; omega
  · dsimp only; omega

theorem hi6 : ∀ t : Fin cfg0.N, win0_6.index t 0 = t.val ∧ win0_6.index t 1 = 0 := by
  decide +kernel
theorem hx6 : ∀ t : Fin cfg0.N, win0_6.xsize (grid0.coords t) 0 = 512 ∧ win0_6.xsize (grid0.coords t) 1 = 512 := by
  decide +kernel

theorem mem_blk6 (t : Fin cfg0.N) (i : S65536x512.Idx) (ha : 512 * t.val ≤ (i 0).val) (hb : (i 0).val < 512 * t.val + 512) :
    i ∈ ((cfg0.win 6).blk t).view.set := by
  show i ∈ ((View.whole main_v25_2).slice (win0_6.rect t)).set
  rw [View.set_slice_whole, Rect.mem_set_unit]
  have h1 : (i 1).val < 512 := (i 1).isLt
  have hi := hi6 t
  have hx := hx6 t
  intro a
  match a with
  | ⟨0, _⟩ => show win0_6.index t 0 * 512 ≤ (i 0).val ∧ (i 0).val < win0_6.index t 0 * 512 + win0_6.xsize (grid0.coords t) 0
              rw [hi.1, hx.1]; omega
  | ⟨1, _⟩ => show win0_6.index t 1 * 512 ≤ (i 1).val ∧ (i 1).val < win0_6.index t 1 * 512 + win0_6.xsize (grid0.coords t) 1
              rw [hi.2, hx.2]; omega

theorem cover6 (i : S65536x512.Idx) : ∃ t : Fin cfg0.N, (cfg0.win 6).flush t = true ∧ i ∈ ((cfg0.win 6).blk t).view.set := by
  have h0 : (i 0).val < 65536 := (i 0).isLt
  have h1 : (i 1).val < 512 := (i 1).isLt
  refine ⟨⟨(i 0).val / 512, by have : cfg0.N = 128 := N_0; omega⟩, flush0_6 _, mem_blk6 _ i ?_ ?_⟩
  · dsimp only; omega
  · dsimp only; omega

theorem hi7 : ∀ t : Fin cfg0.N, win0_7.index t 0 = t.val ∧ win0_7.index t 1 = 0 := by
  decide +kernel
theorem hx7 : ∀ t : Fin cfg0.N, win0_7.xsize (grid0.coords t) 0 = 512 ∧ win0_7.xsize (grid0.coords t) 1 = 256 := by
  decide +kernel

theorem mem_blk7 (t : Fin cfg0.N) (i : S65536x256.Idx) (ha : 512 * t.val ≤ (i 0).val) (hb : (i 0).val < 512 * t.val + 512) :
    i ∈ ((cfg0.win 7).blk t).view.set := by
  show i ∈ ((View.whole main_v25_3).slice (win0_7.rect t)).set
  rw [View.set_slice_whole, Rect.mem_set_unit]
  have h1 : (i 1).val < 256 := (i 1).isLt
  have hi := hi7 t
  have hx := hx7 t
  intro a
  match a with
  | ⟨0, _⟩ => show win0_7.index t 0 * 512 ≤ (i 0).val ∧ (i 0).val < win0_7.index t 0 * 512 + win0_7.xsize (grid0.coords t) 0
              rw [hi.1, hx.1]; omega
  | ⟨1, _⟩ => show win0_7.index t 1 * 256 ≤ (i 1).val ∧ (i 1).val < win0_7.index t 1 * 256 + win0_7.xsize (grid0.coords t) 1
              rw [hi.2, hx.2]; omega

theorem cover7 (i : S65536x256.Idx) : ∃ t : Fin cfg0.N, (cfg0.win 7).flush t = true ∧ i ∈ ((cfg0.win 7).blk t).view.set := by
  have h0 : (i 0).val < 65536 := (i 0).isLt
  have h1 : (i 1).val < 256 := (i 1).isLt
  refine ⟨⟨(i 0).val / 512, by have : cfg0.N = 128 := N_0; omega⟩, flush0_7 _, mem_blk7 _ i ?_ ?_⟩
  · dsimp only; omega
  · dsimp only; omega

theorem hi8 : ∀ t : Fin cfg0.N, win0_8.index t 0 = t.val ∧ win0_8.index t 1 = 0 := by
  decide +kernel
theorem hx8 : ∀ t : Fin cfg0.N, win0_8.xsize (grid0.coords t) 0 = 512 ∧ win0_8.xsize (grid0.coords t) 1 = 768 := by
  decide +kernel

theorem mem_blk8 (t : Fin cfg0.N) (i : S65536x768.Idx) (ha : 512 * t.val ≤ (i 0).val) (hb : (i 0).val < 512 * t.val + 512) :
    i ∈ ((cfg0.win 8).blk t).view.set := by
  show i ∈ ((View.whole main_v25_4).slice (win0_8.rect t)).set
  rw [View.set_slice_whole, Rect.mem_set_unit]
  have h1 : (i 1).val < 768 := (i 1).isLt
  have hi := hi8 t
  have hx := hx8 t
  intro a
  match a with
  | ⟨0, _⟩ => show win0_8.index t 0 * 512 ≤ (i 0).val ∧ (i 0).val < win0_8.index t 0 * 512 + win0_8.xsize (grid0.coords t) 0
              rw [hi.1, hx.1]; omega
  | ⟨1, _⟩ => show win0_8.index t 1 * 768 ≤ (i 1).val ∧ (i 1).val < win0_8.index t 1 * 768 + win0_8.xsize (grid0.coords t) 1
              rw [hi.2, hx.2]; omega

theorem cover8 (i : S65536x768.Idx) : ∃ t : Fin cfg0.N, (cfg0.win 8).flush t = true ∧ i ∈ ((cfg0.win 8).blk t).view.set := by
  have h0 : (i 0).val < 65536 := (i 0).isLt
  have h1 : (i 1).val < 768 := (i 1).isLt
  refine ⟨⟨(i 0).val / 512, by have : cfg0.N = 128 := N_0; omega⟩, flush0_8 _, mem_blk8 _ i ?_ ?_⟩
  · dsimp only; omega
  · dsimp only; omega

theorem hi9 : ∀ t : Fin cfg0.N, win0_9.index t 0 = t.val ∧ win0_9.index t 1 = 0 := by
  decide +kernel
theorem hx9 : ∀ t : Fin cfg0.N, win0_9.xsize (grid0.coords t) 0 = 512 ∧ win0_9.xsize (grid0.coords t) 1 = 128 := by
  decide +kernel

theorem mem_blk9 (t : Fin cfg0.N) (i : S65536x128.Idx) (ha : 512 * t.val ≤ (i 0).val) (hb : (i 0).val < 512 * t.val + 512) :
    i ∈ ((cfg0.win 9).blk t).view.set := by
  show i ∈ ((View.whole main_v25_5).slice (win0_9.rect t)).set
  rw [View.set_slice_whole, Rect.mem_set_unit]
  have h1 : (i 1).val < 128 := (i 1).isLt
  have hi := hi9 t
  have hx := hx9 t
  intro a
  match a with
  | ⟨0, _⟩ => show win0_9.index t 0 * 512 ≤ (i 0).val ∧ (i 0).val < win0_9.index t 0 * 512 + win0_9.xsize (grid0.coords t) 0
              rw [hi.1, hx.1]; omega
  | ⟨1, _⟩ => show win0_9.index t 1 * 128 ≤ (i 1).val ∧ (i 1).val < win0_9.index t 1 * 128 + win0_9.xsize (grid0.coords t) 1
              rw [hi.2, hx.2]; omega

theorem cover9 (i : S65536x128.Idx) : ∃ t : Fin cfg0.N, (cfg0.win 9).flush t = true ∧ i ∈ ((cfg0.win 9).blk t).view.set := by
  have h0 : (i 0).val < 65536 := (i 0).isLt
  have h1 : (i 1).val < 128 := (i 1).isLt
  refine ⟨⟨(i 0).val / 512, by have : cfg0.N = 128 := N_0; omega⟩, flush0_9 _, mem_blk9 _ i ?_ ?_⟩
  · dsimp only; omega
  · dsimp only; omega

end Cert.InpIdeal.Val
-- ==== Proof.ProjReal.lean ====
/- The layer norm by a real scale and shift is real, so that a product of it with negated columns is the product's negation. -/
module

public import proofs.«01_k».proof.Proof.ProjSpec

@[expose] public section

noncomputable section

namespace Cert.ProjSpec

open Idealize.ShloMosaic Cert.ERealMath

theorem n_real : Ideal.ofBits .f32 0x44800000#32 = ((1024 : ℝ) : EReal) := by
  simp [Ideal.ofBits, Ideal.ieee]
  rw [← EReal.coe_mul]
  norm_num

theorem eps_real : ∃ e : ℝ, 0 < e ∧ Ideal.ofBits .f32 0x3727C5AC#32 = (e : EReal) := by
  simp only [Ideal.ofBits, Ideal.ieee]
  rw [if_neg (by decide), if_neg (by decide)]
  refine ⟨_, ?_, rfl⟩
  rw [if_neg (by decide)]
  positivity

/-- A row over the root of the mean of its squares is real whatever the row: with an infinite entry, it is zero. -/
theorem unit_real {n : ℕ} (d : Fin n → EReal) (N e : ℝ) (hN : 0 < N) (he : 0 < e) (k : Fin n) :
    ∃ r : ℝ, d k * Ideal.rsqrt (Ideal.div (∑ i, d i * d i) (N : EReal) + (e : EReal)) = ↑r := by
  have hp : ∀ i, 0 ≤ d i * d i := fun i => by
    induction d i using EReal.rec with
    | bot => simp
    | top => simp
    | coe r => rw [← EReal.coe_mul]; exact_mod_cast mul_self_nonneg r
  have hc : (0 : ℝ) < 1 / N := by positivity
  rw [Ideal.div_coe hN.ne']
  by_cases ht : ∑ i, d i * d i = ⊤
  · rw [ht, EReal.top_mul_coe_of_pos hc, EReal.top_add_coe, Ideal.rsqrt_top, mul_zero]
    exact ⟨0, rfl⟩
  · have hd : ∀ i, ∃ r : ℝ, d i = ↑r := fun i => by
      have hi : d i * d i ≠ ⊤ := fun h =>
        ht (top_le_iff.mp (h ▸ Finset.single_le_sum (f := fun i => d i * d i) (fun i _ => hp i) (Finset.mem_univ i)))
      revert hi
      induction d i using EReal.rec with
      | bot => intro hi; exact absurd (by simp) hi
      | top => intro hi; exact absurd (by simp) hi
      | coe r => intro _; exact ⟨r, rfl⟩
    choose d' hd' using hd
    simp only [hd', ← EReal.coe_mul, ← coe_sum, ← EReal.coe_add]
    have h : 0 < (∑ i, d' i * d' i) * (1 / N) + e := by
      have : 0 ≤ ∑ i, d' i * d' i := Finset.sum_nonneg fun i _ => mul_self_nonneg _
      positivity
    rw [Ideal.rsqrt_coe, if_neg (not_lt.mpr h.le), if_neg h.ne']
    exact ⟨_, by rw [← EReal.coe_mul]⟩

theorem ln_real (x g b : Fin 1024 → EReal) (hg : ∀ k, ∃ r : ℝ, g k = ↑r) (hb : ∀ k, ∃ r : ℝ, b k = ↑r) (k : Fin 1024) :
    ∃ r : ℝ, ln x g b k = ↑r := by
  obtain ⟨e, he, ee⟩ := eps_real
  obtain ⟨u, hu⟩ := unit_real (fun k => x k - mean x) 1024 e (by norm_num) he k
  obtain ⟨g', hg'⟩ := hg k
  obtain ⟨b', hb'⟩ := hb k
  refine ⟨u * g' + b', ?_⟩
  rw [← n_real, ← ee] at hu
  rw [EReal.coe_add, EReal.coe_mul, ← hu, ← hg', ← hb']
  rfl

theorem sum_neg (a w : Fin 1024 → EReal) (ha : ∀ k, ∃ r : ℝ, a k = ↑r) (hw : ∀ k, ∃ r : ℝ, w k = ↑r) :
    ∑ k, a k * -w k = -∑ k, a k * w k := by
  choose a' ha' using ha
  choose w' hw' using hw
  simp only [ha', hw', ← EReal.coe_neg, ← EReal.coe_mul, ← coe_sum]
  simp

theorem sum_mlaS (a : Fin 1024 → EReal) (w : Fin 1024 → Fin 2352 → EReal) (ha : ∀ k, ∃ r : ℝ, a k = ↑r)
    (hw : ∀ k (j : Fin 16), ∃ r : ℝ, w k ⟨2336 + j.val, by omega⟩ = ↑r) (j : Fin 768) : ∑ k, a k * mlaS (w k) j = mlaS (fun c => ∑ k, a k * w k c) j := by
  unfold mlaS ropeS rotS
  by_cases h2 : j.val < 512
  · simp only [dif_pos h2]
  simp only [dif_neg h2]
  by_cases h3 : j.val < 640
  · simp only [dif_pos h3]
    by_cases h4 : 64 ≤ j.val - 512 ∧ j.val - 512 < 96
    · simp only [dif_pos h4]
    · simp only [dif_neg h4, mul_zero, Finset.sum_const_zero]
  simp only [dif_neg h3]
  by_cases h5 : 64 ≤ j.val - 640 ∧ j.val - 640 < 80
  · simp only [dif_pos h5]
    exact sum_neg a (fun k => w k _) ha fun k => hw k ⟨j.val - 640 - 64, by omega⟩
  simp only [dif_neg h5]
  by_cases h4 : 80 ≤ j.val - 640 ∧ j.val - 640 < 96
  · simp only [dif_pos h4]
  · simp only [dif_neg h4, mul_zero, Finset.sum_const_zero]

theorem sum_gateS (a : Fin 1024 → EReal) (w : Fin 1024 → Fin 2352 → EReal) (l : Fin 128) :
    ∑ k, a k * gateS (w k) l = gateS (fun c => ∑ k, a k * w k c) l := by
  unfold gateS
  by_cases h : l.val < 16
  · simp only [dif_pos h]
  · simp only [dif_neg h, mul_zero, Finset.sum_const_zero]

end Cert.ProjSpec
-- ==== Proof.InpValue.lean ====
/- The input projection's run: each result array holds the reference's columns, block by block. -/
module

public import proofs.«01_k».proof.Proof.InpWin
public import proofs.«01_k».proof.Proof.ProjReal

@[expose] public section

set_option maxRecDepth 16384

noncomputable section

namespace Cert.InpIdeal.Val

open Cert.InpIdeal Cert.InpIdeal.Gen Idealize.ShloMosaic Idealize.ShloMosaic.TcCoe Idealize.SL.Sem Cert.ProjSpec

section
variable (x : FVec Ideal S65536x1024 .f32) (g b : FVec Ideal S1024 .f32) (w : FVec Ideal S1024x2352 .f32)

/-- The array of the DeltaNet queries, keys and values. -/
def G4 : FVec Ideal S65536x768 .bf16 := fun i =>
  pe x g b w ⟨(i 0).val, (i 0).isLt⟩ ⟨(i 1).val, by have : (i 1).val < 768 := (i 1).isLt; omega⟩
theorem G4_apply (i : Fin 65536) (j : Fin 768) : G4 x g b w (ix2 i j) = pe x g b w i ⟨j, by omega⟩ := rfl

/-- The array of the DeltaNet's gate. -/
def G5 : FVec Ideal S65536x256 .bf16 := fun i =>
  pe x g b w ⟨(i 0).val, (i 0).isLt⟩ ⟨768 + (i 1).val, by have : (i 1).val < 256 := (i 1).isLt; omega⟩
theorem G5_apply (i : Fin 65536) (j : Fin 256) : G5 x g b w (ix2 i j) = pe x g b w i ⟨768 + j, by omega⟩ := rfl

/-- The array of the spatial gating's input. -/
def G6 : FVec Ideal S65536x512 .bf16 := fun i =>
  pe x g b w ⟨(i 0).val, (i 0).isLt⟩ ⟨1040 + (i 1).val, by have : (i 1).val < 512 := (i 1).isLt; omega⟩
theorem G6_apply (i : Fin 65536) (j : Fin 512) : G6 x g b w (ix2 i j) = pe x g b w i ⟨1040 + j, by omega⟩ := rfl

/-- The array of the pooling's input. -/
def G7 : FVec Ideal S65536x256 .bf16 := fun i =>
  pe x g b w ⟨(i 0).val, (i 0).isLt⟩ ⟨1552 + (i 1).val, by have : (i 1).val < 256 := (i 1).isLt; omega⟩
theorem G7_apply (i : Fin 65536) (j : Fin 256) : G7 x g b w (ix2 i j) = pe x g b w i ⟨1552 + j, by omega⟩ := rfl

/-- The array of the latent attention's input. -/
def G8 : FVec Ideal S65536x768 .bf16 := fun i =>
  mlaS (fun c => pe x g b w ⟨(i 0).val, (i 0).isLt⟩ c) ⟨(i 1).val, (i 1).isLt⟩
theorem G8_apply (i : Fin 65536) (j : Fin 768) : G8 x g b w (ix2 i j) = mlaS (fun c => pe x g b w i c) j := rfl

/-- The array of the DeltaNet's decay and step inputs. -/
def G9 : FVec Ideal S65536x128 .f32 := fun i =>
  gateS (fun c => pe x g b w ⟨(i 0).val, (i 0).isLt⟩ c) ⟨(i 1).val, (i 1).isLt⟩
theorem G9_apply (i : Fin 65536) (j : Fin 128) : G9 x g b w (ix2 i j) = gateS (fun c => pe x g b w i c) j := rfl

end

variable (m : (ℓ : Loc nD τ sig) → Buf (Elt Ideal) ℓ) (ρ : Dev nD → PrngReg)

/-- A row of a point's block, normed, is the argument's row normed. -/
theorem ln_blk (c : Dev nD) (t : Fin cfg0.N) (a : Fin 512) :
    ln (fun k => iblk m c 0 t (ix2 a k)) (fun k => iblk m c 1 t (ix2 0 k)) (fun k => iblk m c 2 t (ix2 0 k))
      = ln (fun k => (m ((c : Thread nD τ).loc main_arg0) : FVec Ideal S65536x1024 .f32) (ix2 (rt t a) k))
        (fun k => (m ((c : Thread nD τ).loc main_arg1) : FVec Ideal S1024 .f32) (ix1 k))
        (fun k => (m ((c : Thread nD τ).loc main_arg2) : FVec Ideal S1024 .f32) (ix1 k)) := by
  rw [funext fun k => blk0 m c t a k, funext fun k => blk1 m c t k, funext fun k => blk2 m c t k]

/-- The norm's scale and shift and the negated columns of the weight hold real numbers. -/
structure Real (c : Dev nD) : Prop where
  g : ∀ i, ∃ r : ℝ, (m ((c : Thread nD τ).loc main_arg1) : FVec Ideal S1024 .f32) i = (↑r : EReal)
  b : ∀ i, ∃ r : ℝ, (m ((c : Thread nD τ).loc main_arg2) : FVec Ideal S1024 .f32) i = (↑r : EReal)
  w : ∀ k (j : Fin 16), ∃ r : ℝ, (m ((c : Thread nD τ).loc main_arg3) : FVec Ideal S1024x2352 .f32) (ix2 k ⟨2336 + j.val, by omega⟩) = (↑r : EReal)

theorem oblk4 (c : Dev nD) (t : Fin cfg0.N) (a : Fin 512) (j : Fin 768) :
    out0_4 (F := Ideal) (iblk m c 0 t) (iblk m c 1 t) (iblk m c 2 t) (iblk m c 3 t) (ix2 a j)
      = G4 (m ((c : Thread nD τ).loc main_arg0)) (m ((c : Thread nD τ).loc main_arg1)) (m ((c : Thread nD τ).loc main_arg2)) (m ((c : Thread nD τ).loc main_arg3)) (ix2 (rt t a) j) := by
  rw [out4_apply, G4_apply, ln_blk]
  exact Finset.sum_congr rfl fun k _ => by rw [blk3, pk_qkv]

theorem flushed4 (c : Dev nD) (t : Fin cfg0.N) :
    (dats m 0 c).flushed 4 t = (win0_4.blk t).view.read (Elt Ideal) (G4 (m ((c : Thread nD τ).loc main_arg0)) (m ((c : Thread nD τ).loc main_arg1)) (m ((c : Thread nD τ).loc main_arg2)) (m ((c : Thread nD τ).loc main_arg3))) := by
  rw [Value.flushed4]
  have hi := hi4 t
  refine funext fun (j : S512x768.Idx) => ?_
  have h0 : (j 0).val < 512 := (j 0).isLt
  have h1 : (j 1).val < 768 := (j 1).isLt
  refine Eq.trans ?_ ((oblk4 m c t ⟨(j 0).val, h0⟩ ⟨(j 1).val, h1⟩).trans (Eq.trans ?_ (View.read_apply ..).symm))
  · refine congrArg (out0_4 (F := Ideal) (iblk m c 0 t) (iblk m c 1 t) (iblk m c 2 t) (iblk m c 3 t)) (funext fun x => Fin.ext ?_)
    match x with
    | ⟨0, _⟩ => rfl
    | ⟨1, _⟩ => rfl
  · refine congrArg (G4 (m ((c : Thread nD τ).loc main_arg0)) (m ((c : Thread nD τ).loc main_arg1)) (m ((c : Thread nD τ).loc main_arg2)) (m ((c : Thread nD τ).loc main_arg3))) (funext fun x => Fin.ext ?_)
    match x with
    | ⟨0, _⟩ => show 512 * t.val + (j 0).val = win0_4.index t 0 * 512 + 1 * (j 0).val; rw [hi.1]; omega
    | ⟨1, _⟩ => show (j 1).val = win0_4.index t 1 * 768 + 1 * (j 1).val; rw [hi.2]; omega

theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed4 m c t) cover4

theorem oblk5 (c : Dev nD) (t : Fin cfg0.N) (a : Fin 512) (j : Fin 256) :
    out0_5 (F := Ideal) (iblk m c 0 t) (iblk m c 1 t) (iblk m c 2 t) (iblk m c 3 t) (ix2 a j)
      = G5 (m ((c : Thread nD τ).loc main_arg0)) (m ((c : Thread nD τ).loc main_arg1)) (m ((c : Thread nD τ).loc main_arg2)) (m ((c : Thread nD τ).loc main_arg3)) (ix2 (rt t a) j) := by
  rw [out5_apply, G5_apply, ln_blk]
  exact Finset.sum_congr rfl fun k _ => by rw [blk3, pk_z]

theorem flushed5 (c : Dev nD) (t : Fin cfg0.N) :
    (dats m 0 c).flushed 5 t = (win0_5.blk t).view.read (Elt Ideal) (G5 (m ((c : Thread nD τ).loc main_arg0)) (m ((c : Thread nD τ).loc main_arg1)) (m ((c : Thread nD τ).loc main_arg2)) (m ((c : Thread nD τ).loc main_arg3))) := by
  rw [Value.flushed5]
  have hi := hi5 t
  refine funext fun (j : S512x256.Idx) => ?_
  have h0 : (j 0).val < 512 := (j 0).isLt
  have h1 : (j 1).val < 256 := (j 1).isLt
  refine Eq.trans ?_ ((oblk5 m c t ⟨(j 0).val, h0⟩ ⟨(j 1).val, h1⟩).trans (Eq.trans ?_ (View.read_apply ..).symm))
  · refine congrArg (out0_5 (F := Ideal) (iblk m c 0 t) (iblk m c 1 t) (iblk m c 2 t) (iblk m c 3 t)) (funext fun x => Fin.ext ?_)
    match x with
    | ⟨0, _⟩ => rfl
    | ⟨1, _⟩ => rfl
  · refine congrArg (G5 (m ((c : Thread nD τ).loc main_arg0)) (m ((c : Thread nD τ).loc main_arg1)) (m ((c : Thread nD τ).loc main_arg2)) (m ((c : Thread nD τ).loc main_arg3))) (funext fun x => Fin.ext ?_)
    match x with
    | ⟨0, _⟩ => show 512 * t.val + (j 0).val = win0_5.index t 0 * 512 + 1 * (j 0).val; rw [hi.1]; omega
    | ⟨1, _⟩ => show (j 1).val = win0_5.index t 1 * 256 + 1 * (j 1).val; rw [hi.2]; omega

theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5 m c t) cover5

theorem oblk6 (c : Dev nD) (t : Fin cfg0.N) (a : Fin 512) (j : Fin 512) :
    out0_6 (F := Ideal) (iblk m c 0 t) (iblk m c 1 t) (iblk m c 2 t) (iblk m c 3 t) (ix2 a j)
      = G6 (m ((c : Thread nD τ).loc main_arg0)) (m ((c : Thread nD τ).loc main_arg1)) (m ((c : Thread nD τ).loc main_arg2)) (m ((c : Thread nD τ).loc main_arg3)) (ix2 (rt t a) j) := by
  rw [out6_apply, G6_apply, ln_blk]
  exact Finset.sum_congr rfl fun k _ => by rw [blk3, pk_sgu]

theorem flushed6 (c : Dev nD) (t : Fin cfg0.N) :
    (dats m 0 c).flushed 6 t = (win0_6.blk t).view.read (Elt Ideal) (G6 (m ((c : Thread nD τ).loc main_arg0)) (m ((c : Thread nD τ).loc main_arg1)) (m ((c : Thread nD τ).loc main_arg2)) (m ((c : Thread nD τ).loc main_arg3))) := by
  rw [Value.flushed6]
  have hi := hi6 t
  refine funext fun (j : S512x512.Idx) => ?_
  have h0 : (j 0).val < 512 := (j 0).isLt
  have h1 : (j 1).val < 512 := (j 1).isLt
  refine Eq.trans ?_ ((oblk6 m c t ⟨(j 0).val, h0⟩ ⟨(j 1).val, h1⟩).trans (Eq.trans ?_ (View.read_apply ..).symm))
  · refine congrArg (out0_6 (F := Ideal) (iblk m c 0 t) (iblk m c 1 t) (iblk m c 2 t) (iblk m c 3 t)) (funext fun x => Fin.ext ?_)
    match x with
    | ⟨0, _⟩ => rfl
    | ⟨1, _⟩ => rfl
  · refine congrArg (G6 (m ((c : Thread nD τ).loc main_arg0)) (m ((c : Thread nD τ).loc main_arg1)) (m ((c : Thread nD τ).loc main_arg2)) (m ((c : Thread nD τ).loc main_arg3))) (funext fun x => Fin.ext ?_)
    match x with
    | ⟨0, _⟩ => show 512 * t.val + (j 0).val = win0_6.index t 0 * 512 + 1 * (j 0).val; rw [hi.1]; omega
    | ⟨1, _⟩ => show (j 1).val = win0_6.index t 1 * 512 + 1 * (j 1).val; rw [hi.2]; omega

theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  (dats m 0 c).arrAt_eq_of_cover 6 _ (fun t _ => flushed6 m c t) cover6

theorem oblk7 (c : Dev nD) (t : Fin cfg0.N) (a : Fin 512) (j : Fin 256) :
    out0_7 (F := Ideal) (iblk m c 0 t) (iblk m c 1 t) (iblk m c 2 t) (iblk m c 3 t) (ix2 a j)
      = G7 (m ((c : Thread nD τ).loc main_arg0)) (m ((c : Thread nD τ).loc main_arg1)) (m ((c : Thread nD τ).loc main_arg2)) (m ((c : Thread nD τ).loc main_arg3)) (ix2 (rt t a) j) := by
  rw [out7_apply, G7_apply, ln_blk]
  exact Finset.sum_congr rfl fun k _ => by rw [blk3, pk_pool]

theorem flushed7 (c : Dev nD) (t : Fin cfg0.N) :
    (dats m 0 c).flushed 7 t = (win0_7.blk t).view.read (Elt Ideal) (G7 (m ((c : Thread nD τ).loc main_arg0)) (m ((c : Thread nD τ).loc main_arg1)) (m ((c : Thread nD τ).loc main_arg2)) (m ((c : Thread nD τ).loc main_arg3))) := by
  rw [Value.flushed7]
  have hi := hi7 t
  refine funext fun (j : S512x256.Idx) => ?_
  have h0 : (j 0).val < 512 := (j 0).isLt
  have h1 : (j 1).val < 256 := (j 1).isLt
  refine Eq.trans ?_ ((oblk7 m c t ⟨(j 0).val, h0⟩ ⟨(j 1).val, h1⟩).trans (Eq.trans ?_ (View.read_apply ..).symm))
  · refine congrArg (out0_7 (F := Ideal) (iblk m c 0 t) (iblk m c 1 t) (iblk m c 2 t) (iblk m c 3 t)) (funext fun x => Fin.ext ?_)
    match x with
    | ⟨0, _⟩ => rfl
    | ⟨1, _⟩ => rfl
  · refine congrArg (G7 (m ((c : Thread nD τ).loc main_arg0)) (m ((c : Thread nD τ).loc main_arg1)) (m ((c : Thread nD τ).loc main_arg2)) (m ((c : Thread nD τ).loc main_arg3))) (funext fun x => Fin.ext ?_)
    match x with
    | ⟨0, _⟩ => show 512 * t.val + (j 0).val = win0_7.index t 0 * 512 + 1 * (j 0).val; rw [hi.1]; omega
    | ⟨1, _⟩ => show (j 1).val = win0_7.index t 1 * 256 + 1 * (j 1).val; rw [hi.2]; omega

theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) :=
  (dats m 0 c).arrAt_eq_of_cover 7 _ (fun t _ => flushed7 m c t) cover7

theorem oblk8 (c : Dev nD) (hr : Real m c) (t : Fin cfg0.N) (a : Fin 512) (j : Fin 768) :
    out0_8 (F := Ideal) (iblk m c 0 t) (iblk m c 1 t) (iblk m c 2 t) (iblk m c 3 t) (ix2 a j)
      = G8 (m ((c : Thread nD τ).loc main_arg0)) (m ((c : Thread nD τ).loc main_arg1)) (m ((c : Thread nD τ).loc main_arg2)) (m ((c : Thread nD τ).loc main_arg3)) (ix2 (rt t a) j) := by
  rw [out8_apply, G8_apply, ln_blk]
  rw [Finset.sum_congr rfl fun k _ => by rw [blk3, pk_mla]]
  exact sum_mlaS _ _ (ln_real _ _ _ (fun k => hr.g _) fun k => hr.b _) hr.w j

theorem flushed8 (c : Dev nD) (hr : Real m c) (t : Fin cfg0.N) :
    (dats m 0 c).flushed 8 t = (win0_8.blk t).view.read (Elt Ideal) (G8 (m ((c : Thread nD τ).loc main_arg0)) (m ((c : Thread nD τ).loc main_arg1)) (m ((c : Thread nD τ).loc main_arg2)) (m ((c : Thread nD τ).loc main_arg3))) := by
  rw [Value.flushed8]
  have hi := hi8 t
  refine funext fun (j : S512x768.Idx) => ?_
  have h0 : (j 0).val < 512 := (j 0).isLt
  have h1 : (j 1).val < 768 := (j 1).isLt
  refine Eq.trans ?_ ((oblk8 m c hr t ⟨(j 0).val, h0⟩ ⟨(j 1).val, h1⟩).trans (Eq.trans ?_ (View.read_apply ..).symm))
  · refine congrArg (out0_8 (F := Ideal) (iblk m c 0 t) (iblk m c 1 t) (iblk m c 2 t) (iblk m c 3 t)) (funext fun x => Fin.ext ?_)
    match x with
    | ⟨0, _⟩ => rfl
    | ⟨1, _⟩ => rfl
  · refine congrArg (G8 (m ((c : Thread nD τ).loc main_arg0)) (m ((c : Thread nD τ).loc main_arg1)) (m ((c : Thread nD τ).loc main_arg2)) (m ((c : Thread nD τ).loc main_arg3))) (funext fun x => Fin.ext ?_)
    match x with
    | ⟨0, _⟩ => show 512 * t.val + (j 0).val = win0_8.index t 0 * 512 + 1 * (j 0).val; rw [hi.1]; omega
    | ⟨1, _⟩ => show (j 1).val = win0_8.index t 1 * 768 + 1 * (j 1).val; rw [hi.2]; omega

theorem final8 (c : Dev nD) (hr : Real m c) : (dats m 0 c).arrAt 8 cfg0.N = G8 (m ((c : Thread nD τ).loc main_arg0)) (m ((c : Thread nD τ).loc main_arg1)) (m ((c : Thread nD τ).loc main_arg2)) (m ((c : Thread nD τ).loc main_arg3)) :=
  (dats m 0 c).arrAt_eq_of_cover 8 _ (fun t _ => flushed8 m c hr t) cover8

theorem oblk9 (c : Dev nD) (t : Fin cfg0.N) (a : Fin 512) (j : Fin 128) :
    out0_9 (F := Ideal) (iblk m c 0 t) (iblk m c 1 t) (iblk m c 2 t) (iblk m c 3 t) (ix2 a j)
      = G9 (m ((c : Thread nD τ).loc main_arg0)) (m ((c : Thread nD τ).loc main_arg1)) (m ((c : Thread nD τ).loc main_arg2)) (m ((c : Thread nD τ).loc main_arg3)) (ix2 (rt t a) j) := by
  rw [out9_apply, G9_apply, ln_blk]
  rw [Finset.sum_congr rfl fun k _ => by rw [blk3, pk_gates]]
  exact sum_gateS _ _ j

theorem flushed9 (c : Dev nD) (t : Fin cfg0.N) :
    (dats m 0 c).flushed 9 t = (win0_9.blk t).view.read (Elt Ideal) (G9 (m ((c : Thread nD τ).loc main_arg0)) (m ((c : Thread nD τ).loc main_arg1)) (m ((c : Thread nD τ).loc main_arg2)) (m ((c : Thread nD τ).loc main_arg3))) := by
  rw [Value.flushed9]
  have hi := hi9 t
  refine funext fun (j : S512x128.Idx) => ?_
  have h0 : (j 0).val < 512 := (j 0).isLt
  have h1 : (j 1).val < 128 := (j 1).isLt
  refine Eq.trans ?_ ((oblk9 m c t ⟨(j 0).val, h0⟩ ⟨(j 1).val, h1⟩).trans (Eq.trans ?_ (View.read_apply ..).symm))
  · refine congrArg (out0_9 (F := Ideal) (iblk m c 0 t) (iblk m c 1 t) (iblk m c 2 t) (iblk m c 3 t)) (funext fun x => Fin.ext ?_)
    match x with
    | ⟨0, _⟩ => rfl
    | ⟨1, _⟩ => rfl
  · refine congrArg (G9 (m ((c : Thread nD τ).loc main_arg0)) (m ((c : Thread nD τ).loc main_arg1)) (m ((c : Thread nD τ).loc main_arg2)) (m ((c : Thread nD τ).loc main_arg3))) (funext fun x => Fin.ext ?_)
    match x with
    | ⟨0, _⟩ => show 512 * t.val + (j 0).val = win0_9.index t 0 * 512 + 1 * (j 0).val; rw [hi.1]; omega
    | ⟨1, _⟩ => show (j 1).val = win0_9.index t 1 * 128 + 1 * (j 1).val; rw [hi.2]; omega

theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) :=
  (dats m 0 c).arrAt_eq_of_cover 9 _ (fun t _ => flushed9 m c t) cover9

end Cert.InpIdeal.Val
-- ==== Proof.InpClaims.lean ====
/- The claims about the input projection, put together from the kernel's run, the reference's run and the precondition. -/
module

public import proofs.«01_k».proof.Defs
public import proofs.«01_k».proof.Proof.Gen.Inp.Frame
public import proofs.«01_k».proof.Proof.Gen.InpIdeal.Frame
public import proofs.«01_k».proof.Proof.InpPre
public import proofs.«01_k».proof.Proof.InpRef
public import proofs.«01_k».proof.Proof.InpValue
public import Idealize.ShloMosaic.Lib.Quiescent

@[expose] public section

set_option maxRecDepth 16384

noncomputable section

namespace Cert.InpClaims

open Idealize.ShloMosaic Idealize.ShloMosaic.TcCoe Idealize.SL.Sem

theorem frame_I : Cert.quiescent_Inp := fun m ρ _ => Cert.Inp.Gen.frame m ρ
theorem frame_II : Cert.quiescent_InpIdeal := fun m ρ _ => Cert.InpIdeal.Gen.frame m ρ
theorem frame_II_pre : Cert.quiescent_InpIdeal_pre_numbers := fun m ρ _ => Cert.InpIdeal.Gen.frame m ρ

theorem frame_IR : Cert.quiescent_InpRefIdeal := fun m ρ _ =>
  (θ_run Cert.InpRefIdeal.defs _ _).mono (fun r h => ⟨fun c => (h c).2.2.2.2.2.2, sem_eq_zero_of_no_sems (by decide) r.2⟩)
    (Cert.InpRefIdeal.Value.run (F := Ideal) m ρ)
theorem frame_IR_pre : Cert.quiescent_InpRefIdeal_pre_numbers := fun m ρ _ => frame_IR m ρ trivial

theorem preserves : Cert.preserves_Inp_InpIdeal := trivial

section
open Cert.InpRefIdeal Cert.InpRefIdeal.Gen
variable (x : FVec Ideal S65536x1024 .f32) (g b : FVec Ideal S1024 .f32) (w : FVec Ideal S1024x2352 .f32)

theorem ref4_apply (i : Fin 65536) (j : Fin 768) :
    (truncf .bf16 (extractStridedSlice S65536x768 ![0, 0] (Cert.InpRefIdeal.Val.prod x g b w) slices_S65536x2352_S65536x768_0_0) bitsLt_bf16_f32 : FVec Ideal S65536x768 .bf16) (ix2 i j) = Cert.InpIdeal.Val.G4 x g b w (ix2 i j) := by
  rw [Cert.InpIdeal.Val.G4_apply, ← Cert.InpRefIdeal.Val.prod_apply]
  generalize Cert.InpRefIdeal.Val.prod x g b w = p
  pointwise

theorem ref4 : (truncf .bf16 (extractStridedSlice S65536x768 ![0, 0] (Cert.InpRefIdeal.Val.prod x g b w) slices_S65536x2352_S65536x768_0_0) bitsLt_bf16_f32 : FVec Ideal S65536x768 .bf16)
    = Cert.InpIdeal.Val.G4 x g b w := by
  refine funext fun (j : S65536x768.Idx) => ?_
  have e : j = ix2 ⟨(j 0).val, (j 0).isLt⟩ ⟨(j 1).val, (j 1).isLt⟩ := funext fun x => match x with
    | ⟨0, _⟩ => rfl
    | ⟨1, _⟩ => rfl
  rw [e]
  exact ref4_apply x g b w _ _

theorem ref5_apply (i : Fin 65536) (j : Fin 256) :
    (truncf .bf16 (extractStridedSlice S65536x256 ![0, 768] (Cert.InpRefIdeal.Val.prod x g b w) slices_S65536x2352_S65536x256_0_768) bitsLt_bf16_f32 : FVec Ideal S65536x256 .bf16) (ix2 i j) = Cert.InpIdeal.Val.G5 x g b w (ix2 i j) := by
  rw [Cert.InpIdeal.Val.G5_apply, ← Cert.InpRefIdeal.Val.prod_apply]
  generalize Cert.InpRefIdeal.Val.prod x g b w = p
  pointwise

theorem ref5 : (truncf .bf16 (extractStridedSlice S65536x256 ![0, 768] (Cert.InpRefIdeal.Val.prod x g b w) slices_S65536x2352_S65536x256_0_768) bitsLt_bf16_f32 : FVec Ideal S65536x256 .bf16)
    = Cert.InpIdeal.Val.G5 x g b w := by
  refine funext fun (j : S65536x256.Idx) => ?_
  have e : j = ix2 ⟨(j 0).val, (j 0).isLt⟩ ⟨(j 1).val, (j 1).isLt⟩ := funext fun x => match x with
    | ⟨0, _⟩ => rfl
    | ⟨1, _⟩ => rfl
  rw [e]
  exact ref5_apply x g b w _ _

theorem ref6_apply (i : Fin 65536) (j : Fin 512) :
    (truncf .bf16 (extractStridedSlice S65536x512 ![0, 1040] (Cert.InpRefIdeal.Val.prod x g b w) slices_S65536x2352_S65536x512_0_1040) bitsLt_bf16_f32 : FVec Ideal S65536x512 .bf16) (ix2 i j) = Cert.InpIdeal.Val.G6 x g b w (ix2 i j) := by
  rw [Cert.InpIdeal.Val.G6_apply, ← Cert.InpRefIdeal.Val.prod_apply]
  generalize Cert.InpRefIdeal.Val.prod x g b w = p
  pointwise

theorem ref6 : (truncf .bf16 (extractStridedSlice S65536x512 ![0, 1040] (Cert.InpRefIdeal.Val.prod x g b w) slices_S65536x2352_S65536x512_0_1040) bitsLt_bf16_f32 : FVec Ideal S65536x512 .bf16)
    = Cert.InpIdeal.Val.G6 x g b w := by
  refine funext fun (j : S65536x512.Idx) => ?_
  have e : j = ix2 ⟨(j 0).val, (j 0).isLt⟩ ⟨(j 1).val, (j 1).isLt⟩ := funext fun x => match x with
    | ⟨0, _⟩ => rfl
    | ⟨1, _⟩ => rfl
  rw [e]
  exact ref6_apply x g b w _ _

theorem ref7_apply (i : Fin 65536) (j : Fin 256) :
    (truncf .bf16 (extractStridedSlice S65536x256 ![0, 1552] (Cert.InpRefIdeal.Val.prod x g b w) slices_S65536x2352_S65536x256_0_1552) bitsLt_bf16_f32 : FVec Ideal S65536x256 .bf16) (ix2 i j) = Cert.InpIdeal.Val.G7 x g b w (ix2 i j) := by
  rw [Cert.InpIdeal.Val.G7_apply, ← Cert.InpRefIdeal.Val.prod_apply]
  generalize Cert.InpRefIdeal.Val.prod x g b w = p
  pointwise

theorem ref7 : (truncf .bf16 (extractStridedSlice S65536x256 ![0, 1552] (Cert.InpRefIdeal.Val.prod x g b w) slices_S65536x2352_S65536x256_0_1552) bitsLt_bf16_f32 : FVec Ideal S65536x256 .bf16)
    = Cert.InpIdeal.Val.G7 x g b w := by
  refine funext fun (j : S65536x256.Idx) => ?_
  have e : j = ix2 ⟨(j 0).val, (j 0).isLt⟩ ⟨(j 1).val, (j 1).isLt⟩ := funext fun x => match x with
    | ⟨0, _⟩ => rfl
    | ⟨1, _⟩ => rfl
  rw [e]
  exact ref7_apply x g b w _ _

theorem ref8_apply (i : Fin 65536) (j : Fin 768) :
    (Cert.InpRefIdeal.Val.mla (Cert.InpRefIdeal.Val.prod x g b w) (Cert.InpRefIdeal.Val.tile (Cert.InpRefIdeal.Val.rope (Cert.InpRefIdeal.Val.prod x g b w))) (Cert.InpRefIdeal.Val.tile (Cert.InpRefIdeal.Val.rot (Cert.InpRefIdeal.Val.rope (Cert.InpRefIdeal.Val.prod x g b w))))) (ix2 i j) = Cert.InpIdeal.Val.G8 x g b w (ix2 i j) := by
  rw [Cert.InpIdeal.Val.G8_apply, Cert.InpRefIdeal.Val.mlaS_eq]
  simp only [Cert.InpRefIdeal.Val.prod_apply]

theorem ref8 : (Cert.InpRefIdeal.Val.mla (Cert.InpRefIdeal.Val.prod x g b w) (Cert.InpRefIdeal.Val.tile (Cert.InpRefIdeal.Val.rope (Cert.InpRefIdeal.Val.prod x g b w))) (Cert.InpRefIdeal.Val.tile (Cert.InpRefIdeal.Val.rot (Cert.InpRefIdeal.Val.rope (Cert.InpRefIdeal.Val.prod x g b w)))))
    = Cert.InpIdeal.Val.G8 x g b w := by
  refine funext fun (j : S65536x768.Idx) => ?_
  have e : j = ix2 ⟨(j 0).val, (j 0).isLt⟩ ⟨(j 1).val, (j 1).isLt⟩ := funext fun x => match x with
    | ⟨0, _⟩ => rfl
    | ⟨1, _⟩ => rfl
  rw [e]
  exact ref8_apply x g b w _ _

theorem ref9_apply (i : Fin 65536) (j : Fin 128) :
    (Cert.InpRefIdeal.Val.gates (Cert.InpRefIdeal.Val.prod x g b w)) (ix2 i j) = Cert.InpIdeal.Val.G9 x g b w (ix2 i j) := by
  rw [Cert.InpIdeal.Val.G9_apply, Cert.InpRefIdeal.Val.gates_apply]
  simp only [Cert.InpRefIdeal.Val.prod_apply]

theorem ref9 : (Cert.InpRefIdeal.Val.gates (Cert.InpRefIdeal.Val.prod x g b w))
    = Cert.InpIdeal.Val.G9 x g b w := by
  refine funext fun (j : S65536x128.Idx) => ?_
  have e : j = ix2 ⟨(j 0).val, (j 0).isLt⟩ ⟨(j 1).val, (j 1).isLt⟩ := funext fun x => match x with
    | ⟨0, _⟩ => rfl
    | ⟨1, _⟩ => rfl
  rw [e]
  exact ref9_apply x g b w _ _

end

theorem algebraic : Cert.algebraic_InpIdeal_InpRefIdeal_pre_numbers := by
  intro m ρ m' ρ' hpre hag
  have hr : ∀ c, Cert.InpIdeal.Val.Real m c := fun c => by
    obtain ⟨hg, hb, hw⟩ := Cert.Pre_numbers.Val.real_of _ _ _ _ (congrFun (hpre c))
    exact ⟨hg, hb, hw⟩
  refine ⟨fun c => Cert.InpIdeal.Val.G4 (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)),
    fun c => Cert.InpIdeal.Val.G5 (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)),
    fun c => Cert.InpIdeal.Val.G6 (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)),
    fun c => Cert.InpIdeal.Val.G7 (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)),
    fun c => Cert.InpIdeal.Val.G8 (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)),
    fun c => Cert.InpIdeal.Val.G9 (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)), ?_, ?_⟩
  · refine (θ_run Cert.InpIdeal.defs _ _).mono (fun r h c => ⟨(h c).1.trans (Cert.InpIdeal.Val.final4 m c),
      (h c).2.1.trans (Cert.InpIdeal.Val.final5 m c),
      (h c).2.2.1.trans (Cert.InpIdeal.Val.final6 m c),
      (h c).2.2.2.1.trans (Cert.InpIdeal.Val.final7 m c),
      (h c).2.2.2.2.1.trans (Cert.InpIdeal.Val.final8 m c (hr c)),
      (h c).2.2.2.2.2.1.trans (Cert.InpIdeal.Val.final9 m c), (h c).2.2.2.2.2.2⟩)
      (Cert.InpIdeal.Value.run_blocks m ρ)
  · refine (θ_run Cert.InpRefIdeal.defs _ _).mono (fun r h c => ⟨(h c).1.trans ((ref4 _ _ _ _).trans (by rw [(hag c).1, (hag c).2.1, (hag c).2.2.1, (hag c).2.2.2])),
      (h c).2.1.trans ((ref5 _ _ _ _).trans (by rw [(hag c).1, (hag c).2.1, (hag c).2.2.1, (hag c).2.2.2])),
      (h c).2.2.1.trans ((ref6 _ _ _ _).trans (by rw [(hag c).1, (hag c).2.1, (hag c).2.2.1, (hag c).2.2.2])),
      (h c).2.2.2.1.trans ((ref7 _ _ _ _).trans (by rw [(hag c).1, (hag c).2.1, (hag c).2.2.1, (hag c).2.2.2])),
      (h c).2.2.2.2.1.trans ((ref8 _ _ _ _).trans (by rw [(hag c).1, (hag c).2.1, (hag c).2.2.1, (hag c).2.2.2])),
      (h c).2.2.2.2.2.1.trans ((ref9 _ _ _ _).trans (by rw [(hag c).1, (hag c).2.1, (hag c).2.2.1, (hag c).2.2.2])), (h c).2.2.2.2.2.2⟩)
      (Cert.InpRefIdeal.Value.run (F := Ideal) m' ρ')

end Cert.InpClaims
-- ==== Proof.OutSpec.lean ====
/- The output projection in plain terms: the DeltaNet's heads normed and gated, the four heads' columns side by side, the
   products with the weight summed. -/
module

public import proofs.«01_k».proof.Proof.ProjSpec

@[expose] public section

noncomputable section

namespace Cert.ProjSpec

open Idealize.ShloMosaic

/-- The mean of the squares of a head's 64 columns. -/
def hsq (o : Fin 256 → EReal) (h : Fin 4) : EReal :=
  Ideal.div (∑ d : Fin 64, o ⟨64 * h + d, by omega⟩ * o ⟨64 * h + d, by omega⟩) (Ideal.ofBits .f32 0x42800000#32)

/-- A number times its logistic. -/
def sil (z : EReal) : EReal := z * Ideal.div 1 (1 + Ideal.exp (-z))

/-- A column of the DeltaNet's heads, normed and gated. -/
def gated (o z : Fin 256 → EReal) (g : Fin 64 → EReal) (j : Fin 256) : EReal :=
  o j * Ideal.rsqrt (hsq o ⟨j / 64, by omega⟩ + Ideal.ofBits .f32 0x358637BD#32) * g ⟨j % 64, by omega⟩ * sil (z j)

/-- Four arrays' columns side by side. -/
def cat (a b c d : Fin 256 → EReal) (k : Fin 1024) : EReal :=
  if h : k.val < 256 then a ⟨k, h⟩ else if h : k.val < 512 then b ⟨k - 256, by omega⟩
  else if h : k.val < 768 then c ⟨k - 512, by omega⟩ else d ⟨k - 768, by omega⟩

/-- A column of the output projection: the residual row, scaled, and the product, normed. -/
def po (r : Fin 1024 → EReal) (y : Fin 1024 → EReal) (w : Fin 1024 → Fin 1024 → EReal) (g b : Fin 1024 → EReal) (j : Fin 1024) : EReal :=
  ln (fun j => Ideal.ofBits .f32 0x3FB504F3#32 * r j + ∑ k, y k * w k j) g b j

theorem cat_sum (a b c d : Fin 256 → EReal) (w : Fin 1024 → EReal) :
    ∑ k : Fin 256, a k * w ⟨k, by omega⟩ + ∑ k : Fin 256, b k * w ⟨256 + k, by omega⟩ + ∑ k : Fin 256, c k * w ⟨512 + k, by omega⟩
      + ∑ k : Fin 256, d k * w ⟨768 + k, by omega⟩ = ∑ k, cat a b c d k * w k := by
  rw [← ERealMath.sum_tiles 4 256 1024 (by norm_num) (fun j k => if h : 256 * j + k.val < 1024 then cat a b c d ⟨256 * j + k, h⟩ * w ⟨256 * j + k, h⟩ else 0)
    (fun k => cat a b c d k * w k) fun j k hlt => by rw [dif_pos hlt]]
  simp only [Finset.sum_range_succ, Finset.sum_range_zero, zero_add]
  refine congrArg₂ (· + ·) (congrArg₂ (· + ·) (congrArg₂ (· + ·) ?_ ?_) ?_) ?_ <;> refine Finset.sum_congr rfl fun k _ => ?_
  · rw [dif_pos (by omega)]
    refine congrArg₂ (· * ·) ?_ (congrArg w (Fin.ext (by show k.val = 256 * 0 + k.val; omega)))
    unfold cat
    rw [dif_pos (by dsimp only; omega)]
    exact congrArg a (Fin.ext (by show k.val = 256 * 0 + k.val; omega))
  · rw [dif_pos (by omega)]
    refine congrArg₂ (· * ·) ?_ (congrArg w (Fin.ext (by show 256 + k.val = 256 * 1 + k.val; omega)))
    unfold cat
    rw [dif_neg (by dsimp only; omega), dif_pos (by dsimp only; omega)]
    exact congrArg b (Fin.ext (by show k.val = 256 * 1 + k.val - 256; omega))
  · rw [dif_pos (by omega)]
    refine congrArg₂ (· * ·) ?_ (congrArg w (Fin.ext (by show 512 + k.val = 256 * 2 + k.val; omega)))
    unfold cat
    rw [dif_neg (by dsimp only; omega), dif_neg (by dsimp only; omega), dif_pos (by dsimp only; omega)]
    exact congrArg c (Fin.ext (by show k.val = 256 * 2 + k.val - 512; omega))
  · rw [dif_pos (by omega)]
    refine congrArg₂ (· * ·) ?_ (congrArg w (Fin.ext (by show 768 + k.val = 256 * 3 + k.val; omega)))
    unfold cat
    rw [dif_neg (by dsimp only; omega), dif_neg (by dsimp only; omega), dif_neg (by dsimp only; omega)]
    exact congrArg d (Fin.ext (by show k.val = 256 * 3 + k.val - 768; omega))

theorem n64_real : Ideal.ofBits .f32 0x42800000#32 = ((64 : ℝ) : EReal) := by
  simp [Ideal.ofBits, Ideal.ieee]
  rw [← EReal.coe_mul]
  norm_num

/-- The product with the heads' averages is each head's mean. -/
theorem hsq_sum (o : Fin 256 → EReal) (j : Fin 256) :
    ∑ k : Fin 256, o k * o k * Ideal.div (if k.val / 64 = j.val / 64 then 1 else 0) (Ideal.ofBits .f32 0x42800000#32)
      = hsq o ⟨j / 64, by omega⟩ := by
  unfold hsq
  have hj : j.val / 64 < 4 := by omega
  rw [n64_real]
  simp only [Ideal.div_coe (show (64 : ℝ) ≠ 0 by norm_num)]
  rw [ERealMath.mul_sum _ _ _ (by norm_num)]
  rw [← ERealMath.sum_tiles 4 64 256 (by norm_num) (fun n d => if n = j.val / 64 then o ⟨64 * (j.val / 64) + d.val, by omega⟩ * o ⟨64 * (j.val / 64) + d.val, by omega⟩
    * (((1 / 64 : ℝ)) : EReal) else 0) _ fun n d hlt => ?_]
  · rw [Finset.sum_eq_single (j.val / 64)]
    · exact Finset.sum_congr rfl fun d _ => by rw [if_pos rfl]
    · intro n _ hn
      exact Finset.sum_eq_zero fun d _ => by rw [if_neg hn]
    · intro h
      exact absurd (Finset.mem_range.mpr hj) h
  · have e : (64 * n.val + d.val) / 64 = n.val := by omega
    dsimp only
    rw [e]
    by_cases h : n.val = j.val / 64
    · rw [if_pos h, if_pos h, one_mul]
      simp only [h]
    · rw [if_neg h, if_neg h, zero_mul, mul_zero]

end Cert.ProjSpec
-- ==== Proof.OutRef.lean ====
/- The output projection's reference, read at an index: the four heads' columns times the weight, added to the normed
   residual row, normed. -/
module

public import proofs.«01_k».proof.Proof.Gen.OutpRefIdeal.Run
public import proofs.«01_k».proof.Proof.OutSpec

@[expose] public section

set_option maxRecDepth 16384

noncomputable section

namespace Cert.OutpRefIdeal.Val

open Cert.OutpRefIdeal Cert.OutpRefIdeal.Gen Idealize.ShloMosaic Idealize.ShloMosaic.TcCoe Idealize.SL.Sem

/-- Each row's mean. -/
def mean1 (x : FVec Ideal S65536x1024 .f32) : FVec Ideal S65536x1 .f32 :=
  Host.divf (broadcastInDim S65536x1 ![0] bcast_S65536_S65536x1_0 (Host.reduceAdd x (constant S_ .f32 0x00000000#32)
    reducesTo_S65536x1024_S65536_d1 h_S_)) (broadcastInDim S65536x1 ![] bcast_S_S65536x1 (constant S_ .f32 0x44800000#32))

/-- Each row less its mean. -/
def cen (x : FVec Ideal S65536x1024 .f32) : FVec Ideal S65536x1024 .f32 :=
  subf x (broadcastInDim S65536x1024 ![0, 1] bcast_S65536x1_S65536x1024_0_1 (mean1 x))

/-- A vector as one row. -/
def row (g : FVec Ideal S1024 .f32) : FVec Ideal S1x1024 .f32 := broadcastInDim S1x1024 ![1] bcast_S1024_S1x1024_1 g

/-- A vector laid along the rows. -/
def lay (g : FVec Ideal S1024 .f32) : FVec Ideal S65536x1024 .f32 :=
  broadcastInDim S65536x1024 ![0, 1] bcast_S1x1024_S65536x1024_0_1 (row g)

/-- The normed rows. -/
def lnA (x : FVec Ideal S65536x1024 .f32) (g b : FVec Ideal S1024 .f32) : FVec Ideal S65536x1024 .f32 :=
  addf (mulf (mulf (cen x) (broadcastInDim S65536x1024 ![0, 1] bcast_S65536x1_S65536x1024_0_1
    (Host.rsqrt (addf (mean1 (mulf (cen x) (cen x))) (broadcastInDim S65536x1 ![] bcast_S_S65536x1 (constant S_ .f32 0x3727C5AC#32))))))
    (lay g)) (lay b)

/-- Columns as heads. -/
def heads (z : FVec Ideal S65536x256 .bf16) : FVec Ideal S65536x4x64 .f32 :=
  shapeCast S65536x4x64 (extf .f32 z bitsLt_bf16_f32) shapeCasts_S65536x256_S65536x4x64

/-- The mean of each head's squares. -/
def msq (o : FVec Ideal S65536x4x64 .f32) : FVec Ideal S65536x4x1 .f32 :=
  Host.divf (broadcastInDim S65536x4x1 ![0, 1] bcast_S65536x4_S65536x4x1_0_1 (Host.reduceAdd (mulf o o) (constant S_ .f32 0x00000000#32)
    reducesTo_S65536x4x64_S65536x4_d2 h_S_)) (broadcastInDim S65536x4x1 ![] bcast_S_S65536x4x1 (constant S_ .f32 0x42800000#32))

/-- The heads normed. -/
def nrm (o : FVec Ideal S65536x4x64 .f32) (q : FVec Ideal S65536x4x1 .f32) (g : FVec Ideal S64 .f32) : FVec Ideal S65536x4x64 .f32 :=
  mulf (mulf o (broadcastInDim S65536x4x64 ![0, 1, 2] bcast_S65536x4x1_S65536x4x64_0_1_2
    (Host.rsqrt (addf q (broadcastInDim S65536x4x1 ![] bcast_S_S65536x4x1 (constant S_ .f32 0x358637BD#32))))))
    (broadcastInDim S65536x4x64 ![0, 1, 2] bcast_S1x1x64_S65536x4x64_0_1_2 (broadcastInDim S1x1x64 ![2] bcast_S64_S1x1x64_2 g))

/-- Each entry times its logistic. -/
def silu (z : FVec Ideal S65536x4x64 .f32) : FVec Ideal S65536x4x64 .f32 :=
  mulf z (Host.divf (broadcastInDim S65536x4x64 ![] bcast_S_S65536x4x64 (constant S_ .f32 0x3F800000#32))
    (addf (broadcastInDim S65536x4x64 ![] bcast_S_S65536x4x64 (constant S_ .f32 0x3F800000#32)) (Host.exp (Host.negf z))))

/-- The gated heads as columns. -/
def gat (o z : FVec Ideal S65536x4x64 .f32) : FVec Ideal S65536x256 .f32 :=
  shapeCast S65536x256 (mulf o z) shapeCasts_S65536x4x64_S65536x256

/-- Four arrays' columns side by side. -/
def cat4 (a : FVec Ideal S65536x256 .f32) (b c d : FVec Ideal S65536x256 .bf16) : FVec Ideal S65536x1024 .f32 :=
  concatenate S65536x1024 1 [⟨S65536x256, (a : (⟨S65536x256, .f32⟩ : BufTy).Contents (Elt Ideal))⟩,
    ⟨S65536x256, (extf .f32 b bitsLt_bf16_f32 : (⟨S65536x256, .f32⟩ : BufTy).Contents (Elt Ideal))⟩,
    ⟨S65536x256, (extf .f32 c bitsLt_bf16_f32 : (⟨S65536x256, .f32⟩ : BufTy).Contents (Elt Ideal))⟩,
    ⟨S65536x256, (extf .f32 d bitsLt_bf16_f32 : (⟨S65536x256, .f32⟩ : BufTy).Contents (Elt Ideal))⟩]
    concatenates_S65536x256_S65536x256_S65536x256_S65536x256_S65536x1024_d1

/-- The scaled residual and the product. -/
def res (r y : FVec Ideal S65536x1024 .f32) (w : FVec Ideal S1024x1024 .f32) : FVec Ideal S65536x1024 .f32 :=
  addf (mulf (broadcastInDim S65536x1024 ![] bcast_S_S65536x1024 (constant S_ .f32 0x3FB504F3#32)) r)
    (Host.dotGeneral dot_S65536x1024_S1024x1024_S65536x1024_1_0_0_1_n_n none y w)

/-- The gated heads of two passes and a gate. -/
def yA (f b z : FVec Ideal S65536x256 .bf16) (g : FVec Ideal S64 .f32) : FVec Ideal S65536x256 .f32 :=
  gat (nrm (addf (heads f) (heads b)) (msq (addf (heads f) (heads b))) g) (silu (heads z))

section
variable (m : (ℓ : Loc nD τ sig) → Buf (Elt Ideal) ℓ) (c : Dev nD)

theorem res_eq : Value.res_out0 m c = lnA (res (lnA (m ((c.tc : Thread nD τ).loc main_arg0)) (m ((c.tc : Thread nD τ).loc main_arg1)) (m ((c.tc : Thread nD τ).loc main_arg2)))
    (cat4 (yA (m ((c.tc : Thread nD τ).loc main_arg3)) (m ((c.tc : Thread nD τ).loc main_arg4)) (m ((c.tc : Thread nD τ).loc main_arg5)) (m ((c.tc : Thread nD τ).loc main_arg6)))
      (m ((c.tc : Thread nD τ).loc main_arg7)) (m ((c.tc : Thread nD τ).loc main_arg8)) (m ((c.tc : Thread nD τ).loc main_arg9)))
    (m ((c.tc : Thread nD τ).loc main_arg10))) (m ((c.tc : Thread nD τ).loc main_arg11)) (m ((c.tc : Thread nD τ).loc main_arg12)) := rfl
end

theorem mean1_apply (x : FVec Ideal S65536x1024 .f32) (i : Fin 65536) : mean1 x (ix2 i 0) = ProjSpec.mean fun k => x (ix2 i k) := by
  unfold mean1 ProjSpec.mean
  pointwise

theorem cen_apply (x : FVec Ideal S65536x1024 .f32) (i : Fin 65536) (k : Fin 1024) :
    cen x (ix2 i k) = x (ix2 i k) - ProjSpec.mean fun k => x (ix2 i k) := by
  rw [← mean1_apply]
  unfold cen
  generalize mean1 x = y
  pointwise

theorem lay_apply (g : FVec Ideal S1024 .f32) (i : Fin 65536) (k : Fin 1024) : lay g (ix2 i k) = g (ix1 k) := by
  have e : row g (ix2 0 k) = g (ix1 k) := by
    unfold row
    pointwise
  rw [← e]
  unfold lay
  generalize row g = y
  pointwise

theorem lnA_apply (x : FVec Ideal S65536x1024 .f32) (g b : FVec Ideal S1024 .f32) (i : Fin 65536) (k : Fin 1024) :
    lnA x g b (ix2 i k) = ProjSpec.ln (fun k => x (ix2 i k)) (fun k => g (ix1 k)) (fun k => b (ix1 k)) k := by
  have e : mean1 (mulf (cen x) (cen x)) (ix2 i 0) = ProjSpec.var fun k => x (ix2 i k) := by
    rw [mean1_apply]
    unfold ProjSpec.var
    refine congrArg ProjSpec.mean (funext fun k => ?_)
    show cen x (ix2 i k) * cen x (ix2 i k) = _
    rw [cen_apply]
  unfold ProjSpec.ln
  dsimp only
  rw [← e, ← cen_apply, ← lay_apply g i k, ← lay_apply b i k]
  unfold lnA
  generalize mean1 (mulf (cen x) (cen x)) = y
  generalize cen x = z
  generalize lay g = u
  generalize lay b = v
  pointwise

theorem heads_apply (z : FVec Ideal S65536x256 .bf16) (i : Fin 65536) (h : Fin 4) (d : Fin 64) :
    heads z (ix3 i h d) = z (ix2 i ⟨64 * h + d, by omega⟩) := by
  unfold heads
  pointwise
  exact congrArg (fun c => z (ix2 i c)) (Fin.ext (by show h.val * 64 + d.val = 64 * h.val + d.val; omega))

theorem msq_apply (o : FVec Ideal S65536x4x64 .f32) (i : Fin 65536) (h : Fin 4) :
    msq o (ix3 i h 0) = Ideal.div (∑ d : Fin 64, o (ix3 i h d) * o (ix3 i h d)) (Ideal.ofBits .f32 0x42800000#32) := by
  unfold msq
  pointwise

theorem nrm_apply (o : FVec Ideal S65536x4x64 .f32) (q : FVec Ideal S65536x4x1 .f32) (g : FVec Ideal S64 .f32) (i : Fin 65536) (h : Fin 4) (d : Fin 64) :
    nrm o q g (ix3 i h d) = o (ix3 i h d) * Ideal.rsqrt (q (ix3 i h 0) + Ideal.ofBits .f32 0x358637BD#32) * g (ix1 d) := by
  unfold nrm
  pointwise

theorem silu_apply (z : FVec Ideal S65536x4x64 .f32) (i : Fin 65536) (h : Fin 4) (d : Fin 64) :
    silu z (ix3 i h d) = ProjSpec.sil (z (ix3 i h d)) := by
  unfold silu ProjSpec.sil
  pointwise

theorem gat_apply (o z : FVec Ideal S65536x4x64 .f32) (i : Fin 65536) (j : Fin 256) :
    gat o z (ix2 i j) = o (ix3 i ⟨j / 64, by omega⟩ ⟨j % 64, by omega⟩) * z (ix3 i ⟨j / 64, by omega⟩ ⟨j % 64, by omega⟩) := by
  unfold gat
  pointwise

theorem cat4_apply (a : FVec Ideal S65536x256 .f32) (b c d : FVec Ideal S65536x256 .bf16) (i : Fin 65536) (k : Fin 1024) :
    cat4 a b c d (ix2 i k) = ProjSpec.cat (fun k => a (ix2 i k)) (fun k => b (ix2 i k)) (fun k => c (ix2 i k)) (fun k => d (ix2 i k)) k := by
  unfold cat4 ProjSpec.cat
  pointwise
  by_cases h1 : k.val < 256
  · rw [dif_pos h1, dif_pos h1]
  rw [dif_neg h1, dif_neg h1]
  by_cases h2 : k.val < 512
  · rw [dif_pos (by omega), dif_pos h2]
  rw [dif_neg (by omega), dif_neg h2]
  by_cases h3 : k.val < 768
  · rw [dif_pos (by omega), dif_pos h3]
    exact congrArg (fun k => c (ix2 i k)) (Fin.ext (by show k.val - 256 - 256 = k.val - 512; omega))
  · rw [dif_neg (by omega), dif_neg h3]
    exact congrArg (fun k => d (ix2 i k)) (Fin.ext (by show k.val - 256 - 256 - 256 = k.val - 768; omega))

theorem res_apply (r y : FVec Ideal S65536x1024 .f32) (w : FVec Ideal S1024x1024 .f32) (i : Fin 65536) (j : Fin 1024) :
    res r y w (ix2 i j) = Ideal.ofBits .f32 0x3FB504F3#32 * r (ix2 i j) + ∑ k : Fin 1024, y (ix2 i k) * w (ix2 k j) := by
  unfold res
  pointwise

theorem add_apply (f b : FVec Ideal S65536x256 .bf16) (i : Fin 65536) (h : Fin 4) (d : Fin 64) :
    addf (heads f) (heads b) (ix3 i h d) = f (ix2 i ⟨64 * h + d, by omega⟩) + b (ix2 i ⟨64 * h + d, by omega⟩) := by
  rw [← heads_apply f i h d, ← heads_apply b i h d]
  rfl

theorem yA_apply (f b z : FVec Ideal S65536x256 .bf16) (g : FVec Ideal S64 .f32) (i : Fin 65536) (j : Fin 256) :
    yA f b z g (ix2 i j) = ProjSpec.gated (fun k => f (ix2 i k) + b (ix2 i k)) (fun k => z (ix2 i k)) (fun d => g (ix1 d)) j := by
  have e : (⟨64 * (j.val / 64) + j.val % 64, by omega⟩ : Fin 256) = j := Fin.ext (by show 64 * (j.val / 64) + j.val % 64 = j.val; omega)
  unfold yA ProjSpec.gated
  rw [gat_apply, nrm_apply, silu_apply, msq_apply, heads_apply, add_apply]
  dsimp only
  rw [e]
  unfold ProjSpec.hsq
  simp only [add_apply]

/-- An entry of the reference's result. -/
theorem out_apply (x : FVec Ideal S65536x1024 .f32) (g1 b1 : FVec Ideal S1024 .f32) (f b z : FVec Ideal S65536x256 .bf16) (g : FVec Ideal S64 .f32)
    (yb yc yd : FVec Ideal S65536x256 .bf16) (w : FVec Ideal S1024x1024 .f32) (g2 b2 : FVec Ideal S1024 .f32) (i : Fin 65536) (j : Fin 1024) :
    lnA (res (lnA x g1 b1) (cat4 (yA f b z g) yb yc yd) w) g2 b2 (ix2 i j)
      = ProjSpec.po (ProjSpec.ln (fun k => x (ix2 i k)) (fun k => g1 (ix1 k)) (fun k => b1 (ix1 k)))
        (ProjSpec.cat (ProjSpec.gated (fun k => f (ix2 i k) + b (ix2 i k)) (fun k => z (ix2 i k)) (fun d => g (ix1 d)))
          (fun k => yb (ix2 i k)) (fun k => yc (ix2 i k)) (fun k => yd (ix2 i k)))
        (fun k j => w (ix2 k j)) (fun k => g2 (ix1 k)) (fun k => b2 (ix1 k)) j := by
  rw [lnA_apply]
  unfold ProjSpec.po
  refine congrArg (fun r => ProjSpec.ln r _ _ j) (funext fun j => ?_)
  rw [res_apply, lnA_apply]
  refine congrArg (_ + ·) (Finset.sum_congr rfl fun k _ => ?_)
  rw [cat4_apply]
  refine congrArg (fun y => ProjSpec.cat y _ _ _ k * _) (funext fun k => ?_)
  rw [yA_apply]

end Cert.OutpRefIdeal.Val
-- ==== Proof.OutPoint.lean ====
/- The output projection's body over the extended reals, read at an index. -/
module

public import proofs.«01_k».proof.Proof.Gen.OutpIdeal.Value
public import proofs.«01_k».proof.Proof.OutSpec

@[expose] public section

set_option maxRecDepth 16384

noncomputable section

namespace Cert.OutpIdeal.Val

open Cert.OutpIdeal Cert.OutpIdeal.Gen Idealize.ShloMosaic Idealize.ShloMosaic.TcCoe Idealize.SL.Sem

/-- Each row's mean. -/
def mean1 (x : FVec Ideal S512x1024 .f32) : FVec Ideal S512x1 .f32 :=
  divf (shapeCast S512x1 (multiReduction .add [1] S512 x 0x00000000#32 reduces_S512x1024_S512 (.inl rfl) rfl) shapeCasts_S512_S512x1)
    (broadcast S512x1 (Scalar.ofBits .f32 0x44800000#32))

/-- Each row less its mean. -/
def cen (x : FVec Ideal S512x1024 .f32) : FVec Ideal S512x1024 .f32 :=
  subf x (broadcastTo S512x1024 (mean1 x) broadcasts_S512x1_S512x1024)

/-- One row laid along the rows of the block. -/
def lay (g : FVec Ideal S1x1024 .f32) : FVec Ideal S512x1024 .f32 :=
  broadcastTo S512x1024 (shapeCast S1x1024 g shapeCasts_S1x1024_S1x1024) broadcasts_S1x1024_S512x1024

/-- The normed rows of a block. -/
def lnK (x : FVec Ideal S512x1024 .f32) (g b : FVec Ideal S1x1024 .f32) : FVec Ideal S512x1024 .f32 :=
  addf (mulf (mulf (cen x) (broadcastTo S512x1024 (rsqrt (addf (mean1 (mulf (cen x) (cen x)))
    (broadcast S512x1 (Scalar.ofBits .f32 0x3727C5AC#32)))) broadcasts_S512x1_S512x1024)) (lay g)) (lay b)

/-- The gated heads of a block: the heads' sum, their norm's terms, the gate. -/
def gat (o q z : FVec Ideal S512x256 .f32) (g : FVec Ideal S1x256 .f32) : FVec Ideal S512x256 .bf16 :=
  truncf .bf16 (mulf (mulf (mulf o (rsqrt q)) (broadcastTo S512x256 (shapeCast S1x256 g shapeCasts_S1x256_S1x256) broadcasts_S1x256_S512x256))
    (mulf z (divf (broadcast S512x256 (Scalar.ofBits .f32 0x3F800000#32)) (addf (broadcast S512x256 (Scalar.ofBits .f32 0x3F800000#32))
      (exp (subf (broadcast S512x256 (Scalar.ofBits .f32 0x00000000#32)) z)))))) bitsLt_bf16_f32

/-- A product with a quarter of the weight's rows. -/
def part (y : FVec Ideal S512x256 .bf16) (w : FVec Ideal S256x1024 .bf16) : FVec Ideal S512x1024 .f32 :=
  matmul dot_S512x256_S256x1024_S512x1024_1_0_0_1_n_n none y (shapeCast S256x1024 w shapeCasts_S256x1024_S256x1024) (constant S512x1024 .f32 0x00000000#32)

theorem pay1_eq (p r : FVec Ideal S512x1024 .f32) (g b : FVec Ideal S1x1024 .f32) : k0_pay1 (F := Ideal) p r g b = lnK (addf r p) g b := rfl
theorem pay2_eq (x : FVec Ideal S512x1024 .f32) (g b : FVec Ideal S1x1024 .f32) : k0_pay2 (F := Ideal) x g b = lnK x g b := rfl
theorem pay6_eq (o z q : FVec Ideal S512x256 .f32) (g : FVec Ideal S1x256 .f32) (w0 w1 w2 w3 : FVec Ideal S256x1024 .bf16) (yb yc yd : FVec Ideal S512x256 .bf16) :
    k0_pay6 (F := Ideal) o z q g w0 yb w1 yc w2 yd w3 = addf (addf (addf (part (gat o q z g) w0) (part yb w1)) (part yc w2)) (part yd w3) := rfl

theorem mean1_apply (x : FVec Ideal S512x1024 .f32) (i : Fin 512) : mean1 x (ix2 i 0) = ProjSpec.mean fun k => x (ix2 i k) := by
  unfold mean1 ProjSpec.mean
  pointwise

theorem cen_apply (x : FVec Ideal S512x1024 .f32) (i : Fin 512) (k : Fin 1024) :
    cen x (ix2 i k) = x (ix2 i k) - ProjSpec.mean fun k => x (ix2 i k) := by
  rw [← mean1_apply]
  unfold cen
  generalize mean1 x = y
  pointwise

theorem lay_apply (g : FVec Ideal S1x1024 .f32) (i : Fin 512) (k : Fin 1024) : lay g (ix2 i k) = g (ix2 0 k) := by
  unfold lay
  pointwise

theorem lnK_apply (x : FVec Ideal S512x1024 .f32) (g b : FVec Ideal S1x1024 .f32) (i : Fin 512) (k : Fin 1024) :
    lnK x g b (ix2 i k) = ProjSpec.ln (fun k => x (ix2 i k)) (fun k => g (ix2 0 k)) (fun k => b (ix2 0 k)) k := by
  have e : mean1 (mulf (cen x) (cen x)) (ix2 i 0) = ProjSpec.var fun k => x (ix2 i k) := by
    rw [mean1_apply]
    unfold ProjSpec.var
    refine congrArg ProjSpec.mean (funext fun k => ?_)
    show cen x (ix2 i k) * cen x (ix2 i k) = _
    rw [cen_apply]
  unfold ProjSpec.ln
  dsimp only
  rw [← e, ← cen_apply, ← lay_apply g i k, ← lay_apply b i k]
  unfold lnK
  generalize mean1 (mulf (cen x) (cen x)) = y
  generalize cen x = z
  generalize lay g = u
  generalize lay b = v
  pointwise

theorem pay5_apply (f b : FVec Ideal S512x256 .bf16) (h : FVec Ideal S256x256 .f32) (i : Fin 512) (j : Fin 256) :
    k0_pay5 (F := Ideal) f b h (ix2 i j) = (∑ k : Fin 256, (f (ix2 i k) + b (ix2 i k)) * (f (ix2 i k) + b (ix2 i k)) * h (ix2 k j))
      + Ideal.ofBits .f32 0x358637BD#32 := by
  unfold k0_pay5 k0_pay3
  pointwise

theorem gat_apply (o q z : FVec Ideal S512x256 .f32) (g : FVec Ideal S1x256 .f32) (i : Fin 512) (j : Fin 256) :
    gat o q z g (ix2 i j) = o (ix2 i j) * Ideal.rsqrt (q (ix2 i j)) * g (ix2 0 j) * ProjSpec.sil (z (ix2 i j)) := by
  unfold gat ProjSpec.sil
  rw [← zero_sub]
  pointwise

theorem part_apply (y : FVec Ideal S512x256 .bf16) (w : FVec Ideal S256x1024 .bf16) (i : Fin 512) (j : Fin 1024) :
    part y w (ix2 i j) = ∑ k : Fin 256, y (ix2 i k) * w (ix2 k j) := by
  unfold part
  pointwise

theorem pay7_apply (r : FVec Ideal S512x1024 .f32) (i : Fin 512) (j : Fin 1024) :
    k0_pay7 (F := Ideal) r (ix2 i j) = Ideal.ofBits .f32 0x3FB504F3#32 * r (ix2 i j) := by
  unfold k0_pay7
  pointwise

end Cert.OutpIdeal.Val
-- ==== Proof.OutHost.lean ====
/- The arrays the output projection's host code prepares, read at an index: the heads' averages, the norm's scale tiled. -/
module

public import proofs.«01_k».proof.Proof.OutPoint
public import Idealize.ShloMosaic.Lib.StableHlo.RunRead

@[expose] public section

set_option maxRecDepth 16384

noncomputable section

namespace Cert.OutpIdeal.Val

open Cert.OutpIdeal Cert.OutpIdeal.Gen Idealize.ShloMosaic Idealize.ShloMosaic.TcCoe Idealize.SL.Sem

variable (m : (ℓ : Loc nD τ sig) → Buf (Elt Ideal) ℓ)

def row (g : FVec Ideal S1024 .f32) : FVec Ideal S1x1024 .f32 := shapeCast S1x1024 g shapeCasts_S1024_S1x1024

/-- The head's scale laid along the four heads. -/
def tiled (g : FVec Ideal S64 .f32) : FVec Ideal S1x256 .f32 :=
  shapeCast S1x256 (shapeCast S256 (broadcastInDim S4x64 ![0, 1] bcast_S1x64_S4x64_0_1 (shapeCast S1x64 g shapeCasts_S64_S1x64)) shapeCasts_S4x64_S256) shapeCasts_S256_S1x256

/-- The weight in the narrow type. -/
def cast16 (w : FVec Ideal S1024x1024 .f32) : FVec Ideal S1024x1024 .bf16 := truncf .bf16 w bitsLt_bf16_f32

/-- The column's number over 64, as the host code divides words: the quotient, less one where the signs differ and a rest is left. -/
def hw : IVec S256 32 :=
  have n : IVec S256 32 := iotaInDim S256 32 0
  have k : IVec S_ 32 := constantI S_ 32 64#32
  have q : IVec S256 32 := Host.divsi n (broadcastInDim S256 ![] bcast_S_S256 k)
  select (andi (cmpi .ne (signi n) (broadcastInDim S256 ![] bcast_S_S256 (signi k)))
    (cmpi .ne (Host.remsi n (broadcastInDim S256 ![] bcast_S_S256 k)) (broadcastInDim S256 ![] bcast_S_S256 (constantI S_ 32 0#32))))
    (subi q (broadcastInDim S256 ![] bcast_S_S256 (constantI S_ 32 1#32))) q

/-- The heads' averages: 1/64 where two columns are of one head. -/
def avg (h : IVec S256 32) : FVec Ideal S256x256 .f32 :=
  Host.divf (uitofp .f32 (cmpi .eq (broadcastInDim S256x256 ![0, 1] bcast_S256x1_S256x256_0_1 (broadcastInDim S256x1 ![0] bcast_S256_S256x1_0 h))
    (broadcastInDim S256x256 ![0, 1] bcast_S1x256_S256x256_0_1 (broadcastInDim S1x256 ![1] bcast_S256_S1x256_1 h))))
    (broadcastInDim S256x256 ![] bcast_S_S256x256 (constant S_ .f32 0x42800000#32))

def hmean : FVec Ideal S256x256 .f32 := avg hw

theorem hw_apply (i : Fin 256) : hw (ix1 i) = BitVec.ofNat 32 (i / 64) := by
  unfold hw
  pointwise
  revert i
  decide +kernel

theorem bit_eq (a b : BitVec 32) : FloatOps.uitofp (F := Ideal) .f32 (IntOp.cmpi .eq a b) = if a = b then 1 else 0 := by
  show (((IntOp.cmpi .eq a b).toNat : ℝ) : EReal) = _
  by_cases h : a = b
  · rw [if_pos h, h, show IntOp.cmpi .eq b b = 1#1 by simp [IntOp.cmpi]]
    simp
  · rw [if_neg h, show IntOp.cmpi .eq a b = 0#1 from congrArg BitVec.ofBool (beq_eq_false_iff_ne.mpr h)]
    simp

theorem hmean_apply (k j : Fin 256) : hmean (ix2 k j) = Ideal.div (if k.val / 64 = j.val / 64 then 1 else 0) (Ideal.ofBits .f32 0x42800000#32) := by
  have e : ∀ h : IVec S256 32, avg h (ix2 k j) = Ideal.div (FloatOps.uitofp (F := Ideal) .f32 (IntOp.cmpi .eq (h (ix1 k)) (h (ix1 j)))) (Ideal.ofBits .f32 0x42800000#32) := fun h => by
    unfold avg
    pointwise
  unfold hmean
  rw [e, hw_apply, hw_apply, bit_eq]
  have h : (BitVec.ofNat 32 (k.val / 64) = BitVec.ofNat 32 (j.val / 64)) ↔ k.val / 64 = j.val / 64 := by
    rw [← BitVec.toNat_inj, BitVec.toNat_ofNat, BitVec.toNat_ofNat, Nat.mod_eq_of_lt (by omega), Nat.mod_eq_of_lt (by omega)]
  simp only [h]

theorem row_apply (g : FVec Ideal S1024 .f32) (k : Fin 1024) : row g (ix2 0 k) = g (ix1 k) := by
  unfold row
  pointwise

theorem tiled_apply (g : FVec Ideal S64 .f32) (j : Fin 256) : tiled g (ix2 0 j) = g (ix1 ⟨j % 64, by omega⟩) := by
  unfold tiled
  pointwise

theorem V_g1 (c : Dev nD) : V m c main_v0 = row (m ((c : Thread nD τ).loc main_arg1)) := by
  unfold V
  after_reads_simp <;> rfl

theorem V_b1 (c : Dev nD) : V m c main_v1 = row (m ((c : Thread nD τ).loc main_arg2)) := by
  unfold V
  after_reads_simp <;> rfl

theorem V_ng (c : Dev nD) : V m c main_v15 = tiled (m ((c : Thread nD τ).loc main_arg6)) := by
  unfold V
  after_reads_simp <;> rfl

theorem V_w (c : Dev nD) : V m c main_v16 = cast16 (m ((c : Thread nD τ).loc main_arg10)) := by
  unfold V
  after_reads_simp <;> rfl

theorem V_g2 (c : Dev nD) : V m c main_v17 = row (m ((c : Thread nD τ).loc main_arg11)) := by
  unfold V
  after_reads_simp <;> rfl

theorem V_b2 (c : Dev nD) : V m c main_v18 = row (m ((c : Thread nD τ).loc main_arg12)) := by
  unfold V
  after_reads_simp <;> rfl

theorem V_hm (c : Dev nD) : V m c main_v11 = hmean := by
  unfold V
  after_reads_simp <;> rfl

end Cert.OutpIdeal.Val
-- ==== Proof.OutWin.lean ====
/- The output projection's windows: what each reads of the prepared arrays, what a grid point leaves in the output's block,
   and how the blocks cover the array. -/
module

public import proofs.«01_k».proof.Proof.OutHost
public import Idealize.ShloMosaic.Lib.Pipeline.Value
public import Idealize.ShloMosaic.Lib.Pipeline.ValueKit.Basic

@[expose] public section

set_option maxRecDepth 16384

noncomputable section

namespace Cert.OutpIdeal.Val

open Cert.OutpIdeal Cert.OutpIdeal.Gen Idealize.ShloMosaic Idealize.ShloMosaic.TcCoe Idealize.SL.Sem

variable (m : (ℓ : Loc nD τ sig) → Buf (Elt Ideal) ℓ) (ρ : Dev nD → PrngReg)

theorem tlt (t : Fin cfg0.N) : t.val < 128 := N_0 ▸ t.isLt

/-- The row of the arrays that row `a` of point `t`'s block is. -/
def rt (t : Fin cfg0.N) (a : Fin 512) : Fin 65536 := ⟨512 * t + a, by have := tlt t; omega⟩

theorem hi0 : ∀ t : Fin cfg0.N, win0_0.index t 0 = t.val ∧ win0_0.index t 1 = 0 := by
  decide +kernel
theorem hi1 : ∀ t : Fin cfg0.N, win0_1.index t 0 = 0 ∧ win0_1.index t 1 = 0 := by
  decide +kernel
theorem hi2 : ∀ t : Fin cfg0.N, win0_2.index t 0 = 0 ∧ win0_2.index t 1 = 0 := by
  decide +kernel
theorem hi3 : ∀ t : Fin cfg0.N, win0_3.index t 0 = t.val ∧ win0_3.index t 1 = 0 := by
  decide +kernel
theorem hi4 : ∀ t : Fin cfg0.N, win0_4.index t 0 = t.val ∧ win0_4.index t 1 = 0 := by
  decide +kernel
theorem hi5 : ∀ t : Fin cfg0.N, win0_5.index t 0 = t.val ∧ win0_5.index t 1 = 0 := by
  decide +kernel
theorem hi6 : ∀ t : Fin cfg0.N, win0_6.index t 0 = 0 ∧ win0_6.index t 1 = 0 := by
  decide +kernel
theorem hi7 : ∀ t : Fin cfg0.N, win0_7.index t 0 = 0 ∧ win0_7.index t 1 = 0 := by
  decide +kernel
theorem hi8 : ∀ t : Fin cfg0.N, win0_8.index t 0 = t.val ∧ win0_8.index t 1 = 0 := by
  decide +kernel
theorem hi9 : ∀ t : Fin cfg0.N, win0_9.index t 0 = t.val ∧ win0_9.index t 1 = 0 := by
  decide +kernel
theorem hi10 : ∀ t : Fin cfg0.N, win0_10.index t 0 = t.val ∧ win0_10.index t 1 = 0 := by
  decide +kernel
theorem hi11 : ∀ t : Fin cfg0.N, win0_11.index t 0 = 0 ∧ win0_11.index t 1 = 0 := by
  decide +kernel
theorem hi12 : ∀ t : Fin cfg0.N, win0_12.index t 0 = 0 ∧ win0_12.index t 1 = 0 := by
  decide +kernel
theorem hi13 : ∀ t : Fin cfg0.N, win0_13.index t 0 = 0 ∧ win0_13.index t 1 = 0 := by
  decide +kernel
theorem hi14 : ∀ t : Fin cfg0.N, win0_14.index t 0 = t.val ∧ win0_14.index t 1 = 0 := by
  decide +kernel

theorem blk0 (c : Dev nD) (t : Fin cfg0.N) (a : Fin 512) (k : Fin 1024) :
    iblk m c 0 t (ix2 a k) = (m ((c : Thread nD τ).loc main_arg0) : FVec Ideal S65536x1024 .f32) (ix2 (rt t a) k) := by
  have hi := hi0 t
  rw [← V_main_arg0 m c]
  unfold iblk
  rw [View.read_apply]
  show V m c main_arg0 _ = V m c main_arg0 _
  congr 1
  funext x
  apply Fin.ext
  match x with
  | ⟨0, _⟩ => show win0_0.index t 0 * 512 + 1 * a.val = 512 * t.val + a.val; rw [hi.1]; omega
  | ⟨1, _⟩ => show win0_0.index t 1 * 1024 + 1 * k.val = k.val; rw [hi.2]; omega

theorem blk3 (c : Dev nD) (t : Fin cfg0.N) (a : Fin 512) (k : Fin 256) :
    iblk m c 3 t (ix2 a k) = (m ((c : Thread nD τ).loc main_arg3) : FVec Ideal S65536x256 .bf16) (ix2 (rt t a) k) := by
  have hi := hi3 t
  rw [← V_main_arg3 m c]
  unfold iblk
  rw [View.read_apply]
  show V m c main_arg3 _ = V m c main_arg3 _
  congr 1
  funext x
  apply Fin.ext
  match x with
  | ⟨0, _⟩ => show win0_3.index t 0 * 512 + 1 * a.val = 512 * t.val + a.val; rw [hi.1]; omega
  | ⟨1, _⟩ => show win0_3.index t 1 * 256 + 1 * k.val = k.val; rw [hi.2]; omega

theorem blk4 (c : Dev nD) (t : Fin cfg0.N) (a : Fin 512) (k : Fin 256) :
    iblk m c 4 t (ix2 a k) = (m ((c : Thread nD τ).loc main_arg4) : FVec Ideal S65536x256 .bf16) (ix2 (rt t a) k) := by
  have hi := hi4 t
  rw [← V_main_arg4 m c]
  unfold iblk
  rw [View.read_apply]
  show V m c main_arg4 _ = V m c main_arg4 _
  congr 1
  funext x
  apply Fin.ext
  match x with
  | ⟨0, _⟩ => show win0_4.index t 0 * 512 + 1 * a.val = 512 * t.val + a.val; rw [hi.1]; omega
  | ⟨1, _⟩ => show win0_4.index t 1 * 256 + 1 * k.val = k.val; rw [hi.2]; omega

theorem blk5 (c : Dev nD) (t : Fin cfg0.N) (a : Fin 512) (k : Fin 256) :
    iblk m c 5 t (ix2 a k) = (m ((c : Thread nD τ).loc main_arg5) : FVec Ideal S65536x256 .bf16) (ix2 (rt t a) k) := by
  have hi := hi5 t
  rw [← V_main_arg5 m c]
  unfold iblk
  rw [View.read_apply]
  show V m c main_arg5 _ = V m c main_arg5 _
  congr 1
  funext x
  apply Fin.ext
  match x with
  | ⟨0, _⟩ => show win0_5.index t 0 * 512 + 1 * a.val = 512 * t.val + a.val; rw [hi.1]; omega
  | ⟨1, _⟩ => show win0_5.index t 1 * 256 + 1 * k.val = k.val; rw [hi.2]; omega

theorem blk8 (c : Dev nD) (t : Fin cfg0.N) (a : Fin 512) (k : Fin 256) :
    iblk m c 8 t (ix2 a k) = (m ((c : Thread nD τ).loc main_arg7) : FVec Ideal S65536x256 .bf16) (ix2 (rt t a) k) := by
  have hi := hi8 t
  rw [← V_main_arg7 m c]
  unfold iblk
  rw [View.read_apply]
  show V m c main_arg7 _ = V m c main_arg7 _
  congr 1
  funext x
  apply Fin.ext
  match x with
  | ⟨0, _⟩ => show win0_8.index t 0 * 512 + 1 * a.val = 512 * t.val + a.val; rw [hi.1]; omega
  | ⟨1, _⟩ => show win0_8.index t 1 * 256 + 1 * k.val = k.val; rw [hi.2]; omega

theorem blk9 (c : Dev nD) (t : Fin cfg0.N) (a : Fin 512) (k : Fin 256) :
    iblk m c 9 t (ix2 a k) = (m ((c : Thread nD τ).loc main_arg8) : FVec Ideal S65536x256 .bf16) (ix2 (rt t a) k) := by
  have hi := hi9 t
  rw [← V_main_arg8 m c]
  unfold iblk
  rw [View.read_apply]
  show V m c main_arg8 _ = V m c main_arg8 _
  congr 1
  funext x
  apply Fin.ext
  match x with
  | ⟨0, _⟩ => show win0_9.index t 0 * 512 + 1 * a.val = 512 * t.val + a.val; rw [hi.1]; omega
  | ⟨1, _⟩ => show win0_9.index t 1 * 256 + 1 * k.val = k.val; rw [hi.2]; omega

theorem blk10 (c : Dev nD) (t : Fin cfg0.N) (a : Fin 512) (k : Fin 256) :
    iblk m c 10 t (ix2 a k) = (m ((c : Thread nD τ).loc main_arg9) : FVec Ideal S65536x256 .bf16) (ix2 (rt t a) k) := by
  have hi := hi10 t
  rw [← V_main_arg9 m c]
  unfold iblk
  rw [View.read_apply]
  show V m c main_arg9 _ = V m c main_arg9 _
  congr 1
  funext x
  apply Fin.ext
  match x with
  | ⟨0, _⟩ => show win0_10.index t 0 * 512 + 1 * a.val = 512 * t.val + a.val; rw [hi.1]; omega
  | ⟨1, _⟩ => show win0_10.index t 1 * 256 + 1 * k.val = k.val; rw [hi.2]; omega

theorem blk1 (c : Dev nD) (t : Fin cfg0.N) (j : Fin 1024) :
    iblk m c 1 t (ix2 0 j) = (m ((c : Thread nD τ).loc main_arg1) : FVec Ideal S1024 .f32) (ix1 j) := by
  have hi := hi1 t
  rw [← row_apply (m ((c : Thread nD τ).loc main_arg1)) j, ← V_g1 m c]
  unfold iblk
  rw [View.read_apply]
  show V m c main_v0 _ = V m c main_v0 _
  congr 1
  funext x
  apply Fin.ext
  match x with
  | ⟨0, _⟩ => show win0_1.index t 0 * 1 + 1 * 0 = 0; rw [hi.1]
  | ⟨1, _⟩ => show win0_1.index t 1 * 1024 + 1 * j.val = j.val; rw [hi.2]; omega

theorem blk2 (c : Dev nD) (t : Fin cfg0.N) (j : Fin 1024) :
    iblk m c 2 t (ix2 0 j) = (m ((c : Thread nD τ).loc main_arg2) : FVec Ideal S1024 .f32) (ix1 j) := by
  have hi := hi2 t
  rw [← row_apply (m ((c : Thread nD τ).loc main_arg2)) j, ← V_b1 m c]
  unfold iblk
  rw [View.read_apply]
  show V m c main_v1 _ = V m c main_v1 _
  congr 1
  funext x
  apply Fin.ext
  match x with
  | ⟨0, _⟩ => show win0_2.index t 0 * 1 + 1 * 0 = 0; rw [hi.1]
  | ⟨1, _⟩ => show win0_2.index t 1 * 1024 + 1 * j.val = j.val; rw [hi.2]; omega

theorem blk12 (c : Dev nD) (t : Fin cfg0.N) (j : Fin 1024) :
    iblk m c 12 t (ix2 0 j) = (m ((c : Thread nD τ).loc main_arg11) : FVec Ideal S1024 .f32) (ix1 j) := by
  have hi := hi12 t
  rw [← row_apply (m ((c : Thread nD τ).loc main_arg11)) j, ← V_g2 m c]
  unfold iblk
  rw [View.read_apply]
  show V m c main_v17 _ = V m c main_v17 _
  congr 1
  funext x
  apply Fin.ext
  match x with
  | ⟨0, _⟩ => show win0_12.index t 0 * 1 + 1 * 0 = 0; rw [hi.1]
  | ⟨1, _⟩ => show win0_12.index t 1 * 1024 + 1 * j.val = j.val; rw [hi.2]; omega

theorem blk13 (c : Dev nD) (t : Fin cfg0.N) (j : Fin 1024) :
    iblk m c 13 t (ix2 0 j) = (m ((c : Thread nD τ).loc main_arg12) : FVec Ideal S1024 .f32) (ix1 j) := by
  have hi := hi13 t
  rw [← row_apply (m ((c : Thread nD τ).loc main_arg12)) j, ← V_b2 m c]
  unfold iblk
  rw [View.read_apply]
  show V m c main_v18 _ = V m c main_v18 _
  congr 1
  funext x
  apply Fin.ext
  match x with
  | ⟨0, _⟩ => show win0_13.index t 0 * 1 + 1 * 0 = 0; rw [hi.1]
  | ⟨1, _⟩ => show win0_13.index t 1 * 1024 + 1 * j.val = j.val; rw [hi.2]; omega

theorem blk6 (c : Dev nD) (t : Fin cfg0.N) (j : Fin 256) :
    iblk m c 6 t (ix2 0 j) = tiled (m ((c : Thread nD τ).loc main_arg6)) (ix2 0 j) := by
  have hi := hi6 t
  rw [← V_ng m c]
  unfold iblk
  rw [View.read_apply]
  show V m c main_v15 _ = V m c main_v15 _
  congr 1
  funext x
  apply Fin.ext
  match x with
  | ⟨0, _⟩ => show win0_6.index t 0 * 1 + 1 * 0 = 0; rw [hi.1]
  | ⟨1, _⟩ => show win0_6.index t 1 * 256 + 1 * j.val = j.val; rw [hi.2]; omega

theorem blk7 (c : Dev nD) (t : Fin cfg0.N) (k : Fin 256) (j : Fin 256) :
    iblk m c 7 t (ix2 k j) = hmean (ix2 k j) := by
  have hi := hi7 t
  rw [← V_hm m c]
  unfold iblk
  rw [View.read_apply]
  show V m c main_v11 _ = V m c main_v11 _
  congr 1
  funext x
  apply Fin.ext
  match x with
  | ⟨0, _⟩ => show win0_7.index t 0 * 256 + 1 * k.val = k.val; rw [hi.1]; omega
  | ⟨1, _⟩ => show win0_7.index t 1 * 256 + 1 * j.val = j.val; rw [hi.2]; omega

theorem blk11 (c : Dev nD) (t : Fin cfg0.N) (k : Fin 1024) (j : Fin 1024) :
    iblk m c 11 t (ix2 k j) = cast16 (m ((c : Thread nD τ).loc main_arg10)) (ix2 k j) := by
  have hi := hi11 t
  rw [← V_w m c]
  unfold iblk
  rw [View.read_apply]
  show V m c main_v16 _ = V m c main_v16 _
  congr 1
  funext x
  apply Fin.ext
  match x with
  | ⟨0, _⟩ => show win0_11.index t 0 * 1024 + 1 * k.val = k.val; rw [hi.1]; omega
  | ⟨1, _⟩ => show win0_11.index t 1 * 1024 + 1 * j.val = j.val; rw [hi.2]; omega

theorem ld0 (x : FVec Ideal S512x1024 .f32) : View.ld (Val := Elt Ideal) (e' := .f32) x r0_0 = x := View.ld_unit_lit _ _ (by decide)
theorem ld1 (x : FVec Ideal S1x1024 .f32) : View.ld (Val := Elt Ideal) (e' := .f32) x r0_1 = x := View.ld_unit_lit _ _ (by decide)
theorem ld2 (x : FVec Ideal S512x256 .bf16) : View.ld (Val := Elt Ideal) (e' := .bf16) x r0_2 = x := View.ld_unit_lit _ _ (by decide)
theorem ld3 (x : FVec Ideal S256x256 .f32) : View.ld (Val := Elt Ideal) (e' := .f32) x r0_3 = x := View.ld_unit_lit _ _ (by decide)
theorem ld4 (x : FVec Ideal S1x256 .f32) : View.ld (Val := Elt Ideal) (e' := .f32) x r0_4 = x := View.ld_unit_lit _ _ (by decide)

theorem ld5 (x : FVec Ideal S1024x1024 .bf16) (k : Fin 256) (j : Fin 1024) :
    View.ld (Val := Elt Ideal) (e' := .bf16) x r0_5 (ix2 k j) = x (ix2 ⟨k, by omega⟩ j) := by
  show x _ = x _
  refine congrArg x (funext fun x => Fin.ext ?_)
  match x with
  | ⟨0, _⟩ => show 0 + 1 * k.val = k.val; omega
  | ⟨1, _⟩ => show 0 + 1 * j.val = j.val; omega

theorem ld6 (x : FVec Ideal S1024x1024 .bf16) (k : Fin 256) (j : Fin 1024) :
    View.ld (Val := Elt Ideal) (e' := .bf16) x r0_6 (ix2 k j) = x (ix2 ⟨256 + k, by omega⟩ j) := by
  show x _ = x _
  refine congrArg x (funext fun x => Fin.ext ?_)
  match x with
  | ⟨0, _⟩ => show 256 + 1 * k.val = 256 + k.val; omega
  | ⟨1, _⟩ => show 0 + 1 * j.val = j.val; omega

theorem ld7 (x : FVec Ideal S1024x1024 .bf16) (k : Fin 256) (j : Fin 1024) :
    View.ld (Val := Elt Ideal) (e' := .bf16) x r0_7 (ix2 k j) = x (ix2 ⟨512 + k, by omega⟩ j) := by
  show x _ = x _
  refine congrArg x (funext fun x => Fin.ext ?_)
  match x with
  | ⟨0, _⟩ => show 512 + 1 * k.val = 512 + k.val; omega
  | ⟨1, _⟩ => show 0 + 1 * j.val = j.val; omega

theorem ld8 (x : FVec Ideal S1024x1024 .bf16) (k : Fin 256) (j : Fin 1024) :
    View.ld (Val := Elt Ideal) (e' := .bf16) x r0_8 (ix2 k j) = x (ix2 ⟨768 + k, by omega⟩ j) := by
  show x _ = x _
  refine congrArg x (funext fun x => Fin.ext ?_)
  match x with
  | ⟨0, _⟩ => show 768 + 1 * k.val = 768 + k.val; omega
  | ⟨1, _⟩ => show 0 + 1 * j.val = j.val; omega

theorem pay4_apply (z : FVec Ideal S512x256 .bf16) (a : Fin 512) (j : Fin 256) : k0_pay4 (F := Ideal) z (ix2 a j) = z (ix2 a j) := by
  unfold k0_pay4
  pointwise

theorem pay3_apply (f b : FVec Ideal S512x256 .bf16) (a : Fin 512) (j : Fin 256) :
    k0_pay3 (F := Ideal) f b (ix2 a j) = f (ix2 a j) + b (ix2 a j) := by
  unfold k0_pay3
  pointwise

/-- The four products of a block's row are the product of its columns side by side. -/
theorem prod_apply (y0 y1 y2 y3 : FVec Ideal S512x256 .bf16) (w : FVec Ideal S1024x1024 .bf16) (a : Fin 512) (j : Fin 1024) :
    addf (addf (addf (part y0 (View.ld (Val := Elt Ideal) (e' := .bf16) w r0_5)) (part y1 (View.ld (Val := Elt Ideal) (e' := .bf16) w r0_6)))
      (part y2 (View.ld (Val := Elt Ideal) (e' := .bf16) w r0_7))) (part y3 (View.ld (Val := Elt Ideal) (e' := .bf16) w r0_8)) (ix2 a j)
      = ∑ k, ProjSpec.cat (fun k => y0 (ix2 a k)) (fun k => y1 (ix2 a k)) (fun k => y2 (ix2 a k)) (fun k => y3 (ix2 a k)) k * w (ix2 k j) := by
  rw [← ProjSpec.cat_sum]
  show part y0 _ (ix2 a j) + part y1 _ (ix2 a j) + part y2 _ (ix2 a j) + part y3 _ (ix2 a j) = _
  rw [part_apply, part_apply, part_apply, part_apply]
  exact congrArg₂ (· + ·) (congrArg₂ (· + ·) (congrArg₂ (· + ·) (Finset.sum_congr rfl fun k _ => congrArg (_ * ·) (ld5 w k j)) (Finset.sum_congr rfl fun k _ => congrArg (_ * ·) (ld6 w k j))) (Finset.sum_congr rfl fun k _ => congrArg (_ * ·) (ld7 w k j))) (Finset.sum_congr rfl fun k _ => congrArg (_ * ·) (ld8 w k j))

/-- An entry of the output's block. -/
theorem out14_apply (x0 : FVec Ideal S512x1024 .f32) (x1 x2 : FVec Ideal S1x1024 .f32) (x3 x4 x5 : FVec Ideal S512x256 .bf16) (x6 : FVec Ideal S1x256 .f32)
    (x7 : FVec Ideal S256x256 .f32) (x8 x9 x10 : FVec Ideal S512x256 .bf16) (x11 : FVec Ideal S1024x1024 .bf16) (x12 x13 : FVec Ideal S1x1024 .f32)
    (a : Fin 512) (j : Fin 1024) : out0_14 (F := Ideal) x0 x1 x2 x3 x4 x5 x6 x7 x8 x9 x10 x11 x12 x13 (ix2 a j)
      = ProjSpec.po (ProjSpec.ln (fun k => x0 (ix2 a k)) (fun k => x1 (ix2 0 k)) (fun k => x2 (ix2 0 k)))
        (ProjSpec.cat (fun k => (x3 (ix2 a k) + x4 (ix2 a k)) * Ideal.rsqrt ((∑ l : Fin 256, (x3 (ix2 a l) + x4 (ix2 a l)) * (x3 (ix2 a l) + x4 (ix2 a l)) * x7 (ix2 l k))
            + Ideal.ofBits .f32 0x358637BD#32) * x6 (ix2 0 k) * ProjSpec.sil (x5 (ix2 a k)))
          (fun k => x8 (ix2 a k)) (fun k => x9 (ix2 a k)) (fun k => x10 (ix2 a k)))
        (fun k j => x11 (ix2 k j)) (fun k => x12 (ix2 0 k)) (fun k => x13 (ix2 0 k)) j := by
  unfold out0_14
  rw [View.canon_cons_unit_lit _ _ _ (by decide), ld0, ld1, ld1, ld1, ld1, ld2, ld2, ld2, ld2, ld2, ld2, ld3, ld4, pay1_eq, pay6_eq, pay2_eq, lnK_apply]
  unfold ProjSpec.po
  refine congrArg (fun r => ProjSpec.ln r _ _ j) (funext fun j => ?_)
  refine congrArg₂ (· + ·) ((pay7_apply _ a j).trans (congrArg (_ * ·) (lnK_apply _ _ _ a j))) ((prod_apply _ _ _ _ _ a j).trans ?_)
  refine Finset.sum_congr rfl fun k _ => congrArg (fun y => ProjSpec.cat y _ _ _ k * _) (funext fun k => ?_)
  rw [gat_apply, pay3_apply, pay4_apply, pay5_apply]

theorem hx14 : ∀ t : Fin cfg0.N, win0_14.xsize (grid0.coords t) 0 = 512 ∧ win0_14.xsize (grid0.coords t) 1 = 1024 := by
  decide +kernel

theorem mem_blk14 (t : Fin cfg0.N) (i : S65536x1024.Idx) (ha : 512 * t.val ≤ (i 0).val) (hb : (i 0).val < 512 * t.val + 512) :
    i ∈ ((cfg0.win 14).blk t).view.set := by
  show i ∈ ((View.whole main_v19).slice (win0_14.rect t)).set
  rw [View.set_slice_whole, Rect.mem_set_unit]
  have h1 : (i 1).val < 1024 := (i 1).isLt
  have hi := hi14 t
  have hx := hx14 t
  intro a
  match a with
  | ⟨0, _⟩ => show win0_14.index t 0 * 512 ≤ (i 0).val ∧ (i 0).val < win0_14.index t 0 * 512 + win0_14.xsize (grid0.coords t) 0
              rw [hi.1, hx.1]; omega
  | ⟨1, _⟩ => show win0_14.index t 1 * 1024 ≤ (i 1).val ∧ (i 1).val < win0_14.index t 1 * 1024 + win0_14.xsize (grid0.coords t) 1
              rw [hi.2, hx.2]; omega

theorem cover14 (i : S65536x1024.Idx) : ∃ t : Fin cfg0.N, (cfg0.win 14).flush t = true ∧ i ∈ ((cfg0.win 14).blk t).view.set := by
  have h0 : (i 0).val < 65536 := (i 0).isLt
  have h1 : (i 1).val < 1024 := (i 1).isLt
  refine ⟨⟨(i 0).val / 512, by have : cfg0.N = 128 := N_0; omega⟩, flush0_14 _, mem_blk14 _ i ?_ ?_⟩
  · dsimp only; omega
  · dsimp only; omega

end Cert.OutpIdeal.Val
-- ==== Proof.OutValue.lean ====
/- The output projection's run: the result array holds the reference's columns, block by block. -/
module

public import proofs.«01_k».proof.Proof.OutWin

@[expose] public section

set_option maxRecDepth 16384

noncomputable section

namespace Cert.OutpIdeal.Val

open Cert.OutpIdeal Cert.OutpIdeal.Gen Idealize.ShloMosaic Idealize.ShloMosaic.TcCoe Idealize.SL.Sem Cert.ProjSpec

section
variable (x : FVec Ideal S65536x1024 .f32) (g1 b1 : FVec Ideal S1024 .f32) (f b z : FVec Ideal S65536x256 .bf16) (g : FVec Ideal S64 .f32)
  (yb yc yd : FVec Ideal S65536x256 .bf16) (w : FVec Ideal S1024x1024 .f32) (g2 b2 : FVec Ideal S1024 .f32)

/-- An entry of the result. -/
def outE (i : Fin 65536) (j : Fin 1024) : EReal :=
  po (ln (fun k => x (ix2 i k)) (fun k => g1 (ix1 k)) (fun k => b1 (ix1 k)))
    (cat (gated (fun k => f (ix2 i k) + b (ix2 i k)) (fun k => z (ix2 i k)) (fun d => g (ix1 d)))
      (fun k => yb (ix2 i k)) (fun k => yc (ix2 i k)) (fun k => yd (ix2 i k)))
    (fun k j => w (ix2 k j)) (fun k => g2 (ix1 k)) (fun k => b2 (ix1 k)) j

/-- The result. -/
def G : FVec Ideal S65536x1024 .f32 := fun i => outE x g1 b1 f b z g yb yc yd w g2 b2 ⟨(i 0).val, (i 0).isLt⟩ ⟨(i 1).val, (i 1).isLt⟩
theorem G_apply (i : Fin 65536) (j : Fin 1024) : G x g1 b1 f b z g yb yc yd w g2 b2 (ix2 i j) = outE x g1 b1 f b z g yb yc yd w g2 b2 i j := rfl
end

variable (m : (ℓ : Loc nD τ sig) → Buf (Elt Ideal) ℓ) (ρ : Dev nD → PrngReg)

theorem cast16_apply (w : FVec Ideal S1024x1024 .f32) (k j : Fin 1024) : cast16 w (ix2 k j) = w (ix2 k j) := by
  unfold cast16
  pointwise

theorem oblk (c : Dev nD) (t : Fin cfg0.N) (a : Fin 512) (j : Fin 1024) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 a j)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 (rt t a) j) := by
  rw [out14_apply, G_apply]
  unfold outE gated
  simp only [blk0, blk1, blk2, blk3, blk4, blk5, blk6, blk7, blk8, blk9, blk10, blk11, blk12, blk13, tiled_apply, cast16_apply, hmean_apply]
  simp only [hsq_sum (fun l => _ + _)]

theorem flushed (c : Dev nD) (t : Fin cfg0.N) :
    (dats m 0 c).flushed 14 t = (win0_14.blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  rw [Value.flushed14]
  have hi := hi14 t
  refine funext fun (j : S512x1024.Idx) => ?_
  have h0 : (j 0).val < 512 := (j 0).isLt
  have h1 : (j 1).val < 1024 := (j 1).isLt
  refine Eq.trans ?_ ((oblk m c t ⟨(j 0).val, h0⟩ ⟨(j 1).val, h1⟩).trans (Eq.trans ?_ (View.read_apply ..).symm))
  · refine congrArg (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (funext fun x => Fin.ext ?_)
    match x with
    | ⟨0, _⟩ => rfl
    | ⟨1, _⟩ => rfl
  · refine congrArg (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (funext fun x => Fin.ext ?_)
    match x with
    | ⟨0, _⟩ => show 512 * t.val + (j 0).val = win0_14.index t 0 * 512 + 1 * (j 0).val; rw [hi.1]; omega
    | ⟨1, _⟩ => show (j 1).val = win0_14.index t 1 * 1024 + 1 * (j 1).val; rw [hi.2]; omega

theorem final (c : Dev nD) : (dats m 0 c).arrAt 14 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (dats m 0 c).arrAt_eq_of_cover 14 _ (fun t _ => flushed m c t) cover14

end Cert.OutpIdeal.Val
-- ==== Proof.OutClaims.lean ====
/- The claims about the output projection, put together from the kernel's run and the reference's run. -/
module

public import proofs.«01_k».proof.Defs
public import proofs.«01_k».proof.Proof.Gen.Outp.Frame
public import proofs.«01_k».proof.Proof.Gen.OutpIdeal.Frame
public import proofs.«01_k».proof.Proof.OutRef
public import proofs.«01_k».proof.Proof.OutValue
public import Idealize.ShloMosaic.Lib.Quiescent

@[expose] public section

set_option maxRecDepth 16384

noncomputable section

namespace Cert.OutClaims

open Idealize.ShloMosaic Idealize.ShloMosaic.TcCoe Idealize.SL.Sem

theorem frame_O : Cert.quiescent_Outp := fun m ρ _ => Cert.Outp.Gen.frame m ρ
theorem frame_OI : Cert.quiescent_OutpIdeal := fun m ρ _ => Cert.OutpIdeal.Gen.frame m ρ
theorem frame_OR : Cert.quiescent_OutpRefIdeal := fun m ρ _ =>
  (θ_run Cert.OutpRefIdeal.defs _ _).mono (fun r h => ⟨fun c => (h c).2, sem_eq_zero_of_no_sems (by decide) r.2⟩)
    (Cert.OutpRefIdeal.Value.run (F := Ideal) m ρ)

theorem preserves : Cert.preserves_Outp_OutpIdeal := trivial

section
open Cert.OutpRefIdeal Cert.OutpRefIdeal.Gen Cert.OutpRefIdeal.Val
variable (x : FVec Ideal S65536x1024 .f32) (g1 b1 : FVec Ideal S1024 .f32) (f b z : FVec Ideal S65536x256 .bf16) (g : FVec Ideal S64 .f32)
  (yb yc yd : FVec Ideal S65536x256 .bf16) (w : FVec Ideal S1024x1024 .f32) (g2 b2 : FVec Ideal S1024 .f32)

theorem ref_eq : lnA (res (lnA x g1 b1) (cat4 (yA f b z g) yb yc yd) w) g2 b2 = Cert.OutpIdeal.Val.G x g1 b1 f b z g yb yc yd w g2 b2 := by
  refine funext fun (j : S65536x1024.Idx) => ?_
  have e : j = ix2 ⟨(j 0).val, (j 0).isLt⟩ ⟨(j 1).val, (j 1).isLt⟩ := funext fun x => match x with
    | ⟨0, _⟩ => rfl
    | ⟨1, _⟩ => rfl
  rw [e]
  exact (out_apply x g1 b1 f b z g yb yc yd w g2 b2 _ _).trans (Cert.OutpIdeal.Val.G_apply x g1 b1 f b z g yb yc yd w g2 b2 _ _).symm
end

theorem algebraic : Cert.algebraic_OutpIdeal_OutpRefIdeal := by
  intro m ρ m' ρ' _ hag
  refine ⟨fun c => Cert.OutpIdeal.Val.G (m ((c.tc : Thread Cert.OutpIdeal.nD Cert.OutpIdeal.τ).loc Cert.OutpIdeal.main_arg0)) (m ((c.tc : Thread Cert.OutpIdeal.nD Cert.OutpIdeal.τ).loc Cert.OutpIdeal.main_arg1)) (m ((c.tc : Thread Cert.OutpIdeal.nD Cert.OutpIdeal.τ).loc Cert.OutpIdeal.main_arg2)) (m ((c.tc : Thread Cert.OutpIdeal.nD Cert.OutpIdeal.τ).loc Cert.OutpIdeal.main_arg3)) (m ((c.tc : Thread Cert.OutpIdeal.nD Cert.OutpIdeal.τ).loc Cert.OutpIdeal.main_arg4)) (m ((c.tc : Thread Cert.OutpIdeal.nD Cert.OutpIdeal.τ).loc Cert.OutpIdeal.main_arg5)) (m ((c.tc : Thread Cert.OutpIdeal.nD Cert.OutpIdeal.τ).loc Cert.OutpIdeal.main_arg6)) (m ((c.tc : Thread Cert.OutpIdeal.nD Cert.OutpIdeal.τ).loc Cert.OutpIdeal.main_arg7)) (m ((c.tc : Thread Cert.OutpIdeal.nD Cert.OutpIdeal.τ).loc Cert.OutpIdeal.main_arg8)) (m ((c.tc : Thread Cert.OutpIdeal.nD Cert.OutpIdeal.τ).loc Cert.OutpIdeal.main_arg9)) (m ((c.tc : Thread Cert.OutpIdeal.nD Cert.OutpIdeal.τ).loc Cert.OutpIdeal.main_arg10)) (m ((c.tc : Thread Cert.OutpIdeal.nD Cert.OutpIdeal.τ).loc Cert.OutpIdeal.main_arg11)) (m ((c.tc : Thread Cert.OutpIdeal.nD Cert.OutpIdeal.τ).loc Cert.OutpIdeal.main_arg12)), ?_, ?_⟩
  · refine (θ_run Cert.OutpIdeal.defs _ _).mono (fun r h c => ⟨(h c).1.trans (Cert.OutpIdeal.Val.final m c), (h c).2⟩)
      (Cert.OutpIdeal.Value.run_blocks m ρ)
  · refine (θ_run Cert.OutpRefIdeal.defs _ _).mono (fun r h c => ⟨(h c).1.trans ((Cert.OutpRefIdeal.Val.res_eq m' c).trans ((ref_eq _ _ _ _ _ _ _ _ _ _ _ _ _).trans (by rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2]))), (h c).2⟩)
      (Cert.OutpRefIdeal.Value.run (F := Ideal) m' ρ')

end Cert.OutClaims
-- ==== Proof.SguSpec.lean ====
/- The spatial gating unit in plain terms: the activation, the norm of 256 columns, a group's mixing of 128 rows. -/
module

public import proofs.«01_k».proof.Proof.ERealMath
public import Idealize.ShloMosaic.Lib.Pointwise

@[expose] public section

set_option maxRecDepth 16384

noncomputable section

namespace Cert.SguSpec

open Idealize.ShloMosaic

/-- The activation's tanh, from its argument. -/
def th (x : EReal) : EReal :=
  Ideal.ofBits .f32 0x3F800000#32 + Ideal.tanh (Ideal.ofBits .f32 0x3F4C422A#32 * (x + Ideal.ofBits .f32 0x3D372713#32 * (x * x * x)))

/-- The activation. -/
def gelu (x : EReal) : EReal := x * (Ideal.ofBits .f32 0x3F000000#32 * th x)

/-- The activation as the kernel multiplies it out. -/
theorem gelu_eq (x : EReal) : Ideal.ofBits .f32 0x3F000000#32 * x * (Ideal.ofBits .f32 0x3F800000#32
    + Ideal.tanh (Ideal.ofBits .f32 0x3F4C422A#32 * (x + Ideal.ofBits .f32 0x3D372713#32 * x * x * x))) = gelu x := by
  unfold gelu th
  rw [mul_comm (Ideal.ofBits .f32 0x3F000000#32) x, mul_assoc x, mul_assoc (Ideal.ofBits .f32 0x3D372713#32 * x), mul_assoc (Ideal.ofBits .f32 0x3D372713#32),
    mul_assoc x x x]

/-- The mean of 256 columns. -/
def mean (x : Fin 256 → EReal) : EReal := Ideal.div (∑ k, x k) (Ideal.ofBits .f32 0x43800000#32)

/-- The mean of the squares of the columns less their mean. -/
def var (x : Fin 256 → EReal) : EReal := mean fun k => (x k - mean x) * (x k - mean x)

/-- The norm. -/
def ln (x g b : Fin 256 → EReal) (k : Fin 256) : EReal :=
  (x k - mean x) * Ideal.rsqrt (var x + Ideal.ofBits .f32 0x3727C5AC#32) * g k + b k

/-- A gated entry: the rows of its chunk mixed by its group's weights, the bias, the gate. -/
def ent (u b : EReal) (w v : Fin 128 → EReal) : EReal := u * ((∑ k, v k * w k) + b)

/-- Four terms of which one is kept. -/
theorem pick (b : EReal) (s : Fin 4 → EReal) (q : ℕ) (hq : q < 4) :
    b + (if q = 0 then s 0 else 0) + (if q = 1 then s 1 else 0) + (if q = 2 then s 2 else 0) + (if q = 3 then s 3 else 0) = s ⟨q, hq⟩ + b := by
  match q, hq with
  | 0, _ => simp [add_comm]
  | 1, _ => simp [add_comm]
  | 2, _ => simp [add_comm]
  | 3, _ => simp [add_comm]

end Cert.SguSpec
-- ==== Proof.SguRef.lean ====
/- The spatial gating unit's reference, read at an index. -/
module

public import proofs.«01_k».proof.Proof.Gen.SguRefIdeal.Run
public import proofs.«01_k».proof.Proof.SguSpec

@[expose] public section

set_option maxRecDepth 16384

noncomputable section

namespace Cert.SguRefIdeal.Val

open Cert.SguRefIdeal Cert.SguRefIdeal.Gen Idealize.ShloMosaic Idealize.ShloMosaic.TcCoe Idealize.SL.Sem

/-- The activation of every entry. -/
def act (x : FVec Ideal S65536x512 .f32) : FVec Ideal S65536x512 .f32 :=
  mulf x (mulf (broadcastInDim S65536x512 ![] bcast_S_S65536x512 (constant S_ .f32 0x3F000000#32))
    (addf (broadcastInDim S65536x512 ![] bcast_S_S65536x512 (constant S_ .f32 0x3F800000#32))
      (Host.tanh (mulf (broadcastInDim S65536x512 ![] bcast_S_S65536x512 (constant S_ .f32 0x3F4C422A#32))
        (addf x (mulf (broadcastInDim S65536x512 ![] bcast_S_S65536x512 (constant S_ .f32 0x3D372713#32)) (mulf (mulf x x) x)))))))

def wide (x : FVec Ideal S65536x512 .bf16) : FVec Ideal S65536x512 .f32 := extf .f32 x bitsLt_bf16_f32
def left (x : FVec Ideal S65536x512 .f32) : FVec Ideal S65536x256 .f32 := extractStridedSlice S65536x256 ![0, 0] x slices_S65536x512_S65536x256_0_0
def right (x : FVec Ideal S65536x512 .f32) : FVec Ideal S65536x256 .f32 := extractStridedSlice S65536x256 ![0, 256] x slices_S65536x512_S65536x256_0_256

/-- Each row's mean. -/
def mean1 (x : FVec Ideal S65536x256 .f32) : FVec Ideal S65536x1 .f32 :=
  Host.divf (broadcastInDim S65536x1 ![0] bcast_S65536_S65536x1_0 (Host.reduceAdd x (constant S_ .f32 0x00000000#32)
    reducesTo_S65536x256_S65536_d1 h_S_)) (broadcastInDim S65536x1 ![] bcast_S_S65536x1 (constant S_ .f32 0x43800000#32))

/-- Each row less its mean. -/
def cen (x : FVec Ideal S65536x256 .f32) : FVec Ideal S65536x256 .f32 :=
  subf x (broadcastInDim S65536x256 ![0, 1] bcast_S65536x1_S65536x256_0_1 (mean1 x))

/-- A vector as one row. -/
def row (g : FVec Ideal S256 .f32) : FVec Ideal S1x256 .f32 := broadcastInDim S1x256 ![1] bcast_S256_S1x256_1 g

/-- A vector laid along the rows. -/
def lay (g : FVec Ideal S256 .f32) : FVec Ideal S65536x256 .f32 :=
  broadcastInDim S65536x256 ![0, 1] bcast_S1x256_S65536x256_0_1 (row g)

/-- The normed rows. -/
def lnA (x : FVec Ideal S65536x256 .f32) (g b : FVec Ideal S256 .f32) : FVec Ideal S65536x256 .f32 :=
  addf (mulf (mulf (cen x) (broadcastInDim S65536x256 ![0, 1] bcast_S65536x1_S65536x256_0_1
    (Host.rsqrt (addf (mean1 (mulf (cen x) (cen x))) (broadcastInDim S65536x1 ![] bcast_S_S65536x1 (constant S_ .f32 0x3727C5AC#32))))))
    (lay g)) (lay b)

/-- Rows as chunks, columns as groups. -/
def chunks (v : FVec Ideal S65536x256 .f32) : FVec Ideal S512x128x4x64 .f32 := shapeCast S512x128x4x64 v shapeCasts_S65536x256_S512x128x4x64

/-- Each group's weights over each chunk's rows. -/
def dots (v : FVec Ideal S512x128x4x64 .f32) (w : FVec Ideal S4x128x128 .f32) : FVec Ideal S4x512x64x128 .f32 :=
  Host.dotGeneral dot_S512x128x4x64_S4x128x128_S4x512x64x128_1_2_03_1_2_0 none v w

/-- The mixed rows and the bias. -/
def mix (d : FVec Ideal S4x512x64x128 .f32) (b : FVec Ideal S4x128 .f32) : FVec Ideal S512x128x4x64 .f32 :=
  addf (transpose S512x128x4x64 [1, 3, 0, 2] d transposes_S4x512x64x128_S512x128x4x64_1_3_0_2)
    (broadcastInDim S512x128x4x64 ![0, 1, 2, 3] bcast_S1x128x4x1_S512x128x4x64_0_1_2_3
      (broadcastInDim S1x128x4x1 ![1, 2] bcast_S128x4_S1x128x4x1_1_2 (transpose S128x4 [1, 0] b transposes_S4x128_S128x4_1_0)))

/-- The gate. -/
def gate (u : FVec Ideal S65536x256 .f32) (y : FVec Ideal S512x128x4x64 .f32) : FVec Ideal S65536x256 .bf16 :=
  truncf .bf16 (mulf u (shapeCast S65536x256 y shapeCasts_S512x128x4x64_S65536x256)) bitsLt_bf16_f32

section
variable (m : (ℓ : Loc nD τ sig) → Buf (Elt Ideal) ℓ) (c : Dev nD)

theorem res_eq : Value.res_out0 m c = gate (left (act (wide (m ((c.tc : Thread nD τ).loc main_arg0)))))
    (mix (dots (chunks (lnA (right (act (wide (m ((c.tc : Thread nD τ).loc main_arg0))))) (m ((c.tc : Thread nD τ).loc main_arg1)) (m ((c.tc : Thread nD τ).loc main_arg2))))
      (m ((c.tc : Thread nD τ).loc main_arg3))) (m ((c.tc : Thread nD τ).loc main_arg4))) := rfl
end

theorem act_apply (x : FVec Ideal S65536x512 .bf16) (i : Fin 65536) (k : Fin 512) : act (wide x) (ix2 i k) = SguSpec.gelu (x (ix2 i k)) := by
  unfold act wide SguSpec.gelu SguSpec.th
  pointwise

theorem left_apply (x : FVec Ideal S65536x512 .f32) (i : Fin 65536) (k : Fin 256) : left x (ix2 i k) = x (ix2 i ⟨k, by omega⟩) := by
  unfold left
  pointwise

theorem right_apply (x : FVec Ideal S65536x512 .f32) (i : Fin 65536) (k : Fin 256) : right x (ix2 i k) = x (ix2 i ⟨256 + k, by omega⟩) := by
  unfold right
  pointwise

theorem mean1_apply (x : FVec Ideal S65536x256 .f32) (i : Fin 65536) : mean1 x (ix2 i 0) = SguSpec.mean fun k => x (ix2 i k) := by
  unfold mean1 SguSpec.mean
  pointwise

theorem cen_apply (x : FVec Ideal S65536x256 .f32) (i : Fin 65536) (k : Fin 256) :
    cen x (ix2 i k) = x (ix2 i k) - SguSpec.mean fun k => x (ix2 i k) := by
  rw [← mean1_apply]
  unfold cen
  generalize mean1 x = y
  pointwise

theorem lay_apply (g : FVec Ideal S256 .f32) (i : Fin 65536) (k : Fin 256) : lay g (ix2 i k) = g (ix1 k) := by
  have e : row g (ix2 0 k) = g (ix1 k) := by
    unfold row
    pointwise
  rw [← e]
  unfold lay
  generalize row g = y
  pointwise

theorem lnA_apply (x : FVec Ideal S65536x256 .f32) (g b : FVec Ideal S256 .f32) (i : Fin 65536) (k : Fin 256) :
    lnA x g b (ix2 i k) = SguSpec.ln (fun k => x (ix2 i k)) (fun k => g (ix1 k)) (fun k => b (ix1 k)) k := by
  have e : mean1 (mulf (cen x) (cen x)) (ix2 i 0) = SguSpec.var fun k => x (ix2 i k) := by
    rw [mean1_apply]
    unfold SguSpec.var
    refine congrArg SguSpec.mean (funext fun k => ?_)
    show cen x (ix2 i k) * cen x (ix2 i k) = _
    rw [cen_apply]
  unfold SguSpec.ln
  dsimp only
  rw [← e, ← cen_apply, ← lay_apply g i k, ← lay_apply b i k]
  unfold lnA
  generalize mean1 (mulf (cen x) (cen x)) = y
  generalize cen x = z
  generalize lay g = u
  generalize lay b = v
  pointwise

theorem chunks_apply (v : FVec Ideal S65536x256 .f32) (n : Fin 512) (r : Fin 128) (g : Fin 4) (d : Fin 64) :
    chunks v (ix4 n r g d) = v (ix2 ⟨128 * n + r, by omega⟩ ⟨64 * g + d, by omega⟩) := by
  unfold chunks
  pointwise
  exact congrArg₂ (fun i j => v (ix2 i j)) (Fin.ext (by show _ = 128 * n.val + r.val; dsimp only; omega)) (Fin.ext (by show _ = 64 * g.val + d.val; dsimp only; omega))

theorem dots_apply (v : FVec Ideal S512x128x4x64 .f32) (w : FVec Ideal S4x128x128 .f32) (g : Fin 4) (n : Fin 512) (d : Fin 64) (r : Fin 128) :
    dots v w (ix4 g n d r) = ∑ k : Fin 128, v (ix4 n k g d) * w (ix3 g r k) := by
  unfold dots
  pointwise

theorem mix_apply (d : FVec Ideal S4x512x64x128 .f32) (b : FVec Ideal S4x128 .f32) (n : Fin 512) (r : Fin 128) (g : Fin 4) (e : Fin 64) :
    mix d b (ix4 n r g e) = d (ix4 g n e r) + b (ix2 g r) := by
  unfold mix
  pointwise

theorem gate_apply (u : FVec Ideal S65536x256 .f32) (y : FVec Ideal S512x128x4x64 .f32) (i : Fin 65536) (j : Fin 256) :
    gate u y (ix2 i j) = u (ix2 i j) * y (ix4 ⟨i / 128, by omega⟩ ⟨i % 128, by omega⟩ ⟨j / 64, by omega⟩ ⟨j % 64, by omega⟩) := by
  unfold gate
  pointwise

/-- An entry of the reference's result. -/
theorem out_apply (x : FVec Ideal S65536x512 .bf16) (g b : FVec Ideal S256 .f32) (w : FVec Ideal S4x128x128 .f32) (bs : FVec Ideal S4x128 .f32)
    (i : Fin 65536) (j : Fin 256) :
    gate (left (act (wide x))) (mix (dots (chunks (lnA (right (act (wide x))) g b)) w) bs) (ix2 i j)
      = SguSpec.ent (SguSpec.gelu (x (ix2 i ⟨j, by omega⟩))) (bs (ix2 ⟨j / 64, by omega⟩ ⟨i % 128, by omega⟩))
        (fun k => w (ix3 ⟨j / 64, by omega⟩ ⟨i % 128, by omega⟩ k))
        (fun k => SguSpec.ln (fun l => SguSpec.gelu (x (ix2 ⟨128 * (i / 128) + k, by omega⟩ ⟨256 + l, by omega⟩))) (fun l => g (ix1 l)) (fun l => b (ix1 l)) j) := by
  have e : (⟨64 * (j.val / 64) + j.val % 64, by omega⟩ : Fin 256) = j := Fin.ext (by show 64 * (j.val / 64) + j.val % 64 = j.val; omega)
  unfold SguSpec.ent
  rw [gate_apply, mix_apply, dots_apply, left_apply, act_apply]
  refine congrArg (fun s => _ * (s + _)) (Finset.sum_congr rfl fun k _ => congrArg (· * _) ?_)
  rw [chunks_apply]
  dsimp only
  rw [e, lnA_apply]
  refine congrArg (fun r => SguSpec.ln r _ _ j) (funext fun l => ?_)
  rw [right_apply, act_apply]

end Cert.SguRefIdeal.Val
-- ==== Proof.SguPoint.lean ====
/- The spatial gating unit's body over the extended reals, read at an index. -/
module

public import proofs.«01_k».proof.Proof.Gen.SguIdeal.Value
public import proofs.«01_k».proof.Proof.SguSpec

@[expose] public section

set_option maxRecDepth 16384

noncomputable section

namespace Cert.SguIdeal.Val

open Cert.SguIdeal Cert.SguIdeal.Gen Idealize.ShloMosaic Idealize.ShloMosaic.TcCoe Idealize.SL.Sem

/-- Each row's mean. -/
def mean1 (x : FVec Ideal S512x256 .f32) : FVec Ideal S512x1 .f32 :=
  divf (shapeCast S512x1 (multiReduction .add [1] S512 x 0x00000000#32 reduces_S512x256_S512 (.inl rfl) rfl) shapeCasts_S512_S512x1)
    (broadcast S512x1 (Scalar.ofBits .f32 0x43800000#32))

/-- Each row less its mean. -/
def cen (x : FVec Ideal S512x256 .f32) : FVec Ideal S512x256 .f32 :=
  subf x (broadcastTo S512x256 (mean1 x) broadcasts_S512x1_S512x256)

/-- One row laid along the rows of the block. -/
def lay (g : FVec Ideal S1x256 .f32) : FVec Ideal S512x256 .f32 :=
  broadcastTo S512x256 (shapeCast S1x256 g shapeCasts_S1x256_S1x256) broadcasts_S1x256_S512x256

/-- The normed rows of a block. -/
def lnK (x : FVec Ideal S512x256 .f32) (g b : FVec Ideal S1x256 .f32) : FVec Ideal S512x256 .bf16 :=
  truncf .bf16 (addf (mulf (mulf (cen x) (broadcastTo S512x256 (rsqrt (addf (mean1 (mulf (cen x) (cen x)))
    (broadcast S512x1 (Scalar.ofBits .f32 0x3727C5AC#32)))) broadcasts_S512x1_S512x256)) (lay g)) (lay b)) bitsLt_bf16_f32

def left (x : FVec Ideal S512x512 .f32) : FVec Ideal S512x256 .f32 := extractStridedSlice S512x256 ![0, 0] x slices_S512x512_o0_0_S512x256
def right (x : FVec Ideal S512x512 .f32) : FVec Ideal S512x256 .f32 := extractStridedSlice S512x256 ![0, 256] x slices_S512x512_o0_256_S512x256

/-- The columns' groups. -/
def grp : IVec S128x256 32 := k0_pay4 (iota .tc S128x256 32 [1] iota_S128x256_d1_w32) 64#32

/-- One group's term: its weights over a chunk's rows in its columns, zero in the others. -/
def term (h : IVec S128x256 32) (n : BitVec 32) (w : FVec Ideal S1x128x128 .bf16) (v : FVec Ideal S128x256 .bf16) : FVec Ideal S128x256 .f32 :=
  select (cmpi .eq h (broadcast S128x256 n))
    (matmul dot_S128x128_S128x256_S128x256_1_0_0_1_n_n none (shapeCast S128x128 w shapeCasts_S1x128x128_S128x128) v (constant S128x256 .f32 0x00000000#32))
    (broadcast S128x256 (Scalar.ofBits .f32 0x00000000#32))

/-- A chunk's result. -/
def chunk (u : FVec Ideal S128x256 .f32) (v : FVec Ideal S128x256 .bf16) (b : FVec Ideal S128x256 .f32) (w0 w1 w2 w3 : FVec Ideal S1x128x128 .bf16) :
    FVec Ideal S128x256 .bf16 :=
  truncf .bf16 (mulf u (addf (addf (addf (addf (shapeCast S128x256 b shapeCasts_S128x256_S128x256) (term grp 0#32 w0 v)) (term grp 1#32 w1 v)) (term grp 2#32 w2 v))
    (term grp 3#32 w3 v))) bitsLt_bf16_f32

theorem pay2_eq (x : FVec Ideal S512x512 .bf16) : k0_pay2 (F := Ideal) x = left (k0_pay1 x) := rfl
theorem pay3_eq (x : FVec Ideal S512x512 .bf16) (g b : FVec Ideal S1x256 .f32) : k0_pay3 (F := Ideal) x g b = lnK (right (k0_pay1 x)) g b := rfl

theorem pay1_apply (x : FVec Ideal S512x512 .bf16) (i k : Fin 512) : k0_pay1 (F := Ideal) x (ix2 i k) = SguSpec.gelu (x (ix2 i k)) := by
  rw [← SguSpec.gelu_eq]
  unfold k0_pay1
  pointwise

theorem left_apply (x : FVec Ideal S512x512 .f32) (i : Fin 512) (k : Fin 256) : left x (ix2 i k) = x (ix2 i ⟨k, by omega⟩) := by
  unfold left
  pointwise

theorem right_apply (x : FVec Ideal S512x512 .f32) (i : Fin 512) (k : Fin 256) : right x (ix2 i k) = x (ix2 i ⟨256 + k, by omega⟩) := by
  unfold right
  pointwise

theorem mean1_apply (x : FVec Ideal S512x256 .f32) (i : Fin 512) : mean1 x (ix2 i 0) = SguSpec.mean fun k => x (ix2 i k) := by
  unfold mean1 SguSpec.mean
  pointwise

theorem cen_apply (x : FVec Ideal S512x256 .f32) (i : Fin 512) (k : Fin 256) :
    cen x (ix2 i k) = x (ix2 i k) - SguSpec.mean fun k => x (ix2 i k) := by
  rw [← mean1_apply]
  unfold cen
  generalize mean1 x = y
  pointwise

theorem lay_apply (g : FVec Ideal S1x256 .f32) (i : Fin 512) (k : Fin 256) : lay g (ix2 i k) = g (ix2 0 k) := by
  unfold lay
  pointwise

theorem lnK_apply (x : FVec Ideal S512x256 .f32) (g b : FVec Ideal S1x256 .f32) (i : Fin 512) (k : Fin 256) :
    lnK x g b (ix2 i k) = SguSpec.ln (fun k => x (ix2 i k)) (fun k => g (ix2 0 k)) (fun k => b (ix2 0 k)) k := by
  have e : mean1 (mulf (cen x) (cen x)) (ix2 i 0) = SguSpec.var fun k => x (ix2 i k) := by
    rw [mean1_apply]
    unfold SguSpec.var
    refine congrArg SguSpec.mean (funext fun k => ?_)
    show cen x (ix2 i k) * cen x (ix2 i k) = _
    rw [cen_apply]
  unfold SguSpec.ln
  dsimp only
  rw [← e, ← cen_apply, ← lay_apply g i k, ← lay_apply b i k]
  unfold lnK
  generalize mean1 (mulf (cen x) (cen x)) = y
  generalize cen x = z
  generalize lay g = u
  generalize lay b = v
  pointwise

theorem pay2_apply (x : FVec Ideal S512x512 .bf16) (i : Fin 512) (k : Fin 256) :
    k0_pay2 (F := Ideal) x (ix2 i k) = SguSpec.gelu (x (ix2 i ⟨k, by omega⟩)) := by
  rw [pay2_eq, left_apply, pay1_apply]

theorem pay3_apply (x : FVec Ideal S512x512 .bf16) (g b : FVec Ideal S1x256 .f32) (i : Fin 512) (j : Fin 256) :
    k0_pay3 (F := Ideal) x g b (ix2 i j)
      = SguSpec.ln (fun l => SguSpec.gelu (x (ix2 i ⟨256 + l, by omega⟩))) (fun k => g (ix2 0 k)) (fun k => b (ix2 0 k)) j := by
  rw [pay3_eq, lnK_apply]
  refine congrArg (fun r => SguSpec.ln r _ _ j) (funext fun l => ?_)
  rw [right_apply, pay1_apply]

theorem grp_apply (i : Fin 128) (j : Fin 256) : grp (ix2 i j) = BitVec.ofNat 32 (j / 64) := by
  unfold grp k0_pay4
  pointwise
  revert j
  decide +kernel

theorem term_apply (h : IVec S128x256 32) (n : BitVec 32) (w : FVec Ideal S1x128x128 .bf16) (v : FVec Ideal S128x256 .bf16) (i : Fin 128) (j : Fin 256) :
    term h n w v (ix2 i j) = if h (ix2 i j) = n then ∑ k : Fin 128, w (ix3 0 i k) * v (ix2 k j) else 0 := by
  have e : term h n w v (ix2 i j) = if IntOp.cmpi .eq (h (ix2 i j)) n = 1#1 then ∑ k : Fin 128, w (ix3 0 i k) * v (ix2 k j) else 0 := by
    unfold term
    pointwise
    rfl
  rw [e]
  by_cases hn : h (ix2 i j) = n
  · rw [if_pos hn, hn, if_pos (by simp [IntOp.cmpi])]
  · rw [if_neg hn, if_neg]
    rw [show IntOp.cmpi .eq (h (ix2 i j)) n = 0#1 from congrArg BitVec.ofBool (beq_eq_false_iff_ne.mpr hn)]
    decide

theorem word (j : Fin 256) (n : ℕ) (hn : n < 4) : (BitVec.ofNat 32 (j.val / 64) = BitVec.ofNat 32 n) ↔ j.val / 64 = n := by
  rw [← BitVec.toNat_inj, BitVec.toNat_ofNat, BitVec.toNat_ofNat, Nat.mod_eq_of_lt (by omega), Nat.mod_eq_of_lt (by omega)]

theorem chunk_apply (u : FVec Ideal S128x256 .f32) (v : FVec Ideal S128x256 .bf16) (b : FVec Ideal S128x256 .f32) (w : FVec Ideal S4x128x128 .bf16)
    (w0 w1 w2 w3 : FVec Ideal S1x128x128 .bf16) (h0 : ∀ i k, w0 (ix3 0 i k) = w (ix3 0 i k)) (h1 : ∀ i k, w1 (ix3 0 i k) = w (ix3 1 i k))
    (h2 : ∀ i k, w2 (ix3 0 i k) = w (ix3 2 i k)) (h3 : ∀ i k, w3 (ix3 0 i k) = w (ix3 3 i k)) (i : Fin 128) (j : Fin 256) :
    chunk u v b w0 w1 w2 w3 (ix2 i j)
      = SguSpec.ent (u (ix2 i j)) (b (ix2 i j)) (fun k => w (ix3 ⟨j / 64, by omega⟩ i k)) (fun k => v (ix2 k j)) := by
  have e : chunk u v b w0 w1 w2 w3 (ix2 i j)
      = u (ix2 i j) * (b (ix2 i j) + term grp 0#32 w0 v (ix2 i j) + term grp 1#32 w1 v (ix2 i j) + term grp 2#32 w2 v (ix2 i j) + term grp 3#32 w3 v (ix2 i j)) := by
    unfold chunk
    generalize term grp 0#32 w0 v = t0
    generalize term grp 1#32 w1 v = t1
    generalize term grp 2#32 w2 v = t2
    generalize term grp 3#32 w3 v = t3
    pointwise
  rw [e]
  simp only [term_apply, grp_apply, h0, h1, h2, h3]
  unfold SguSpec.ent
  have p := SguSpec.pick (b (ix2 i j)) (fun g => ∑ k : Fin 128, w (ix3 g i k) * v (ix2 k j)) (j.val / 64) (by omega)
  simp only [word j 0 (by omega), word j 1 (by omega), word j 2 (by omega), word j 3 (by omega)]
  rw [p]
  refine congrArg (fun s => _ * (s + _)) (Finset.sum_congr rfl fun k _ => mul_comm _ _)

end Cert.SguIdeal.Val
-- ==== Proof.SguWin.lean ====
/- The spatial gating unit's windows: the prepared arrays, what each window reads of them, what a grid point leaves in the
   output's block, and how the blocks cover the array. -/
module

public import proofs.«01_k».proof.Proof.SguPoint
public import Idealize.ShloMosaic.Lib.StableHlo.RunRead
public import Idealize.ShloMosaic.Lib.Pipeline.Value
public import Idealize.ShloMosaic.Lib.Pipeline.ValueKit.Basic

@[expose] public section

set_option maxRecDepth 16384

noncomputable section

namespace Cert.SguIdeal.Val

open Cert.SguIdeal Cert.SguIdeal.Gen Idealize.ShloMosaic Idealize.ShloMosaic.TcCoe Idealize.SL.Sem

variable (m : (ℓ : Loc nD τ sig) → Buf (Elt Ideal) ℓ) (ρ : Dev nD → PrngReg)

/-- A vector as one row. -/
def row (g : FVec Ideal S256 .f32) : FVec Ideal S1x256 .f32 := shapeCast S1x256 g shapeCasts_S256_S1x256

/-- The weights in the kernel's format. -/
def cast16 (w : FVec Ideal S4x128x128 .f32) : FVec Ideal S4x128x128 .bf16 := truncf .bf16 w bitsLt_bf16_f32

/-- Each group's bias along the group's columns. -/
def laid (b : FVec Ideal S4x128 .f32) : FVec Ideal S128x256 .f32 :=
  shapeCast S128x256 (broadcastInDim S128x4x64 ![0, 1] bcast_S128x4_S128x4x64_0_1 (transpose S128x4 [1, 0] b transposes_S4x128_S128x4_1_0))
    shapeCasts_S128x4x64_S128x256

theorem row_apply (g : FVec Ideal S256 .f32) (k : Fin 256) : row g (ix2 0 k) = g (ix1 k) := by
  unfold row
  pointwise

theorem cast16_apply (w : FVec Ideal S4x128x128 .f32) (g : Fin 4) (i k : Fin 128) : cast16 w (ix3 g i k) = w (ix3 g i k) := by
  unfold cast16
  pointwise

theorem laid_apply (b : FVec Ideal S4x128 .f32) (r : Fin 128) (j : Fin 256) : laid b (ix2 r j) = b (ix2 ⟨j / 64, by omega⟩ r) := by
  unfold laid
  pointwise

theorem V_g (c : Dev nD) : V m c main_v3 = row (m ((c : Thread nD τ).loc main_arg1)) := by
  unfold V
  after_reads_simp <;> rfl
theorem V_b (c : Dev nD) : V m c main_v4 = row (m ((c : Thread nD τ).loc main_arg2)) := by
  unfold V
  after_reads_simp <;> rfl
theorem V_w (c : Dev nD) : V m c main_v5 = cast16 (m ((c : Thread nD τ).loc main_arg3)) := by
  unfold V
  after_reads_simp <;> rfl
theorem V_bias (c : Dev nD) : V m c main_v2 = laid (m ((c : Thread nD τ).loc main_arg4)) := by
  unfold V
  after_reads_simp <;> rfl

theorem tlt (t : Fin cfg0.N) : t.val < 128 := N_0 ▸ t.isLt

/-- The row of the arrays that row `a` of point `t`'s block is. -/
def rt (t : Fin cfg0.N) (a : Fin 512) : Fin 65536 := ⟨512 * t + a, by have := tlt t; omega⟩

theorem hi0 : ∀ t : Fin cfg0.N, win0_0.index t 0 = t.val ∧ win0_0.index t 1 = 0 := by
  decide +kernel
theorem hi1 : ∀ t : Fin cfg0.N, win0_1.index t 0 = 0 ∧ win0_1.index t 1 = 0 := by
  decide +kernel
theorem hi2 : ∀ t : Fin cfg0.N, win0_2.index t 0 = 0 ∧ win0_2.index t 1 = 0 := by
  decide +kernel
theorem hi4 : ∀ t : Fin cfg0.N, win0_4.index t 0 = 0 ∧ win0_4.index t 1 = 0 := by
  decide +kernel
theorem hi5 : ∀ t : Fin cfg0.N, win0_5.index t 0 = t.val ∧ win0_5.index t 1 = 0 := by
  decide +kernel
theorem hi3 : ∀ t : Fin cfg0.N, win0_3.index t 0 = 0 ∧ win0_3.index t 1 = 0 ∧ win0_3.index t 2 = 0 := by
  decide +kernel

theorem blk0 (c : Dev nD) (t : Fin cfg0.N) (a : Fin 512) (k : Fin 512) :
    iblk m c 0 t (ix2 a k) = (m ((c : Thread nD τ).loc main_arg0) : FVec Ideal S65536x512 .bf16) (ix2 (rt t a) k) := by
  have hi := hi0 t
  rw [← V_main_arg0 m c]
  unfold iblk
  rw [View.read_apply]
  show V m c main_arg0 _ = V m c main_arg0 _
  congr 1
  funext x
  apply Fin.ext
  match x with
  | ⟨0, _⟩ => show win0_0.index t 0 * 512 + 1 * a.val = 512 * t.val + a.val; rw [hi.1]; omega
  | ⟨1, _⟩ => show win0_0.index t 1 * 512 + 1 * k.val = k.val; rw [hi.2]; omega

theorem blk1 (c : Dev nD) (t : Fin cfg0.N) (a : Fin 1) (k : Fin 256) :
    iblk m c 1 t (ix2 a k) = row (m ((c : Thread nD τ).loc main_arg1)) (ix2 a k) := by
  have hi := hi1 t
  rw [← V_g m c]
  unfold iblk
  rw [View.read_apply]
  show V m c main_v3 _ = V m c main_v3 _
  congr 1
  funext x
  apply Fin.ext
  match x with
  | ⟨0, _⟩ => show win0_1.index t 0 * 1 + 1 * a.val = a.val; rw [hi.1]; omega
  | ⟨1, _⟩ => show win0_1.index t 1 * 256 + 1 * k.val = k.val; rw [hi.2]; omega

theorem blk2 (c : Dev nD) (t : Fin cfg0.N) (a : Fin 1) (k : Fin 256) :
    iblk m c 2 t (ix2 a k) = row (m ((c : Thread nD τ).loc main_arg2)) (ix2 a k) := by
  have hi := hi2 t
  rw [← V_b m c]
  unfold iblk
  rw [View.read_apply]
  show V m c main_v4 _ = V m c main_v4 _
  congr 1
  funext x
  apply Fin.ext
  match x with
  | ⟨0, _⟩ => show win0_2.index t 0 * 1 + 1 * a.val = a.val; rw [hi.1]; omega
  | ⟨1, _⟩ => show win0_2.index t 1 * 256 + 1 * k.val = k.val; rw [hi.2]; omega

theorem blk4 (c : Dev nD) (t : Fin cfg0.N) (a : Fin 128) (k : Fin 256) :
    iblk m c 4 t (ix2 a k) = laid (m ((c : Thread nD τ).loc main_arg4)) (ix2 a k) := by
  have hi := hi4 t
  rw [← V_bias m c]
  unfold iblk
  rw [View.read_apply]
  show V m c main_v2 _ = V m c main_v2 _
  congr 1
  funext x
  apply Fin.ext
  match x with
  | ⟨0, _⟩ => show win0_4.index t 0 * 128 + 1 * a.val = a.val; rw [hi.1]; omega
  | ⟨1, _⟩ => show win0_4.index t 1 * 256 + 1 * k.val = k.val; rw [hi.2]; omega

theorem blk3 (c : Dev nD) (t : Fin cfg0.N) (g : Fin 4) (a k : Fin 128) :
    iblk m c 3 t (ix3 g a k) = cast16 (m ((c : Thread nD τ).loc main_arg3)) (ix3 g a k) := by
  have hi := hi3 t
  rw [← V_w m c]
  unfold iblk
  rw [View.read_apply]
  show V m c main_v5 _ = V m c main_v5 _
  congr 1
  funext x
  apply Fin.ext
  match x with
  | ⟨0, _⟩ => show win0_3.index t 0 * 4 + 1 * g.val = g.val; rw [hi.1]; omega
  | ⟨1, _⟩ => show win0_3.index t 1 * 128 + 1 * a.val = a.val; rw [hi.2.1]; omega
  | ⟨2, _⟩ => show win0_3.index t 2 * 128 + 1 * k.val = k.val; rw [hi.2.2]; omega

theorem ld0 (x : FVec Ideal S512x512 .bf16) : View.ld (Val := Elt Ideal) (e' := .bf16) x r0_0 = x := View.ld_unit_lit _ _ (by decide)
theorem ld1 (x : FVec Ideal S1x256 .f32) : View.ld (Val := Elt Ideal) (e' := .f32) x r0_1 = x := View.ld_unit_lit _ _ (by decide)
theorem ld2 (x : FVec Ideal S128x256 .f32) : View.ld (Val := Elt Ideal) (e' := .f32) x r0_2 = x := View.ld_unit_lit _ _ (by decide)
theorem ldw0 (w : FVec Ideal S4x128x128 .bf16) (i k : Fin 128) : View.ld (Val := Elt Ideal) (e' := .bf16) w r0_3 (ix3 0 i k) = w (ix3 0 i k) := by
  show w _ = w _
  refine congrArg w (funext fun x => Fin.ext ?_)
  match x with
  | ⟨0, _⟩ => show 0 + 1 * 0 = 0; omega
  | ⟨1, _⟩ => show 0 + 1 * i.val = i.val; omega
  | ⟨2, _⟩ => show 0 + 1 * k.val = k.val; omega
theorem ldw1 (w : FVec Ideal S4x128x128 .bf16) (i k : Fin 128) : View.ld (Val := Elt Ideal) (e' := .bf16) w r0_4 (ix3 0 i k) = w (ix3 1 i k) := by
  show w _ = w _
  refine congrArg w (funext fun x => Fin.ext ?_)
  match x with
  | ⟨0, _⟩ => show 1 + 1 * 0 = 1; omega
  | ⟨1, _⟩ => show 0 + 1 * i.val = i.val; omega
  | ⟨2, _⟩ => show 0 + 1 * k.val = k.val; omega
theorem ldw2 (w : FVec Ideal S4x128x128 .bf16) (i k : Fin 128) : View.ld (Val := Elt Ideal) (e' := .bf16) w r0_5 (ix3 0 i k) = w (ix3 2 i k) := by
  show w _ = w _
  refine congrArg w (funext fun x => Fin.ext ?_)
  match x with
  | ⟨0, _⟩ => show 2 + 1 * 0 = 2; omega
  | ⟨1, _⟩ => show 0 + 1 * i.val = i.val; omega
  | ⟨2, _⟩ => show 0 + 1 * k.val = k.val; omega
theorem ldw3 (w : FVec Ideal S4x128x128 .bf16) (i k : Fin 128) : View.ld (Val := Elt Ideal) (e' := .bf16) w r0_6 (ix3 0 i k) = w (ix3 3 i k) := by
  show w _ = w _
  refine congrArg w (funext fun x => Fin.ext ?_)
  match x with
  | ⟨0, _⟩ => show 3 + 1 * 0 = 3; omega
  | ⟨1, _⟩ => show 0 + 1 * i.val = i.val; omega
  | ⟨2, _⟩ => show 0 + 1 * k.val = k.val; omega

def sl0 (v : FVec Ideal S512x256 .bf16) : FVec Ideal S128x256 .bf16 := extractStridedSlice S128x256 ![0, 0] v slices_S512x256_o0_0_S128x256
def su0 (v : FVec Ideal S512x256 .f32) : FVec Ideal S128x256 .f32 := extractStridedSlice S128x256 ![0, 0] v slices_S512x256_o0_0_S128x256
theorem sl0_apply (v : FVec Ideal S512x256 .bf16) (r : Fin 128) (j : Fin 256) : sl0 v (ix2 r j) = v (ix2 ⟨0 + r, by omega⟩ j) := by
  unfold sl0
  pointwise
theorem su0_apply (v : FVec Ideal S512x256 .f32) (r : Fin 128) (j : Fin 256) : su0 v (ix2 r j) = v (ix2 ⟨0 + r, by omega⟩ j) := by
  unfold su0
  pointwise

def sl1 (v : FVec Ideal S512x256 .bf16) : FVec Ideal S128x256 .bf16 := extractStridedSlice S128x256 ![128, 0] v slices_S512x256_o128_0_S128x256
def su1 (v : FVec Ideal S512x256 .f32) : FVec Ideal S128x256 .f32 := extractStridedSlice S128x256 ![128, 0] v slices_S512x256_o128_0_S128x256
theorem sl1_apply (v : FVec Ideal S512x256 .bf16) (r : Fin 128) (j : Fin 256) : sl1 v (ix2 r j) = v (ix2 ⟨128 + r, by omega⟩ j) := by
  unfold sl1
  pointwise
theorem su1_apply (v : FVec Ideal S512x256 .f32) (r : Fin 128) (j : Fin 256) : su1 v (ix2 r j) = v (ix2 ⟨128 + r, by omega⟩ j) := by
  unfold su1
  pointwise

def sl2 (v : FVec Ideal S512x256 .bf16) : FVec Ideal S128x256 .bf16 := extractStridedSlice S128x256 ![256, 0] v slices_S512x256_o256_0_S128x256
def su2 (v : FVec Ideal S512x256 .f32) : FVec Ideal S128x256 .f32 := extractStridedSlice S128x256 ![256, 0] v slices_S512x256_o256_0_S128x256
theorem sl2_apply (v : FVec Ideal S512x256 .bf16) (r : Fin 128) (j : Fin 256) : sl2 v (ix2 r j) = v (ix2 ⟨256 + r, by omega⟩ j) := by
  unfold sl2
  pointwise
theorem su2_apply (v : FVec Ideal S512x256 .f32) (r : Fin 128) (j : Fin 256) : su2 v (ix2 r j) = v (ix2 ⟨256 + r, by omega⟩ j) := by
  unfold su2
  pointwise

def sl3 (v : FVec Ideal S512x256 .bf16) : FVec Ideal S128x256 .bf16 := extractStridedSlice S128x256 ![384, 0] v slices_S512x256_o384_0_S128x256
def su3 (v : FVec Ideal S512x256 .f32) : FVec Ideal S128x256 .f32 := extractStridedSlice S128x256 ![384, 0] v slices_S512x256_o384_0_S128x256
theorem sl3_apply (v : FVec Ideal S512x256 .bf16) (r : Fin 128) (j : Fin 256) : sl3 v (ix2 r j) = v (ix2 ⟨384 + r, by omega⟩ j) := by
  unfold sl3
  pointwise
theorem su3_apply (v : FVec Ideal S512x256 .f32) (r : Fin 128) (j : Fin 256) : su3 v (ix2 r j) = v (ix2 ⟨384 + r, by omega⟩ j) := by
  unfold su3
  pointwise

section
variable (x0 : FVec Ideal S512x512 .bf16) (x1 x2 : FVec Ideal S1x256 .f32) (x3 : FVec Ideal S4x128x128 .bf16) (x4 : FVec Ideal S128x256 .f32)

/-- An entry of what a grid point leaves. -/
def bE (a : Fin 512) (j : Fin 256) : EReal :=
  SguSpec.ent (SguSpec.gelu (x0 (ix2 a ⟨j, by omega⟩))) (x4 (ix2 ⟨a % 128, by omega⟩ j)) (fun k => x3 (ix3 ⟨j / 64, by omega⟩ ⟨a % 128, by omega⟩ k))
    (fun k => SguSpec.ln (fun l => SguSpec.gelu (x0 (ix2 ⟨128 * (a / 128) + k, by omega⟩ ⟨256 + l, by omega⟩))) (fun k => x1 (ix2 0 k)) (fun k => x2 (ix2 0 k)) j)

/-- What a grid point leaves. -/
def B : FVec Ideal S512x256 .bf16 := fun i => bE x0 x1 x2 x3 x4 ⟨(i 0).val, (i 0).isLt⟩ ⟨(i 1).val, (i 1).isLt⟩

theorem part0 (r : Fin 128) (j : Fin 256) : (k0_pay9 (F := Ideal) (k0_pay23 (F := Ideal) x0 x1 x2 x3 x4) (k0_pay25 (F := Ideal) x0 x1 x2 x3 x4) (k0_pay5 (F := Ideal) (k0_pay24 (F := Ideal) x0 x1 x2 x3 x4)) (k0_pay6 (F := Ideal) (k0_pay24 (F := Ideal) x0 x1 x2 x3 x4) (k0_pay22 (F := Ideal) x0 x1 x2 x3 x4) 64#32 (View.ld (Val := Elt Ideal) (e' := .f32) x4 r0_2) (View.ld (Val := Elt Ideal) (e' := .bf16) x3 r0_3)) (k0_pay7 (k0_pay22 (F := Ideal) x0 x1 x2 x3 x4) 64#32) (k0_pay8 (F := Ideal) (k0_pay24 (F := Ideal) x0 x1 x2 x3 x4) (View.ld (Val := Elt Ideal) (e' := .bf16) x3 r0_4)) (Scalar.ofBits (F := Ideal) .f32 0x00000000#32) (View.ld (Val := Elt Ideal) (e' := .bf16) x3 r0_5) (View.ld (Val := Elt Ideal) (e' := .bf16) x3 r0_6) : FVec Ideal S128x256 .bf16) (ix2 r j)
    = bE x0 x1 x2 x3 x4 ⟨0 + r, by omega⟩ j := by
  refine Eq.trans (show _ = chunk (su0 (k0_pay2 (View.ld (Val := Elt Ideal) (e' := .bf16) x0 r0_0))) (sl0 (k0_pay3 (View.ld (Val := Elt Ideal) (e' := .bf16) x0 r0_0) (View.ld (Val := Elt Ideal) (e' := .f32) x1 r0_1) (View.ld (Val := Elt Ideal) (e' := .f32) x2 r0_1))) (View.ld (Val := Elt Ideal) (e' := .f32) x4 r0_2)
    (View.ld (Val := Elt Ideal) (e' := .bf16) x3 r0_3) (View.ld (Val := Elt Ideal) (e' := .bf16) x3 r0_4) (View.ld (Val := Elt Ideal) (e' := .bf16) x3 r0_5)
    (View.ld (Val := Elt Ideal) (e' := .bf16) x3 r0_6) (ix2 r j) from rfl) ?_
  rw [chunk_apply _ _ _ x3 _ _ _ _ (ldw0 x3) (ldw1 x3) (ldw2 x3) (ldw3 x3), su0_apply, ld0, ld1, ld1, ld2, pay2_apply]
  simp only [sl0_apply, pay3_apply]
  unfold bE
  have e1 : (⟨(0 + r.val) % 128, by omega⟩ : Fin 128) = r := Fin.ext (by show (0 + r.val) % 128 = r.val; omega)
  have e2 : ∀ k : Fin 128, (⟨128 * ((0 + r.val) / 128) + k.val, by omega⟩ : Fin 512) = ⟨0 + k.val, by omega⟩ := fun k =>
    Fin.ext (by show 128 * ((0 + r.val) / 128) + k.val = 0 + k.val; omega)
  simp only [e1, e2]

theorem piece0 (y : S128x256.Idx) : (k0_pay9 (F := Ideal) (k0_pay23 (F := Ideal) x0 x1 x2 x3 x4) (k0_pay25 (F := Ideal) x0 x1 x2 x3 x4) (k0_pay5 (F := Ideal) (k0_pay24 (F := Ideal) x0 x1 x2 x3 x4)) (k0_pay6 (F := Ideal) (k0_pay24 (F := Ideal) x0 x1 x2 x3 x4) (k0_pay22 (F := Ideal) x0 x1 x2 x3 x4) 64#32 (View.ld (Val := Elt Ideal) (e' := .f32) x4 r0_2) (View.ld (Val := Elt Ideal) (e' := .bf16) x3 r0_3)) (k0_pay7 (k0_pay22 (F := Ideal) x0 x1 x2 x3 x4) 64#32) (k0_pay8 (F := Ideal) (k0_pay24 (F := Ideal) x0 x1 x2 x3 x4) (View.ld (Val := Elt Ideal) (e' := .bf16) x3 r0_4)) (Scalar.ofBits (F := Ideal) .f32 0x00000000#32) (View.ld (Val := Elt Ideal) (e' := .bf16) x3 r0_5) (View.ld (Val := Elt Ideal) (e' := .bf16) x3 r0_6) : FVec Ideal S128x256 .bf16) y = B x0 x1 x2 x3 x4 (r0_7.emb y) := by
  have h0 : (y 0).val < 128 := (y 0).isLt
  have h1 : (y 1).val < 256 := (y 1).isLt
  have ey : y = ix2 ⟨(y 0).val, h0⟩ ⟨(y 1).val, h1⟩ := funext fun x => match x with
    | ⟨0, _⟩ => rfl
    | ⟨1, _⟩ => rfl
  have eB : B x0 x1 x2 x3 x4 (r0_7.emb y) = bE x0 x1 x2 x3 x4 ⟨0 + (y 0).val, by omega⟩ ⟨(y 1).val, h1⟩ :=
    congrArg₂ (bE x0 x1 x2 x3 x4) (Fin.ext (by show 0 + 1 * (y 0).val = 0 + (y 0).val; omega)) (Fin.ext (by show 0 + 1 * (y 1).val = (y 1).val; omega))
  exact (congrArg _ ey).trans ((part0 x0 x1 x2 x3 x4 _ _).trans eB.symm)

theorem part1 (r : Fin 128) (j : Fin 256) : (k0_pay13 (F := Ideal) (k0_pay23 (F := Ideal) x0 x1 x2 x3 x4) (k0_pay25 (F := Ideal) x0 x1 x2 x3 x4) (k0_pay10 (F := Ideal) (k0_pay24 (F := Ideal) x0 x1 x2 x3 x4)) (k0_pay11 (F := Ideal) (k0_pay24 (F := Ideal) x0 x1 x2 x3 x4) (k0_pay25 (F := Ideal) x0 x1 x2 x3 x4) (View.ld (Val := Elt Ideal) (e' := .f32) x4 r0_2) (View.ld (Val := Elt Ideal) (e' := .bf16) x3 r0_3)) (k0_pay12 (k0_pay25 (F := Ideal) x0 x1 x2 x3 x4)) (View.ld (Val := Elt Ideal) (e' := .bf16) x3 r0_4) (View.ld (Val := Elt Ideal) (e' := .bf16) x3 r0_5) (View.ld (Val := Elt Ideal) (e' := .bf16) x3 r0_6) : FVec Ideal S128x256 .bf16) (ix2 r j)
    = bE x0 x1 x2 x3 x4 ⟨128 + r, by omega⟩ j := by
  refine Eq.trans (show _ = chunk (su1 (k0_pay2 (View.ld (Val := Elt Ideal) (e' := .bf16) x0 r0_0))) (sl1 (k0_pay3 (View.ld (Val := Elt Ideal) (e' := .bf16) x0 r0_0) (View.ld (Val := Elt Ideal) (e' := .f32) x1 r0_1) (View.ld (Val := Elt Ideal) (e' := .f32) x2 r0_1))) (View.ld (Val := Elt Ideal) (e' := .f32) x4 r0_2)
    (View.ld (Val := Elt Ideal) (e' := .bf16) x3 r0_3) (View.ld (Val := Elt Ideal) (e' := .bf16) x3 r0_4) (View.ld (Val := Elt Ideal) (e' := .bf16) x3 r0_5)
    (View.ld (Val := Elt Ideal) (e' := .bf16) x3 r0_6) (ix2 r j) from rfl) ?_
  rw [chunk_apply _ _ _ x3 _ _ _ _ (ldw0 x3) (ldw1 x3) (ldw2 x3) (ldw3 x3), su1_apply, ld0, ld1, ld1, ld2, pay2_apply]
  simp only [sl1_apply, pay3_apply]
  unfold bE
  have e1 : (⟨(128 + r.val) % 128, by omega⟩ : Fin 128) = r := Fin.ext (by show (128 + r.val) % 128 = r.val; omega)
  have e2 : ∀ k : Fin 128, (⟨128 * ((128 + r.val) / 128) + k.val, by omega⟩ : Fin 512) = ⟨128 + k.val, by omega⟩ := fun k =>
    Fin.ext (by show 128 * ((128 + r.val) / 128) + k.val = 128 + k.val; omega)
  simp only [e1, e2]

theorem piece1 (y : S128x256.Idx) : (k0_pay13 (F := Ideal) (k0_pay23 (F := Ideal) x0 x1 x2 x3 x4) (k0_pay25 (F := Ideal) x0 x1 x2 x3 x4) (k0_pay10 (F := Ideal) (k0_pay24 (F := Ideal) x0 x1 x2 x3 x4)) (k0_pay11 (F := Ideal) (k0_pay24 (F := Ideal) x0 x1 x2 x3 x4) (k0_pay25 (F := Ideal) x0 x1 x2 x3 x4) (View.ld (Val := Elt Ideal) (e' := .f32) x4 r0_2) (View.ld (Val := Elt Ideal) (e' := .bf16) x3 r0_3)) (k0_pay12 (k0_pay25 (F := Ideal) x0 x1 x2 x3 x4)) (View.ld (Val := Elt Ideal) (e' := .bf16) x3 r0_4) (View.ld (Val := Elt Ideal) (e' := .bf16) x3 r0_5) (View.ld (Val := Elt Ideal) (e' := .bf16) x3 r0_6) : FVec Ideal S128x256 .bf16) y = B x0 x1 x2 x3 x4 (r0_8.emb y) := by
  have h0 : (y 0).val < 128 := (y 0).isLt
  have h1 : (y 1).val < 256 := (y 1).isLt
  have ey : y = ix2 ⟨(y 0).val, h0⟩ ⟨(y 1).val, h1⟩ := funext fun x => match x with
    | ⟨0, _⟩ => rfl
    | ⟨1, _⟩ => rfl
  have eB : B x0 x1 x2 x3 x4 (r0_8.emb y) = bE x0 x1 x2 x3 x4 ⟨128 + (y 0).val, by omega⟩ ⟨(y 1).val, h1⟩ :=
    congrArg₂ (bE x0 x1 x2 x3 x4) (Fin.ext (by show 128 + 1 * (y 0).val = 128 + (y 0).val; omega)) (Fin.ext (by show 0 + 1 * (y 1).val = (y 1).val; omega))
  exact (congrArg _ ey).trans ((part1 x0 x1 x2 x3 x4 _ _).trans eB.symm)

theorem part2 (r : Fin 128) (j : Fin 256) : (k0_pay18 (F := Ideal) (k0_pay23 (F := Ideal) x0 x1 x2 x3 x4) (k0_pay25 (F := Ideal) x0 x1 x2 x3 x4) (k0_pay14 (F := Ideal) (k0_pay24 (F := Ideal) x0 x1 x2 x3 x4)) (k0_pay15 (F := Ideal) (View.ld (Val := Elt Ideal) (e' := .f32) x4 r0_2)) (k0_pay16 (k0_pay25 (F := Ideal) x0 x1 x2 x3 x4)) (k0_pay17 (F := Ideal) (View.ld (Val := Elt Ideal) (e' := .bf16) x3 r0_3)) (constant (F := Ideal) S128x256 .f32 0x00000000#32) (View.ld (Val := Elt Ideal) (e' := .bf16) x3 r0_4) (View.ld (Val := Elt Ideal) (e' := .bf16) x3 r0_5) (View.ld (Val := Elt Ideal) (e' := .bf16) x3 r0_6) : FVec Ideal S128x256 .bf16) (ix2 r j)
    = bE x0 x1 x2 x3 x4 ⟨256 + r, by omega⟩ j := by
  refine Eq.trans (show _ = chunk (su2 (k0_pay2 (View.ld (Val := Elt Ideal) (e' := .bf16) x0 r0_0))) (sl2 (k0_pay3 (View.ld (Val := Elt Ideal) (e' := .bf16) x0 r0_0) (View.ld (Val := Elt Ideal) (e' := .f32) x1 r0_1) (View.ld (Val := Elt Ideal) (e' := .f32) x2 r0_1))) (View.ld (Val := Elt Ideal) (e' := .f32) x4 r0_2)
    (View.ld (Val := Elt Ideal) (e' := .bf16) x3 r0_3) (View.ld (Val := Elt Ideal) (e' := .bf16) x3 r0_4) (View.ld (Val := Elt Ideal) (e' := .bf16) x3 r0_5)
    (View.ld (Val := Elt Ideal) (e' := .bf16) x3 r0_6) (ix2 r j) from rfl) ?_
  rw [chunk_apply _ _ _ x3 _ _ _ _ (ldw0 x3) (ldw1 x3) (ldw2 x3) (ldw3 x3), su2_apply, ld0, ld1, ld1, ld2, pay2_apply]
  simp only [sl2_apply, pay3_apply]
  unfold bE
  have e1 : (⟨(256 + r.val) % 128, by omega⟩ : Fin 128) = r := Fin.ext (by show (256 + r.val) % 128 = r.val; omega)
  have e2 : ∀ k : Fin 128, (⟨128 * ((256 + r.val) / 128) + k.val, by omega⟩ : Fin 512) = ⟨256 + k.val, by omega⟩ := fun k =>
    Fin.ext (by show 128 * ((256 + r.val) / 128) + k.val = 256 + k.val; omega)
  simp only [e1, e2]

theorem piece2 (y : S128x256.Idx) : (k0_pay18 (F := Ideal) (k0_pay23 (F := Ideal) x0 x1 x2 x3 x4) (k0_pay25 (F := Ideal) x0 x1 x2 x3 x4) (k0_pay14 (F := Ideal) (k0_pay24 (F := Ideal) x0 x1 x2 x3 x4)) (k0_pay15 (F := Ideal) (View.ld (Val := Elt Ideal) (e' := .f32) x4 r0_2)) (k0_pay16 (k0_pay25 (F := Ideal) x0 x1 x2 x3 x4)) (k0_pay17 (F := Ideal) (View.ld (Val := Elt Ideal) (e' := .bf16) x3 r0_3)) (constant (F := Ideal) S128x256 .f32 0x00000000#32) (View.ld (Val := Elt Ideal) (e' := .bf16) x3 r0_4) (View.ld (Val := Elt Ideal) (e' := .bf16) x3 r0_5) (View.ld (Val := Elt Ideal) (e' := .bf16) x3 r0_6) : FVec Ideal S128x256 .bf16) y = B x0 x1 x2 x3 x4 (r0_9.emb y) := by
  have h0 : (y 0).val < 128 := (y 0).isLt
  have h1 : (y 1).val < 256 := (y 1).isLt
  have ey : y = ix2 ⟨(y 0).val, h0⟩ ⟨(y 1).val, h1⟩ := funext fun x => match x with
    | ⟨0, _⟩ => rfl
    | ⟨1, _⟩ => rfl
  have eB : B x0 x1 x2 x3 x4 (r0_9.emb y) = bE x0 x1 x2 x3 x4 ⟨256 + (y 0).val, by omega⟩ ⟨(y 1).val, h1⟩ :=
    congrArg₂ (bE x0 x1 x2 x3 x4) (Fin.ext (by show 256 + 1 * (y 0).val = 256 + (y 0).val; omega)) (Fin.ext (by show 0 + 1 * (y 1).val = (y 1).val; omega))
  exact (congrArg _ ey).trans ((part2 x0 x1 x2 x3 x4 _ _).trans eB.symm)

theorem part3 (r : Fin 128) (j : Fin 256) : (k0_pay21 (F := Ideal) (k0_pay23 (F := Ideal) x0 x1 x2 x3 x4) (k0_pay25 (F := Ideal) x0 x1 x2 x3 x4) (k0_pay19 (F := Ideal) (k0_pay24 (F := Ideal) x0 x1 x2 x3 x4)) (k0_pay20 (F := Ideal) (View.ld (Val := Elt Ideal) (e' := .f32) x4 r0_2)) 0#32 (View.ld (Val := Elt Ideal) (e' := .bf16) x3 r0_3) (View.ld (Val := Elt Ideal) (e' := .bf16) x3 r0_4) (View.ld (Val := Elt Ideal) (e' := .bf16) x3 r0_5) (View.ld (Val := Elt Ideal) (e' := .bf16) x3 r0_6) : FVec Ideal S128x256 .bf16) (ix2 r j)
    = bE x0 x1 x2 x3 x4 ⟨384 + r, by omega⟩ j := by
  refine Eq.trans (show _ = chunk (su3 (k0_pay2 (View.ld (Val := Elt Ideal) (e' := .bf16) x0 r0_0))) (sl3 (k0_pay3 (View.ld (Val := Elt Ideal) (e' := .bf16) x0 r0_0) (View.ld (Val := Elt Ideal) (e' := .f32) x1 r0_1) (View.ld (Val := Elt Ideal) (e' := .f32) x2 r0_1))) (View.ld (Val := Elt Ideal) (e' := .f32) x4 r0_2)
    (View.ld (Val := Elt Ideal) (e' := .bf16) x3 r0_3) (View.ld (Val := Elt Ideal) (e' := .bf16) x3 r0_4) (View.ld (Val := Elt Ideal) (e' := .bf16) x3 r0_5)
    (View.ld (Val := Elt Ideal) (e' := .bf16) x3 r0_6) (ix2 r j) from rfl) ?_
  rw [chunk_apply _ _ _ x3 _ _ _ _ (ldw0 x3) (ldw1 x3) (ldw2 x3) (ldw3 x3), su3_apply, ld0, ld1, ld1, ld2, pay2_apply]
  simp only [sl3_apply, pay3_apply]
  unfold bE
  have e1 : (⟨(384 + r.val) % 128, by omega⟩ : Fin 128) = r := Fin.ext (by show (384 + r.val) % 128 = r.val; omega)
  have e2 : ∀ k : Fin 128, (⟨128 * ((384 + r.val) / 128) + k.val, by omega⟩ : Fin 512) = ⟨384 + k.val, by omega⟩ := fun k =>
    Fin.ext (by show 128 * ((384 + r.val) / 128) + k.val = 384 + k.val; omega)
  simp only [e1, e2]

theorem piece3 (y : S128x256.Idx) : (k0_pay21 (F := Ideal) (k0_pay23 (F := Ideal) x0 x1 x2 x3 x4) (k0_pay25 (F := Ideal) x0 x1 x2 x3 x4) (k0_pay19 (F := Ideal) (k0_pay24 (F := Ideal) x0 x1 x2 x3 x4)) (k0_pay20 (F := Ideal) (View.ld (Val := Elt Ideal) (e' := .f32) x4 r0_2)) 0#32 (View.ld (Val := Elt Ideal) (e' := .bf16) x3 r0_3) (View.ld (Val := Elt Ideal) (e' := .bf16) x3 r0_4) (View.ld (Val := Elt Ideal) (e' := .bf16) x3 r0_5) (View.ld (Val := Elt Ideal) (e' := .bf16) x3 r0_6) : FVec Ideal S128x256 .bf16) y = B x0 x1 x2 x3 x4 (r0_10.emb y) := by
  have h0 : (y 0).val < 128 := (y 0).isLt
  have h1 : (y 1).val < 256 := (y 1).isLt
  have ey : y = ix2 ⟨(y 0).val, h0⟩ ⟨(y 1).val, h1⟩ := funext fun x => match x with
    | ⟨0, _⟩ => rfl
    | ⟨1, _⟩ => rfl
  have eB : B x0 x1 x2 x3 x4 (r0_10.emb y) = bE x0 x1 x2 x3 x4 ⟨384 + (y 0).val, by omega⟩ ⟨(y 1).val, h1⟩ :=
    congrArg₂ (bE x0 x1 x2 x3 x4) (Fin.ext (by show 384 + 1 * (y 0).val = 384 + (y 0).val; omega)) (Fin.ext (by show 0 + 1 * (y 1).val = (y 1).val; omega))
  exact (congrArg _ ey).trans ((part3 x0 x1 x2 x3 x4 _ _).trans eB.symm)

theorem out5_eq : out0_5 (F := Ideal) x0 x1 x2 x3 x4 = B x0 x1 x2 x3 x4 := by
  funext y
  unfold out0_5
  refine View.canon_apply_of_pieces (Val := Elt Ideal) (B x0 x1 x2 x3 x4) _ ?_ y (cover0_5 _ _ _ _ y)
  intro p hp
  simp only [List.mem_cons, List.not_mem_nil, or_false] at hp
  rcases hp with rfl | rfl | rfl | rfl
  · exact piece3 x0 x1 x2 x3 x4
  · exact piece2 x0 x1 x2 x3 x4
  · exact piece1 x0 x1 x2 x3 x4
  · exact piece0 x0 x1 x2 x3 x4
end

theorem hx5 : ∀ t : Fin cfg0.N, win0_5.xsize (grid0.coords t) 0 = 512 ∧ win0_5.xsize (grid0.coords t) 1 = 256 := by
  decide +kernel

theorem mem_blk5 (t : Fin cfg0.N) (i : S65536x256.Idx) (ha : 512 * t.val ≤ (i 0).val) (hb : (i 0).val < 512 * t.val + 512) :
    i ∈ ((cfg0.win 5).blk t).view.set := by
  show i ∈ ((View.whole main_v6).slice (win0_5.rect t)).set
  rw [View.set_slice_whole, Rect.mem_set_unit]
  have h1 : (i 1).val < 256 := (i 1).isLt
  have hi := hi5 t
  have hx := hx5 t
  intro a
  match a with
  | ⟨0, _⟩ => show win0_5.index t 0 * 512 ≤ (i 0).val ∧ (i 0).val < win0_5.index t 0 * 512 + win0_5.xsize (grid0.coords t) 0
              rw [hi.1, hx.1]; omega
  | ⟨1, _⟩ => show win0_5.index t 1 * 256 ≤ (i 1).val ∧ (i 1).val < win0_5.index t 1 * 256 + win0_5.xsize (grid0.coords t) 1
              rw [hi.2, hx.2]; omega

theorem cover5 (i : S65536x256.Idx) : ∃ t : Fin cfg0.N, (cfg0.win 5).flush t = true ∧ i ∈ ((cfg0.win 5).blk t).view.set := by
  have h0 : (i 0).val < 65536 := (i 0).isLt
  have h1 : (i 1).val < 256 := (i 1).isLt
  refine ⟨⟨(i 0).val / 512, by have : cfg0.N = 128 := N_0; omega⟩, flush0_5 _, mem_blk5 _ i ?_ ?_⟩
  · dsimp only; omega
  · dsimp only; omega

end Cert.SguIdeal.Val
-- ==== Proof.SguValue.lean ====
/- The spatial gating unit's run: the result array holds the gated entries, block by block. -/
module

public import proofs.«01_k».proof.Proof.SguWin

@[expose] public section

set_option maxRecDepth 16384

noncomputable section

namespace Cert.SguIdeal.Val

open Cert.SguIdeal Cert.SguIdeal.Gen Idealize.ShloMosaic Idealize.ShloMosaic.TcCoe Idealize.SL.Sem

section
variable (x : FVec Ideal S65536x512 .bf16) (g b : FVec Ideal S256 .f32) (w : FVec Ideal S4x128x128 .f32) (bs : FVec Ideal S4x128 .f32)

/-- An entry of the result. -/
def outE (i : Fin 65536) (j : Fin 256) : EReal :=
  SguSpec.ent (SguSpec.gelu (x (ix2 i ⟨j, by omega⟩))) (bs (ix2 ⟨j / 64, by omega⟩ ⟨i % 128, by omega⟩))
    (fun k => w (ix3 ⟨j / 64, by omega⟩ ⟨i % 128, by omega⟩ k))
    (fun k => SguSpec.ln (fun l => SguSpec.gelu (x (ix2 ⟨128 * (i / 128) + k, by omega⟩ ⟨256 + l, by omega⟩))) (fun l => g (ix1 l)) (fun l => b (ix1 l)) j)

/-- The result. -/
def G : FVec Ideal S65536x256 .bf16 := fun i => outE x g b w bs ⟨(i 0).val, (i 0).isLt⟩ ⟨(i 1).val, (i 1).isLt⟩
theorem G_apply (i : Fin 65536) (j : Fin 256) : G x g b w bs (ix2 i j) = outE x g b w bs i j := rfl
end

variable (m : (ℓ : Loc nD τ sig) → Buf (Elt Ideal) ℓ) (ρ : Dev nD → PrngReg)

theorem oblk (c : Dev nD) (t : Fin cfg0.N) (a : Fin 512) (j : Fin 256) :
    out0_5 (F := Ideal) (iblk m c 0 t) (iblk m c 1 t) (iblk m c 2 t) (iblk m c 3 t) (iblk m c 4 t) (ix2 a j)
      = G (m ((c : Thread nD τ).loc main_arg0)) (m ((c : Thread nD τ).loc main_arg1)) (m ((c : Thread nD τ).loc main_arg2)) (m ((c : Thread nD τ).loc main_arg3)) (m ((c : Thread nD τ).loc main_arg4)) (ix2 (rt t a) j) := by
  rw [out5_eq, G_apply]
  show bE _ _ _ _ _ a j = _
  unfold outE bE
  simp only [blk0, blk1, blk2, blk3, blk4, row_apply, cast16_apply, laid_apply]
  have ht := tlt t
  have e1 : (⟨(rt t a).val % 128, by omega⟩ : Fin 128) = ⟨a.val % 128, by omega⟩ := Fin.ext (by show (512 * t.val + a.val) % 128 = a.val % 128; omega)
  have e2 : ∀ k : Fin 128, (⟨128 * ((rt t a).val / 128) + k.val, by have := (rt t a).isLt; omega⟩ : Fin 65536) = rt t ⟨128 * (a.val / 128) + k.val, by omega⟩ := fun k =>
    Fin.ext (by show 128 * ((512 * t.val + a.val) / 128) + k.val = 512 * t.val + (128 * (a.val / 128) + k.val); omega)
  simp only [e1, e2]

theorem flushed (c : Dev nD) (t : Fin cfg0.N) :
    (dats m 0 c).flushed 5 t = (win0_5.blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed5]
  have hi := hi5 t
  refine funext fun (j : S512x256.Idx) => ?_
  have h0 : (j 0).val < 512 := (j 0).isLt
  have h1 : (j 1).val < 256 := (j 1).isLt
  refine Eq.trans ?_ ((oblk m c t ⟨(j 0).val, h0⟩ ⟨(j 1).val, h1⟩).trans (Eq.trans ?_ (View.read_apply ..).symm))
  · refine congrArg (out0_5 (F := Ideal) (iblk m c 0 t) (iblk m c 1 t) (iblk m c 2 t) (iblk m c 3 t) (iblk m c 4 t)) (funext fun x => Fin.ext ?_)
    match x with
    | ⟨0, _⟩ => rfl
    | ⟨1, _⟩ => rfl
  · refine congrArg (G (m ((c : Thread nD τ).loc main_arg0)) (m ((c : Thread nD τ).loc main_arg1)) (m ((c : Thread nD τ).loc main_arg2)) (m ((c : Thread nD τ).loc main_arg3)) (m ((c : Thread nD τ).loc main_arg4))) (funext fun x => Fin.ext ?_)
    match x with
    | ⟨0, _⟩ => show 512 * t.val + (j 0).val = win0_5.index t 0 * 512 + 1 * (j 0).val; rw [hi.1]; omega
    | ⟨1, _⟩ => show (j 1).val = win0_5.index t 1 * 256 + 1 * (j 1).val; rw [hi.2]; omega

theorem final (c : Dev nD) : (dats m 0 c).arrAt 5 cfg0.N = G (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed m c t) cover5

end Cert.SguIdeal.Val
-- ==== Proof.SguClaims.lean ====
/- The claims about the spatial gating unit, put together from the kernel's run and the reference's run. -/
module

public import proofs.«01_k».proof.Defs
public import proofs.«01_k».proof.Proof.Gen.Sgu.Frame
public import proofs.«01_k».proof.Proof.Gen.SguIdeal.Frame
public import proofs.«01_k».proof.Proof.SguRef
public import proofs.«01_k».proof.Proof.SguValue
public import Idealize.ShloMosaic.Lib.Quiescent

@[expose] public section

set_option maxRecDepth 16384

noncomputable section

namespace Cert.SguClaims

open Idealize.ShloMosaic Idealize.ShloMosaic.TcCoe Idealize.SL.Sem

theorem frame_G : Cert.quiescent_Sgu := fun m ρ _ => Cert.Sgu.Gen.frame m ρ
theorem frame_GI : Cert.quiescent_SguIdeal := fun m ρ _ => Cert.SguIdeal.Gen.frame m ρ
theorem frame_GR : Cert.quiescent_SguRefIdeal := fun m ρ _ =>
  (θ_run Cert.SguRefIdeal.defs _ _).mono (fun r h => ⟨fun c => (h c).2, sem_eq_zero_of_no_sems (by decide) r.2⟩)
    (Cert.SguRefIdeal.Value.run (F := Ideal) m ρ)

theorem preserves : Cert.preserves_Sgu_SguIdeal := trivial

section
open Cert.SguRefIdeal Cert.SguRefIdeal.Gen Cert.SguRefIdeal.Val
variable (x : FVec Ideal S65536x512 .bf16) (g b : FVec Ideal S256 .f32) (w : FVec Ideal S4x128x128 .f32) (bs : FVec Ideal S4x128 .f32)

theorem ref_eq : gate (left (act (wide x))) (mix (dots (chunks (lnA (right (act (wide x))) g b)) w) bs) = Cert.SguIdeal.Val.G x g b w bs := by
  refine funext fun (j : S65536x256.Idx) => ?_
  have e : j = ix2 ⟨(j 0).val, (j 0).isLt⟩ ⟨(j 1).val, (j 1).isLt⟩ := funext fun x => match x with
    | ⟨0, _⟩ => rfl
    | ⟨1, _⟩ => rfl
  rw [e]
  exact (out_apply x g b w bs _ _).trans (Cert.SguIdeal.Val.G_apply x g b w bs _ _).symm
end

theorem algebraic : Cert.algebraic_SguIdeal_SguRefIdeal := by
  intro m ρ m' ρ' _ hag
  refine ⟨fun c => Cert.SguIdeal.Val.G (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)), ?_, ?_⟩
  · refine (θ_run Cert.SguIdeal.defs _ _).mono (fun r h c => ⟨(h c).1.trans (Cert.SguIdeal.Val.final m c), (h c).2⟩)
      (Cert.SguIdeal.Value.run_blocks m ρ)
  · refine (θ_run Cert.SguRefIdeal.defs _ _).mono (fun r h c => ⟨(h c).1.trans ((Cert.SguRefIdeal.Val.res_eq m' c).trans ((ref_eq _ _ _ _ _).trans
      (by rw [(hag c).1, (hag c).2.1, (hag c).2.2.1, (hag c).2.2.2.1, (hag c).2.2.2.2]))), (h c).2⟩)
      (Cert.SguRefIdeal.Value.run (F := Ideal) m' ρ')

end Cert.SguClaims
-- ==== Proof.LatPre.lean ====
/- What the preparation's precondition says of the arrays: every entry of the scale of the query's norm, and of the
   columns of its up-projection that the half rotation negates, is a real number. -/
module

public import proofs.«01_k».proof.Proof.Gen.Pre_queries
public import proofs.«01_k».proof.Proof.AttnFinite

@[expose] public section

set_option maxRecDepth 16384

noncomputable section

open Idealize.ShloMosaic Idealize.SL.Sem

namespace Cert.Pre_queries.Val

open Cert.Pre_queries Cert.Pre_queries.Gen

theorem real_of (x : FVec Ideal S32x2048x384 .bf16) (y : FVec Ideal S32x2048x128 .bf16) (r : FVec Ideal S32x2048x32 .bf16) (g : FVec Ideal S384 .f32) (k : FVec Ideal S128 .f32)
    (w : FVec Ideal S384x4x96 .f32) (u v : FVec Ideal S128x4x64 .f32) (h : ∀ i, fn x y r g k w u v i = 1#1) :
    (∀ i, ∃ r : ℝ, g i = ↑r) ∧ ∀ (k : Fin 384) (h : Fin 4) (j : Fin 16), ∃ r : ℝ, w (ix3 k h ⟨80 + j.val, by omega⟩) = ↑r := by
  have h0 := h (fun a => a.elim0)
  dsimp only [fn] at h0
  obtain ⟨hg, hw⟩ := IntOp.andi_eq_one.mp h0
  haveI : Subsingleton S_.Idx := ⟨fun a b => funext fun x => x.elim0⟩
  refine ⟨fun i => Cert.Pre_finite.Val.lt_top_real _ (Host.reduce_andi_all _ _ _ _ _ hg i), fun k n j => ?_⟩
  obtain ⟨r, hr⟩ := Cert.Pre_finite.Val.lt_top_real _ (Host.reduce_andi_all _ _ _ _ _ hw (ix3 k n j))
  refine ⟨r, Eq.trans (congrArg w (funext fun x => ?_)) hr⟩
  match x with
  | ⟨0, _⟩ => exact Fin.ext (Nat.zero_add _).symm
  | ⟨1, _⟩ => exact Fin.ext (Nat.zero_add _).symm
  | ⟨2, _⟩ => rfl

end Cert.Pre_queries.Val
-- ==== Proof.LatSpec.lean ====
/- The latent attention's preparation in plain terms: the norm of a latent, the lanes of a head's query and key. -/
module

public import proofs.«01_k».proof.Proof.ProjReal

@[expose] public section

set_option maxRecDepth 16384

noncomputable section

namespace Cert.LatSpec

open Idealize.ShloMosaic Cert.ERealMath

/-- The norm of a latent of `n` entries, `w` the bits of `n`. -/
def rms {n : ℕ} (w : BitVec 32) (x g : Fin n → EReal) (k : Fin n) : EReal :=
  x k * Ideal.rsqrt (Ideal.div (∑ k, x k * x k) (Ideal.ofBits .f32 w) + Ideal.ofBits .f32 0x358637BD#32) * g k

/-- The queries' scale. -/
def sc : EReal := Ideal.ofBits .f32 0x3E16C740#32

section
variable (C S : Fin 16 → EReal) (l : Fin 128)

/-- The lanes' cosines. -/
def cosL : EReal := if h : l.val < 64 then 1 else if h : l.val < 80 then C ⟨l.val - 64, by omega⟩
  else if h : l.val < 96 then C ⟨l.val - 80, by omega⟩ else 0

/-- The lanes' sines. -/
def sinL : EReal := if h : l.val < 64 then 0 else if h : l.val < 80 then S ⟨l.val - 64, by omega⟩
  else if h : l.val < 96 then S ⟨l.val - 80, by omega⟩ else 0

/-- A head's query, lane by lane, from its projection. -/
def qS (d : Fin 96 → EReal) : EReal := if h : l.val < 64 then d ⟨l.val, by omega⟩ * sc
  else if h : l.val < 80 then (d ⟨l.val, by omega⟩ * C ⟨l.val - 64, by omega⟩ - d ⟨l.val + 16, by omega⟩ * S ⟨l.val - 64, by omega⟩) * sc
  else if h : l.val < 96 then (d ⟨l.val, by omega⟩ * C ⟨l.val - 80, by omega⟩ + d ⟨l.val - 16, by omega⟩ * S ⟨l.val - 80, by omega⟩) * sc
  else 0

/-- A head's key, lane by lane, from its projection and the shared rotary columns. -/
def kS (d : Fin 64 → EReal) (r : Fin 32 → EReal) : EReal := if h : l.val < 64 then d ⟨l.val, by omega⟩
  else if h : l.val < 80 then r ⟨l.val - 64, by omega⟩ * C ⟨l.val - 64, by omega⟩ - r ⟨l.val - 48, by omega⟩ * S ⟨l.val - 64, by omega⟩
  else if h : l.val < 96 then r ⟨l.val - 64, by omega⟩ * C ⟨l.val - 80, by omega⟩ + r ⟨l.val - 80, by omega⟩ * S ⟨l.val - 80, by omega⟩
  else 0

/-- The lanes of the query's weight and of its half rotation, of the key's weight, and of the rotary columns and theirs. -/
def wa (w : Fin 96 → EReal) : EReal := if h : l.val < 96 then w ⟨l.val, by omega⟩ * sc else 0
def wb (w : Fin 96 → EReal) : EReal := if h : l.val < 64 then 0 else if h : l.val < 80 then -(w ⟨l.val + 16, by omega⟩ * sc)
  else if h : l.val < 96 then w ⟨l.val - 16, by omega⟩ * sc else 0
def wk (w : Fin 64 → EReal) : EReal := if h : l.val < 64 then w ⟨l.val, by omega⟩ else 0
def ropeL (r : Fin 32 → EReal) : EReal := if h : 64 ≤ l.val ∧ l.val < 96 then r ⟨l.val - 64, by omega⟩ else 0
def rotL (r : Fin 32 → EReal) : EReal := if h : 64 ≤ l.val ∧ l.val < 80 then -r ⟨l.val - 48, by omega⟩
  else if h : 80 ≤ l.val ∧ l.val < 96 then r ⟨l.val - 80, by omega⟩ else 0
end

theorem sc_real : ∃ e : ℝ, 0 < e ∧ sc = (e : EReal) := by
  unfold sc
  simp only [Ideal.ofBits, Ideal.ieee]
  rw [if_neg (by decide), if_neg (by decide)]
  refine ⟨_, ?_, rfl⟩
  rw [if_neg (by decide)]
  positivity

theorem eps_real : ∃ e : ℝ, 0 < e ∧ Ideal.ofBits .f32 0x358637BD#32 = (e : EReal) := by
  simp only [Ideal.ofBits, Ideal.ieee]
  rw [if_neg (by decide), if_neg (by decide)]
  refine ⟨_, ?_, rfl⟩
  rw [if_neg (by decide)]
  positivity

theorem n_real : Ideal.ofBits .f32 0x43C00000#32 = ((384 : ℝ) : EReal) := by
  simp [Ideal.ofBits, Ideal.ieee]
  rw [← EReal.coe_mul]
  norm_num

theorem one_eq : Ideal.ofBits .f32 0x3F800000#32 = 1 := by
  simp [Ideal.ofBits, Ideal.ieee]
  rw [← EReal.coe_mul]
  norm_num

theorem one16_eq : Ideal.ofBits .bf16 0x3F80#16 = 1 := by
  simp [Ideal.ofBits, Ideal.ieee]
  rw [← EReal.coe_mul]
  norm_num

theorem rms_real (x g : Fin 384 → EReal) (hg : ∀ k, ∃ r : ℝ, g k = ↑r) (k : Fin 384) : ∃ r : ℝ, rms 0x43C00000#32 x g k = ↑r := by
  obtain ⟨e, he, ee⟩ := eps_real
  obtain ⟨u, hu⟩ := ProjSpec.unit_real x 384 e (by norm_num) he k
  obtain ⟨g', hg'⟩ := hg k
  refine ⟨u * g', ?_⟩
  rw [← n_real, ← ee] at hu
  rw [EReal.coe_mul, ← hu, ← hg']
  rfl

section
variable (c : Fin 384 → EReal) (hc : ∀ k, ∃ r : ℝ, c k = ↑r)

theorem sum_sc (w : Fin 384 → EReal) : ∑ k, c k * (w k * sc) = (∑ k, c k * w k) * sc := by
  obtain ⟨s, hs, es⟩ := sc_real
  rw [es, mul_sum _ _ _ hs.le]
  exact Finset.sum_congr rfl fun k _ => (mul_assoc _ _ _).symm

include hc in
theorem sum_neg (w : Fin 384 → EReal) (hw : ∀ k, ∃ r : ℝ, w k = ↑r) : ∑ k, c k * -(w k * sc) = -((∑ k, c k * w k) * sc) := by
  rw [← sum_sc]
  obtain ⟨s, -, es⟩ := sc_real
  choose c' hc' using hc
  choose w' hw' using hw
  simp only [hc', hw', es, ← EReal.coe_neg, ← EReal.coe_mul, ← coe_sum]
  simp

theorem dist (a b : EReal) : (a + b) * sc = a * sc + b * sc := by
  obtain ⟨s, hs, es⟩ := sc_real
  rw [es]
  exact EReal.right_distrib_of_nonneg_of_ne_top (by exact_mod_cast hs.le) (EReal.coe_ne_top s) a b

include hc in
/-- The kernel's two products and tables make the query. -/
theorem q_eq (w : Fin 384 → Fin 96 → EReal) (hw : ∀ k (j : Fin 16), ∃ r : ℝ, w k ⟨80 + j.val, by omega⟩ = ↑r) (C S : Fin 16 → EReal) (l : Fin 128) :
    (∑ k, c k * wa l (w k)) * cosL C l + (∑ k, c k * wb l (w k)) * sinL S l = qS C S l fun j => ∑ k, c k * w k j := by
  unfold wa wb cosL sinL qS
  by_cases h1 : l.val < 64
  · have h2 : l.val < 96 := by omega
    simp only [dif_pos h1, dif_pos h2, mul_zero, add_zero, mul_one, sum_sc]
  by_cases h2 : l.val < 80
  · have h3 : l.val < 96 := by omega
    simp only [dif_neg h1, dif_pos h2, dif_pos h3, sum_sc]
    have hl : ∀ k, ∃ r : ℝ, w k ⟨l.val + 16, by omega⟩ = ↑r := fun k => by
      obtain ⟨r, hr⟩ := hw k ⟨l.val - 64, by omega⟩
      exact ⟨r, by rw [← hr]; congr 2; simp only; omega⟩
    rw [sum_neg c hc (fun k => w k ⟨l.val + 16, by omega⟩) hl, sub_eq_add_neg, dist, EReal.neg_mul, EReal.neg_mul, mul_right_comm]
    congr 2
    rw [mul_right_comm]
  by_cases h3 : l.val < 96
  · simp only [dif_neg h1, dif_neg h2, dif_pos h3, sum_sc]
    rw [dist, mul_right_comm]
    congr 1
    rw [mul_right_comm]
  · simp only [dif_neg h1, dif_neg h2, dif_neg h3, mul_zero, add_zero]
end

/-- The kernel's product and tables make the key. -/
theorem k_eq (c : Fin 128 → EReal) (w : Fin 128 → Fin 64 → EReal) (r : Fin 32 → EReal) (C S : Fin 16 → EReal) (l : Fin 128) :
    (∑ k, c k * wk l (w k)) + (ropeL l r * cosL C l + rotL l r * sinL S l) = kS C S l (fun j => ∑ k, c k * w k j) r := by
  unfold wk ropeL rotL cosL sinL kS
  by_cases h1 : l.val < 64
  · simp only [dif_pos h1, dif_neg (show ¬(64 ≤ l.val ∧ l.val < 96) by omega), mul_zero, zero_mul, add_zero]
  by_cases h2 : l.val < 80
  · simp only [dif_neg h1, dif_pos h2, dif_pos (show 64 ≤ l.val ∧ l.val < 96 by omega), dif_pos (show 64 ≤ l.val ∧ l.val < 80 by omega),
      mul_zero, Finset.sum_const_zero, zero_add]
    rw [EReal.neg_mul, sub_eq_add_neg]
  by_cases h3 : l.val < 96
  · simp only [dif_neg h1, dif_neg h2, dif_pos h3, dif_pos (show 64 ≤ l.val ∧ l.val < 96 by omega), dif_neg (show ¬(64 ≤ l.val ∧ l.val < 80) by omega),
      dif_pos (show 80 ≤ l.val ∧ l.val < 96 by omega), mul_zero, Finset.sum_const_zero, zero_add]
  · simp only [dif_neg h1, dif_neg h2, dif_neg h3, mul_zero, Finset.sum_const_zero, zero_add]

end Cert.LatSpec
-- ==== Proof.LatRef.lean ====
/- The latent attention's preparation's reference, read at an index. -/
module

public import proofs.«01_k».proof.Proof.Gen.LatRefIdeal.Run
public import proofs.«01_k».proof.Proof.LatSpec

@[expose] public section

set_option maxRecDepth 16384

noncomputable section

namespace Cert.LatRefIdeal.Val

open Cert.LatRefIdeal Cert.LatRefIdeal.Gen Idealize.ShloMosaic Idealize.ShloMosaic.TcCoe Idealize.SL.Sem

def invQ (x : FVec Ideal S32x2048x384 .f32) : FVec Ideal S32x2048x1 .f32 :=
  Host.rsqrt (addf (Host.divf (broadcastInDim S32x2048x1 ![0, 1] bcast_S32x2048_S32x2048x1_0_1 (Host.reduceAdd (mulf x x) (constant S_ .f32 0x00000000#32)
    reducesTo_S32x2048x384_S32x2048_d2 h_S_)) (broadcastInDim S32x2048x1 ![] bcast_S_S32x2048x1 (constant S_ .f32 0x43C00000#32)))
    (broadcastInDim S32x2048x1 ![] bcast_S_S32x2048x1 (constant S_ .f32 0x358637BD#32)))

def wideQ (x : FVec Ideal S32x2048x384 .bf16) : FVec Ideal S32x2048x384 .f32 := extf .f32 x bitsLt_bf16_f32

def rowQ (g : FVec Ideal S384 .f32) : FVec Ideal S1x1x384 .f32 := broadcastInDim S1x1x384 ![2] bcast_S384_S1x1x384_2 g

/-- The norm of a latent of 384 entries. -/
def rmsQ (x : FVec Ideal S32x2048x384 .bf16) (g : FVec Ideal S384 .f32) : FVec Ideal S32x2048x384 .f32 :=
  mulf (mulf (wideQ x) (broadcastInDim S32x2048x384 ![0, 1, 2] bcast_S32x2048x1_S32x2048x384_0_1_2 (invQ (wideQ x))))
    (broadcastInDim S32x2048x384 ![0, 1, 2] bcast_S1x1x384_S32x2048x384_0_1_2 (rowQ g))

theorem invQ_apply (x : FVec Ideal S32x2048x384 .f32) (b : Fin 32) (s : Fin 2048) : invQ x (ix3 b s 0)
    = Ideal.rsqrt (Ideal.div (∑ k : Fin 384, x (ix3 b s k) * x (ix3 b s k)) (Ideal.ofBits .f32 0x43C00000#32) + Ideal.ofBits .f32 0x358637BD#32) := by
  unfold invQ
  pointwise

theorem wideQ_apply (x : FVec Ideal S32x2048x384 .bf16) (b : Fin 32) (s : Fin 2048) (k : Fin 384) : wideQ x (ix3 b s k) = x (ix3 b s k) := by
  unfold wideQ
  pointwise

theorem rowQ_apply (g : FVec Ideal S384 .f32) (k : Fin 384) : rowQ g (ix3 0 0 k) = g (ix1 k) := by
  unfold rowQ
  pointwise

theorem rmsQ_apply (x : FVec Ideal S32x2048x384 .bf16) (g : FVec Ideal S384 .f32) (b : Fin 32) (s : Fin 2048) (k : Fin 384) :
    rmsQ x g (ix3 b s k) = LatSpec.rms 0x43C00000#32 (fun k => x (ix3 b s k)) (fun k => g (ix1 k)) k := by
  unfold LatSpec.rms
  have e : ∀ k, x (ix3 b s k) = wideQ x (ix3 b s k) := fun k => (wideQ_apply x b s k).symm
  simp only [e]
  rw [← invQ_apply, ← rowQ_apply g k]
  unfold rmsQ
  generalize invQ (wideQ x) = u
  generalize wideQ x = v
  generalize rowQ g = w
  pointwise

def invK (x : FVec Ideal S32x2048x128 .f32) : FVec Ideal S32x2048x1 .f32 :=
  Host.rsqrt (addf (Host.divf (broadcastInDim S32x2048x1 ![0, 1] bcast_S32x2048_S32x2048x1_0_1 (Host.reduceAdd (mulf x x) (constant S_ .f32 0x00000000#32)
    reducesTo_S32x2048x128_S32x2048_d2 h_S_)) (broadcastInDim S32x2048x1 ![] bcast_S_S32x2048x1 (constant S_ .f32 0x43000000#32)))
    (broadcastInDim S32x2048x1 ![] bcast_S_S32x2048x1 (constant S_ .f32 0x358637BD#32)))

def wideK (x : FVec Ideal S32x2048x128 .bf16) : FVec Ideal S32x2048x128 .f32 := extf .f32 x bitsLt_bf16_f32

def rowK (g : FVec Ideal S128 .f32) : FVec Ideal S1x1x128 .f32 := broadcastInDim S1x1x128 ![2] bcast_S128_S1x1x128_2 g

/-- The norm of a latent of 128 entries. -/
def rmsK (x : FVec Ideal S32x2048x128 .bf16) (g : FVec Ideal S128 .f32) : FVec Ideal S32x2048x128 .f32 :=
  mulf (mulf (wideK x) (broadcastInDim S32x2048x128 ![0, 1, 2] bcast_S32x2048x1_S32x2048x128_0_1_2 (invK (wideK x))))
    (broadcastInDim S32x2048x128 ![0, 1, 2] bcast_S1x1x128_S32x2048x128_0_1_2 (rowK g))

theorem invK_apply (x : FVec Ideal S32x2048x128 .f32) (b : Fin 32) (s : Fin 2048) : invK x (ix3 b s 0)
    = Ideal.rsqrt (Ideal.div (∑ k : Fin 128, x (ix3 b s k) * x (ix3 b s k)) (Ideal.ofBits .f32 0x43000000#32) + Ideal.ofBits .f32 0x358637BD#32) := by
  unfold invK
  pointwise

theorem wideK_apply (x : FVec Ideal S32x2048x128 .bf16) (b : Fin 32) (s : Fin 2048) (k : Fin 128) : wideK x (ix3 b s k) = x (ix3 b s k) := by
  unfold wideK
  pointwise

theorem rowK_apply (g : FVec Ideal S128 .f32) (k : Fin 128) : rowK g (ix3 0 0 k) = g (ix1 k) := by
  unfold rowK
  pointwise

theorem rmsK_apply (x : FVec Ideal S32x2048x128 .bf16) (g : FVec Ideal S128 .f32) (b : Fin 32) (s : Fin 2048) (k : Fin 128) :
    rmsK x g (ix3 b s k) = LatSpec.rms 0x43000000#32 (fun k => x (ix3 b s k)) (fun k => g (ix1 k)) k := by
  unfold LatSpec.rms
  have e : ∀ k, x (ix3 b s k) = wideK x (ix3 b s k) := fun k => (wideK_apply x b s k).symm
  simp only [e]
  rw [← invK_apply, ← rowK_apply g k]
  unfold rmsK
  generalize invK (wideK x) = u
  generalize wideK x = v
  generalize rowK g = w
  pointwise

/-- The rotary angles. -/
def ang : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))))))

def lay (a : FVec Ideal S2048x16 .f32) : FVec Ideal S1x2048x1x16 .f32 := broadcastInDim S1x2048x1x16 ![1, 3] bcast_S2048x16_S1x2048x1x16_1_3 a

/-- The up-projections. -/
def upQ (v : FVec Ideal S32x2048x384 .f32) (w : FVec Ideal S384x4x96 .f32) : FVec Ideal S32x2048x4x96 .f32 :=
  Host.dotGeneral dot_S32x2048x384_S384x4x96_S32x2048x4x96_2_0_01_12_n_n none v w
def upK (v : FVec Ideal S32x2048x128 .f32) (w : FVec Ideal S128x4x64 .f32) : FVec Ideal S32x2048x4x64 .f32 :=
  Host.dotGeneral dot_S32x2048x128_S128x4x64_S32x2048x4x64_2_0_01_12_n_n none v w

def qr (d : FVec Ideal S32x2048x4x96 .f32) : FVec Ideal S32x2048x4x32 .f32 := extractStridedSlice S32x2048x4x32 ![0, 0, 0, 64] d slices_S32x2048x4x96_S32x2048x4x32_0_0_0_64

/-- The rotary embedding of the heads' columns. -/
def ropeQ (d : FVec Ideal S32x2048x4x32 .f32) (C S : FVec Ideal S1x2048x1x16 .f32) : FVec Ideal S32x2048x4x32 .f32 :=
  concatenate S32x2048x4x32 3 [⟨S32x2048x4x16, (subf (mulf (extractStridedSlice S32x2048x4x16 ![0, 0, 0, 0] d slices_S32x2048x4x32_S32x2048x4x16_0_0_0_0)
      (broadcastInDim S32x2048x4x16 ![0, 1, 2, 3] bcast_S1x2048x1x16_S32x2048x4x16_0_1_2_3 C))
    (mulf (extractStridedSlice S32x2048x4x16 ![0, 0, 0, 16] d slices_S32x2048x4x32_S32x2048x4x16_0_0_0_16)
      (broadcastInDim S32x2048x4x16 ![0, 1, 2, 3] bcast_S1x2048x1x16_S32x2048x4x16_0_1_2_3 S)))⟩,
    ⟨S32x2048x4x16, (addf (mulf (extractStridedSlice S32x2048x4x16 ![0, 0, 0, 16] d slices_S32x2048x4x32_S32x2048x4x16_0_0_0_16)
      (broadcastInDim S32x2048x4x16 ![0, 1, 2, 3] bcast_S1x2048x1x16_S32x2048x4x16_0_1_2_3 C))
    (mulf (extractStridedSlice S32x2048x4x16 ![0, 0, 0, 0] d slices_S32x2048x4x32_S32x2048x4x16_0_0_0_0)
      (broadcastInDim S32x2048x4x16 ![0, 1, 2, 3] bcast_S1x2048x1x16_S32x2048x4x16_0_1_2_3 S)))⟩] concatenates_S32x2048x4x16_S32x2048x4x16_S32x2048x4x32_d3

/-- The queries' lanes before the padding. -/
def headQ (d : FVec Ideal S32x2048x4x96 .f32) (r : FVec Ideal S32x2048x4x32 .f32) : FVec Ideal S32x2048x4x96 .f32 :=
  mulf (concatenate S32x2048x4x96 3 [⟨S32x2048x4x64, (extractStridedSlice S32x2048x4x64 ![0, 0, 0, 0] d slices_S32x2048x4x96_S32x2048x4x64_0_0_0_0)⟩, ⟨S32x2048x4x32, r⟩]
    concatenates_S32x2048x4x64_S32x2048x4x32_S32x2048x4x96_d3) (broadcastInDim S32x2048x4x96 ![] bcast_S_S32x2048x4x96 (constant S_ .f32 0x3E16C740#32))

/-- The lanes in the call's layout. -/
def out (v : FVec Ideal S32x2048x4x96 .f32) : FVec Ideal S65536x512 .bf16 :=
  truncf .bf16 (shapeCast S65536x512 (pad S32x2048x4x128 ![0, 0, 0, 0] ![0, 0, 0, 32] ![0, 0, 0, 0] v (sitofp .f32 (constantI S_ 32 0#32))
    pads_S32x2048x4x96_S32x2048x4x128_000_000_000_0320 h_S_) shapeCasts_S32x2048x4x128_S65536x512) bitsLt_bf16_f32

def kr (r : FVec Ideal S32x2048x32 .bf16) : FVec Ideal S32x2048x1x32 .f32 :=
  extf .f32 (broadcastInDim S32x2048x1x32 ![0, 1, 3] bcast_S32x2048x32_S32x2048x1x32_0_1_3 r) bitsLt_bf16_f32

/-- The rotary embedding of the shared columns. -/
def ropeK (d : FVec Ideal S32x2048x1x32 .f32) (C S : FVec Ideal S1x2048x1x16 .f32) : FVec Ideal S32x2048x1x32 .f32 :=
  concatenate S32x2048x1x32 3 [⟨S32x2048x1x16, (subf (mulf (extractStridedSlice S32x2048x1x16 ![0, 0, 0, 0] d slices_S32x2048x1x32_S32x2048x1x16_0_0_0_0)
      (broadcastInDim S32x2048x1x16 ![0, 1, 2, 3] bcast_S1x2048x1x16_S32x2048x1x16_0_1_2_3 C))
    (mulf (extractStridedSlice S32x2048x1x16 ![0, 0, 0, 16] d slices_S32x2048x1x32_S32x2048x1x16_0_0_0_16)
      (broadcastInDim S32x2048x1x16 ![0, 1, 2, 3] bcast_S1x2048x1x16_S32x2048x1x16_0_1_2_3 S)))⟩,
    ⟨S32x2048x1x16, (addf (mulf (extractStridedSlice S32x2048x1x16 ![0, 0, 0, 16] d slices_S32x2048x1x32_S32x2048x1x16_0_0_0_16)
      (broadcastInDim S32x2048x1x16 ![0, 1, 2, 3] bcast_S1x2048x1x16_S32x2048x1x16_0_1_2_3 C))
    (mulf (extractStridedSlice S32x2048x1x16 ![0, 0, 0, 0] d slices_S32x2048x1x32_S32x2048x1x16_0_0_0_0)
      (broadcastInDim S32x2048x1x16 ![0, 1, 2, 3] bcast_S1x2048x1x16_S32x2048x1x16_0_1_2_3 S)))⟩] concatenates_S32x2048x1x16_S32x2048x1x16_S32x2048x1x32_d3

/-- The keys' lanes before the padding. -/
def headK (d : FVec Ideal S32x2048x4x64 .f32) (r : FVec Ideal S32x2048x1x32 .f32) : FVec Ideal S32x2048x4x96 .f32 :=
  concatenate S32x2048x4x96 3 [⟨S32x2048x4x64, d⟩, ⟨S32x2048x4x32, (broadcastInDim S32x2048x4x32 ![0, 1, 2, 3] bcast_S32x2048x1x32_S32x2048x4x32_0_1_2_3 r)⟩]
    concatenates_S32x2048x4x64_S32x2048x4x32_S32x2048x4x96_d3

/-- The values' rows, ones after each head's, in the call's layout. -/
def ones (d : FVec Ideal S32x2048x4x64 .f32) : FVec Ideal S32x2048x4x80 .f32 :=
  concatenate S32x2048x4x80 3 [⟨S32x2048x4x64, d⟩, ⟨S32x2048x4x16, (broadcastInDim S32x2048x4x16 ![] bcast_S_S32x2048x4x16 (constant S_ .f32 0x3F800000#32))⟩]
    concatenates_S32x2048x4x64_S32x2048x4x16_S32x2048x4x80_d3
def outV (d : FVec Ideal S32x2048x4x80 .f32) : FVec Ideal S32x8x320x256 .bf16 :=
  truncf .bf16 (transpose S32x8x320x256 [0, 1, 3, 2] (shapeCast S32x8x256x320 d shapeCasts_S32x2048x4x80_S32x8x256x320) transposes_S32x8x256x320_S32x8x320x256_0_1_3_2) bitsLt_bf16_f32

section
variable (x : FVec Ideal S32x2048x384 .bf16) (y : FVec Ideal S32x2048x128 .bf16) (r : FVec Ideal S32x2048x32 .bf16) (g : FVec Ideal S384 .f32) (h : FVec Ideal S128 .f32)
  (wq : FVec Ideal S384x4x96 .f32) (wk wv : FVec Ideal S128x4x64 .f32)

def resQ : FVec Ideal S65536x512 .bf16 := out (headQ (upQ (rmsQ x g) wq) (ropeQ (qr (upQ (rmsQ x g) wq)) (lay (Host.cos ang)) (lay (Host.sin ang))))
def resK : FVec Ideal S65536x512 .bf16 := out (headK (upK (rmsK y h) wk) (ropeK (kr r) (lay (Host.cos ang)) (lay (Host.sin ang))))
def resV : FVec Ideal S32x8x320x256 .bf16 := outV (ones (upK (rmsK y h) wv))
end

section
variable (m : (ℓ : Loc nD τ sig) → Buf (Elt Ideal) ℓ) (c : Dev nD)

theorem res0_eq : Value.res_out0 m c = resQ (m ((c.tc : Thread nD τ).loc main_arg0)) (m ((c.tc : Thread nD τ).loc main_arg3)) (m ((c.tc : Thread nD τ).loc main_arg5)) := rfl
theorem res1_eq : Value.res_out1 m c = resK (m ((c.tc : Thread nD τ).loc main_arg1)) (m ((c.tc : Thread nD τ).loc main_arg2)) (m ((c.tc : Thread nD τ).loc main_arg4)) (m ((c.tc : Thread nD τ).loc main_arg6)) := rfl
end

theorem zero_eq : (FloatOps.sitofp (F := Ideal) .f32 (0#32 : BitVec 32) : EReal) = 0 := by
  show (((0#32).toInt : ℝ) : EReal) = 0
  simp

theorem lay_apply (a : FVec Ideal S2048x16 .f32) (s : Fin 2048) (f : Fin 16) : lay a (ix4 0 s 0 f) = a (ix2 s f) := by
  unfold lay
  pointwise

theorem upQ_apply (v : FVec Ideal S32x2048x384 .f32) (w : FVec Ideal S384x4x96 .f32) (b : Fin 32) (s : Fin 2048) (h : Fin 4) (j : Fin 96) :
    upQ v w (ix4 b s h j) = ∑ k, v (ix3 b s k) * w (ix3 k h j) := by
  unfold upQ
  pointwise

theorem upK_apply (v : FVec Ideal S32x2048x128 .f32) (w : FVec Ideal S128x4x64 .f32) (b : Fin 32) (s : Fin 2048) (h : Fin 4) (j : Fin 64) :
    upK v w (ix4 b s h j) = ∑ k, v (ix3 b s k) * w (ix3 k h j) := by
  unfold upK
  pointwise

theorem qr_apply (d : FVec Ideal S32x2048x4x96 .f32) (b : Fin 32) (s : Fin 2048) (h : Fin 4) (j : Fin 32) :
    qr d (ix4 b s h j) = d (ix4 b s h ⟨64 + j, by omega⟩) := by
  unfold qr
  pointwise

theorem kr_apply (r : FVec Ideal S32x2048x32 .bf16) (b : Fin 32) (s : Fin 2048) (j : Fin 32) : kr r (ix4 b s 0 j) = r (ix3 b s j) := by
  unfold kr
  pointwise

theorem ropeQ_apply (d : FVec Ideal S32x2048x4x32 .f32) (C S : FVec Ideal S1x2048x1x16 .f32) (b : Fin 32) (s : Fin 2048) (h : Fin 4) (j : Fin 32) :
    ropeQ d C S (ix4 b s h j) = if h' : j.val < 16 then d (ix4 b s h ⟨j, by omega⟩) * C (ix4 0 s 0 ⟨j, h'⟩) - d (ix4 b s h ⟨16 + j, by omega⟩) * S (ix4 0 s 0 ⟨j, h'⟩)
      else d (ix4 b s h ⟨16 + (j - 16), by omega⟩) * C (ix4 0 s 0 ⟨j - 16, by omega⟩) + d (ix4 b s h ⟨j - 16, by omega⟩) * S (ix4 0 s 0 ⟨j - 16, by omega⟩) := by
  unfold ropeQ
  pointwise

theorem ropeK_apply (d : FVec Ideal S32x2048x1x32 .f32) (C S : FVec Ideal S1x2048x1x16 .f32) (b : Fin 32) (s : Fin 2048) (j : Fin 32) :
    ropeK d C S (ix4 b s 0 j) = if h' : j.val < 16 then d (ix4 b s 0 ⟨j, by omega⟩) * C (ix4 0 s 0 ⟨j, h'⟩) - d (ix4 b s 0 ⟨16 + j, by omega⟩) * S (ix4 0 s 0 ⟨j, h'⟩)
      else d (ix4 b s 0 ⟨16 + (j - 16), by omega⟩) * C (ix4 0 s 0 ⟨j - 16, by omega⟩) + d (ix4 b s 0 ⟨j - 16, by omega⟩) * S (ix4 0 s 0 ⟨j - 16, by omega⟩) := by
  unfold ropeK
  pointwise

theorem headQ_apply (d : FVec Ideal S32x2048x4x96 .f32) (r : FVec Ideal S32x2048x4x32 .f32) (b : Fin 32) (s : Fin 2048) (h : Fin 4) (j : Fin 96) :
    headQ d r (ix4 b s h j) = (if h' : j.val < 64 then d (ix4 b s h ⟨j, by omega⟩) else r (ix4 b s h ⟨j - 64, by omega⟩)) * LatSpec.sc := by
  unfold headQ LatSpec.sc
  pointwise

theorem headK_apply (d : FVec Ideal S32x2048x4x64 .f32) (r : FVec Ideal S32x2048x1x32 .f32) (b : Fin 32) (s : Fin 2048) (h : Fin 4) (j : Fin 96) :
    headK d r (ix4 b s h j) = if h' : j.val < 64 then d (ix4 b s h ⟨j, h'⟩) else r (ix4 b s 0 ⟨j - 64, by omega⟩) := by
  unfold headK
  pointwise

theorem out_apply (v : FVec Ideal S32x2048x4x96 .f32) (i : Fin 65536) (j : Fin 512) :
    out v (ix2 i j) = if h : j.val % 128 < 96 then v (ix4 ⟨i / 2048, by omega⟩ ⟨i % 2048, by omega⟩ ⟨j / 128, by omega⟩ ⟨j % 128, h⟩) else 0 := by
  unfold out
  pointwise
  by_cases h : j.val % 128 < 96
  · rw [dif_pos h]
    exact dif_pos (show i.val / 2048 < 32 ∧ i.val % 2048 < 2048 ∧ j.val / 128 < 4 ∧ j.val % 128 < 96 by omega)
  · refine Eq.trans (dif_neg (show ¬(i.val / 2048 < 32 ∧ i.val % 2048 < 2048 ∧ j.val / 128 < 4 ∧ j.val % 128 < 96) by omega)) ?_
    rw [dif_neg h]
    exact zero_eq

theorem ones_apply (d : FVec Ideal S32x2048x4x64 .f32) (b : Fin 32) (s : Fin 2048) (h : Fin 4) (j : Fin 80) :
    ones d (ix4 b s h j) = if h' : j.val < 64 then d (ix4 b s h ⟨j, h'⟩) else 1 := by
  rw [← LatSpec.one_eq]
  unfold ones
  pointwise

theorem outV_apply (d : FVec Ideal S32x2048x4x80 .f32) (b : Fin 32) (q : Fin 8) (r : Fin 320) (a : Fin 256) :
    outV d (ix4 b q r a) = d (ix4 b ⟨256 * q + a, by omega⟩ ⟨r / 80, by omega⟩ ⟨r % 80, by omega⟩) := by
  unfold outV
  pointwise
  exact congrArg (fun s => d (ix4 b s ⟨r / 80, by omega⟩ ⟨r % 80, by omega⟩)) (Fin.ext (by show q.val * 256 + a.val = 256 * q.val + a.val; omega))

end Cert.LatRefIdeal.Val
-- ==== Proof.LatPoint.lean ====
/- What a grid point computes of its block, read at an index. -/
module

public import proofs.«01_k».proof.Proof.Gen.LatIdeal.Value
public import proofs.«01_k».proof.Proof.LatSpec

@[expose] public section

set_option maxRecDepth 16384

noncomputable section

namespace Cert.LatIdeal.Val

open Cert.LatIdeal Cert.LatIdeal.Gen Idealize.ShloMosaic Idealize.ShloMosaic.TcCoe Idealize.SL.Sem

theorem pay2_apply (x : FVec Ideal S512x384 .bf16) (g : FVec Ideal S1x384 .f32) (a : Fin 512) (k : Fin 384) :
    k0_pay2 (F := Ideal) x g (ix2 a k) = LatSpec.rms 0x43C00000#32 (fun k => x (ix2 a k)) (fun k => g (ix2 0 k)) k := by
  unfold k0_pay2 LatSpec.rms
  pointwise

theorem pay3_apply (x : FVec Ideal S512x128 .bf16) (g : FVec Ideal S1x128 .f32) (a : Fin 512) (k : Fin 128) :
    k0_pay3 (F := Ideal) x g (ix2 a k) = LatSpec.rms 0x43000000#32 (fun k => x (ix2 a k)) (fun k => g (ix2 0 k)) k := by
  unfold k0_pay3 LatSpec.rms
  pointwise

theorem pay7_apply (v : FVec Ideal S512x384 .bf16) (w : FVec Ideal S384x512 .bf16) (a j : Fin 512) :
    k0_pay7 (F := Ideal) v w (ix2 a j) = ∑ k, v (ix2 a k) * w (ix2 k j) := by
  unfold k0_pay7
  pointwise

theorem pay8_apply (v : FVec Ideal S512x384 .bf16) (w : FVec Ideal S384x512 .bf16) (a j : Fin 512) :
    k0_pay8 (F := Ideal) v w (ix2 a j) = ∑ k, v (ix2 a k) * w (ix2 k j) := by
  unfold k0_pay8
  pointwise

theorem pay9_apply (v : FVec Ideal S512x128 .bf16) (w : FVec Ideal S128x512 .bf16) (a j : Fin 512) :
    k0_pay9 (F := Ideal) v w (ix2 a j) = ∑ k, v (ix2 a k) * w (ix2 k j) := by
  unfold k0_pay9
  pointwise

/-- The product the values' rows are cut from. -/
def dotV (v : FVec Ideal S512x128 .bf16) (w : FVec Ideal S256x128 .bf16) : FVec Ideal S256x512 .bf16 :=
  truncf .bf16 (matmul dot_S256x128_S512x128_S256x512_1_1_0_0_n_n none (shapeCast S256x128 w shapeCasts_S256x128_S256x128) v (constant S256x512 .f32 0x00000000#32)) bitsLt_bf16_f32

theorem dotV_apply (v : FVec Ideal S512x128 .bf16) (w : FVec Ideal S256x128 .bf16) (r : Fin 256) (a : Fin 512) :
    dotV v w (ix2 r a) = ∑ k, v (ix2 a k) * w (ix2 r k) := by
  simp only [mul_comm (v _)]
  unfold dotV
  pointwise

/-- The heads' rows, ones after each head's. -/
def rows (p : FVec Ideal S256x512 .bf16) : FVec Ideal S320x512 .bf16 :=
  concatenate S320x512 0 [⟨S64x512, extractStridedSlice S64x512 ![0, 0] p slices_S256x512_o0_0_S64x512⟩, ⟨S16x512, broadcast S16x512 (Scalar.ofBits .bf16 0x3F80#16)⟩,
    ⟨S64x512, extractStridedSlice S64x512 ![64, 0] p slices_S256x512_o64_0_S64x512⟩, ⟨S16x512, broadcast S16x512 (Scalar.ofBits .bf16 0x3F80#16)⟩,
    ⟨S64x512, extractStridedSlice S64x512 ![128, 0] p slices_S256x512_o128_0_S64x512⟩, ⟨S16x512, broadcast S16x512 (Scalar.ofBits .bf16 0x3F80#16)⟩,
    ⟨S64x512, extractStridedSlice S64x512 ![192, 0] p slices_S256x512_o192_0_S64x512⟩, ⟨S16x512, broadcast S16x512 (Scalar.ofBits .bf16 0x3F80#16)⟩]
    concatenates_S64x512_S16x512_S64x512_S16x512_S64x512_S16x512_S64x512_S16x512_S320x512_d0

theorem pay10_eq (v : FVec Ideal S512x128 .bf16) (w : FVec Ideal S256x128 .bf16) : k0_pay10 v w = rows (dotV v w) := rfl

theorem rows_apply (p : FVec Ideal S256x512 .bf16) (r : Fin 320) (a : Fin 512) :
    rows p (ix2 r a) = if h : r.val % 80 < 64 then p (ix2 ⟨r / 80 * 64 + r % 80, by omega⟩ a) else 1 := by
  rw [← LatSpec.one16_eq]
  unfold rows
  pointwise
  by_cases h0 : r.val < 64
  · rw [dif_pos h0, dif_pos (by omega)]
    exact congrArg (fun c => p (ix2 c a)) (Fin.ext (by show r.val = r.val / 80 * 64 + r.val % 80; omega))
  rw [dif_neg h0]
  by_cases h1 : r.val < 80
  · rw [dif_pos (by omega), dif_neg (by omega)]
  rw [dif_neg (by omega)]
  by_cases h2 : r.val < 144
  · rw [dif_pos (by omega), dif_pos (by omega)]
    exact congrArg (fun c => p (ix2 c a)) (Fin.ext (by show 64 + (r.val - 64 - 16) = r.val / 80 * 64 + r.val % 80; omega))
  rw [dif_neg (by omega)]
  by_cases h3 : r.val < 160
  · rw [dif_pos (by omega), dif_neg (by omega)]
  rw [dif_neg (by omega)]
  by_cases h4 : r.val < 224
  · rw [dif_pos (by omega), dif_pos (by omega)]
    exact congrArg (fun c => p (ix2 c a)) (Fin.ext (by show 128 + (r.val - 64 - 16 - 64 - 16) = r.val / 80 * 64 + r.val % 80; omega))
  rw [dif_neg (by omega)]
  by_cases h5 : r.val < 240
  · rw [dif_pos (by omega), dif_neg (by omega)]
  rw [dif_neg (by omega)]
  by_cases h6 : r.val < 304
  · rw [dif_pos (by omega), dif_pos (by omega)]
    exact congrArg (fun c => p (ix2 c a)) (Fin.ext (by show 192 + (r.val - 64 - 16 - 64 - 16 - 64 - 16) = r.val / 80 * 64 + r.val % 80; omega))
  · rw [dif_neg (by omega), dif_neg (by omega)]

end Cert.LatIdeal.Val
-- ==== Proof.LatHost.lean ====
/- The call's arrays as the host code lays them out, read at an index: the latents' lanes, the packed weights, the tables. -/
module

public import proofs.«01_k».proof.Proof.LatPoint
public import Idealize.ShloMosaic.Lib.StableHlo.RunRead

@[expose] public section

set_option maxRecDepth 16384

noncomputable section

namespace Cert.LatIdeal.Val

open Cert.LatIdeal Cert.LatIdeal.Gen Idealize.ShloMosaic Idealize.ShloMosaic.TcCoe Idealize.SL.Sem

variable (m : (ℓ : Loc nD τ sig) → Buf (Elt Ideal) ℓ)

/-- The half rotation of the rotary columns. -/
def rot (r : FVec Ideal S32x2048x32 .bf16) : FVec Ideal S32x2048x32 .bf16 :=
  concatenate S32x2048x32 2 [⟨S32x2048x16, Host.negf (extractStridedSlice S32x2048x16 ![0, 0, 16] r slices_S32x2048x32_S32x2048x16_0_0_16)⟩,
    ⟨S32x2048x16, extractStridedSlice S32x2048x16 ![0, 0, 0] r slices_S32x2048x32_S32x2048x16_0_0_0⟩] concatenates_S32x2048x16_S32x2048x16_S32x2048x32_d2

/-- A tile of lanes holding 32 columns from lane 64. -/
def tile (r : FVec Ideal S32x2048x32 .bf16) : FVec Ideal S32x2048x128 .bf16 :=
  pad S32x2048x128 ![0, 0, 64] ![0, 0, 32] ![0, 0, 0] r (sitofp .bf16 (constantI S_ 32 0#32)) pads_S32x2048x32_S32x2048x128_000_000_64320 h_S_

/-- The input rows. -/
def inp (x : FVec Ideal S32x2048x384 .bf16) (y a b : FVec Ideal S32x2048x128 .bf16) : FVec Ideal S65536x768 .bf16 :=
  shapeCast S65536x768 (concatenate S32x2048x768 2 [⟨S32x2048x384, x⟩, ⟨S32x2048x128, y⟩, ⟨S32x2048x128, a⟩, ⟨S32x2048x128, b⟩]
    concatenates_S32x2048x384_S32x2048x128_S32x2048x128_S32x2048x128_S32x2048x768_d2) shapeCasts_S32x2048x768_S65536x768

/-- The rotary angles. -/
def ang : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))))))

def cosT (a : FVec Ideal S2048x16 .f32) : FVec Ideal S2048x128 .f32 :=
  concatenate S2048x128 1 [⟨S2048x64, broadcastInDim S2048x64 ![] bcast_S_S2048x64 (constant S_ .f32 0x3F800000#32)⟩, ⟨S2048x16, a⟩, ⟨S2048x16, a⟩,
    ⟨S2048x32, broadcastInDim S2048x32 ![] bcast_S_S2048x32 (constant S_ .f32 0x00000000#32)⟩] concatenates_S2048x64_S2048x16_S2048x16_S2048x32_S2048x128_d1

def sinT (a : FVec Ideal S2048x16 .f32) : FVec Ideal S2048x128 .f32 :=
  concatenate S2048x128 1 [⟨S2048x64, broadcastInDim S2048x64 ![] bcast_S_S2048x64 (constant S_ .f32 0x00000000#32)⟩, ⟨S2048x16, a⟩, ⟨S2048x16, a⟩,
    ⟨S2048x32, broadcastInDim S2048x32 ![] bcast_S_S2048x32 (constant S_ .f32 0x00000000#32)⟩] concatenates_S2048x64_S2048x16_S2048x16_S2048x32_S2048x128_d1

/-- The columns scaled. -/
def scaled (w : FVec Ideal S384x96 .f32) : FVec Ideal S384x96 .f32 :=
  mulf w (broadcastInDim S384x96 ![] bcast_S_S384x96 (constant S_ .f32 0x3E16C740#32))

/-- The scaled columns padded to the lanes, and their half rotation. -/
def padA (w : FVec Ideal S384x96 .f32) : FVec Ideal S384x128 .f32 :=
  concatenate S384x128 1 [⟨S384x96, w⟩, ⟨S384x32, broadcastInDim S384x32 ![] bcast_S_S384x32 (constant S_ .f32 0x00000000#32)⟩] concatenates_S384x96_S384x32_S384x128_d1
def rotW (w : FVec Ideal S384x32 .f32) : FVec Ideal S384x32 .f32 :=
  concatenate S384x32 1 [⟨S384x16, Host.negf (extractStridedSlice S384x16 ![0, 16] w slices_S384x32_S384x16_0_16)⟩,
    ⟨S384x16, extractStridedSlice S384x16 ![0, 0] w slices_S384x32_S384x16_0_0⟩] concatenates_S384x16_S384x16_S384x32_d1
def padB (w : FVec Ideal S384x32 .f32) : FVec Ideal S384x128 .f32 :=
  concatenate S384x128 1 [⟨S384x64, broadcastInDim S384x64 ![] bcast_S_S384x64 (constant S_ .f32 0x00000000#32)⟩, ⟨S384x32, w⟩,
    ⟨S384x32, broadcastInDim S384x32 ![] bcast_S_S384x32 (constant S_ .f32 0x00000000#32)⟩] concatenates_S384x64_S384x32_S384x32_S384x128_d1
def tail (w : FVec Ideal S384x96 .f32) : FVec Ideal S384x32 .f32 := extractStridedSlice S384x32 ![0, 64] w slices_S384x96_S384x32_0_64
def padK (w : FVec Ideal S128x64 .f32) : FVec Ideal S128x128 .f32 :=
  concatenate S128x128 1 [⟨S128x64, w⟩, ⟨S128x64, broadcastInDim S128x64 ![] bcast_S_S128x64 (constant S_ .f32 0x00000000#32)⟩] concatenates_S128x64_S128x64_S128x128_d1

def hq0 (w : FVec Ideal S384x4x96 .f32) : FVec Ideal S384x96 .f32 :=
  shapeCast S384x96 (extractStridedSlice S384x1x96 ![0, 0, 0] w slices_S384x4x96_S384x1x96_0_0_0) shapeCasts_S384x1x96_S384x96
def hk0 (w : FVec Ideal S128x4x64 .f32) : FVec Ideal S128x64 .f32 :=
  shapeCast S128x64 (extractStridedSlice S128x1x64 ![0, 0, 0] w slices_S128x4x64_S128x1x64_0_0_0) shapeCasts_S128x1x64_S128x64
theorem hq0_apply (w : FVec Ideal S384x4x96 .f32) (k : Fin 384) (j : Fin 96) : hq0 w (ix2 k j) = w (ix3 k 0 j) := by
  unfold hq0
  pointwise
theorem hk0_apply (w : FVec Ideal S128x4x64 .f32) (k : Fin 128) (j : Fin 64) : hk0 w (ix2 k j) = w (ix3 k 0 j) := by
  unfold hk0
  pointwise

def hq1 (w : FVec Ideal S384x4x96 .f32) : FVec Ideal S384x96 .f32 :=
  shapeCast S384x96 (extractStridedSlice S384x1x96 ![0, 1, 0] w slices_S384x4x96_S384x1x96_0_1_0) shapeCasts_S384x1x96_S384x96
def hk1 (w : FVec Ideal S128x4x64 .f32) : FVec Ideal S128x64 .f32 :=
  shapeCast S128x64 (extractStridedSlice S128x1x64 ![0, 1, 0] w slices_S128x4x64_S128x1x64_0_1_0) shapeCasts_S128x1x64_S128x64
theorem hq1_apply (w : FVec Ideal S384x4x96 .f32) (k : Fin 384) (j : Fin 96) : hq1 w (ix2 k j) = w (ix3 k 1 j) := by
  unfold hq1
  pointwise
theorem hk1_apply (w : FVec Ideal S128x4x64 .f32) (k : Fin 128) (j : Fin 64) : hk1 w (ix2 k j) = w (ix3 k 1 j) := by
  unfold hk1
  pointwise

def hq2 (w : FVec Ideal S384x4x96 .f32) : FVec Ideal S384x96 .f32 :=
  shapeCast S384x96 (extractStridedSlice S384x1x96 ![0, 2, 0] w slices_S384x4x96_S384x1x96_0_2_0) shapeCasts_S384x1x96_S384x96
def hk2 (w : FVec Ideal S128x4x64 .f32) : FVec Ideal S128x64 .f32 :=
  shapeCast S128x64 (extractStridedSlice S128x1x64 ![0, 2, 0] w slices_S128x4x64_S128x1x64_0_2_0) shapeCasts_S128x1x64_S128x64
theorem hq2_apply (w : FVec Ideal S384x4x96 .f32) (k : Fin 384) (j : Fin 96) : hq2 w (ix2 k j) = w (ix3 k 2 j) := by
  unfold hq2
  pointwise
theorem hk2_apply (w : FVec Ideal S128x4x64 .f32) (k : Fin 128) (j : Fin 64) : hk2 w (ix2 k j) = w (ix3 k 2 j) := by
  unfold hk2
  pointwise

def hq3 (w : FVec Ideal S384x4x96 .f32) : FVec Ideal S384x96 .f32 :=
  shapeCast S384x96 (extractStridedSlice S384x1x96 ![0, 3, 0] w slices_S384x4x96_S384x1x96_0_3_0) shapeCasts_S384x1x96_S384x96
def hk3 (w : FVec Ideal S128x4x64 .f32) : FVec Ideal S128x64 .f32 :=
  shapeCast S128x64 (extractStridedSlice S128x1x64 ![0, 3, 0] w slices_S128x4x64_S128x1x64_0_3_0) shapeCasts_S128x1x64_S128x64
theorem hq3_apply (w : FVec Ideal S384x4x96 .f32) (k : Fin 384) (j : Fin 96) : hq3 w (ix2 k j) = w (ix3 k 3 j) := by
  unfold hq3
  pointwise
theorem hk3_apply (w : FVec Ideal S128x4x64 .f32) (k : Fin 128) (j : Fin 64) : hk3 w (ix2 k j) = w (ix3 k 3 j) := by
  unfold hk3
  pointwise

def pack8 (a b c d e f g h : FVec Ideal S384x128 .f32) : FVec Ideal S384x1024 .bf16 :=
  truncf .bf16 (concatenate S384x1024 1 [⟨S384x128, a⟩, ⟨S384x128, b⟩, ⟨S384x128, c⟩, ⟨S384x128, d⟩, ⟨S384x128, e⟩, ⟨S384x128, f⟩, ⟨S384x128, g⟩, ⟨S384x128, h⟩]
    concatenates_S384x128_S384x128_S384x128_S384x128_S384x128_S384x128_S384x128_S384x128_S384x1024_d1) bitsLt_bf16_f32
def pack4 (a b c d : FVec Ideal S128x128 .f32) : FVec Ideal S128x512 .bf16 :=
  truncf .bf16 (concatenate S128x512 1 [⟨S128x128, a⟩, ⟨S128x128, b⟩, ⟨S128x128, c⟩, ⟨S128x128, d⟩]
    concatenates_S128x128_S128x128_S128x128_S128x128_S128x512_d1) bitsLt_bf16_f32

/-- The weights as the call takes them. -/
def wQ (w : FVec Ideal S384x4x96 .f32) : FVec Ideal S384x1024 .bf16 :=
  pack8 (padA (scaled (hq0 w))) (padA (scaled (hq1 w))) (padA (scaled (hq2 w))) (padA (scaled (hq3 w)))
    (padB (rotW (tail (scaled (hq0 w))))) (padB (rotW (tail (scaled (hq1 w))))) (padB (rotW (tail (scaled (hq2 w))))) (padB (rotW (tail (scaled (hq3 w)))))
def wK (w : FVec Ideal S128x4x64 .f32) : FVec Ideal S128x512 .bf16 := pack4 (padK (hk0 w)) (padK (hk1 w)) (padK (hk2 w)) (padK (hk3 w))
def wV (w : FVec Ideal S128x4x64 .f32) : FVec Ideal S256x128 .bf16 :=
  truncf .bf16 (transpose S256x128 [1, 0] (shapeCast S128x256 w shapeCasts_S128x4x64_S128x256) transposes_S128x256_S256x128_1_0) bitsLt_bf16_f32
def rowQ (g : FVec Ideal S384 .f32) : FVec Ideal S1x384 .f32 := shapeCast S1x384 g shapeCasts_S384_S1x384
def rowK (g : FVec Ideal S128 .f32) : FVec Ideal S1x128 .f32 := shapeCast S1x128 g shapeCasts_S128_S1x128

set_option maxHeartbeats 4000000 in
theorem V_x (c : Dev nD) : V m c main_v7 = inp (m ((c : Thread nD τ).loc main_arg0)) (m ((c : Thread nD τ).loc main_arg1)) (tile (m ((c : Thread nD τ).loc main_arg2))) (tile (rot (m ((c : Thread nD τ).loc main_arg2)))) := by
  unfold V
  after_reads_simp <;> rfl

set_option maxHeartbeats 4000000 in
theorem V_gq (c : Dev nD) : V m c main_v113 = rowQ (m ((c : Thread nD τ).loc main_arg3)) := by
  unfold V
  after_reads_simp <;> rfl

set_option maxHeartbeats 4000000 in
theorem V_gk (c : Dev nD) : V m c main_v114 = rowK (m ((c : Thread nD τ).loc main_arg4)) := by
  unfold V
  after_reads_simp <;> rfl

set_option maxHeartbeats 4000000 in
theorem V_wq (c : Dev nD) : V m c main_v107 = wQ (m ((c : Thread nD τ).loc main_arg5)) := by
  unfold V
  after_reads_simp <;> rfl

set_option maxHeartbeats 4000000 in
theorem V_wk (c : Dev nD) : V m c main_v109 = wK (m ((c : Thread nD τ).loc main_arg6)) := by
  unfold V
  after_reads_simp <;> rfl

set_option maxHeartbeats 4000000 in
theorem V_wv (c : Dev nD) : V m c main_v112 = wV (m ((c : Thread nD τ).loc main_arg7)) := by
  unfold V
  after_reads_simp <;> rfl

set_option maxHeartbeats 4000000 in
theorem V_cos (c : Dev nD) : V m c main_v28 = cosT (Host.cos ang) := by
  unfold V
  after_reads_simp <;> rfl

set_option maxHeartbeats 4000000 in
theorem V_sin (c : Dev nD) : V m c main_v33 = sinT (Host.sin ang) := by
  unfold V
  after_reads_simp <;> rfl

theorem zero16_eq : (FloatOps.sitofp (F := Ideal) .bf16 (0#32 : BitVec 32) : EReal) = 0 := by
  show (((0#32).toInt : ℝ) : EReal) = 0
  simp

theorem rot_apply (r : FVec Ideal S32x2048x32 .bf16) (b : Fin 32) (s : Fin 2048) (l : Fin 32) :
    rot r (ix3 b s l) = if h : l.val < 16 then -r (ix3 b s ⟨16 + l, by omega⟩) else r (ix3 b s ⟨l.val - 16, by omega⟩) := by
  unfold rot
  pointwise

theorem tile_apply (r : FVec Ideal S32x2048x32 .bf16) (b : Fin 32) (s : Fin 2048) (l : Fin 128) :
    tile r (ix3 b s l) = LatSpec.ropeL l fun j => r (ix3 b s j) := by
  unfold tile LatSpec.ropeL
  pointwise
  by_cases h : 64 ≤ l.val ∧ l.val < 96
  · rw [dif_pos h]
    exact dif_pos (by omega)
  · rw [dif_neg h]
    exact (dif_neg (by omega)).trans zero16_eq

theorem tile_rot_apply (r : FVec Ideal S32x2048x32 .bf16) (b : Fin 32) (s : Fin 2048) (l : Fin 128) :
    tile (rot r) (ix3 b s l) = LatSpec.rotL l fun j => r (ix3 b s j) := by
  rw [tile_apply]
  unfold LatSpec.ropeL LatSpec.rotL
  simp only [rot_apply]
  by_cases h : 64 ≤ l.val ∧ l.val < 80
  · rw [dif_pos (by omega), dif_pos (by omega), dif_pos h]
    exact congrArg (fun j => -r (ix3 b s j)) (Fin.ext (by show 16 + (l.val - 64) = l.val - 48; omega))
  rw [dif_neg h]
  by_cases h : 80 ≤ l.val ∧ l.val < 96
  · rw [dif_pos (by omega), dif_neg (by omega), dif_pos h]
    exact congrArg (fun j => r (ix3 b s j)) (Fin.ext (by show l.val - 64 - 16 = l.val - 80; omega))
  · rw [dif_neg (by omega), dif_neg h]

section
variable (x : FVec Ideal S32x2048x384 .bf16) (y a b : FVec Ideal S32x2048x128 .bf16) (i : Fin 65536)

theorem inp_q (j : Fin 768) (l : Fin 384) (h : j.val = 0 + l.val) : inp x y a b (ix2 i j) = x (ix3 ⟨i / 2048, by omega⟩ ⟨i % 2048, by omega⟩ l) := by
  unfold inp
  pointwise
  rw [dif_pos (by omega)]
  exact congrArg (fun l => x (ix3 ⟨i / 2048, by omega⟩ ⟨i % 2048, by omega⟩ l)) (Fin.ext (by show j.val = l.val; omega))

theorem inp_kv (j : Fin 768) (l : Fin 128) (h : j.val = 384 + l.val) : inp x y a b (ix2 i j) = y (ix3 ⟨i / 2048, by omega⟩ ⟨i % 2048, by omega⟩ l) := by
  unfold inp
  pointwise
  rw [dif_neg (by omega), dif_pos (by omega)]
  exact congrArg (fun l => y (ix3 ⟨i / 2048, by omega⟩ ⟨i % 2048, by omega⟩ l)) (Fin.ext (by show j.val - 384 = l.val; omega))

theorem inp_rope (j : Fin 768) (l : Fin 128) (h : j.val = 512 + l.val) : inp x y a b (ix2 i j) = a (ix3 ⟨i / 2048, by omega⟩ ⟨i % 2048, by omega⟩ l) := by
  unfold inp
  pointwise
  rw [dif_neg (by omega), dif_neg (by omega), dif_pos (by omega)]
  exact congrArg (fun l => a (ix3 ⟨i / 2048, by omega⟩ ⟨i % 2048, by omega⟩ l)) (Fin.ext (by show j.val - 384 - 128 = l.val; omega))

theorem inp_rot (j : Fin 768) (l : Fin 128) (h : j.val = 640 + l.val) : inp x y a b (ix2 i j) = b (ix3 ⟨i / 2048, by omega⟩ ⟨i % 2048, by omega⟩ l) := by
  unfold inp
  pointwise
  rw [dif_neg (by omega), dif_neg (by omega), dif_neg (by omega)]
  exact congrArg (fun l => b (ix3 ⟨i / 2048, by omega⟩ ⟨i % 2048, by omega⟩ l)) (Fin.ext (by show j.val - 384 - 128 - 128 = l.val; omega))
end

theorem cosT_apply (a : FVec Ideal S2048x16 .f32) (s : Fin 2048) (l : Fin 128) : cosT a (ix2 s l) = LatSpec.cosL (fun f => a (ix2 s f)) l := by
  unfold cosT LatSpec.cosL
  rw [← LatSpec.one_eq]
  pointwise
  by_cases h1 : l.val < 64
  · rw [dif_pos h1, dif_pos h1]
  rw [dif_neg h1, dif_neg h1]
  by_cases h2 : l.val < 80
  · rw [dif_pos (by omega), dif_pos h2]
  rw [dif_neg (by omega), dif_neg h2]
  by_cases h3 : l.val < 96
  · rw [dif_pos (by omega), dif_pos h3]
    exact congrArg (fun f => a (ix2 s f)) (Fin.ext (by show l.val - 64 - 16 = l.val - 80; omega))
  · rw [dif_neg (by omega), dif_neg h3]

theorem sinT_apply (a : FVec Ideal S2048x16 .f32) (s : Fin 2048) (l : Fin 128) : sinT a (ix2 s l) = LatSpec.sinL (fun f => a (ix2 s f)) l := by
  unfold sinT LatSpec.sinL
  pointwise
  by_cases h1 : l.val < 64
  · rw [dif_pos h1, dif_pos h1]
  rw [dif_neg h1, dif_neg h1]
  by_cases h2 : l.val < 80
  · rw [dif_pos (by omega), dif_pos h2]
  rw [dif_neg (by omega), dif_neg h2]
  by_cases h3 : l.val < 96
  · rw [dif_pos (by omega), dif_pos h3]
    exact congrArg (fun f => a (ix2 s f)) (Fin.ext (by show l.val - 64 - 16 = l.val - 80; omega))
  · rw [dif_neg (by omega), dif_neg h3]

theorem scaled_apply (w : FVec Ideal S384x96 .f32) (k : Fin 384) (j : Fin 96) : scaled w (ix2 k j) = w (ix2 k j) * LatSpec.sc := by
  unfold scaled LatSpec.sc
  pointwise

theorem tail_apply (w : FVec Ideal S384x96 .f32) (k : Fin 384) (j : Fin 32) : tail w (ix2 k j) = w (ix2 k ⟨64 + j, by omega⟩) := by
  unfold tail
  pointwise

theorem rotW_apply (w : FVec Ideal S384x32 .f32) (k : Fin 384) (j : Fin 32) :
    rotW w (ix2 k j) = if h : j.val < 16 then -w (ix2 k ⟨16 + j, by omega⟩) else w (ix2 k ⟨j.val - 16, by omega⟩) := by
  unfold rotW
  pointwise

theorem padA_apply (w : FVec Ideal S384x96 .f32) (k : Fin 384) (l : Fin 128) : padA (scaled w) (ix2 k l) = LatSpec.wa l fun j => w (ix2 k j) := by
  unfold LatSpec.wa
  simp only [← scaled_apply]
  unfold padA
  generalize scaled w = v
  pointwise

theorem padB_lanes (w : FVec Ideal S384x32 .f32) (k : Fin 384) (l : Fin 128) :
    padB w (ix2 k l) = if h : 64 ≤ l.val ∧ l.val < 96 then w (ix2 k ⟨l.val - 64, by omega⟩) else 0 := by
  unfold padB
  pointwise
  by_cases h : l.val < 64
  · rw [dif_pos h, dif_neg (by omega)]
  rw [dif_neg h]
  by_cases h : l.val < 96
  · rw [dif_pos (by omega), dif_pos (by omega)]
  · rw [dif_neg (by omega), dif_neg (by omega)]

theorem padB_apply (w : FVec Ideal S384x96 .f32) (k : Fin 384) (l : Fin 128) :
    padB (rotW (tail (scaled w))) (ix2 k l) = LatSpec.wb l fun j => w (ix2 k j) := by
  rw [padB_lanes]
  unfold LatSpec.wb
  simp only [rotW_apply, tail_apply, scaled_apply]
  by_cases h1 : l.val < 64
  · rw [dif_neg (by omega), dif_pos h1]
  rw [dif_neg h1]
  by_cases h2 : l.val < 80
  · rw [dif_pos (by omega), dif_pos (by omega), dif_pos h2]
    exact congrArg (fun j => -(w (ix2 k j) * LatSpec.sc)) (Fin.ext (by show 64 + (16 + (l.val - 64)) = l.val + 16; omega))
  rw [dif_neg h2]
  by_cases h3 : l.val < 96
  · rw [dif_pos (by omega), dif_neg (by omega), dif_pos h3]
    exact congrArg (fun j => w (ix2 k j) * LatSpec.sc) (Fin.ext (by show 64 + (l.val - 64 - 16) = l.val - 16; omega))
  · rw [dif_neg (by omega), dif_neg h3]

theorem padK_apply (w : FVec Ideal S128x64 .f32) (k : Fin 128) (l : Fin 128) : padK w (ix2 k l) = LatSpec.wk l fun j => w (ix2 k j) := by
  unfold padK LatSpec.wk
  pointwise

section
variable (a b c d e f g h : FVec Ideal S384x128 .f32) (k : Fin 384) (l : Fin 128)

theorem pack8_0 (j : Fin 1024) (hj : j.val = 0 + l.val) : pack8 a b c d e f g h (ix2 k j) = a (ix2 k l) := by
  unfold pack8
  pointwise
  rw [dif_pos (by omega)]
  exact congrArg (fun l => a (ix2 k l)) (Fin.ext (by show j.val = l.val; omega))

theorem pack8_1 (j : Fin 1024) (hj : j.val = 128 + l.val) : pack8 a b c d e f g h (ix2 k j) = b (ix2 k l) := by
  unfold pack8
  pointwise
  rw [dif_neg (by omega), dif_pos (by omega)]
  exact congrArg (fun l => b (ix2 k l)) (Fin.ext (by show j.val - 128 = l.val; omega))

theorem pack8_2 (j : Fin 1024) (hj : j.val = 256 + l.val) : pack8 a b c d e f g h (ix2 k j) = c (ix2 k l) := by
  unfold pack8
  pointwise
  rw [dif_neg (by omega), dif_neg (by omega), dif_pos (by omega)]
  exact congrArg (fun l => c (ix2 k l)) (Fin.ext (by show j.val - 128 - 128 = l.val; omega))

theorem pack8_3 (j : Fin 1024) (hj : j.val = 384 + l.val) : pack8 a b c d e f g h (ix2 k j) = d (ix2 k l) := by
  unfold pack8
  pointwise
  rw [dif_neg (by omega), dif_neg (by omega), dif_neg (by omega), dif_pos (by omega)]
  exact congrArg (fun l => d (ix2 k l)) (Fin.ext (by show j.val - 128 - 128 - 128 = l.val; omega))

theorem pack8_4 (j : Fin 1024) (hj : j.val = 512 + l.val) : pack8 a b c d e f g h (ix2 k j) = e (ix2 k l) := by
  unfold pack8
  pointwise
  rw [dif_neg (by omega), dif_neg (by omega), dif_neg (by omega), dif_neg (by omega), dif_pos (by omega)]
  exact congrArg (fun l => e (ix2 k l)) (Fin.ext (by show j.val - 128 - 128 - 128 - 128 = l.val; omega))

theorem pack8_5 (j : Fin 1024) (hj : j.val = 640 + l.val) : pack8 a b c d e f g h (ix2 k j) = f (ix2 k l) := by
  unfold pack8
  pointwise
  rw [dif_neg (by omega), dif_neg (by omega), dif_neg (by omega), dif_neg (by omega), dif_neg (by omega), dif_pos (by omega)]
  exact congrArg (fun l => f (ix2 k l)) (Fin.ext (by show j.val - 128 - 128 - 128 - 128 - 128 = l.val; omega))

theorem pack8_6 (j : Fin 1024) (hj : j.val = 768 + l.val) : pack8 a b c d e f g h (ix2 k j) = g (ix2 k l) := by
  unfold pack8
  pointwise
  rw [dif_neg (by omega), dif_neg (by omega), dif_neg (by omega), dif_neg (by omega), dif_neg (by omega), dif_neg (by omega), dif_pos (by omega)]
  exact congrArg (fun l => g (ix2 k l)) (Fin.ext (by show j.val - 128 - 128 - 128 - 128 - 128 - 128 = l.val; omega))

theorem pack8_7 (j : Fin 1024) (hj : j.val = 896 + l.val) : pack8 a b c d e f g h (ix2 k j) = h (ix2 k l) := by
  unfold pack8
  pointwise
  rw [dif_neg (by omega), dif_neg (by omega), dif_neg (by omega), dif_neg (by omega), dif_neg (by omega), dif_neg (by omega), dif_neg (by omega)]
  exact congrArg (fun l => h (ix2 k l)) (Fin.ext (by show j.val - 128 - 128 - 128 - 128 - 128 - 128 - 128 = l.val; omega))
end

section
variable (a b c d : FVec Ideal S128x128 .f32) (k l : Fin 128)

theorem pack4_0 (j : Fin 512) (hj : j.val = 0 + l.val) : pack4 a b c d (ix2 k j) = a (ix2 k l) := by
  unfold pack4
  pointwise
  rw [dif_pos (by omega)]
  exact congrArg (fun l => a (ix2 k l)) (Fin.ext (by show j.val = l.val; omega))

theorem pack4_1 (j : Fin 512) (hj : j.val = 128 + l.val) : pack4 a b c d (ix2 k j) = b (ix2 k l) := by
  unfold pack4
  pointwise
  rw [dif_neg (by omega), dif_pos (by omega)]
  exact congrArg (fun l => b (ix2 k l)) (Fin.ext (by show j.val - 128 = l.val; omega))

theorem pack4_2 (j : Fin 512) (hj : j.val = 256 + l.val) : pack4 a b c d (ix2 k j) = c (ix2 k l) := by
  unfold pack4
  pointwise
  rw [dif_neg (by omega), dif_neg (by omega), dif_pos (by omega)]
  exact congrArg (fun l => c (ix2 k l)) (Fin.ext (by show j.val - 128 - 128 = l.val; omega))

theorem pack4_3 (j : Fin 512) (hj : j.val = 384 + l.val) : pack4 a b c d (ix2 k j) = d (ix2 k l) := by
  unfold pack4
  pointwise
  rw [dif_neg (by omega), dif_neg (by omega), dif_neg (by omega)]
  exact congrArg (fun l => d (ix2 k l)) (Fin.ext (by show j.val - 128 - 128 - 128 = l.val; omega))
end

theorem wQ_a (w : FVec Ideal S384x4x96 .f32) (k : Fin 384) (j : Fin 1024) (l : Fin 128) : (h : Fin 4) → (hj : j.val = 128 * h.val + l.val) →
    wQ w (ix2 k j) = LatSpec.wa l fun j => w (ix3 k h j)
  | ⟨0, _⟩, hj => by
    unfold wQ
    rw [pack8_0 _ _ _ _ _ _ _ _ k l j (by have : j.val = 128 * 0 + l.val := hj; omega), padA_apply]
    simp only [hq0_apply]
    rfl
  | ⟨1, _⟩, hj => by
    unfold wQ
    rw [pack8_1 _ _ _ _ _ _ _ _ k l j (by have : j.val = 128 * 1 + l.val := hj; omega), padA_apply]
    simp only [hq1_apply]
    rfl
  | ⟨2, _⟩, hj => by
    unfold wQ
    rw [pack8_2 _ _ _ _ _ _ _ _ k l j (by have : j.val = 128 * 2 + l.val := hj; omega), padA_apply]
    simp only [hq2_apply]
    rfl
  | ⟨3, _⟩, hj => by
    unfold wQ
    rw [pack8_3 _ _ _ _ _ _ _ _ k l j (by have : j.val = 128 * 3 + l.val := hj; omega), padA_apply]
    simp only [hq3_apply]
    rfl

theorem wQ_b (w : FVec Ideal S384x4x96 .f32) (k : Fin 384) (j : Fin 1024) (l : Fin 128) : (h : Fin 4) → (hj : j.val = 512 + 128 * h.val + l.val) →
    wQ w (ix2 k j) = LatSpec.wb l fun j => w (ix3 k h j)
  | ⟨0, _⟩, hj => by
    unfold wQ
    rw [pack8_4 _ _ _ _ _ _ _ _ k l j (by have : j.val = 512 + 128 * 0 + l.val := hj; omega), padB_apply]
    simp only [hq0_apply]
    rfl
  | ⟨1, _⟩, hj => by
    unfold wQ
    rw [pack8_5 _ _ _ _ _ _ _ _ k l j (by have : j.val = 512 + 128 * 1 + l.val := hj; omega), padB_apply]
    simp only [hq1_apply]
    rfl
  | ⟨2, _⟩, hj => by
    unfold wQ
    rw [pack8_6 _ _ _ _ _ _ _ _ k l j (by have : j.val = 512 + 128 * 2 + l.val := hj; omega), padB_apply]
    simp only [hq2_apply]
    rfl
  | ⟨3, _⟩, hj => by
    unfold wQ
    rw [pack8_7 _ _ _ _ _ _ _ _ k l j (by have : j.val = 512 + 128 * 3 + l.val := hj; omega), padB_apply]
    simp only [hq3_apply]
    rfl

theorem wK_a (w : FVec Ideal S128x4x64 .f32) (k : Fin 128) (j : Fin 512) (l : Fin 128) : (h : Fin 4) → (hj : j.val = 128 * h.val + l.val) →
    wK w (ix2 k j) = LatSpec.wk l fun j => w (ix3 k h j)
  | ⟨0, _⟩, hj => by
    unfold wK
    rw [pack4_0 _ _ _ _ k l j (by have : j.val = 128 * 0 + l.val := hj; omega), padK_apply]
    simp only [hk0_apply]
    rfl
  | ⟨1, _⟩, hj => by
    unfold wK
    rw [pack4_1 _ _ _ _ k l j (by have : j.val = 128 * 1 + l.val := hj; omega), padK_apply]
    simp only [hk1_apply]
    rfl
  | ⟨2, _⟩, hj => by
    unfold wK
    rw [pack4_2 _ _ _ _ k l j (by have : j.val = 128 * 2 + l.val := hj; omega), padK_apply]
    simp only [hk2_apply]
    rfl
  | ⟨3, _⟩, hj => by
    unfold wK
    rw [pack4_3 _ _ _ _ k l j (by have : j.val = 128 * 3 + l.val := hj; omega), padK_apply]
    simp only [hk3_apply]
    rfl

theorem wV_apply (w : FVec Ideal S128x4x64 .f32) (r : Fin 256) (k : Fin 128) : wV w (ix2 r k) = w (ix3 k ⟨r / 64, by omega⟩ ⟨r % 64, by omega⟩) := by
  unfold wV
  pointwise

theorem rowQ_apply (g : FVec Ideal S384 .f32) (k : Fin 384) : rowQ g (ix2 0 k) = g (ix1 k) := by
  unfold rowQ
  pointwise

theorem rowK_apply (g : FVec Ideal S128 .f32) (k : Fin 128) : rowK g (ix2 0 k) = g (ix1 k) := by
  unfold rowK
  pointwise

end Cert.LatIdeal.Val
-- ==== Proof.LatWin.lean ====
/- The call's windows: what each reads of its array, what a grid point leaves in the outputs' blocks, and how the blocks
   cover the arrays. -/
module

public import proofs.«01_k».proof.Proof.LatHost
public import Idealize.ShloMosaic.Lib.Pipeline.Value
public import Idealize.ShloMosaic.Lib.Pipeline.ValueKit.Basic

@[expose] public section

set_option maxRecDepth 16384

noncomputable section

namespace Cert.LatIdeal.Val

open Cert.LatIdeal Cert.LatIdeal.Gen Idealize.ShloMosaic Idealize.ShloMosaic.TcCoe Idealize.SL.Sem

variable (m : (ℓ : Loc nD τ sig) → Buf (Elt Ideal) ℓ)

theorem tlt (t : Fin cfg0.N) : t.val < 128 := N_0 ▸ t.isLt

/-- The row of the arrays that row `a` of point `t`'s block is. -/
def rt (t : Fin cfg0.N) (a : Fin 512) : Fin 65536 := ⟨512 * t + a, by have := tlt t; omega⟩

/-- The row's position in its sequence, and its batch. -/
def pos (i : Fin 65536) : Fin 2048 := ⟨i % 2048, by omega⟩
def bat (i : Fin 65536) : Fin 32 := ⟨i / 2048, by omega⟩

theorem hi0 : ∀ t : Fin cfg0.N, win0_0.index t 0 = t.val ∧ win0_0.index t 1 = 0 := by
  decide +kernel
theorem hi1 : ∀ t : Fin cfg0.N, win0_1.index t 0 = 0 ∧ win0_1.index t 1 = 0 := by
  decide +kernel
theorem hi2 : ∀ t : Fin cfg0.N, win0_2.index t 0 = 0 ∧ win0_2.index t 1 = 0 := by
  decide +kernel
theorem hi3 : ∀ t : Fin cfg0.N, win0_3.index t 0 = 0 ∧ win0_3.index t 1 = 0 := by
  decide +kernel
theorem hi4 : ∀ t : Fin cfg0.N, win0_4.index t 0 = 0 ∧ win0_4.index t 1 = 0 := by
  decide +kernel
theorem hi5 : ∀ t : Fin cfg0.N, win0_5.index t 0 = 0 ∧ win0_5.index t 1 = 0 := by
  decide +kernel
theorem hi6 : ∀ t : Fin cfg0.N, win0_6.index t 0 = t.val % 4 ∧ win0_6.index t 1 = 0 := by
  decide +kernel
theorem hi7 : ∀ t : Fin cfg0.N, win0_7.index t 0 = t.val % 4 ∧ win0_7.index t 1 = 0 := by
  decide +kernel
theorem hi8 : ∀ t : Fin cfg0.N, win0_8.index t 0 = t.val ∧ win0_8.index t 1 = 0 := by
  decide +kernel
theorem hi9 : ∀ t : Fin cfg0.N, win0_9.index t 0 = t.val ∧ win0_9.index t 1 = 0 := by
  decide +kernel
theorem hi10 : ∀ t : Fin cfg0.N, win0_10.index t 0 = t.val / 4 ∧ win0_10.index t 1 = t.val % 4 ∧ win0_10.index t 2 = 0 ∧ win0_10.index t 3 = 0 := by
  decide +kernel

theorem blk0 (c : Dev nD) (t : Fin cfg0.N) (a : Fin 512) (k : Fin 768) :
    iblk m c 0 t (ix2 a k) = inp (m ((c : Thread nD τ).loc main_arg0)) (m ((c : Thread nD τ).loc main_arg1)) (tile (m ((c : Thread nD τ).loc main_arg2))) (tile (rot (m ((c : Thread nD τ).loc main_arg2)))) (ix2 (rt t a) k) := by
  have hi := hi0 t
  rw [← V_x m c]
  unfold iblk
  rw [View.read_apply]
  show V m c main_v7 _ = V m c main_v7 _
  congr 1
  funext x
  apply Fin.ext
  match x with
  | ⟨0, _⟩ => show win0_0.index t 0 * 512 + 1 * a.val = 512 * t.val + a.val; rw [hi.1]; omega
  | ⟨1, _⟩ => show win0_0.index t 1 * 768 + 1 * k.val = k.val; rw [hi.2]; omega

theorem blk1 (c : Dev nD) (t : Fin cfg0.N) (a : Fin 1) (k : Fin 384) :
    iblk m c 1 t (ix2 a k) = rowQ (m ((c : Thread nD τ).loc main_arg3)) (ix2 a k) := by
  have hi := hi1 t
  rw [← V_gq m c]
  unfold iblk
  rw [View.read_apply]
  show V m c main_v113 _ = V m c main_v113 _
  congr 1
  funext x
  apply Fin.ext
  match x with
  | ⟨0, _⟩ => show win0_1.index t 0 * 1 + 1 * a.val = a.val; rw [hi.1]; omega
  | ⟨1, _⟩ => show win0_1.index t 1 * 384 + 1 * k.val = k.val; rw [hi.2]; omega

theorem blk2 (c : Dev nD) (t : Fin cfg0.N) (a : Fin 1) (k : Fin 128) :
    iblk m c 2 t (ix2 a k) = rowK (m ((c : Thread nD τ).loc main_arg4)) (ix2 a k) := by
  have hi := hi2 t
  rw [← V_gk m c]
  unfold iblk
  rw [View.read_apply]
  show V m c main_v114 _ = V m c main_v114 _
  congr 1
  funext x
  apply Fin.ext
  match x with
  | ⟨0, _⟩ => show win0_2.index t 0 * 1 + 1 * a.val = a.val; rw [hi.1]; omega
  | ⟨1, _⟩ => show win0_2.index t 1 * 128 + 1 * k.val = k.val; rw [hi.2]; omega

theorem blk3 (c : Dev nD) (t : Fin cfg0.N) (a : Fin 384) (k : Fin 1024) :
    iblk m c 3 t (ix2 a k) = wQ (m ((c : Thread nD τ).loc main_arg5)) (ix2 a k) := by
  have hi := hi3 t
  rw [← V_wq m c]
  unfold iblk
  rw [View.read_apply]
  show V m c main_v107 _ = V m c main_v107 _
  congr 1
  funext x
  apply Fin.ext
  match x with
  | ⟨0, _⟩ => show win0_3.index t 0 * 384 + 1 * a.val = a.val; rw [hi.1]; omega
  | ⟨1, _⟩ => show win0_3.index t 1 * 1024 + 1 * k.val = k.val; rw [hi.2]; omega

theorem blk4 (c : Dev nD) (t : Fin cfg0.N) (a : Fin 128) (k : Fin 512) :
    iblk m c 4 t (ix2 a k) = wK (m ((c : Thread nD τ).loc main_arg6)) (ix2 a k) := by
  have hi := hi4 t
  rw [← V_wk m c]
  unfold iblk
  rw [View.read_apply]
  show V m c main_v109 _ = V m c main_v109 _
  congr 1
  funext x
  apply Fin.ext
  match x with
  | ⟨0, _⟩ => show win0_4.index t 0 * 128 + 1 * a.val = a.val; rw [hi.1]; omega
  | ⟨1, _⟩ => show win0_4.index t 1 * 512 + 1 * k.val = k.val; rw [hi.2]; omega

theorem blk5 (c : Dev nD) (t : Fin cfg0.N) (a : Fin 256) (k : Fin 128) :
    iblk m c 5 t (ix2 a k) = wV (m ((c : Thread nD τ).loc main_arg7)) (ix2 a k) := by
  have hi := hi5 t
  rw [← V_wv m c]
  unfold iblk
  rw [View.read_apply]
  show V m c main_v112 _ = V m c main_v112 _
  congr 1
  funext x
  apply Fin.ext
  match x with
  | ⟨0, _⟩ => show win0_5.index t 0 * 256 + 1 * a.val = a.val; rw [hi.1]; omega
  | ⟨1, _⟩ => show win0_5.index t 1 * 128 + 1 * k.val = k.val; rw [hi.2]; omega

theorem blk6 (c : Dev nD) (t : Fin cfg0.N) (a : Fin 512) (k : Fin 128) :
    iblk m c 6 t (ix2 a k) = cosT (Host.cos ang) (ix2 (pos (rt t a)) k) := by
  have hi := hi6 t
  rw [← V_cos m c]
  unfold iblk
  rw [View.read_apply]
  show V m c main_v28 _ = V m c main_v28 _
  congr 1
  funext x
  apply Fin.ext
  match x with
  | ⟨0, _⟩ => show win0_6.index t 0 * 512 + 1 * a.val = (512 * t.val + a.val) % 2048; rw [hi.1]; omega
  | ⟨1, _⟩ => show win0_6.index t 1 * 128 + 1 * k.val = k.val; rw [hi.2]; omega

theorem blk7 (c : Dev nD) (t : Fin cfg0.N) (a : Fin 512) (k : Fin 128) :
    iblk m c 7 t (ix2 a k) = sinT (Host.sin ang) (ix2 (pos (rt t a)) k) := by
  have hi := hi7 t
  rw [← V_sin m c]
  unfold iblk
  rw [View.read_apply]
  show V m c main_v33 _ = V m c main_v33 _
  congr 1
  funext x
  apply Fin.ext
  match x with
  | ⟨0, _⟩ => show win0_7.index t 0 * 512 + 1 * a.val = (512 * t.val + a.val) % 2048; rw [hi.1]; omega
  | ⟨1, _⟩ => show win0_7.index t 1 * 128 + 1 * k.val = k.val; rw [hi.2]; omega

theorem ld1 (x : FVec Ideal S1x384 .f32) : View.ld (Val := Elt Ideal) (e' := .f32) x r0_1 = x := View.ld_unit_lit _ _ (by decide)
theorem ld3 (x : FVec Ideal S1x128 .f32) : View.ld (Val := Elt Ideal) (e' := .f32) x r0_3 = x := View.ld_unit_lit _ _ (by decide)
theorem ld4 (x : FVec Ideal S512x128 .f32) : View.ld (Val := Elt Ideal) (e' := .f32) x r0_4 = x := View.ld_unit_lit _ _ (by decide)
theorem ld9 (x : FVec Ideal S128x512 .bf16) : View.ld (Val := Elt Ideal) (e' := .bf16) x r0_9 = x := View.ld_unit_lit _ _ (by decide)
theorem ld10 (x : FVec Ideal S256x128 .bf16) : View.ld (Val := Elt Ideal) (e' := .bf16) x r0_10 = x := View.ld_unit_lit _ _ (by decide)
def cut0 (x : FVec Ideal S512x768 .bf16) : FVec Ideal S512x384 .bf16 := View.ld (Val := Elt Ideal) (e' := .bf16) x r0_0
theorem ld0 (x : FVec Ideal S512x768 .bf16) : View.ld (Val := Elt Ideal) (e' := .bf16) x r0_0 = cut0 x := rfl
theorem cut0_apply (x : FVec Ideal S512x768 .bf16) (a : Fin 512) (k : Fin 384) : cut0 x (ix2 a k) = x (ix2 a ⟨k, by omega⟩) := by
  show x _ = x _
  refine congrArg x (funext fun y => Fin.ext ?_)
  match y with
  | ⟨0, _⟩ => show 0 + 1 * a.val = a.val; omega
  | ⟨1, _⟩ => show 0 + 1 * k.val = k.val; omega
def cut2 (x : FVec Ideal S512x768 .bf16) : FVec Ideal S512x128 .bf16 := View.ld (Val := Elt Ideal) (e' := .bf16) x r0_2
theorem ld2 (x : FVec Ideal S512x768 .bf16) : View.ld (Val := Elt Ideal) (e' := .bf16) x r0_2 = cut2 x := rfl
theorem cut2_apply (x : FVec Ideal S512x768 .bf16) (a : Fin 512) (k : Fin 128) : cut2 x (ix2 a k) = x (ix2 a ⟨384 + k, by omega⟩) := by
  show x _ = x _
  refine congrArg x (funext fun y => Fin.ext ?_)
  match y with
  | ⟨0, _⟩ => show 0 + 1 * a.val = a.val; omega
  | ⟨1, _⟩ => show 384 + 1 * k.val = 384 + k.val; omega
def cut5 (x : FVec Ideal S512x768 .bf16) : FVec Ideal S512x128 .bf16 := View.ld (Val := Elt Ideal) (e' := .bf16) x r0_5
theorem ld5 (x : FVec Ideal S512x768 .bf16) : View.ld (Val := Elt Ideal) (e' := .bf16) x r0_5 = cut5 x := rfl
theorem cut5_apply (x : FVec Ideal S512x768 .bf16) (a : Fin 512) (k : Fin 128) : cut5 x (ix2 a k) = x (ix2 a ⟨512 + k, by omega⟩) := by
  show x _ = x _
  refine congrArg x (funext fun y => Fin.ext ?_)
  match y with
  | ⟨0, _⟩ => show 0 + 1 * a.val = a.val; omega
  | ⟨1, _⟩ => show 512 + 1 * k.val = 512 + k.val; omega
def cut6 (x : FVec Ideal S512x768 .bf16) : FVec Ideal S512x128 .bf16 := View.ld (Val := Elt Ideal) (e' := .bf16) x r0_6
theorem ld6 (x : FVec Ideal S512x768 .bf16) : View.ld (Val := Elt Ideal) (e' := .bf16) x r0_6 = cut6 x := rfl
theorem cut6_apply (x : FVec Ideal S512x768 .bf16) (a : Fin 512) (k : Fin 128) : cut6 x (ix2 a k) = x (ix2 a ⟨640 + k, by omega⟩) := by
  show x _ = x _
  refine congrArg x (funext fun y => Fin.ext ?_)
  match y with
  | ⟨0, _⟩ => show 0 + 1 * a.val = a.val; omega
  | ⟨1, _⟩ => show 640 + 1 * k.val = 640 + k.val; omega
def cut7 (x : FVec Ideal S384x1024 .bf16) : FVec Ideal S384x512 .bf16 := View.ld (Val := Elt Ideal) (e' := .bf16) x r0_7
theorem ld7 (x : FVec Ideal S384x1024 .bf16) : View.ld (Val := Elt Ideal) (e' := .bf16) x r0_7 = cut7 x := rfl
theorem cut7_apply (x : FVec Ideal S384x1024 .bf16) (a : Fin 384) (k : Fin 512) : cut7 x (ix2 a k) = x (ix2 a ⟨k, by omega⟩) := by
  show x _ = x _
  refine congrArg x (funext fun y => Fin.ext ?_)
  match y with
  | ⟨0, _⟩ => show 0 + 1 * a.val = a.val; omega
  | ⟨1, _⟩ => show 0 + 1 * k.val = k.val; omega
def cut8 (x : FVec Ideal S384x1024 .bf16) : FVec Ideal S384x512 .bf16 := View.ld (Val := Elt Ideal) (e' := .bf16) x r0_8
theorem ld8 (x : FVec Ideal S384x1024 .bf16) : View.ld (Val := Elt Ideal) (e' := .bf16) x r0_8 = cut8 x := rfl
theorem cut8_apply (x : FVec Ideal S384x1024 .bf16) (a : Fin 384) (k : Fin 512) : cut8 x (ix2 a k) = x (ix2 a ⟨512 + k, by omega⟩) := by
  show x _ = x _
  refine congrArg x (funext fun y => Fin.ext ?_)
  match y with
  | ⟨0, _⟩ => show 0 + 1 * a.val = a.val; omega
  | ⟨1, _⟩ => show 512 + 1 * k.val = 512 + k.val; omega
theorem ix8_0 (a j : Fin 512) : Value.ix8_0 (ix2 a j) = ix2 a j := funext fun x => match x with
  | ⟨0, _⟩ => rfl
  | ⟨1, _⟩ => rfl
theorem ix8_2 (a j : Fin 512) : Value.ix8_2 (ix2 a j) = ix2 a j := funext fun x => match x with
  | ⟨0, _⟩ => rfl
  | ⟨1, _⟩ => rfl
theorem ix9_0 (a j : Fin 512) : Value.ix9_0 (ix2 a j) = ix2 a j := funext fun x => match x with
  | ⟨0, _⟩ => rfl
  | ⟨1, _⟩ => rfl
theorem ix8_1 (a j : Fin 512) : Value.ix8_1 (ix2 a j) = ix2 a ⟨j % 128, by omega⟩ := funext fun x => match x with
  | ⟨0, _⟩ => rfl
  | ⟨1, _⟩ => rfl
theorem ix8_3 (a j : Fin 512) : Value.ix8_3 (ix2 a j) = ix2 a ⟨j % 128, by omega⟩ := funext fun x => match x with
  | ⟨0, _⟩ => rfl
  | ⟨1, _⟩ => rfl
theorem ix9_1 (a j : Fin 512) : Value.ix9_1 (ix2 a j) = ix2 a ⟨j % 128, by omega⟩ := funext fun x => match x with
  | ⟨0, _⟩ => rfl
  | ⟨1, _⟩ => rfl
theorem ix9_2 (a j : Fin 512) : Value.ix9_2 (ix2 a j) = ix2 a ⟨j % 128, by omega⟩ := funext fun x => match x with
  | ⟨0, _⟩ => rfl
  | ⟨1, _⟩ => rfl
theorem ix9_3 (a j : Fin 512) : Value.ix9_3 (ix2 a j) = ix2 a ⟨j % 128, by omega⟩ := funext fun x => match x with
  | ⟨0, _⟩ => rfl
  | ⟨1, _⟩ => rfl
theorem ix9_4 (a j : Fin 512) : Value.ix9_4 (ix2 a j) = ix2 a ⟨j % 128, by omega⟩ := funext fun x => match x with
  | ⟨0, _⟩ => rfl
  | ⟨1, _⟩ => rfl
theorem ix10_0 (p : Fin 2) (r : Fin 320) (a : Fin 256) : Value.ix10_0 (ix4 0 p r a) = ix2 r ⟨p * 256 + a, by omega⟩ := funext fun x => match x with
  | ⟨0, _⟩ => rfl
  | ⟨1, _⟩ => rfl

theorem E8_apply (P0 : FVec Ideal S512x384 .bf16) (P1 : FVec Ideal S1x384 .f32) (P2 : FVec Ideal S384x512 .bf16) (P3 : FVec Ideal S512x128 .f32)
    (P4 : FVec Ideal S384x512 .bf16) (P5 : FVec Ideal S512x128 .f32) (a j : Fin 512) :
    Value.E8 (F := Ideal) P0 P1 P2 P3 P4 P5 (ix2 a j)
      = (k0_pay7 (F := Ideal) (k0_pay2 P0 P1) P2 (ix2 a j) * P3 (ix2 a ⟨j % 128, by omega⟩) + k0_pay8 (F := Ideal) (k0_pay2 P0 P1) P4 (ix2 a j) * P5 (ix2 a ⟨j % 128, by omega⟩) : EReal) := by
  show (k0_pay7 (F := Ideal) (k0_pay2 P0 P1) P2 (Value.ix8_0 (ix2 a j)) * P3 (Value.ix8_1 (ix2 a j))
    + k0_pay8 (F := Ideal) (k0_pay2 P0 P1) P4 (Value.ix8_2 (ix2 a j)) * P5 (Value.ix8_3 (ix2 a j)) : EReal) = _
  rw [ix8_0, ix8_1, ix8_2, ix8_3]

theorem E9_apply (P0 : FVec Ideal S512x128 .bf16) (P1 : FVec Ideal S1x128 .f32) (P2 : FVec Ideal S128x512 .bf16) (P3 : FVec Ideal S512x128 .bf16)
    (P4 : FVec Ideal S512x128 .f32) (P5 : FVec Ideal S512x128 .bf16) (P6 : FVec Ideal S512x128 .f32) (a j : Fin 512) :
    Value.E9 (F := Ideal) P0 P1 P2 P3 P4 P5 P6 (ix2 a j)
      = (k0_pay9 (F := Ideal) (k0_pay3 P0 P1) P2 (ix2 a j) + (P3 (ix2 a ⟨j % 128, by omega⟩) * P4 (ix2 a ⟨j % 128, by omega⟩)
        + P5 (ix2 a ⟨j % 128, by omega⟩) * P6 (ix2 a ⟨j % 128, by omega⟩)) : EReal) := by
  show (k0_pay9 (F := Ideal) (k0_pay3 P0 P1) P2 (Value.ix9_0 (ix2 a j)) + (P3 (Value.ix9_1 (ix2 a j)) * P4 (Value.ix9_2 (ix2 a j))
    + P5 (Value.ix9_3 (ix2 a j)) * P6 (Value.ix9_4 (ix2 a j))) : EReal) = _
  rw [ix9_0, ix9_1, ix9_2, ix9_3, ix9_4]

theorem E10_apply (P0 : FVec Ideal S512x128 .bf16) (P1 : FVec Ideal S1x128 .f32) (P2 : FVec Ideal S256x128 .bf16) (p : Fin 2) (r : Fin 320) (a : Fin 256) :
    Value.E10 (F := Ideal) P0 P1 P2 (ix4 0 p r a) = k0_pay10 (F := Ideal) (k0_pay3 P0 P1) P2 (ix2 r ⟨p * 256 + a, by omega⟩) := by
  show k0_pay10 (F := Ideal) (k0_pay3 P0 P1) P2 (Value.ix10_0 (ix4 0 p r a)) = _
  rw [ix10_0]

section
variable (x0 : FVec Ideal S512x768 .bf16) (x1 : FVec Ideal S1x384 .f32) (x2 : FVec Ideal S1x128 .f32) (x3 : FVec Ideal S384x1024 .bf16)
  (x4 : FVec Ideal S128x512 .bf16) (x5 : FVec Ideal S256x128 .bf16) (x6 x7 : FVec Ideal S512x128 .f32)

/-- The normed latents of the block's row. -/
def bQ (a : Fin 512) (k : Fin 384) : EReal := LatSpec.rms 0x43C00000#32 (fun k : Fin 384 => x0 (ix2 a ⟨k, by omega⟩)) (fun k => x1 (ix2 0 k)) k
def bK (a : Fin 512) (k : Fin 128) : EReal := LatSpec.rms 0x43000000#32 (fun k : Fin 128 => x0 (ix2 a ⟨384 + k, by omega⟩)) (fun k => x2 (ix2 0 k)) k

theorem out8_eq (a j : Fin 512) : out0_8 (F := Ideal) x0 x1 x2 x3 x4 x5 x6 x7 (ix2 a j)
    = ((∑ k, bQ x0 x1 a k * x3 (ix2 k ⟨j, by omega⟩)) * x6 (ix2 a ⟨j % 128, by omega⟩)
      + (∑ k, bQ x0 x1 a k * x3 (ix2 k ⟨512 + j, by omega⟩)) * x7 (ix2 a ⟨j % 128, by omega⟩) : EReal) := by
  unfold_out out0_8
  refine (Value.canon8_eq _ _ _ _ _ _ _).trans ?_
  rw [E8_apply, pay7_apply, pay8_apply, ld0, ld1, ld7, ld8, ld4, ld4]
  simp only [pay2_apply, cut0_apply, cut7_apply, cut8_apply]
  rfl

theorem out9_eq (a j : Fin 512) : out0_9 (F := Ideal) x0 x1 x2 x3 x4 x5 x6 x7 (ix2 a j)
    = ((∑ k, bK x0 x2 a k * x4 (ix2 k j)) + (x0 (ix2 a ⟨512 + j % 128, by omega⟩) * x6 (ix2 a ⟨j % 128, by omega⟩)
      + x0 (ix2 a ⟨640 + j % 128, by omega⟩) * x7 (ix2 a ⟨j % 128, by omega⟩)) : EReal) := by
  unfold_out out0_9
  refine (Value.canon9_eq _ _ _ _ _ _ _ _).trans ?_
  rw [E9_apply, pay9_apply, ld2, ld3, ld5, ld6, ld4, ld4, ld9]
  simp only [pay3_apply, cut2_apply, cut5_apply, cut6_apply]
  rfl

theorem out10_eq (p : Fin 2) (r : Fin 320) (a : Fin 256) : out0_10 (F := Ideal) x0 x1 x2 x3 x4 x5 x6 x7 (ix4 0 p r a)
    = (if h : r.val % 80 < 64 then ∑ k, bK x0 x2 ⟨p * 256 + a, by omega⟩ k * x5 (ix2 ⟨r / 80 * 64 + r % 80, by omega⟩ k) else 1 : EReal) := by
  unfold_out out0_10
  refine (Value.canon10_eq _ _ _ _).trans ?_
  rw [E10_apply, pay10_eq, rows_apply, ld2, ld3, ld10]
  simp only [dotV_apply, pay3_apply, cut2_apply]
  rfl
end

theorem hx8 : ∀ t : Fin cfg0.N, win0_8.xsize (grid0.coords t) 0 = 512 ∧ win0_8.xsize (grid0.coords t) 1 = 512 := by
  decide +kernel

theorem mem_blk8 (t : Fin cfg0.N) (i : S65536x512.Idx) (ha : 512 * t.val ≤ (i 0).val) (hb : (i 0).val < 512 * t.val + 512) :
    i ∈ ((cfg0.win 8).blk t).view.set := by
  show i ∈ ((View.whole main_v115_0).slice (win0_8.rect t)).set
  rw [View.set_slice_whole, Rect.mem_set_unit]
  have h1 : (i 1).val < 512 := (i 1).isLt
  have hi := hi8 t
  have hx := hx8 t
  intro a
  match a with
  | ⟨0, _⟩ => show win0_8.index t 0 * 512 ≤ (i 0).val ∧ (i 0).val < win0_8.index t 0 * 512 + win0_8.xsize (grid0.coords t) 0
              rw [hi.1, hx.1]; omega
  | ⟨1, _⟩ => show win0_8.index t 1 * 512 ≤ (i 1).val ∧ (i 1).val < win0_8.index t 1 * 512 + win0_8.xsize (grid0.coords t) 1
              rw [hi.2, hx.2]; omega

theorem cover8 (i : S65536x512.Idx) : ∃ t : Fin cfg0.N, (cfg0.win 8).flush t = true ∧ i ∈ ((cfg0.win 8).blk t).view.set := by
  have h0 : (i 0).val < 65536 := (i 0).isLt
  refine ⟨⟨(i 0).val / 512, by have : cfg0.N = 128 := N_0; omega⟩, flush0_8 _, mem_blk8 _ i ?_ ?_⟩
  · dsimp only; omega
  · dsimp only; omega

theorem hx9 : ∀ t : Fin cfg0.N, win0_9.xsize (grid0.coords t) 0 = 512 ∧ win0_9.xsize (grid0.coords t) 1 = 512 := by
  decide +kernel

theorem mem_blk9 (t : Fin cfg0.N) (i : S65536x512.Idx) (ha : 512 * t.val ≤ (i 0).val) (hb : (i 0).val < 512 * t.val + 512) :
    i ∈ ((cfg0.win 9).blk t).view.set := by
  show i ∈ ((View.whole main_v115_1).slice (win0_9.rect t)).set
  rw [View.set_slice_whole, Rect.mem_set_unit]
  have h1 : (i 1).val < 512 := (i 1).isLt
  have hi := hi9 t
  have hx := hx9 t
  intro a
  match a with
  | ⟨0, _⟩ => show win0_9.index t 0 * 512 ≤ (i 0).val ∧ (i 0).val < win0_9.index t 0 * 512 + win0_9.xsize (grid0.coords t) 0
              rw [hi.1, hx.1]; omega
  | ⟨1, _⟩ => show win0_9.index t 1 * 512 ≤ (i 1).val ∧ (i 1).val < win0_9.index t 1 * 512 + win0_9.xsize (grid0.coords t) 1
              rw [hi.2, hx.2]; omega

theorem cover9 (i : S65536x512.Idx) : ∃ t : Fin cfg0.N, (cfg0.win 9).flush t = true ∧ i ∈ ((cfg0.win 9).blk t).view.set := by
  have h0 : (i 0).val < 65536 := (i 0).isLt
  refine ⟨⟨(i 0).val / 512, by have : cfg0.N = 128 := N_0; omega⟩, flush0_9 _, mem_blk9 _ i ?_ ?_⟩
  · dsimp only; omega
  · dsimp only; omega

theorem hx10 : ∀ t : Fin cfg0.N, win0_10.xsize (grid0.coords t) 0 = 1 ∧ win0_10.xsize (grid0.coords t) 1 = 2
    ∧ win0_10.xsize (grid0.coords t) 2 = 320 ∧ win0_10.xsize (grid0.coords t) 3 = 256 := by
  decide +kernel

theorem mem_blk10 (t : Fin cfg0.N) (i : S32x8x320x256.Idx) (ha : (i 0).val = t.val / 4) (hb : (i 1).val / 2 = t.val % 4) :
    i ∈ ((cfg0.win 10).blk t).view.set := by
  show i ∈ ((View.whole main_v115_2).slice (win0_10.rect t)).set
  rw [View.set_slice_whole, Rect.mem_set_unit]
  have h2 : (i 2).val < 320 := (i 2).isLt
  have h3 : (i 3).val < 256 := (i 3).isLt
  have hi := hi10 t
  have hx := hx10 t
  intro a
  match a with
  | ⟨0, _⟩ => show win0_10.index t 0 * 1 ≤ (i 0).val ∧ (i 0).val < win0_10.index t 0 * 1 + win0_10.xsize (grid0.coords t) 0
              rw [hi.1, hx.1]; omega
  | ⟨1, _⟩ => show win0_10.index t 1 * 2 ≤ (i 1).val ∧ (i 1).val < win0_10.index t 1 * 2 + win0_10.xsize (grid0.coords t) 1
              rw [hi.2.1, hx.2.1]; omega
  | ⟨2, _⟩ => show win0_10.index t 2 * 320 ≤ (i 2).val ∧ (i 2).val < win0_10.index t 2 * 320 + win0_10.xsize (grid0.coords t) 2
              rw [hi.2.2.1, hx.2.2.1]; omega
  | ⟨3, _⟩ => show win0_10.index t 3 * 256 ≤ (i 3).val ∧ (i 3).val < win0_10.index t 3 * 256 + win0_10.xsize (grid0.coords t) 3
              rw [hi.2.2.2, hx.2.2.2]; omega

theorem cover10 (i : S32x8x320x256.Idx) : ∃ t : Fin cfg0.N, (cfg0.win 10).flush t = true ∧ i ∈ ((cfg0.win 10).blk t).view.set := by
  have h0 : (i 0).val < 32 := (i 0).isLt
  have h1 : (i 1).val < 8 := (i 1).isLt
  refine ⟨⟨4 * (i 0).val + (i 1).val / 2, by have : cfg0.N = 128 := N_0; omega⟩, flush0_10 _, mem_blk10 _ i ?_ ?_⟩
  · dsimp only; omega
  · dsimp only; omega

end Cert.LatIdeal.Val
-- ==== Proof.LatValue.lean ====
/- The call's run: the result arrays hold the heads' queries, keys and values, block by block. -/
module

public import proofs.«01_k».proof.Proof.LatWin

@[expose] public section

set_option maxRecDepth 16384

noncomputable section

namespace Cert.LatIdeal.Val

open Cert.LatIdeal Cert.LatIdeal.Gen Idealize.ShloMosaic Idealize.ShloMosaic.TcCoe Idealize.SL.Sem

section
variable (x : FVec Ideal S32x2048x384 .bf16) (y : FVec Ideal S32x2048x128 .bf16) (r : FVec Ideal S32x2048x32 .bf16) (g : FVec Ideal S384 .f32) (h : FVec Ideal S128 .f32)
  (wq : FVec Ideal S384x4x96 .f32) (wk wv : FVec Ideal S128x4x64 .f32)

/-- The normed latents. -/
def nQ (b : Fin 32) (s : Fin 2048) (k : Fin 384) : EReal := LatSpec.rms 0x43C00000#32 (fun k => x (ix3 b s k)) (fun k => g (ix1 k)) k
def nK (b : Fin 32) (s : Fin 2048) (k : Fin 128) : EReal := LatSpec.rms 0x43000000#32 (fun k => y (ix3 b s k)) (fun k => h (ix1 k)) k

/-- The position's cosines and sines. -/
def cs (s : Fin 2048) (f : Fin 16) : EReal := Host.cos ang (ix2 s f)
def sn (s : Fin 2048) (f : Fin 16) : EReal := Host.sin ang (ix2 s f)

/-- The results' entries. -/
def e8 (i : Fin 65536) (j : Fin 512) : EReal :=
  LatSpec.qS (cs (pos i)) (sn (pos i)) ⟨j % 128, by omega⟩ fun d => ∑ k, nQ x g (bat i) (pos i) k * wq (ix3 k ⟨j / 128, by omega⟩ d)
def e9 (i : Fin 65536) (j : Fin 512) : EReal :=
  LatSpec.kS (cs (pos i)) (sn (pos i)) ⟨j % 128, by omega⟩ (fun d => ∑ k, nK y h (bat i) (pos i) k * wk (ix3 k ⟨j / 128, by omega⟩ d)) fun d => r (ix3 (bat i) (pos i) d)
def e10 (b : Fin 32) (q : Fin 8) (l : Fin 320) (a : Fin 256) : EReal :=
  if h' : l.val % 80 < 64 then ∑ k, nK y h b ⟨256 * q + a, by omega⟩ k * wv (ix3 k ⟨l / 80, by omega⟩ ⟨l % 80, h'⟩) else 1

/-- The results. -/
def G8 : FVec Ideal S65536x512 .bf16 := fun i => e8 x g wq ⟨(i 0).val, (i 0).isLt⟩ ⟨(i 1).val, (i 1).isLt⟩
def G9 : FVec Ideal S65536x512 .bf16 := fun i => e9 y r h wk ⟨(i 0).val, (i 0).isLt⟩ ⟨(i 1).val, (i 1).isLt⟩
def G10 : FVec Ideal S32x8x320x256 .bf16 := fun i => e10 y h wv ⟨(i 0).val, (i 0).isLt⟩ ⟨(i 1).val, (i 1).isLt⟩ ⟨(i 2).val, (i 2).isLt⟩ ⟨(i 3).val, (i 3).isLt⟩
theorem G8_apply (i : Fin 65536) (j : Fin 512) : G8 x g wq (ix2 i j) = e8 x g wq i j := rfl
theorem G9_apply (i : Fin 65536) (j : Fin 512) : G9 y r h wk (ix2 i j) = e9 y r h wk i j := rfl
theorem G10_apply (b : Fin 32) (q : Fin 8) (l : Fin 320) (a : Fin 256) : G10 y h wv (ix4 b q l a) = e10 y h wv b q l a := rfl
end

section
variable (x : FVec Ideal S32x2048x384 .bf16) (y a b : FVec Ideal S32x2048x128 .bf16) (i : Fin 65536)
theorem inp_q' (k : Fin 384) : inp x y a b (ix2 i ⟨k, by omega⟩) = x (ix3 (bat i) (pos i) k) := inp_q x y a b i _ k (by show k.val = 0 + k.val; omega)
theorem inp_kv' (k : Fin 128) : inp x y a b (ix2 i ⟨384 + k, by omega⟩) = y (ix3 (bat i) (pos i) k) := inp_kv x y a b i _ k rfl
theorem inp_rope' (j : Fin 512) : inp x y a b (ix2 i ⟨512 + j % 128, by omega⟩) = a (ix3 (bat i) (pos i) ⟨j % 128, by omega⟩) := inp_rope x y a b i _ _ rfl
theorem inp_rot' (j : Fin 512) : inp x y a b (ix2 i ⟨640 + j % 128, by omega⟩) = b (ix3 (bat i) (pos i) ⟨j % 128, by omega⟩) := inp_rot x y a b i _ _ rfl
end

theorem wQ_a' (w : FVec Ideal S384x4x96 .f32) (k : Fin 384) (j : Fin 512) :
    wQ w (ix2 k ⟨j, by omega⟩) = LatSpec.wa ⟨j % 128, by omega⟩ fun d => w (ix3 k ⟨j / 128, by omega⟩ d) :=
  wQ_a w k _ ⟨j % 128, by omega⟩ ⟨j / 128, by omega⟩ (by show j.val = 128 * (j.val / 128) + j.val % 128; omega)
theorem wQ_b' (w : FVec Ideal S384x4x96 .f32) (k : Fin 384) (j : Fin 512) :
    wQ w (ix2 k ⟨512 + j, by omega⟩) = LatSpec.wb ⟨j % 128, by omega⟩ fun d => w (ix3 k ⟨j / 128, by omega⟩ d) :=
  wQ_b w k _ ⟨j % 128, by omega⟩ ⟨j / 128, by omega⟩ (by show 512 + j.val = 512 + 128 * (j.val / 128) + j.val % 128; omega)
theorem wK_a' (w : FVec Ideal S128x4x64 .f32) (k : Fin 128) (j : Fin 512) :
    wK w (ix2 k j) = LatSpec.wk ⟨j % 128, by omega⟩ fun d => w (ix3 k ⟨j / 128, by omega⟩ d) :=
  wK_a w k _ ⟨j % 128, by omega⟩ ⟨j / 128, by omega⟩ (by show j.val = 128 * (j.val / 128) + j.val % 128; omega)

variable (m : (ℓ : Loc nD τ sig) → Buf (Elt Ideal) ℓ)

/-- The scale of the queries' norm and the negated columns of their weight hold real numbers. -/
structure Real (c : Dev nD) : Prop where
  g : ∀ i, ∃ r : ℝ, (m ((c : Thread nD τ).loc main_arg3) : FVec Ideal S384 .f32) i = (↑r : EReal)
  w : ∀ k h (j : Fin 16), ∃ r : ℝ, (m ((c : Thread nD τ).loc main_arg5) : FVec Ideal S384x4x96 .f32) (ix3 k h ⟨80 + j.val, by omega⟩) = (↑r : EReal)

theorem bQ_eq (c : Dev nD) (t : Fin cfg0.N) (a : Fin 512) (k : Fin 384) : bQ (iblk m c 0 t) (iblk m c 1 t) a k = nQ (m ((c : Thread nD τ).loc main_arg0)) (m ((c : Thread nD τ).loc main_arg3)) (bat (rt t a)) (pos (rt t a)) k := by
  unfold bQ nQ
  simp only [blk0, blk1, inp_q', rowQ_apply]
theorem bK_eq (c : Dev nD) (t : Fin cfg0.N) (a : Fin 512) (k : Fin 128) : bK (iblk m c 0 t) (iblk m c 2 t) a k = nK (m ((c : Thread nD τ).loc main_arg1)) (m ((c : Thread nD τ).loc main_arg4)) (bat (rt t a)) (pos (rt t a)) k := by
  unfold bK nK
  simp only [blk0, blk2, inp_kv', rowK_apply]

theorem oblk8 (c : Dev nD) (hr : Real m c) (t : Fin cfg0.N) (a : Fin 512) (j : Fin 512) :
    out0_8 (F := Ideal) (iblk m c 0 t) (iblk m c 1 t) (iblk m c 2 t) (iblk m c 3 t) (iblk m c 4 t) (iblk m c 5 t) (iblk m c 6 t) (iblk m c 7 t) (ix2 a j) = G8 (m ((c : Thread nD τ).loc main_arg0)) (m ((c : Thread nD τ).loc main_arg3)) (m ((c : Thread nD τ).loc main_arg5)) (ix2 (rt t a) j) := by
  rw [out8_eq, G8_apply]
  simp only [bQ_eq, blk3, blk6, blk7, wQ_a', wQ_b', cosT_apply, sinT_apply]
  exact LatSpec.q_eq _ (fun k => LatSpec.rms_real _ _ (fun _ => hr.g _) k) (fun k d => (m ((c : Thread nD τ).loc main_arg5) : FVec Ideal S384x4x96 .f32) (ix3 k ⟨j / 128, by omega⟩ d)) (fun k d => hr.w k _ d) _ _ _

theorem oblk9 (c : Dev nD) (t : Fin cfg0.N) (a : Fin 512) (j : Fin 512) :
    out0_9 (F := Ideal) (iblk m c 0 t) (iblk m c 1 t) (iblk m c 2 t) (iblk m c 3 t) (iblk m c 4 t) (iblk m c 5 t) (iblk m c 6 t) (iblk m c 7 t) (ix2 a j) = G9 (m ((c : Thread nD τ).loc main_arg1)) (m ((c : Thread nD τ).loc main_arg2)) (m ((c : Thread nD τ).loc main_arg4)) (m ((c : Thread nD τ).loc main_arg6)) (ix2 (rt t a) j) := by
  rw [out9_eq, G9_apply]
  simp only [bK_eq, blk0, blk4, blk6, blk7, inp_rope', inp_rot', tile_rot_apply, wK_a', cosT_apply, sinT_apply]
  simp only [tile_apply]
  exact LatSpec.k_eq _ (fun k d => (m ((c : Thread nD τ).loc main_arg6) : FVec Ideal S128x4x64 .f32) (ix3 k ⟨j / 128, by omega⟩ d)) _ _ _ _

theorem oblk10 (c : Dev nD) (t : Fin cfg0.N) (p : Fin 2) (l : Fin 320) (a : Fin 256) :
    out0_10 (F := Ideal) (iblk m c 0 t) (iblk m c 1 t) (iblk m c 2 t) (iblk m c 3 t) (iblk m c 4 t) (iblk m c 5 t) (iblk m c 6 t) (iblk m c 7 t) (ix4 0 p l a)
      = G10 (m ((c : Thread nD τ).loc main_arg1)) (m ((c : Thread nD τ).loc main_arg4)) (m ((c : Thread nD τ).loc main_arg7)) (ix4 ⟨t / 4, by have := tlt t; omega⟩ ⟨2 * (t % 4) + p, by omega⟩ l a) := by
  rw [out10_eq, G10_apply]
  unfold e10
  simp only [bK_eq, blk5, wV_apply]
  have ht := tlt t
  have e1 : bat (rt t ⟨p * 256 + a, by omega⟩) = ⟨t / 4, by omega⟩ := Fin.ext (by show (512 * t.val + (p.val * 256 + a.val)) / 2048 = t.val / 4; omega)
  have e2 : pos (rt t ⟨p * 256 + a, by omega⟩) = ⟨256 * (2 * (t % 4) + p) + a, by omega⟩ :=
    Fin.ext (by show (512 * t.val + (p.val * 256 + a.val)) % 2048 = 256 * (2 * (t.val % 4) + p.val) + a.val; omega)
  rw [e1, e2]
  by_cases h : l.val % 80 < 64
  · rw [dif_pos h, dif_pos h]
    have f1 : (⟨(l.val / 80 * 64 + l.val % 80) / 64, by omega⟩ : Fin 4) = ⟨l / 80, by omega⟩ := Fin.ext (by show (l.val / 80 * 64 + l.val % 80) / 64 = l.val / 80; omega)
    have f2 : (⟨(l.val / 80 * 64 + l.val % 80) % 64, by omega⟩ : Fin 64) = ⟨l % 80, h⟩ := Fin.ext (by show (l.val / 80 * 64 + l.val % 80) % 64 = l.val % 80; omega)
    simp only [f1, f2]
  · rw [dif_neg h, dif_neg h]

theorem flushed8 (c : Dev nD) (hr : Real m c) (t : Fin cfg0.N) :
    (dats m 0 c).flushed 8 t = (win0_8.blk t).view.read (Elt Ideal) (G8 (m ((c : Thread nD τ).loc main_arg0)) (m ((c : Thread nD τ).loc main_arg3)) (m ((c : Thread nD τ).loc main_arg5))) := by
  rw [Value.flushed8]
  have hi := hi8 t
  refine funext fun (j : S512x512.Idx) => ?_
  have h0 : (j 0).val < 512 := (j 0).isLt
  have h1 : (j 1).val < 512 := (j 1).isLt
  refine Eq.trans ?_ ((oblk8 m c hr t ⟨(j 0).val, h0⟩ ⟨(j 1).val, h1⟩).trans (Eq.trans ?_ (View.read_apply ..).symm))
  · refine congrArg (out0_8 (F := Ideal) (iblk m c 0 t) (iblk m c 1 t) (iblk m c 2 t) (iblk m c 3 t) (iblk m c 4 t) (iblk m c 5 t) (iblk m c 6 t) (iblk m c 7 t)) (funext fun x => Fin.ext ?_)
    match x with
    | ⟨0, _⟩ => rfl
    | ⟨1, _⟩ => rfl
  · refine congrArg (G8 (m ((c : Thread nD τ).loc main_arg0)) (m ((c : Thread nD τ).loc main_arg3)) (m ((c : Thread nD τ).loc main_arg5))) (funext fun x => Fin.ext ?_)
    match x with
    | ⟨0, _⟩ => show 512 * t.val + (j 0).val = win0_8.index t 0 * 512 + 1 * (j 0).val; rw [hi.1]; omega
    | ⟨1, _⟩ => show (j 1).val = win0_8.index t 1 * 512 + 1 * (j 1).val; rw [hi.2]; omega

theorem final8 (c : Dev nD) (hr : Real m c) : (dats m 0 c).arrAt 8 cfg0.N = G8 (m ((c : Thread nD τ).loc main_arg0)) (m ((c : Thread nD τ).loc main_arg3)) (m ((c : Thread nD τ).loc main_arg5)) :=
  (dats m 0 c).arrAt_eq_of_cover 8 _ (fun t _ => flushed8 m c hr t) cover8

theorem flushed9 (c : Dev nD) (t : Fin cfg0.N) :
    (dats m 0 c).flushed 9 t = (win0_9.blk t).view.read (Elt Ideal) (G9 (m ((c : Thread nD τ).loc main_arg1)) (m ((c : Thread nD τ).loc main_arg2)) (m ((c : Thread nD τ).loc main_arg4)) (m ((c : Thread nD τ).loc main_arg6))) := by
  rw [Value.flushed9]
  have hi := hi9 t
  refine funext fun (j : S512x512.Idx) => ?_
  have h0 : (j 0).val < 512 := (j 0).isLt
  have h1 : (j 1).val < 512 := (j 1).isLt
  refine Eq.trans ?_ ((oblk9 m c  t ⟨(j 0).val, h0⟩ ⟨(j 1).val, h1⟩).trans (Eq.trans ?_ (View.read_apply ..).symm))
  · refine congrArg (out0_9 (F := Ideal) (iblk m c 0 t) (iblk m c 1 t) (iblk m c 2 t) (iblk m c 3 t) (iblk m c 4 t) (iblk m c 5 t) (iblk m c 6 t) (iblk m c 7 t)) (funext fun x => Fin.ext ?_)
    match x with
    | ⟨0, _⟩ => rfl
    | ⟨1, _⟩ => rfl
  · refine congrArg (G9 (m ((c : Thread nD τ).loc main_arg1)) (m ((c : Thread nD τ).loc main_arg2)) (m ((c : Thread nD τ).loc main_arg4)) (m ((c : Thread nD τ).loc main_arg6))) (funext fun x => Fin.ext ?_)
    match x with
    | ⟨0, _⟩ => show 512 * t.val + (j 0).val = win0_9.index t 0 * 512 + 1 * (j 0).val; rw [hi.1]; omega
    | ⟨1, _⟩ => show (j 1).val = win0_9.index t 1 * 512 + 1 * (j 1).val; rw [hi.2]; omega

theorem final9 (c : Dev nD) : (dats m 0 c).arrAt 9 cfg0.N = G9 (m ((c : Thread nD τ).loc main_arg1)) (m ((c : Thread nD τ).loc main_arg2)) (m ((c : Thread nD τ).loc main_arg4)) (m ((c : Thread nD τ).loc main_arg6)) :=
  (dats m 0 c).arrAt_eq_of_cover 9 _ (fun t _ => flushed9 m c  t) cover9

theorem flushed10 (c : Dev nD) (t : Fin cfg0.N) :
    (dats m 0 c).flushed 10 t = (win0_10.blk t).view.read (Elt Ideal) (G10 (m ((c : Thread nD τ).loc main_arg1)) (m ((c : Thread nD τ).loc main_arg4)) (m ((c : Thread nD τ).loc main_arg7))) := by
  rw [Value.flushed10]
  have hi := hi10 t
  refine funext fun (j : S1x2x320x256.Idx) => ?_
  have h0 : (j 0).val < 1 := (j 0).isLt
  have h1 : (j 1).val < 2 := (j 1).isLt
  have h2 : (j 2).val < 320 := (j 2).isLt
  have h3 : (j 3).val < 256 := (j 3).isLt
  refine Eq.trans ?_ ((oblk10 m c t ⟨(j 1).val, h1⟩ ⟨(j 2).val, h2⟩ ⟨(j 3).val, h3⟩).trans (Eq.trans ?_ (View.read_apply ..).symm))
  · refine congrArg (out0_10 (F := Ideal) (iblk m c 0 t) (iblk m c 1 t) (iblk m c 2 t) (iblk m c 3 t) (iblk m c 4 t) (iblk m c 5 t) (iblk m c 6 t) (iblk m c 7 t)) (funext fun x => Fin.ext ?_)
    match x with
    | ⟨0, _⟩ => show (j 0).val = 0; omega
    | ⟨1, _⟩ => rfl
    | ⟨2, _⟩ => rfl
    | ⟨3, _⟩ => rfl
  · refine congrArg (G10 (m ((c : Thread nD τ).loc main_arg1)) (m ((c : Thread nD τ).loc main_arg4)) (m ((c : Thread nD τ).loc main_arg7))) (funext fun x => Fin.ext ?_)
    match x with
    | ⟨0, _⟩ => show t.val / 4 = win0_10.index t 0 * 1 + 1 * (j 0).val; rw [hi.1]; omega
    | ⟨1, _⟩ => show 2 * (t.val % 4) + (j 1).val = win0_10.index t 1 * 2 + 1 * (j 1).val; rw [hi.2.1]; omega
    | ⟨2, _⟩ => show (j 2).val = win0_10.index t 2 * 320 + 1 * (j 2).val; rw [hi.2.2.1]; omega
    | ⟨3, _⟩ => show (j 3).val = win0_10.index t 3 * 256 + 1 * (j 3).val; rw [hi.2.2.2]; omega

theorem final10 (c : Dev nD) : (dats m 0 c).arrAt 10 cfg0.N = G10 (m ((c : Thread nD τ).loc main_arg1)) (m ((c : Thread nD τ).loc main_arg4)) (m ((c : Thread nD τ).loc main_arg7)) :=
  (dats m 0 c).arrAt_eq_of_cover 10 _ (fun t _ => flushed10 m c t) cover10

end Cert.LatIdeal.Val
-- ==== Proof.LatClaims.lean ====
/- The claims about the latent attention's preparation, put together from the kernel's run, the reference's run and the
   precondition. -/
module

public import proofs.«01_k».proof.Defs
public import proofs.«01_k».proof.Proof.Gen.Lat.Frame
public import proofs.«01_k».proof.Proof.Gen.LatIdeal.Frame
public import proofs.«01_k».proof.Proof.LatPre
public import proofs.«01_k».proof.Proof.LatRef
public import proofs.«01_k».proof.Proof.LatValue
public import Idealize.ShloMosaic.Lib.Quiescent

@[expose] public section

set_option maxRecDepth 16384

noncomputable section

namespace Cert.LatClaims

open Idealize.ShloMosaic Idealize.ShloMosaic.TcCoe Idealize.SL.Sem

theorem frame_L : Cert.quiescent_Lat := fun m ρ _ => Cert.Lat.Gen.frame m ρ
theorem frame_LI : Cert.quiescent_LatIdeal := fun m ρ _ => Cert.LatIdeal.Gen.frame m ρ
theorem frame_LI_pre : Cert.quiescent_LatIdeal_pre_queries := fun m ρ _ => Cert.LatIdeal.Gen.frame m ρ

theorem frame_LR : Cert.quiescent_LatRefIdeal := fun m ρ _ =>
  (θ_run Cert.LatRefIdeal.defs _ _).mono (fun r h => ⟨fun c => (h c).2.2.2, sem_eq_zero_of_no_sems (by decide) r.2⟩)
    (Cert.LatRefIdeal.Value.run (F := Ideal) m ρ)
theorem frame_LR_pre : Cert.quiescent_LatRefIdeal_pre_queries := fun m ρ _ => frame_LR m ρ trivial

theorem preserves : Cert.preserves_Lat_LatIdeal := trivial

section
open Cert.LatRefIdeal Cert.LatRefIdeal.Gen Cert.LatRefIdeal.Val
variable (x : FVec Ideal S32x2048x384 .bf16) (y : FVec Ideal S32x2048x128 .bf16) (r : FVec Ideal S32x2048x32 .bf16) (g : FVec Ideal S384 .f32) (h : FVec Ideal S128 .f32)
  (wq : FVec Ideal S384x4x96 .f32) (wk wv : FVec Ideal S128x4x64 .f32)

theorem ref_q_apply (i : Fin 65536) (j : Fin 512) : resQ x g wq (ix2 i j) = Cert.LatIdeal.Val.G8 x g wq (ix2 i j) := by
  rw [Cert.LatIdeal.Val.G8_apply]
  unfold resQ Cert.LatIdeal.Val.e8 LatSpec.qS
  rw [out_apply]
  by_cases h3 : j.val % 128 < 96
  swap
  · rw [dif_neg h3, dif_neg (show ¬j.val % 128 < 64 by omega), dif_neg (show ¬j.val % 128 < 80 by omega), dif_neg h3]
  rw [dif_pos h3, headQ_apply]
  by_cases h1 : j.val % 128 < 64
  · rw [dif_pos h1, dif_pos h1, upQ_apply]
    simp only [rmsQ_apply]
    rfl
  rw [dif_neg h1, dif_neg h1, ropeQ_apply]
  simp only [lay_apply, qr_apply, upQ_apply, rmsQ_apply]
  by_cases h2 : j.val % 128 < 80
  · rw [dif_pos (by omega), dif_pos h2]
    have f1 : (⟨64 + (j.val % 128 - 64), by omega⟩ : Fin 96) = ⟨j.val % 128, by omega⟩ := Fin.ext (by show 64 + (j.val % 128 - 64) = j.val % 128; omega)
    have f2 : (⟨64 + (16 + (j.val % 128 - 64)), by omega⟩ : Fin 96) = ⟨j.val % 128 + 16, by omega⟩ := Fin.ext (by show 64 + (16 + (j.val % 128 - 64)) = j.val % 128 + 16; omega)
    simp only [f1, f2]
    rfl
  · rw [dif_neg (by omega), dif_neg h2, dif_pos h3]
    have f1 : (⟨64 + (16 + (j.val % 128 - 64 - 16)), by omega⟩ : Fin 96) = ⟨j.val % 128, by omega⟩ := Fin.ext (by show 64 + (16 + (j.val % 128 - 64 - 16)) = j.val % 128; omega)
    have f2 : (⟨64 + (j.val % 128 - 64 - 16), by omega⟩ : Fin 96) = ⟨j.val % 128 - 16, by omega⟩ := Fin.ext (by show 64 + (j.val % 128 - 64 - 16) = j.val % 128 - 16; omega)
    have f3 : (⟨j.val % 128 - 64 - 16, by omega⟩ : Fin 16) = ⟨j.val % 128 - 80, by omega⟩ := Fin.ext (by show j.val % 128 - 64 - 16 = j.val % 128 - 80; omega)
    simp only [f1, f2, f3]
    rfl

theorem ref_k_apply (i : Fin 65536) (j : Fin 512) : resK y r h wk (ix2 i j) = Cert.LatIdeal.Val.G9 y r h wk (ix2 i j) := by
  rw [Cert.LatIdeal.Val.G9_apply]
  unfold resK Cert.LatIdeal.Val.e9 LatSpec.kS
  rw [out_apply]
  by_cases h3 : j.val % 128 < 96
  swap
  · rw [dif_neg h3, dif_neg (show ¬j.val % 128 < 64 by omega), dif_neg (show ¬j.val % 128 < 80 by omega), dif_neg h3]
  rw [dif_pos h3, headK_apply]
  by_cases h1 : j.val % 128 < 64
  · rw [dif_pos h1, dif_pos h1, upK_apply]
    simp only [rmsK_apply]
    rfl
  rw [dif_neg h1, dif_neg h1, ropeK_apply]
  simp only [lay_apply, kr_apply]
  by_cases h2 : j.val % 128 < 80
  · rw [dif_pos (by omega), dif_pos h2]
    have f2 : (⟨16 + (j.val % 128 - 64), by omega⟩ : Fin 32) = ⟨j.val % 128 - 48, by omega⟩ := Fin.ext (by show 16 + (j.val % 128 - 64) = j.val % 128 - 48; omega)
    simp only [f2]
    rfl
  · rw [dif_neg (by omega), dif_neg h2, dif_pos h3]
    have f1 : (⟨16 + (j.val % 128 - 64 - 16), by omega⟩ : Fin 32) = ⟨j.val % 128 - 64, by omega⟩ := Fin.ext (by show 16 + (j.val % 128 - 64 - 16) = j.val % 128 - 64; omega)
    have f2 : (⟨j.val % 128 - 64 - 16, by omega⟩ : Fin 32) = ⟨j.val % 128 - 80, by omega⟩ := Fin.ext (by show j.val % 128 - 64 - 16 = j.val % 128 - 80; omega)
    have f3 : (⟨j.val % 128 - 64 - 16, by omega⟩ : Fin 16) = ⟨j.val % 128 - 80, by omega⟩ := Fin.ext (by show j.val % 128 - 64 - 16 = j.val % 128 - 80; omega)
    simp only [f1, f2, f3]
    rfl

theorem ref_v_apply (b : Fin 32) (q : Fin 8) (l : Fin 320) (a : Fin 256) : resV y h wv (ix4 b q l a) = Cert.LatIdeal.Val.G10 y h wv (ix4 b q l a) := by
  rw [Cert.LatIdeal.Val.G10_apply]
  unfold resV Cert.LatIdeal.Val.e10
  rw [outV_apply, ones_apply]
  by_cases h1 : l.val % 80 < 64
  · rw [dif_pos h1, dif_pos h1, upK_apply]
    simp only [rmsK_apply]
    rfl
  · rw [dif_neg h1, dif_neg h1]

theorem ref_q : resQ x g wq = Cert.LatIdeal.Val.G8 x g wq := by
  refine funext fun (j : S65536x512.Idx) => ?_
  have e : j = ix2 ⟨(j 0).val, (j 0).isLt⟩ ⟨(j 1).val, (j 1).isLt⟩ := funext fun x => match x with
    | ⟨0, _⟩ => rfl
    | ⟨1, _⟩ => rfl
  rw [e]
  exact ref_q_apply x g wq _ _

theorem ref_k : resK y r h wk = Cert.LatIdeal.Val.G9 y r h wk := by
  refine funext fun (j : S65536x512.Idx) => ?_
  have e : j = ix2 ⟨(j 0).val, (j 0).isLt⟩ ⟨(j 1).val, (j 1).isLt⟩ := funext fun x => match x with
    | ⟨0, _⟩ => rfl
    | ⟨1, _⟩ => rfl
  rw [e]
  exact ref_k_apply y r h wk _ _

theorem ref_v : resV y h wv = Cert.LatIdeal.Val.G10 y h wv := by
  refine funext fun (j : S32x8x320x256.Idx) => ?_
  have e : j = ix4 ⟨(j 0).val, (j 0).isLt⟩ ⟨(j 1).val, (j 1).isLt⟩ ⟨(j 2).val, (j 2).isLt⟩ ⟨(j 3).val, (j 3).isLt⟩ := funext fun x => match x with
    | ⟨0, _⟩ => rfl
    | ⟨1, _⟩ => rfl
    | ⟨2, _⟩ => rfl
    | ⟨3, _⟩ => rfl
  rw [e]
  exact ref_v_apply y h wv _ _ _ _
end

theorem algebraic : Cert.algebraic_LatIdeal_LatRefIdeal_pre_queries := by
  intro m ρ m' ρ' hpre hag
  have hr : ∀ c, Cert.LatIdeal.Val.Real m c := fun c => by
    obtain ⟨hg, hw⟩ := Cert.Pre_queries.Val.real_of _ _ _ _ _ _ _ _ (congrFun (hpre c))
    exact ⟨hg, hw⟩
  refine ⟨fun c => Cert.LatIdeal.Val.G8 (m ((c.tc : Thread Cert.LatIdeal.nD Cert.LatIdeal.τ).loc Cert.LatIdeal.main_arg0)) (m ((c.tc : Thread Cert.LatIdeal.nD Cert.LatIdeal.τ).loc Cert.LatIdeal.main_arg3)) (m ((c.tc : Thread Cert.LatIdeal.nD Cert.LatIdeal.τ).loc Cert.LatIdeal.main_arg5)),
    fun c => Cert.LatIdeal.Val.G9 (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg4)) (m ((c.tc : Thread Cert.LatIdeal.nD Cert.LatIdeal.τ).loc Cert.LatIdeal.main_arg6)),
    fun c => Cert.LatIdeal.Val.G10 (m ((c.tc : Thread Cert.LatIdeal.nD Cert.LatIdeal.τ).loc Cert.LatIdeal.main_arg1)) (m ((c.tc : Thread Cert.LatIdeal.nD Cert.LatIdeal.τ).loc Cert.LatIdeal.main_arg4)) (m ((c.tc : Thread Cert.LatIdeal.nD Cert.LatIdeal.τ).loc Cert.LatIdeal.main_arg7)), ?_, ?_⟩
  · refine (θ_run Cert.LatIdeal.defs _ _).mono (fun r h c => ⟨(h c).1.trans (Cert.LatIdeal.Val.final8 m c (hr c)),
      (h c).2.1.trans (Cert.LatIdeal.Val.final9 m c), (h c).2.2.1.trans (Cert.LatIdeal.Val.final10 m c), (h c).2.2.2⟩)
      (Cert.LatIdeal.Value.run_blocks m ρ)
  · refine (θ_run Cert.LatRefIdeal.defs _ _).mono (fun r h c => ⟨(h c).1.trans ((ref_q _ _ _).trans (by rw [(hag c).1, (hag c).2.2.2.1, (hag c).2.2.2.2.2.1])),
      (h c).2.1.trans ((ref_k _ _ _ _).trans (by rw [(hag c).2.1, (hag c).2.2.1, (hag c).2.2.2.2.1, (hag c).2.2.2.2.2.2.1])),
      (h c).2.2.1.trans ((ref_v _ _ _).trans (by rw [(hag c).2.1, (hag c).2.2.2.2.1, (hag c).2.2.2.2.2.2.2])), (h c).2.2.2⟩)
      (Cert.LatRefIdeal.Value.run (F := Ideal) m' ρ')

end Cert.LatClaims
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite
public import proofs.«01_k».proof.Proof.Gen.AttnIdeal.Value
public import proofs.«01_k».proof.Proof.Gen.AttnRefIdeal.Run
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal
public import proofs.«01_k».proof.Proof.Gen.Pre_tables
public import proofs.«01_k».proof.Proof.Gen.MoeRefIdeal.Run
public import proofs.«01_k».proof.Proof.Gen.Pre_routed
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpIdeal.Value
public import proofs.«01_k».proof.Proof.Gen.InpRefIdeal
public import proofs.«01_k».proof.Proof.Gen.InpRefIdeal.Run
public import proofs.«01_k».proof.Proof.Gen.Outp
public import proofs.«01_k».proof.Proof.Gen.Outp.Skeleton
public import proofs.«01_k».proof.Proof.Gen.Outp.Launch
public import proofs.«01_k».proof.Proof.Gen.Outp.Points
public import proofs.«01_k».proof.Proof.Gen.Outp.Frame
public import proofs.«01_k».proof.Proof.Gen.OutpIdeal
public import proofs.«01_k».proof.Proof.Gen.OutpIdeal.Skeleton
public import proofs.«01_k».proof.Proof.Gen.OutpIdeal.Launch
public import proofs.«01_k».proof.Proof.Gen.OutpIdeal.Points
public import proofs.«01_k».proof.Proof.Gen.OutpIdeal.Frame
public import proofs.«01_k».proof.Proof.Gen.OutpIdeal.Value
public import proofs.«01_k».proof.Proof.Gen.OutpRefIdeal
public import proofs.«01_k».proof.Proof.Gen.OutpRefIdeal.Run
public import proofs.«01_k».proof.Proof.Gen.Pre_numbers
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguIdeal.Value
public import proofs.«01_k».proof.Proof.Gen.SguRefIdeal
public import proofs.«01_k».proof.Proof.Gen.SguRefIdeal.Run
public import proofs.«01_k».proof.Proof.Gen.Lat
public import proofs.«01_k».proof.Proof.Gen.Lat.Skeleton
public import proofs.«01_k».proof.Proof.Gen.Lat.Launch
public import proofs.«01_k».proof.Proof.Gen.Lat.Points
public import proofs.«01_k».proof.Proof.Gen.Lat.Frame
public import proofs.«01_k».proof.Proof.Gen.LatIdeal
public import proofs.«01_k».proof.Proof.Gen.LatIdeal.Skeleton
public import proofs.«01_k».proof.Proof.Gen.LatIdeal.Launch
public import proofs.«01_k».proof.Proof.Gen.LatIdeal.Points
public import proofs.«01_k».proof.Proof.Gen.LatIdeal.Frame
public import proofs.«01_k».proof.Proof.Gen.LatIdeal.Value
public import proofs.«01_k».proof.Proof.Gen.LatRefIdeal
public import proofs.«01_k».proof.Proof.Gen.LatRefIdeal.Run
public import proofs.«01_k».proof.Proof.Gen.Pre_queries
public import proofs.«01_k».proof.Proof.AttnClaims
public import proofs.«01_k».proof.Proof.MoeClaims
public import proofs.«01_k».proof.Proof.InpClaims
public import proofs.«01_k».proof.Proof.OutClaims
public import proofs.«01_k».proof.Proof.SguClaims
public import proofs.«01_k».proof.Proof.LatClaims
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts, Cert.Moe.Gen.facts,
  Cert.MoeIdeal.Gen.facts, Cert.MoeRefIdeal.Gen.facts, Cert.Inp.Gen.facts, Cert.InpIdeal.Gen.facts, Cert.InpRefIdeal.Gen.facts,
  Cert.Outp.Gen.facts, Cert.OutpIdeal.Gen.facts, Cert.OutpRefIdeal.Gen.facts,
  Cert.Sgu.Gen.facts, Cert.SguIdeal.Gen.facts, Cert.SguRefIdeal.Gen.facts,
  Cert.Lat.Gen.facts, Cert.LatIdeal.Gen.facts, Cert.LatRefIdeal.Gen.facts,
  Cert.Pre_finite.Gen.facts, Cert.Pre_tables.Gen.facts, Cert.Pre_routed.Gen.facts, Cert.Pre_numbers.Gen.facts, Cert.Pre_queries.Gen.facts,
  Cert.AttnClaims.frame_A, Cert.AttnClaims.frame_AI, Cert.AttnClaims.frame_AI_pre, Cert.AttnClaims.frame_AR, Cert.AttnClaims.frame_AR_pre,
  Cert.MoeClaims.frame_M, Cert.MoeClaims.frame_MI, Cert.MoeClaims.frame_MI_pre, Cert.MoeClaims.frame_MR, Cert.MoeClaims.frame_MR_pre,
  Cert.InpClaims.frame_I, Cert.InpClaims.frame_II, Cert.InpClaims.frame_II_pre, Cert.InpClaims.frame_IR, Cert.InpClaims.frame_IR_pre,
  Cert.OutClaims.frame_O, Cert.OutClaims.frame_OI, Cert.OutClaims.frame_OR,
  Cert.SguClaims.frame_G, Cert.SguClaims.frame_GI, Cert.SguClaims.frame_GR,
  Cert.LatClaims.frame_L, Cert.LatClaims.frame_LI, Cert.LatClaims.frame_LI_pre, Cert.LatClaims.frame_LR, Cert.LatClaims.frame_LR_pre,
  Cert.AttnClaims.preserves, Cert.AttnClaims.algebraic, Cert.MoeClaims.preserves, Cert.MoeClaims.algebraic,
  Cert.InpClaims.preserves, Cert.InpClaims.algebraic, Cert.OutClaims.preserves, Cert.OutClaims.algebraic,
  Cert.SguClaims.preserves, Cert.SguClaims.algebraic, Cert.LatClaims.preserves, Cert.LatClaims.algebraic⟩

end Cert.Proof

end
